-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v98) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  IdealRules.named_const.Statement Cert.Kernel3Ideal.κ "mask" .f32 0xF149F2CA#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v30) = v3 c
          ∧ r.2.mem ((c.tc : Thread Cert.Reference4Ideal.nD Cert.Reference4Ideal.τ).loc Cert.Reference4Ideal.main_v29) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)) (v2 : (c : Dev Cert.Kernel5Ideal.nD) → Buf (Elt Ideal) ((c.tc : Thread Cert.Kernel5Ideal.nD Cert.Kernel5Ideal.τ).loc Cert.Kernel5Ideal.main_v14_2)) (v3 : (c : Dev Cert.Kernel5Ideal.nD) → Buf (Elt Ideal) ((c.tc : Thread Cert.Kernel5Ideal.nD Cert.Kernel5Ideal.τ).loc Cert.Kernel5Ideal.main_v14_3)) (v4 : (c : Dev Cert.Kernel5Ideal.nD) → Buf (Elt Ideal) ((c.tc : Thread Cert.Kernel5Ideal.nD Cert.Kernel5Ideal.τ).loc Cert.Kernel5Ideal.main_v14_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_v14_2) = v2 c
          ∧ r.2.mem ((c.tc : Thread Cert.Kernel5Ideal.nD Cert.Kernel5Ideal.τ).loc Cert.Kernel5Ideal.main_v14_3) = v3 c
          ∧ r.2.mem ((c.tc : Thread Cert.Kernel5Ideal.nD Cert.Kernel5Ideal.τ).loc Cert.Kernel5Ideal.main_v14_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_v30) = v3 c
          ∧ r.2.mem ((c.tc : Thread Cert.Reference5Ideal.nD Cert.Reference5Ideal.τ).loc Cert.Reference5Ideal.main_v29) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v17_0)) (v1 : (c : Dev Cert.Kernel6Ideal.nD) → Buf (Elt Ideal) ((c.tc : Thread Cert.Kernel6Ideal.nD Cert.Kernel6Ideal.τ).loc Cert.Kernel6Ideal.main_v17_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_0) = v0 c
          ∧ r.2.mem ((c.tc : Thread Cert.Kernel6Ideal.nD Cert.Kernel6Ideal.τ).loc Cert.Kernel6Ideal.main_v17_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v98) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v85) = v0 c
          ∧ r.2.mem ((c.tc : Thread Cert.Reference7Ideal.nD Cert.Reference7Ideal.τ).loc Cert.Reference7Ideal.main_v56) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)) →
    ∃ (v0 : (c : Dev Cert.Kernel8Ideal.nD) → Buf (Elt Ideal) ((c.tc : Thread Cert.Kernel8Ideal.nD Cert.Kernel8Ideal.τ).loc Cert.Kernel8Ideal.main_v17_0)) (v1 : (c : Dev Cert.Kernel8Ideal.nD) → Buf (Elt Ideal) ((c.tc : Thread Cert.Kernel8Ideal.nD Cert.Kernel8Ideal.τ).loc Cert.Kernel8Ideal.main_v17_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17_0) = v0 c
          ∧ r.2.mem ((c.tc : Thread Cert.Kernel8Ideal.nD Cert.Kernel8Ideal.τ).loc Cert.Kernel8Ideal.main_v17_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v85) = v0 c
          ∧ r.2.mem ((c.tc : Thread Cert.Reference8Ideal.nD Cert.Reference8Ideal.τ).loc Cert.Reference8Ideal.main_v56) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v23_0)) (v1 : (c : Dev Cert.Kernel9Ideal.nD) → Buf (Elt Ideal) ((c.tc : Thread Cert.Kernel9Ideal.nD Cert.Kernel9Ideal.τ).loc Cert.Kernel9Ideal.main_v23_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v23_0) = v0 c
          ∧ r.2.mem ((c.tc : Thread Cert.Kernel9Ideal.nD Cert.Kernel9Ideal.τ).loc Cert.Kernel9Ideal.main_v23_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v30) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v23_0)) (v1 : (c : Dev Cert.Kernel10Ideal.nD) → Buf (Elt Ideal) ((c.tc : Thread Cert.Kernel10Ideal.nD Cert.Kernel10Ideal.τ).loc Cert.Kernel10Ideal.main_v23_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v23_0) = v0 c
          ∧ r.2.mem ((c.tc : Thread Cert.Kernel10Ideal.nD Cert.Kernel10Ideal.τ).loc Cert.Kernel10Ideal.main_v23_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_v30) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S32768x1024 : Shape := ⟨2, ![32768, 1024]⟩
abbrev S32768x256 : Shape := ⟨2, ![32768, 256]⟩
abbrev S32768x128 : Shape := ⟨2, ![32768, 128]⟩
abbrev S32768x32 : Shape := ⟨2, ![32768, 32]⟩
abbrev S_ : Shape := ⟨0, ![]⟩

class Facts : Prop where
  bcast_S_S32768x1024 : S_.BroadcastsInDim S32768x1024 (![] : Fin 0 → Fin S32768x1024.rank)
  bcast_S_S32768x256 : S_.BroadcastsInDim S32768x256 (![] : Fin 0 → Fin S32768x256.rank)
  bcast_S_S32768x128 : S_.BroadcastsInDim S32768x128 (![] : Fin 0 → Fin S32768x128.rank)
  bcast_S_S32768x32 : S_.BroadcastsInDim S32768x32 (![] : Fin 0 → Fin S32768x32.rank)

variable [Facts]

def fn {F : FTy → Type} [FloatOps F] (main_arg0 : FVec F S32768x1024 .bf16) (main_arg1 : FVec F S32768x256 .bf16) (main_arg2 : FVec F S32768x128 .f32) (main_arg3 : FVec F S32768x32 .f32) : IVec S32768x1024 1 × IVec S32768x256 1 × IVec S32768x128 1 × IVec S32768x32 1 :=
  let main_v0 : FVec F S32768x1024 .bf16 := Host.absf main_arg0
  let main_cst : FVec F S_ .bf16 := constant S_ .bf16 0x7F80#16
  let main_v1 : FVec F S32768x1024 .bf16 := broadcastInDim S32768x1024 ![] bcast_S_S32768x1024 main_cst
  let main_v2 : IVec S32768x1024 1 := cmpf .olt main_v0 main_v1
  let main_v3 : FVec F S32768x256 .bf16 := Host.absf main_arg1
  let main_cst_0 : FVec F S_ .bf16 := constant S_ .bf16 0x7F80#16
  let main_v4 : FVec F S32768x256 .bf16 := broadcastInDim S32768x256 ![] bcast_S_S32768x256 main_cst_0
  let main_v5 : IVec S32768x256 1 := cmpf .olt main_v3 main_v4
  let main_v6 : FVec F S32768x128 .f32 := Host.absf main_arg2
  let main_cst_1 : FVec F S_ .f32 := constant S_ .f32 0x7F800000#32
  let main_v7 : FVec F S32768x128 .f32 := broadcastInDim S32768x128 ![] bcast_S_S32768x128 main_cst_1
  let main_v8 : IVec S32768x128 1 := cmpf .olt main_v6 main_v7
  let main_v9 : FVec F S32768x32 .f32 := Host.absf main_arg3
  let main_cst_2 : FVec F S_ .f32 := constant S_ .f32 0x7F800000#32
  let main_v10 : FVec F S32768x32 .f32 := broadcastInDim S32768x32 ![] bcast_S_S32768x32 main_cst_2
  let main_v11 : IVec S32768x32 1 := cmpf .olt main_v9 main_v10
  (main_v2, main_v5, main_v8, main_v11)
-- ==== Pre_finite3.lean ====
abbrev S32768x512 : Shape := ⟨2, ![32768, 512]⟩
abbrev S4x8192x128 : Shape := ⟨3, ![4, 8192, 128]⟩
abbrev S4x8192x8 : Shape := ⟨3, ![4, 8192, 8]⟩
abbrev S_ : Shape := ⟨0, ![]⟩

class Facts : Prop where
  slices_S4x8192x128_S4x8192x8_0_0_0 : S4x8192x128.Slices ![0, 0, 0] S4x8192x8
  bcast_S_S32768x512 : S_.BroadcastsInDim S32768x512 (![] : Fin 0 → Fin S32768x512.rank)
  bcast_S_S4x8192x8 : S_.BroadcastsInDim S4x8192x8 (![] : Fin 0 → Fin S4x8192x8.rank)

variable [Facts]

def fn_part1 {F : FTy → Type} [FloatOps F] (main_v5 : IVec S32768x512 1) (main_v8 : IVec S32768x512 1) (main_v11 : IVec S4x8192x8 1) (main_v14 : IVec S4x8192x8 1) (main_v17 : IVec S4x8192x8 1) (main_v18 : FVec F S32768x512 .f32) : IVec S32768x512 1 × IVec S32768x512 1 × IVec S4x8192x8 1 × IVec S4x8192x8 1 × IVec S4x8192x8 1 × IVec S32768x512 1 :=
  let main_cst_4 : FVec F S_ .f32 := constant S_ .f32 0x7F800000#32
  let main_v19 : FVec F S32768x512 .f32 := broadcastInDim S32768x512 ![] bcast_S_S32768x512 main_cst_4
  let main_v20 : IVec S32768x512 1 := cmpf .olt main_v18 main_v19
  (main_v5, main_v8, main_v11, main_v14, main_v17, main_v20)

def fn {F : FTy → Type} [FloatOps F] (main_arg0 : FVec F S32768x512 .bf16) (main_arg1 : FVec F S32768x512 .f32) (main_arg2 : FVec F S4x8192x128 .bf16) (main_arg3 : FVec F S4x8192x128 .bf16) (main_arg4 : FVec F S4x8192x128 .bf16) (main_arg5 : FVec F S32768x512 .f32) : IVec S32768x512 1 × IVec S32768x512 1 × IVec S4x8192x8 1 × IVec S4x8192x8 1 × IVec S4x8192x8 1 × IVec S32768x512 1 :=
  let main_v0 : FVec F S4x8192x8 .bf16 := (extractStridedSlice S4x8192x8 ![0, 0, 0] · slices_S4x8192x128_S4x8192x8_0_0_0) main_arg2
  let main_v1 : FVec F S4x8192x8 .bf16 := (extractStridedSlice S4x8192x8 ![0, 0, 0] · slices_S4x8192x128_S4x8192x8_0_0_0) main_arg3
  let main_v2 : FVec F S4x8192x8 .bf16 := (extractStridedSlice S4x8192x8 ![0, 0, 0] · slices_S4x8192x128_S4x8192x8_0_0_0) main_arg4
  let main_v3 : FVec F S32768x512 .bf16 := Host.absf main_arg0
  let main_cst : FVec F S_ .bf16 := constant S_ .bf16 0x7F80#16
  let main_v4 : FVec F S32768x512 .bf16 := broadcastInDim S32768x512 ![] bcast_S_S32768x512 main_cst
  let main_v5 : IVec S32768x512 1 := cmpf .olt main_v3 main_v4
  let main_v6 : FVec F S32768x512 .f32 := Host.absf main_arg1
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_v9 : FVec F S4x8192x8 .bf16 := Host.absf main_v0
  let main_cst_1 : FVec F S_ .bf16 := constant S_ .bf16 0x7F80#16
  let main_v10 : FVec F S4x8192x8 .bf16 := broadcastInDim S4x8192x8 ![] bcast_S_S4x8192x8 main_cst_1
  let main_v11 : IVec S4x8192x8 1 := cmpf .olt main_v9 main_v10
  let main_v12 : FVec F S4x8192x8 .bf16 := Host.absf main_v1
  let main_cst_2 : FVec F S_ .bf16 := constant S_ .bf16 0x7F80#16
  let main_v13 : FVec F S4x8192x8 .bf16 := broadcastInDim S4x8192x8 ![] bcast_S_S4x8192x8 main_cst_2
  let main_v14 : IVec S4x8192x8 1 := cmpf .olt main_v12 main_v13
  let main_v15 : FVec F S4x8192x8 .bf16 := Host.absf main_v2
  let main_cst_3 : FVec F S_ .bf16 := constant S_ .bf16 0x7F80#16
  let main_v16 : FVec F S4x8192x8 .bf16 := broadcastInDim S4x8192x8 ![] bcast_S_S4x8192x8 main_cst_3
  let main_v17 : IVec S4x8192x8 1 := cmpf .olt main_v15 main_v16
  let main_v18 : FVec F S32768x512 .f32 := Host.absf main_arg5
  fn_part1 (F := F) main_v5 main_v8 main_v11 main_v14 main_v17 main_v18
-- ==== Kernel.lean ====
abbrev S32768x1024 : Shape := ⟨2, ![32768, 1024]⟩
abbrev S32768x256 : Shape := ⟨2, ![32768, 256]⟩
abbrev S32768x128 : Shape := ⟨2, ![32768, 128]⟩
abbrev S32768x32 : Shape := ⟨2, ![32768, 32]⟩
abbrev S4x65536x128 : Shape := ⟨3, ![4, 65536, 128]⟩
abbrev S4x65536x32 : Shape := ⟨3, ![4, 65536, 32]⟩
abbrev S_ : Shape := ⟨0, ![]⟩
abbrev S4x65536x96 : Shape := ⟨3, ![4, 65536, 96]⟩
abbrev S4x65536x256 : Shape := ⟨3, ![4, 65536, 256]⟩
abbrev S4x8192x128 : Shape := ⟨3, ![4, 8192, 128]⟩
abbrev S4x8192x32 : Shape := ⟨3, ![4, 8192, 32]⟩
abbrev S4x8192x96 : Shape := ⟨3, ![4, 8192, 96]⟩
abbrev S4x8192x256 : Shape := ⟨3, ![4, 8192, 256]⟩
abbrev S1x1024x256 : Shape := ⟨3, ![1, 1024, 256]⟩
abbrev S1x8192x256 : Shape := ⟨3, ![1, 8192, 256]⟩
abbrev S1x8192x128 : Shape := ⟨3, ![1, 8192, 128]⟩
abbrev S1x1024x128 : Shape := ⟨3, ![1, 1024, 128]⟩
abbrev S1024x256 : Shape := ⟨2, ![1024, 256]⟩
abbrev S1024x1 : Shape := ⟨2, ![1024, 1]⟩
abbrev S1024x128 : Shape := ⟨2, ![1024, 128]⟩
abbrev S1x512x256 : Shape := ⟨3, ![1, 512, 256]⟩
abbrev S512x256 : Shape := ⟨2, ![512, 256]⟩
abbrev S1024x512 : Shape := ⟨2, ![1024, 512]⟩
abbrev S1x512x128 : Shape := ⟨3, ![1, 512, 128]⟩
abbrev S512x128 : Shape := ⟨2, ![512, 128]⟩
abbrev S1024 : Shape := ⟨1, ![1024]⟩

abbrev nBuf : Space → Nat
  | .hbm => 17
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S32768x128, .f32⟩
  | .hbm, ⟨3, _⟩ => ⟨S32768x32, .f32⟩
  | .hbm, ⟨4, _⟩ => ⟨S4x65536x128, .bf16⟩
  | .hbm, ⟨5, _⟩ => ⟨S4x65536x32, .bf16⟩
  | .hbm, ⟨6, _⟩ => ⟨S_, .bf16⟩
  | .hbm, ⟨7, _⟩ => ⟨S4x65536x96, .bf16⟩
  | .hbm, ⟨8, _⟩ => ⟨S4x65536x256, .bf16⟩
  | .hbm, ⟨9, _⟩ => ⟨S32768x128, .bf16⟩
  | .hbm, ⟨10, _⟩ => ⟨S4x8192x128, .bf16⟩
  | .hbm, ⟨11, _⟩ => ⟨S32768x32, .bf16⟩
  | .hbm, ⟨12, _⟩ => ⟨S4x8192x32, .bf16⟩
  | .hbm, ⟨13, _⟩ => ⟨S_, .bf16⟩
  | .hbm, ⟨14, _⟩ => ⟨S4x8192x96, .bf16⟩
  | .hbm, ⟨15, _⟩ => ⟨S4x8192x256, .bf16⟩
  | .hbm, ⟨16, _⟩ => ⟨S4x65536x128, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x128, .bf16⟩
  | .local _ .vmem, ⟨7, _⟩ => ⟨S1x1024x128, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

@[reducible] def k0_t1_loop (i : grid0.Coords) : Scf.Loop 32 :=
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let c1_i32_16 : BitVec 32 := 1#32
  ⟨c0_i32_14, v44, c1_i32_16⟩
def k0_mult1 (i : grid0.Coords) (k0_t1 : Fin (k0_t1_loop i).trips) : BitVec 32 :=
  let c4_i32_50 : BitVec 32 := 4#32
  let c0_i32_14 : BitVec 32 := 0#32
  let c1_i32_16 : BitVec 32 := 1#32
  let arg6 : BitVec 32 := Scf.iv c0_i32_14 c1_i32_16 k0_t1
  let v141 : BitVec 32 := Scalar.muli c4_i32_50 arg6
  let c0_i32_51 : BitVec 32 := 0#32
  let v142 : BitVec 32 := Scalar.addi v141 c0_i32_51
  let c512_i32_52 : BitVec 32 := 512#32
  let v143 : BitVec 32 := Scalar.muli v142 c512_i32_52
  v143
def k0_off1 (i : grid0.Coords) (k0_t1 : Fin (k0_t1_loop i).trips) (c0_i32_51 : BitVec 32) : Fin 3 → Nat :=
  let c0_53 : Index := 0#32
  let c4_i32_50 : BitVec 32 := 4#32
  let c0_i32_14 : BitVec 32 := 0#32
  let c1_i32_16 : BitVec 32 := 1#32
  let arg6 : BitVec 32 := Scf.iv c0_i32_14 c1_i32_16 k0_t1
  let v141 : BitVec 32 := Scalar.muli c4_i32_50 arg6
  let v142 : BitVec 32 := Scalar.addi v141 c0_i32_51
  let c512_i32_52 : BitVec 32 := 512#32
  let v143 : BitVec 32 := Scalar.muli v142 c512_i32_52
  let v144 : BitVec 32 := v143
  let v145 : Index := Scalar.indexCast v144
  let c0_54 : Index := 0#32
  ![0, v145.toNat, 0]
def k0_mult2 (i : grid0.Coords) (k0_t1 : Fin (k0_t1_loop i).trips) : BitVec 32 :=
  let c4_i32_56 : BitVec 32 := 4#32
  let c0_i32_14 : BitVec 32 := 0#32
  let c1_i32_16 : BitVec 32 := 1#32
  let arg6 : BitVec 32 := Scf.iv c0_i32_14 c1_i32_16 k0_t1
  let v149 : BitVec 32 := Scalar.muli c4_i32_56 arg6
  let c1_i32_57 : BitVec 32 := 1#32
  let v150 : BitVec 32 := Scalar.addi v149 c1_i32_57
  let c512_i32_58 : BitVec 32 := 512#32
  let v151 : BitVec 32 := Scalar.muli v150 c512_i32_58
  v151
def k0_mult3 (i : grid0.Coords) (k0_t1 : Fin (k0_t1_loop i).trips) : BitVec 32 :=
  let c4_i32_62 : BitVec 32 := 4#32
  let c0_i32_14 : BitVec 32 := 0#32
  let c1_i32_16 : BitVec 32 := 1#32
  let arg6 : BitVec 32 := Scf.iv c0_i32_14 c1_i32_16 k0_t1
  let v157 : BitVec 32 := Scalar.muli c4_i32_62 arg6
  let c2_i32 : BitVec 32 := 2#32
  let v158 : BitVec 32 := Scalar.addi v157 c2_i32
  let c512_i32_63 : BitVec 32 := 512#32
  let v159 : BitVec 32 := Scalar.muli v158 c512_i32_63
  v159
def k0_mult4 (i : grid0.Coords) (k0_t1 : Fin (k0_t1_loop i).trips) : BitVec 32 :=
  let c4_i32_67 : BitVec 32 := 4#32
  let c0_i32_14 : BitVec 32 := 0#32
  let c1_i32_16 : BitVec 32 := 1#32
  let arg6 : BitVec 32 := Scf.iv c0_i32_14 c1_i32_16 k0_t1
  let v165 : BitVec 32 := Scalar.muli c4_i32_67 arg6
  let c3_i32 : BitVec 32 := 3#32
  let v166 : BitVec 32 := Scalar.addi v165 c3_i32
  let c512_i32_68 : BitVec 32 := 512#32
  let v167 : BitVec 32 := Scalar.muli v166 c512_i32_68
  v167
def k0_mult5 (i : grid0.Coords) (k0_t1 : Fin (k0_t1_loop i).trips) : BitVec 32 :=
  let c4_i32_72 : BitVec 32 := 4#32
  let c0_i32_14 : BitVec 32 := 0#32
  let c1_i32_16 : BitVec 32 := 1#32
  let arg6 : BitVec 32 := Scf.iv c0_i32_14 c1_i32_16 k0_t1
  let v173 : BitVec 32 := Scalar.muli c4_i32_72 arg6
  let c0_i32_73 : BitVec 32 := 0#32
  let v174 : BitVec 32 := Scalar.addi v173 c0_i32_73
  let c512_i32_74 : BitVec 32 := 512#32
  let v175 : BitVec 32 := Scalar.muli v174 c512_i32_74
  v175
def k0_off2 (i : grid0.Coords) (k0_t1 : Fin (k0_t1_loop i).trips) (c0_i32_73 : BitVec 32) : Fin 3 → Nat :=
  let c0_75 : Index := 0#32
  let c4_i32_72 : BitVec 32 := 4#32
  let c0_i32_14 : BitVec 32 := 0#32
  let c1_i32_16 : BitVec 32 := 1#32
  let arg6 : BitVec 32 := Scf.iv c0_i32_14 c1_i32_16 k0_t1
  let v173 : BitVec 32 := Scalar.muli c4_i32_72 arg6
  let v174 : BitVec 32 := Scalar.addi v173 c0_i32_73
  let c512_i32_74 : BitVec 32 := 512#32
  let v175 : BitVec 32 := Scalar.muli v174 c512_i32_74
  let v176 : BitVec 32 := v175
  let v177 : Index := Scalar.indexCast v176
  let c0_76 : Index := 0#32
  ![0, v177.toNat, 0]
def k0_mult6 (i : grid0.Coords) (k0_t1 : Fin (k0_t1_loop i).trips) : BitVec 32 :=
  let c4_i32_81 : BitVec 32 := 4#32
  let c0_i32_14 : BitVec 32 := 0#32
  let c1_i32_16 : BitVec 32 := 1#32
  let arg6 : BitVec 32 := Scf.iv c0_i32_14 c1_i32_16 k0_t1
  let v199 : BitVec 32 := Scalar.muli c4_i32_81 arg6
  let c1_i32_82 : BitVec 32 := 1#32
  let v200 : BitVec 32 := Scalar.addi v199 c1_i32_82
  let c512_i32_83 : BitVec 32 := 512#32
  let v201 : BitVec 32 := Scalar.muli v200 c512_i32_83
  v201
def k0_mult7 (i : grid0.Coords) (k0_t1 : Fin (k0_t1_loop i).trips) : BitVec 32 :=
  let c4_i32_90 : BitVec 32 := 4#32
  let c0_i32_14 : BitVec 32 := 0#32
  let c1_i32_16 : BitVec 32 := 1#32
  let arg6 : BitVec 32 := Scf.iv c0_i32_14 c1_i32_16 k0_t1
  let v225 : BitVec 32 := Scalar.muli c4_i32_90 arg6
  let c2_i32_91 : BitVec 32 := 2#32
  let v226 : BitVec 32 := Scalar.addi v225 c2_i32_91
  let c512_i32_92 : BitVec 32 := 512#32
  let v227 : BitVec 32 := Scalar.muli v226 c512_i32_92
  v227
def k0_mult8 (i : grid0.Coords) (k0_t1 : Fin (k0_t1_loop i).trips) : BitVec 32 :=
  let c4_i32_99 : BitVec 32 := 4#32
  let c0_i32_14 : BitVec 32 := 0#32
  let c1_i32_16 : BitVec 32 := 1#32
  let arg6 : BitVec 32 := Scf.iv c0_i32_14 c1_i32_16 k0_t1
  let v251 : BitVec 32 := Scalar.muli c4_i32_99 arg6
  let c3_i32_100 : BitVec 32 := 3#32
  let v252 : BitVec 32 := Scalar.addi v251 c3_i32_100
  let c512_i32_101 : BitVec 32 := 512#32
  let v253 : BitVec 32 := Scalar.muli v252 c512_i32_101
  v253
@[reducible] def k0_t2_loop (i : grid0.Coords) : Scf.Loop 32 :=
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let v41 : BitVec 32 := Scalar.addi c0_i32_14 v40
  let c1_i32_17 : BitVec 32 := 1#32
  ⟨v44, v41, c1_i32_17⟩
def k0_mult9 (i : grid0.Coords) (k0_t2 : Fin (k0_t2_loop i).trips) : BitVec 32 :=
  let c4_i32_50 : BitVec 32 := 4#32
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let c1_i32_17 : BitVec 32 := 1#32
  let arg6 : BitVec 32 := Scf.iv v44 c1_i32_17 k0_t2
  let v141 : BitVec 32 := Scalar.muli c4_i32_50 arg6
  let c0_i32_51 : BitVec 32 := 0#32
  let v142 : BitVec 32 := Scalar.addi v141 c0_i32_51
  let c512_i32_52 : BitVec 32 := 512#32
  let v143 : BitVec 32 := Scalar.muli v142 c512_i32_52
  v143
def k0_off3 (i : grid0.Coords) (k0_t2 : Fin (k0_t2_loop i).trips) (c0_i32_51 : BitVec 32) : Fin 3 → Nat :=
  let c0_53 : Index := 0#32
  let c4_i32_50 : BitVec 32 := 4#32
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let c1_i32_17 : BitVec 32 := 1#32
  let arg6 : BitVec 32 := Scf.iv v44 c1_i32_17 k0_t2
  let v141 : BitVec 32 := Scalar.muli c4_i32_50 arg6
  let v142 : BitVec 32 := Scalar.addi v141 c0_i32_51
  let c512_i32_52 : BitVec 32 := 512#32
  let v143 : BitVec 32 := Scalar.muli v142 c512_i32_52
  let v144 : BitVec 32 := v143
  let v145 : Index := Scalar.indexCast v144
  let c0_54 : Index := 0#32
  ![0, v145.toNat, 0]
def k0_mult10 (i : grid0.Coords) (k0_t2 : Fin (k0_t2_loop i).trips) : BitVec 32 :=
  let c4_i32_56 : BitVec 32 := 4#32
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let c1_i32_17 : BitVec 32 := 1#32
  let arg6 : BitVec 32 := Scf.iv v44 c1_i32_17 k0_t2
  let v149 : BitVec 32 := Scalar.muli c4_i32_56 arg6
  let c1_i32_57 : BitVec 32 := 1#32
  let v150 : BitVec 32 := Scalar.addi v149 c1_i32_57
  let c512_i32_58 : BitVec 32 := 512#32
  let v151 : BitVec 32 := Scalar.muli v150 c512_i32_58
  v151
def k0_mult11 (i : grid0.Coords) (k0_t2 : Fin (k0_t2_loop i).trips) : BitVec 32 :=
  let c4_i32_62 : BitVec 32 := 4#32
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let c1_i32_17 : BitVec 32 := 1#32
  let arg6 : BitVec 32 := Scf.iv v44 c1_i32_17 k0_t2
  let v157 : BitVec 32 := Scalar.muli c4_i32_62 arg6
  let c2_i32 : BitVec 32 := 2#32
  let v158 : BitVec 32 := Scalar.addi v157 c2_i32
  let c512_i32_63 : BitVec 32 := 512#32
  let v159 : BitVec 32 := Scalar.muli v158 c512_i32_63
  v159
def k0_mult12 (i : grid0.Coords) (k0_t2 : Fin (k0_t2_loop i).trips) : BitVec 32 :=
  let c4_i32_67 : BitVec 32 := 4#32
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let c1_i32_17 : BitVec 32 := 1#32
  let arg6 : BitVec 32 := Scf.iv v44 c1_i32_17 k0_t2
  let v165 : BitVec 32 := Scalar.muli c4_i32_67 arg6
  let c3_i32 : BitVec 32 := 3#32
  let v166 : BitVec 32 := Scalar.addi v165 c3_i32
  let c512_i32_68 : BitVec 32 := 512#32
  let v167 : BitVec 32 := Scalar.muli v166 c512_i32_68
  v167
def k0_mult13 (i : grid0.Coords) (k0_t2 : Fin (k0_t2_loop i).trips) : BitVec 32 :=
  let c4_i32_72 : BitVec 32 := 4#32
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let c1_i32_17 : BitVec 32 := 1#32
  let arg6 : BitVec 32 := Scf.iv v44 c1_i32_17 k0_t2
  let v173 : BitVec 32 := Scalar.muli c4_i32_72 arg6
  let c0_i32_73 : BitVec 32 := 0#32
  let v174 : BitVec 32 := Scalar.addi v173 c0_i32_73
  let c512_i32_74 : BitVec 32 := 512#32
  let v175 : BitVec 32 := Scalar.muli v174 c512_i32_74
  v175
def k0_off4 (i : grid0.Coords) (k0_t2 : Fin (k0_t2_loop i).trips) (c0_i32_73 : BitVec 32) : Fin 3 → Nat :=
  let c0_75 : Index := 0#32
  let c4_i32_72 : BitVec 32 := 4#32
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let c1_i32_17 : BitVec 32 := 1#32
  let arg6 : BitVec 32 := Scf.iv v44 c1_i32_17 k0_t2
  let v173 : BitVec 32 := Scalar.muli c4_i32_72 arg6
  let v174 : BitVec 32 := Scalar.addi v173 c0_i32_73
  let c512_i32_74 : BitVec 32 := 512#32
  let v175 : BitVec 32 := Scalar.muli v174 c512_i32_74
  let v176 : BitVec 32 := v175
  let v177 : Index := Scalar.indexCast v176
  let c0_76 : Index := 0#32
  ![0, v177.toNat, 0]
def k0_mult14 (i : grid0.Coords) (k0_t2 : Fin (k0_t2_loop i).trips) : BitVec 32 :=
  let c4_i32_81 : BitVec 32 := 4#32
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let c1_i32_17 : BitVec 32 := 1#32
  let arg6 : BitVec 32 := Scf.iv v44 c1_i32_17 k0_t2
  let v199 : BitVec 32 := Scalar.muli c4_i32_81 arg6
  let c1_i32_82 : BitVec 32 := 1#32
  let v200 : BitVec 32 := Scalar.addi v199 c1_i32_82
  let c512_i32_83 : BitVec 32 := 512#32
  let v201 : BitVec 32 := Scalar.muli v200 c512_i32_83
  v201
def k0_mult15 (i : grid0.Coords) (k0_t2 : Fin (k0_t2_loop i).trips) : BitVec 32 :=
  let c4_i32_90 : BitVec 32 := 4#32
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let c1_i32_17 : BitVec 32 := 1#32
  let arg6 : BitVec 32 := Scf.iv v44 c1_i32_17 k0_t2
  let v225 : BitVec 32 := Scalar.muli c4_i32_90 arg6
  let c2_i32_91 : BitVec 32 := 2#32
  let v226 : BitVec 32 := Scalar.addi v225 c2_i32_91
  let c512_i32_92 : BitVec 32 := 512#32
  let v227 : BitVec 32 := Scalar.muli v226 c512_i32_92
  v227
def k0_mult16 (i : grid0.Coords) (k0_t2 : Fin (k0_t2_loop i).trips) : BitVec 32 :=
  let c4_i32_99 : BitVec 32 := 4#32
  let c0_i32_14 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .slt v19 c0_i32_9
  let v27 : BitVec 32 := Scalar.extui v26
  let v28 : BitVec 32 := Scalar.subi v25 v27
  let c4_i32 : BitVec 32 := 4#32
  let c0_i32_10 : BitVec 32 := 0#32
  let v29 : BitVec 1 := Scalar.cmpi .sgt c4_i32 c0_i32_10
  let v30 : BitVec 32 := Scalar.extui v29
  let c0_i32_11 : BitVec 32 := 0#32
  let v31 : BitVec 1 := Scalar.cmpi .slt c4_i32 c0_i32_11
  let v32 : BitVec 32 := Scalar.extui v31
  let v33 : BitVec 32 := Scalar.subi v30 v32
  let v34 : BitVec 1 := Scalar.cmpi .ne v28 v33
  let v35 : BitVec 32 := Scalar.remsi v19 c4_i32
  let c0_i32_12 : BitVec 32 := 0#32
  let v36 : BitVec 1 := Scalar.cmpi .ne v35 c0_i32_12
  let v37 : BitVec 1 := Scalar.andi v34 v36
  let v23 : BitVec 32 := Scalar.divsi v19 c4_i32
  let c1_i32_13 : BitVec 32 := 1#32
  let v38 : BitVec 32 := Scalar.subi v23 c1_i32_13
  let v39 : BitVec 32 := Scalar.select v37 v38 v23
  let v40 : BitVec 32 := Scalar.subi v39 c0_i32_14
  let c1_i32_15 : BitVec 32 := 1#32
  let v42 : BitVec 32 := Scalar.divsi v40 c1_i32_15
  let v43 : BitVec 32 := Scalar.muli v42 c1_i32_15
  let v44 : BitVec 32 := Scalar.addi c0_i32_14 v43
  let c1_i32_17 : BitVec 32 := 1#32
  let arg6 : BitVec 32 := Scf.iv v44 c1_i32_17 k0_t2
  let v251 : BitVec 32 := Scalar.muli c4_i32_99 arg6
  let c3_i32_100 : BitVec 32 := 3#32
  let v252 : BitVec 32 := Scalar.addi v251 c3_i32_100
  let c512_i32_101 : BitVec 32 := 512#32
  let v253 : BitVec 32 := Scalar.muli v252 c512_i32_101
  v253
@[reducible] def k0_t3_loop (i : grid0.Coords) : Scf.Loop 32 :=
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_19 : BitVec 32 := 0#32
  let v48 : BitVec 1 := Scalar.cmpi .sgt v19 c0_i32_19
  let v49 : BitVec 32 := Scalar.extui v48
  let c0_i32_20 : BitVec 32 := 0#32
  let v50 : BitVec 1 := Scalar.cmpi .slt v19 c0_i32_20
  let v51 : BitVec 32 := Scalar.extui v50
  let v52 : BitVec 32 := Scalar.subi v49 v51
  let c4_i32_18 : BitVec 32 := 4#32
  let c0_i32_21 : BitVec 32 := 0#32
  let v53 : BitVec 1 := Scalar.cmpi .sgt c4_i32_18 c0_i32_21
  let v54 : BitVec 32 := Scalar.extui v53
  let c0_i32_22 : BitVec 32 := 0#32
  let v55 : BitVec 1 := Scalar.cmpi .slt c4_i32_18 c0_i32_22
  let v56 : BitVec 32 := Scalar.extui v55
  let v57 : BitVec 32 := Scalar.subi v54 v56
  let v58 : BitVec 1 := Scalar.cmpi .ne v52 v57
  let v59 : BitVec 32 := Scalar.remsi v19 c4_i32_18
  let c0_i32_23 : BitVec 32 := 0#32
  let v60 : BitVec 1 := Scalar.cmpi .ne v59 c0_i32_23
  let v61 : BitVec 1 := Scalar.andi v58 v60
  let v47 : BitVec 32 := Scalar.divsi v19 c4_i32_18
  let c1_i32_24 : BitVec 32 := 1#32
  let v62 : BitVec 32 := Scalar.subi v47 c1_i32_24
  let v63 : BitVec 32 := Scalar.select v61 v62 v47
  let c4_i32_25 : BitVec 32 := 4#32
  let v64 : BitVec 32 := Scalar.muli v63 c4_i32_25
  let v65 : BitVec 32 := Scalar.subi v19 v64
  let c1_i32_26 : BitVec 32 := 1#32
  let v67 : BitVec 32 := Scalar.divsi v65 c1_i32_26
  let v68 : BitVec 32 := Scalar.muli v67 c1_i32_26
  let v69 : BitVec 32 := Scalar.addi v64 v68
  let c1_i32_27 : BitVec 32 := 1#32
  ⟨v64, v69, c1_i32_27⟩
def k0_mult17 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_19 : BitVec 32 := 0#32
  let v48 : BitVec 1 := Scalar.cmpi .sgt v19 c0_i32_19
  let v49 : BitVec 32 := Scalar.extui v48
  let c0_i32_20 : BitVec 32 := 0#32
  let v50 : BitVec 1 := Scalar.cmpi .slt v19 c0_i32_20
  let v51 : BitVec 32 := Scalar.extui v50
  let v52 : BitVec 32 := Scalar.subi v49 v51
  let c4_i32_18 : BitVec 32 := 4#32
  let c0_i32_21 : BitVec 32 := 0#32
  let v53 : BitVec 1 := Scalar.cmpi .sgt c4_i32_18 c0_i32_21
  let v54 : BitVec 32 := Scalar.extui v53
  let c0_i32_22 : BitVec 32 := 0#32
  let v55 : BitVec 1 := Scalar.cmpi .slt c4_i32_18 c0_i32_22
  let v56 : BitVec 32 := Scalar.extui v55
  let v57 : BitVec 32 := Scalar.subi v54 v56
  let v58 : BitVec 1 := Scalar.cmpi .ne v52 v57
  let v59 : BitVec 32 := Scalar.remsi v19 c4_i32_18
  let c0_i32_23 : BitVec 32 := 0#32
  let v60 : BitVec 1 := Scalar.cmpi .ne v59 c0_i32_23
  let v61 : BitVec 1 := Scalar.andi v58 v60
  let v47 : BitVec 32 := Scalar.divsi v19 c4_i32_18
  let c1_i32_24 : BitVec 32 := 1#32
  let v62 : BitVec 32 := Scalar.subi v47 c1_i32_24
  let v63 : BitVec 32 := Scalar.select v61 v62 v47
  let c4_i32_25 : BitVec 32 := 4#32
  let v64 : BitVec 32 := Scalar.muli v63 c4_i32_25
  let c1_i32_27 : BitVec 32 := 1#32
  let arg6 : BitVec 32 := Scf.iv v64 c1_i32_27 k0_t3
  let c512_i32_50 : BitVec 32 := 512#32
  let v141 : BitVec 32 := Scalar.muli arg6 c512_i32_50
  v141
def k0_off5 (i : grid0.Coords) (k0_t3 : Fin (k0_t3_loop i).trips) : Fin 3 → Nat :=
  let c0_51 : Index := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_19 : BitVec 32 := 0#32
  let v48 : BitVec 1 := Scalar.cmpi .sgt v19 c0_i32_19
  let v49 : BitVec 32 := Scalar.extui v48
  let c0_i32_20 : BitVec 32 := 0#32
  let v50 : BitVec 1 := Scalar.cmpi .slt v19 c0_i32_20
  let v51 : BitVec 32 := Scalar.extui v50
  let v52 : BitVec 32 := Scalar.subi v49 v51
  let c4_i32_18 : BitVec 32 := 4#32
  let c0_i32_21 : BitVec 32 := 0#32
  let v53 : BitVec 1 := Scalar.cmpi .sgt c4_i32_18 c0_i32_21
  let v54 : BitVec 32 := Scalar.extui v53
  let c0_i32_22 : BitVec 32 := 0#32
  let v55 : BitVec 1 := Scalar.cmpi .slt c4_i32_18 c0_i32_22
  let v56 : BitVec 32 := Scalar.extui v55
  let v57 : BitVec 32 := Scalar.subi v54 v56
  let v58 : BitVec 1 := Scalar.cmpi .ne v52 v57
  let v59 : BitVec 32 := Scalar.remsi v19 c4_i32_18
  let c0_i32_23 : BitVec 32 := 0#32
  let v60 : BitVec 1 := Scalar.cmpi .ne v59 c0_i32_23
  let v61 : BitVec 1 := Scalar.andi v58 v60
  let v47 : BitVec 32 := Scalar.divsi v19 c4_i32_18
  let c1_i32_24 : BitVec 32 := 1#32
  let v62 : BitVec 32 := Scalar.subi v47 c1_i32_24
  let v63 : BitVec 32 := Scalar.select v61 v62 v47
  let c4_i32_25 : BitVec 32 := 4#32
  let v64 : BitVec 32 := Scalar.muli v63 c4_i32_25
  let c1_i32_27 : BitVec 32 := 1#32
  let arg6 : BitVec 32 := Scf.iv v64 c1_i32_27 k0_t3
  let c512_i32_50 : BitVec 32 := 512#32
  let v141 : BitVec 32 := Scalar.muli arg6 c512_i32_50
  let v142 : BitVec 32 := v141
  let v143 : Index := Scalar.indexCast v142
  let c0_52 : Index := 0#32
  ![0, v143.toNat, 0]
def k0_mult18 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_19 : BitVec 32 := 0#32
  let v48 : BitVec 1 := Scalar.cmpi .sgt v19 c0_i32_19
  let v49 : BitVec 32 := Scalar.extui v48
  let c0_i32_20 : BitVec 32 := 0#32
  let v50 : BitVec 1 := Scalar.cmpi .slt v19 c0_i32_20
  let v51 : BitVec 32 := Scalar.extui v50
  let v52 : BitVec 32 := Scalar.subi v49 v51
  let c4_i32_18 : BitVec 32 := 4#32
  let c0_i32_21 : BitVec 32 := 0#32
  let v53 : BitVec 1 := Scalar.cmpi .sgt c4_i32_18 c0_i32_21
  let v54 : BitVec 32 := Scalar.extui v53
  let c0_i32_22 : BitVec 32 := 0#32
  let v55 : BitVec 1 := Scalar.cmpi .slt c4_i32_18 c0_i32_22
  let v56 : BitVec 32 := Scalar.extui v55
  let v57 : BitVec 32 := Scalar.subi v54 v56
  let v58 : BitVec 1 := Scalar.cmpi .ne v52 v57
  let v59 : BitVec 32 := Scalar.remsi v19 c4_i32_18
  let c0_i32_23 : BitVec 32 := 0#32
  let v60 : BitVec 1 := Scalar.cmpi .ne v59 c0_i32_23
  let v61 : BitVec 1 := Scalar.andi v58 v60
  let v47 : BitVec 32 := Scalar.divsi v19 c4_i32_18
  let c1_i32_24 : BitVec 32 := 1#32
  let v62 : BitVec 32 := Scalar.subi v47 c1_i32_24
  let v63 : BitVec 32 := Scalar.select v61 v62 v47
  let c4_i32_25 : BitVec 32 := 4#32
  let v64 : BitVec 32 := Scalar.muli v63 c4_i32_25
  let c1_i32_27 : BitVec 32 := 1#32
  let arg6 : BitVec 32 := Scf.iv v64 c1_i32_27 k0_t3
  let c512_i32_54 : BitVec 32 := 512#32
  let v147 : BitVec 32 := Scalar.muli arg6 c512_i32_54
  v147
def k0_off6 (i : grid0.Coords) (k0_t3 : Fin (k0_t3_loop i).trips) : Fin 3 → Nat :=
  let c0_55 : Index := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_19 : BitVec 32 := 0#32
  let v48 : BitVec 1 := Scalar.cmpi .sgt v19 c0_i32_19
  let v49 : BitVec 32 := Scalar.extui v48
  let c0_i32_20 : BitVec 32 := 0#32
  let v50 : BitVec 1 := Scalar.cmpi .slt v19 c0_i32_20
  let v51 : BitVec 32 := Scalar.extui v50
  let v52 : BitVec 32 := Scalar.subi v49 v51
  let c4_i32_18 : BitVec 32 := 4#32
  let c0_i32_21 : BitVec 32 := 0#32
  let v53 : BitVec 1 := Scalar.cmpi .sgt c4_i32_18 c0_i32_21
  let v54 : BitVec 32 := Scalar.extui v53
  let c0_i32_22 : BitVec 32 := 0#32
  let v55 : BitVec 1 := Scalar.cmpi .slt c4_i32_18 c0_i32_22
  let v56 : BitVec 32 := Scalar.extui v55
  let v57 : BitVec 32 := Scalar.subi v54 v56
  let v58 : BitVec 1 := Scalar.cmpi .ne v52 v57
  let v59 : BitVec 32 := Scalar.remsi v19 c4_i32_18
  let c0_i32_23 : BitVec 32 := 0#32
  let v60 : BitVec 1 := Scalar.cmpi .ne v59 c0_i32_23
  let v61 : BitVec 1 := Scalar.andi v58 v60
  let v47 : BitVec 32 := Scalar.divsi v19 c4_i32_18
  let c1_i32_24 : BitVec 32 := 1#32
  let v62 : BitVec 32 := Scalar.subi v47 c1_i32_24
  let v63 : BitVec 32 := Scalar.select v61 v62 v47
  let c4_i32_25 : BitVec 32 := 4#32
  let v64 : BitVec 32 := Scalar.muli v63 c4_i32_25
  let c1_i32_27 : BitVec 32 := 1#32
  let arg6 : BitVec 32 := Scf.iv v64 c1_i32_27 k0_t3
  let c512_i32_54 : BitVec 32 := 512#32
  let v147 : BitVec 32 := Scalar.muli arg6 c512_i32_54
  let v148 : BitVec 32 := v147
  let v149 : Index := Scalar.indexCast v148
  let c0_56 : Index := 0#32
  ![0, v149.toNat, 0]
@[reducible] def k0_t4_loop (i : grid0.Coords) : Scf.Loop 32 :=
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_19 : BitVec 32 := 0#32
  let v48 : BitVec 1 := Scalar.cmpi .sgt v19 c0_i32_19
  let v49 : BitVec 32 := Scalar.extui v48
  let c0_i32_20 : BitVec 32 := 0#32
  let v50 : BitVec 1 := Scalar.cmpi .slt v19 c0_i32_20
  let v51 : BitVec 32 := Scalar.extui v50
  let v52 : BitVec 32 := Scalar.subi v49 v51
  let c4_i32_18 : BitVec 32 := 4#32
  let c0_i32_21 : BitVec 32 := 0#32
  let v53 : BitVec 1 := Scalar.cmpi .sgt c4_i32_18 c0_i32_21
  let v54 : BitVec 32 := Scalar.extui v53
  let c0_i32_22 : BitVec 32 := 0#32
  let v55 : BitVec 1 := Scalar.cmpi .slt c4_i32_18 c0_i32_22
  let v56 : BitVec 32 := Scalar.extui v55
  let v57 : BitVec 32 := Scalar.subi v54 v56
  let v58 : BitVec 1 := Scalar.cmpi .ne v52 v57
  let v59 : BitVec 32 := Scalar.remsi v19 c4_i32_18
  let c0_i32_23 : BitVec 32 := 0#32
  let v60 : BitVec 1 := Scalar.cmpi .ne v59 c0_i32_23
  let v61 : BitVec 1 := Scalar.andi v58 v60
  let v47 : BitVec 32 := Scalar.divsi v19 c4_i32_18
  let c1_i32_24 : BitVec 32 := 1#32
  let v62 : BitVec 32 := Scalar.subi v47 c1_i32_24
  let v63 : BitVec 32 := Scalar.select v61 v62 v47
  let c4_i32_25 : BitVec 32 := 4#32
  let v64 : BitVec 32 := Scalar.muli v63 c4_i32_25
  let v65 : BitVec 32 := Scalar.subi v19 v64
  let c1_i32_26 : BitVec 32 := 1#32
  let v67 : BitVec 32 := Scalar.divsi v65 c1_i32_26
  let v68 : BitVec 32 := Scalar.muli v67 c1_i32_26
  let v69 : BitVec 32 := Scalar.addi v64 v68
  let v66 : BitVec 32 := Scalar.addi v64 v65
  let c1_i32_28 : BitVec 32 := 1#32
  ⟨v69, v66, c1_i32_28⟩
def k0_mult19 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_19 : BitVec 32 := 0#32
  let v48 : BitVec 1 := Scalar.cmpi .sgt v19 c0_i32_19
  let v49 : BitVec 32 := Scalar.extui v48
  let c0_i32_20 : BitVec 32 := 0#32
  let v50 : BitVec 1 := Scalar.cmpi .slt v19 c0_i32_20
  let v51 : BitVec 32 := Scalar.extui v50
  let v52 : BitVec 32 := Scalar.subi v49 v51
  let c4_i32_18 : BitVec 32 := 4#32
  let c0_i32_21 : BitVec 32 := 0#32
  let v53 : BitVec 1 := Scalar.cmpi .sgt c4_i32_18 c0_i32_21
  let v54 : BitVec 32 := Scalar.extui v53
  let c0_i32_22 : BitVec 32 := 0#32
  let v55 : BitVec 1 := Scalar.cmpi .slt c4_i32_18 c0_i32_22
  let v56 : BitVec 32 := Scalar.extui v55
  let v57 : BitVec 32 := Scalar.subi v54 v56
  let v58 : BitVec 1 := Scalar.cmpi .ne v52 v57
  let v59 : BitVec 32 := Scalar.remsi v19 c4_i32_18
  let c0_i32_23 : BitVec 32 := 0#32
  let v60 : BitVec 1 := Scalar.cmpi .ne v59 c0_i32_23
  let v61 : BitVec 1 := Scalar.andi v58 v60
  let v47 : BitVec 32 := Scalar.divsi v19 c4_i32_18
  let c1_i32_24 : BitVec 32 := 1#32
  let v62 : BitVec 32 := Scalar.subi v47 c1_i32_24
  let v63 : BitVec 32 := Scalar.select v61 v62 v47
  let c4_i32_25 : BitVec 32 := 4#32
  let v64 : BitVec 32 := Scalar.muli v63 c4_i32_25
  let v65 : BitVec 32 := Scalar.subi v19 v64
  let c1_i32_26 : BitVec 32 := 1#32
  let v67 : BitVec 32 := Scalar.divsi v65 c1_i32_26
  let v68 : BitVec 32 := Scalar.muli v67 c1_i32_26
  let v69 : BitVec 32 := Scalar.addi v64 v68
  let c1_i32_28 : BitVec 32 := 1#32
  let arg6 : BitVec 32 := Scf.iv v69 c1_i32_28 k0_t4
  let c512_i32_50 : BitVec 32 := 512#32
  let v141 : BitVec 32 := Scalar.muli arg6 c512_i32_50
  v141
def k0_off7 (i : grid0.Coords) (k0_t4 : Fin (k0_t4_loop i).trips) : Fin 3 → Nat :=
  let c0_51 : Index := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_19 : BitVec 32 := 0#32
  let v48 : BitVec 1 := Scalar.cmpi .sgt v19 c0_i32_19
  let v49 : BitVec 32 := Scalar.extui v48
  let c0_i32_20 : BitVec 32 := 0#32
  let v50 : BitVec 1 := Scalar.cmpi .slt v19 c0_i32_20
  let v51 : BitVec 32 := Scalar.extui v50
  let v52 : BitVec 32 := Scalar.subi v49 v51
  let c4_i32_18 : BitVec 32 := 4#32
  let c0_i32_21 : BitVec 32 := 0#32
  let v53 : BitVec 1 := Scalar.cmpi .sgt c4_i32_18 c0_i32_21
  let v54 : BitVec 32 := Scalar.extui v53
  let c0_i32_22 : BitVec 32 := 0#32
  let v55 : BitVec 1 := Scalar.cmpi .slt c4_i32_18 c0_i32_22
  let v56 : BitVec 32 := Scalar.extui v55
  let v57 : BitVec 32 := Scalar.subi v54 v56
  let v58 : BitVec 1 := Scalar.cmpi .ne v52 v57
  let v59 : BitVec 32 := Scalar.remsi v19 c4_i32_18
  let c0_i32_23 : BitVec 32 := 0#32
  let v60 : BitVec 1 := Scalar.cmpi .ne v59 c0_i32_23
  let v61 : BitVec 1 := Scalar.andi v58 v60
  let v47 : BitVec 32 := Scalar.divsi v19 c4_i32_18
  let c1_i32_24 : BitVec 32 := 1#32
  let v62 : BitVec 32 := Scalar.subi v47 c1_i32_24
  let v63 : BitVec 32 := Scalar.select v61 v62 v47
  let c4_i32_25 : BitVec 32 := 4#32
  let v64 : BitVec 32 := Scalar.muli v63 c4_i32_25
  let v65 : BitVec 32 := Scalar.subi v19 v64
  let c1_i32_26 : BitVec 32 := 1#32
  let v67 : BitVec 32 := Scalar.divsi v65 c1_i32_26
  let v68 : BitVec 32 := Scalar.muli v67 c1_i32_26
  let v69 : BitVec 32 := Scalar.addi v64 v68
  let c1_i32_28 : BitVec 32 := 1#32
  let arg6 : BitVec 32 := Scf.iv v69 c1_i32_28 k0_t4
  let c512_i32_50 : BitVec 32 := 512#32
  let v141 : BitVec 32 := Scalar.muli arg6 c512_i32_50
  let v142 : BitVec 32 := v141
  let v143 : Index := Scalar.indexCast v142
  let c0_52 : Index := 0#32
  ![0, v143.toNat, 0]
def k0_mult20 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_19 : BitVec 32 := 0#32
  let v48 : BitVec 1 := Scalar.cmpi .sgt v19 c0_i32_19
  let v49 : BitVec 32 := Scalar.extui v48
  let c0_i32_20 : BitVec 32 := 0#32
  let v50 : BitVec 1 := Scalar.cmpi .slt v19 c0_i32_20
  let v51 : BitVec 32 := Scalar.extui v50
  let v52 : BitVec 32 := Scalar.subi v49 v51
  let c4_i32_18 : BitVec 32 := 4#32
  let c0_i32_21 : BitVec 32 := 0#32
  let v53 : BitVec 1 := Scalar.cmpi .sgt c4_i32_18 c0_i32_21
  let v54 : BitVec 32 := Scalar.extui v53
  let c0_i32_22 : BitVec 32 := 0#32
  let v55 : BitVec 1 := Scalar.cmpi .slt c4_i32_18 c0_i32_22
  let v56 : BitVec 32 := Scalar.extui v55
  let v57 : BitVec 32 := Scalar.subi v54 v56
  let v58 : BitVec 1 := Scalar.cmpi .ne v52 v57
  let v59 : BitVec 32 := Scalar.remsi v19 c4_i32_18
  let c0_i32_23 : BitVec 32 := 0#32
  let v60 : BitVec 1 := Scalar.cmpi .ne v59 c0_i32_23
  let v61 : BitVec 1 := Scalar.andi v58 v60
  let v47 : BitVec 32 := Scalar.divsi v19 c4_i32_18
  let c1_i32_24 : BitVec 32 := 1#32
  let v62 : BitVec 32 := Scalar.subi v47 c1_i32_24
  let v63 : BitVec 32 := Scalar.select v61 v62 v47
  let c4_i32_25 : BitVec 32 := 4#32
  let v64 : BitVec 32 := Scalar.muli v63 c4_i32_25
  let v65 : BitVec 32 := Scalar.subi v19 v64
  let c1_i32_26 : BitVec 32 := 1#32
  let v67 : BitVec 32 := Scalar.divsi v65 c1_i32_26
  let v68 : BitVec 32 := Scalar.muli v67 c1_i32_26
  let v69 : BitVec 32 := Scalar.addi v64 v68
  let c1_i32_28 : BitVec 32 := 1#32
  let arg6 : BitVec 32 := Scf.iv v69 c1_i32_28 k0_t4
  let c512_i32_54 : BitVec 32 := 512#32
  let v147 : BitVec 32 := Scalar.muli arg6 c512_i32_54
  v147
def k0_off8 (i : grid0.Coords) (k0_t4 : Fin (k0_t4_loop i).trips) : Fin 3 → Nat :=
  let c0_55 : Index := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c0_i32_19 : BitVec 32 := 0#32
  let v48 : BitVec 1 := Scalar.cmpi .sgt v19 c0_i32_19
  let v49 : BitVec 32 := Scalar.extui v48
  let c0_i32_20 : BitVec 32 := 0#32
  let v50 : BitVec 1 := Scalar.cmpi .slt v19 c0_i32_20
  let v51 : BitVec 32 := Scalar.extui v50
  let v52 : BitVec 32 := Scalar.subi v49 v51
  let c4_i32_18 : BitVec 32 := 4#32
  let c0_i32_21 : BitVec 32 := 0#32
  let v53 : BitVec 1 := Scalar.cmpi .sgt c4_i32_18 c0_i32_21
  let v54 : BitVec 32 := Scalar.extui v53
  let c0_i32_22 : BitVec 32 := 0#32
  let v55 : BitVec 1 := Scalar.cmpi .slt c4_i32_18 c0_i32_22
  let v56 : BitVec 32 := Scalar.extui v55
  let v57 : BitVec 32 := Scalar.subi v54 v56
  let v58 : BitVec 1 := Scalar.cmpi .ne v52 v57
  let v59 : BitVec 32 := Scalar.remsi v19 c4_i32_18
  let c0_i32_23 : BitVec 32 := 0#32
  let v60 : BitVec 1 := Scalar.cmpi .ne v59 c0_i32_23
  let v61 : BitVec 1 := Scalar.andi v58 v60
  let v47 : BitVec 32 := Scalar.divsi v19 c4_i32_18
  let c1_i32_24 : BitVec 32 := 1#32
  let v62 : BitVec 32 := Scalar.subi v47 c1_i32_24
  let v63 : BitVec 32 := Scalar.select v61 v62 v47
  let c4_i32_25 : BitVec 32 := 4#32
  let v64 : BitVec 32 := Scalar.muli v63 c4_i32_25
  let v65 : BitVec 32 := Scalar.subi v19 v64
  let c1_i32_26 : BitVec 32 := 1#32
  let v67 : BitVec 32 := Scalar.divsi v65 c1_i32_26
  let v68 : BitVec 32 := Scalar.muli v67 c1_i32_26
  let v69 : BitVec 32 := Scalar.addi v64 v68
  let c1_i32_28 : BitVec 32 := 1#32
  let arg6 : BitVec 32 := Scf.iv v69 c1_i32_28 k0_t4
  let c512_i32_54 : BitVec 32 := 512#32
  let v147 : BitVec 32 := Scalar.muli arg6 c512_i32_54
  let v148 : BitVec 32 := v147
  let v149 : Index := Scalar.indexCast v148
  let c0_56 : Index := 0#32
  ![0, v149.toNat, 0]
def k0_mult21 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c512_i32_29 : BitVec 32 := 512#32
  let v72 : BitVec 32 := Scalar.muli v19 c512_i32_29
  v72
def k0_off9 (i : grid0.Coords) : Fin 3 → Nat :=
  let c0_30 : Index := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c512_i32_29 : BitVec 32 := 512#32
  let v72 : BitVec 32 := Scalar.muli v19 c512_i32_29
  let v73 : BitVec 32 := v72
  let v74 : Index := Scalar.indexCast v73
  let c0_31 : Index := 0#32
  ![0, v74.toNat, 0]
def k0_mult22 (i : grid0.Coords) : BitVec 32 :=
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c512_i32_33 : BitVec 32 := 512#32
  let v78 : BitVec 32 := Scalar.muli v19 c512_i32_33
  v78
def k0_off10 (i : grid0.Coords) : Fin 3 → Nat :=
  let c0_34 : Index := 0#32
  let arg1 : BitVec 32 := BitVec.ofNat 32 (i 1).val
  let c128_i32 : BitVec 32 := 128#32
  let v0 : BitVec 32 := Scalar.muli arg1 c128_i32
  let c0_i32 : BitVec 32 := 0#32
  let v4 : BitVec 1 := Scalar.cmpi .sgt v0 c0_i32
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c512_i32 : BitVec 32 := 512#32
  let c0_i32_3 : BitVec 32 := 0#32
  let v9 : BitVec 1 := Scalar.cmpi .sgt c512_i32 c0_i32_3
  let v10 : BitVec 32 := Scalar.extui v9
  let c0_i32_4 : BitVec 32 := 0#32
  let v11 : BitVec 1 := Scalar.cmpi .slt c512_i32 c0_i32_4
  let v12 : BitVec 32 := Scalar.extui v11
  let v13 : BitVec 32 := Scalar.subi v10 v12
  let v14 : BitVec 1 := Scalar.cmpi .ne v8 v13
  let v15 : BitVec 32 := Scalar.remsi v0 c512_i32
  let c0_i32_5 : BitVec 32 := 0#32
  let v16 : BitVec 1 := Scalar.cmpi .ne v15 c0_i32_5
  let v17 : BitVec 1 := Scalar.andi v14 v16
  let v3 : BitVec 32 := Scalar.divsi v0 c512_i32
  let c1_i32 : BitVec 32 := 1#32
  let v18 : BitVec 32 := Scalar.subi v3 c1_i32
  let v19 : BitVec 32 := Scalar.select v17 v18 v3
  let c512_i32_33 : BitVec 32 := 512#32
  let v78 : BitVec 32 := Scalar.muli v19 c512_i32_33
  let v79 : BitVec 32 := v78
  let v80 : Index := Scalar.indexCast v79
  let c0_35 : Index := 0#32
  ![0, v80.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | "scale2" => some (((Real.sqrt 96)⁻¹ * (Real.log 2)⁻¹ : ℝ) : EReal)
  | _ => none
-- ==== ReferenceIdeal.lean ====
abbrev S32768x1024 : Shape := ⟨2, ![32768, 1024]⟩
abbrev S32768x256 : Shape := ⟨2, ![32768, 256]⟩
abbrev S32768x128 : Shape := ⟨2, ![32768, 128]⟩
abbrev S32768x32 : Shape := ⟨2, ![32768, 32]⟩
abbrev S4x8192x8x128 : Shape := ⟨4, ![4, 8192, 8, 128]⟩
abbrev S4x8192x8x32 : Shape := ⟨4, ![4, 8192, 8, 32]⟩
abbrev S8192 : Shape := ⟨1, ![8192]⟩
abbrev S4x8192x128 : Shape := ⟨3, ![4, 8192, 128]⟩
abbrev S4x8192x32 : Shape := ⟨3, ![4, 8192, 32]⟩
abbrev S4x8192x8192x8 : Shape := ⟨4, ![4, 8192, 8192, 8]⟩
abbrev S4x8x8192x8192 : Shape := ⟨4, ![4, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x128x8x8192 : Shape := ⟨4, ![4, 128, 8, 8192]⟩
abbrev S4x65536x128 : Shape := ⟨3, ![4, 65536, 128]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S32768x128, .f32⟩
  | .hbm, ⟨3, _⟩ => ⟨S32768x32, .f32⟩
  | .hbm, ⟨4, _⟩ => ⟨S32768x1024, .f32⟩
  | .hbm, ⟨5, _⟩ => ⟨S4x8192x8x128, .f32⟩
  | .hbm, ⟨6, _⟩ => ⟨S32768x256, .f32⟩
  | .hbm, ⟨7, _⟩ => ⟨S4x8192x8x32, .f32⟩
  | .hbm, ⟨8, _⟩ => ⟨S8192, .i32⟩
  | .hbm, ⟨9, _⟩ => ⟨S4x8192x128, .f32⟩
  | .hbm, ⟨10, _⟩ => ⟨S4x8192x32, .f32⟩
  | .hbm, ⟨11, _⟩ => ⟨S4x8192x8192x8, .f32⟩
  | .hbm, ⟨12, _⟩ => ⟨S4x8x8192x8192, .f32⟩
  | .hbm, ⟨13, _⟩ => ⟨S4x8192x8192x8, .f32⟩
  | .hbm, ⟨14, _⟩ => ⟨S4x8x8192x8192, .f32⟩
  | .hbm, ⟨15, _⟩ => ⟨S4x8x8192x8192, .f32⟩
  | .hbm, ⟨16, _⟩ => ⟨S_, .f32⟩
  | .hbm, ⟨17, _⟩ => ⟨S_, .f32⟩
  | .hbm, ⟨18, _⟩ => ⟨S4x8x8192x8192, .f32⟩
  | .hbm, ⟨19, _⟩ => ⟨S4x8x8192x8192, .f32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S4x8x8192x8192, .i1⟩
  | .hbm, ⟨28, _⟩ => ⟨S4x8x8192x8192, .f32⟩
  | .hbm, ⟨29, _⟩ => ⟨S4x8x8192x8192, .f32⟩
  | .hbm, ⟨30, _⟩ => ⟨S_, .f32⟩
  | .hbm, ⟨31, _⟩ => ⟨S4x8x8192, .f32⟩
  | .hbm, ⟨32, _⟩ => ⟨S_, .f32⟩
  | .hbm, ⟨33, _⟩ => ⟨S4x8x8192, .f32⟩
  | .hbm, ⟨34, _⟩ => ⟨S4x8x8192, .f32⟩
  | .hbm, ⟨35, _⟩ => ⟨S4x8x8192x1, .f32⟩
  | .hbm, ⟨36, _⟩ => ⟨S4x8x8192x8192, .f32⟩
  | .hbm, ⟨37, _⟩ => ⟨S4x8x8192x8192, .f32⟩
  | .hbm, ⟨38, _⟩ => ⟨S4x8x8192x8192, .f32⟩
  | .hbm, ⟨39, _⟩ => ⟨S_, .f32⟩
  | .hbm, ⟨40, _⟩ => ⟨S4x8x8192, .f32⟩
  | .hbm, ⟨41, _⟩ => ⟨S4x8x8192x1, .f32⟩
  | .hbm, ⟨42, _⟩ => ⟨S4x8x8192x8192, .f32⟩
  | .hbm, ⟨43, _⟩ => ⟨S4x8x8192x8192, .f32⟩
  | .hbm, ⟨44, _⟩ => ⟨S4x128x8x8192, .f32⟩
  | .hbm, ⟨45, _⟩ => ⟨S4x8192x8x128, .f32⟩
  | .hbm, ⟨46, _⟩ => ⟨S4x65536x128, .f32⟩
  | .hbm, ⟨47, _⟩ => ⟨S4x65536x128, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel2.lean ====
abbrev S32768x1024 : Shape := ⟨2, ![32768, 1024]⟩
abbrev S32768x256 : Shape := ⟨2, ![32768, 256]⟩
abbrev S4x2x2816 : Shape := ⟨3, ![4, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S1x2816 : Shape := ⟨2, ![1, 2816]⟩
abbrev S256x256 : Shape := ⟨2, ![256, 256]⟩
abbrev S1x2x2816 : Shape := ⟨3, ![1, 2, 2816]⟩
abbrev S2x2816 : Shape := ⟨2, ![2, 2816]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 24
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S4x2x2816, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S256x1024, .f32⟩
  | .hbm, ⟨12, _⟩ => ⟨S1024, .f32⟩
  | .hbm, ⟨13, _⟩ => ⟨S1x1024, .f32⟩
  | .hbm, ⟨14, _⟩ => ⟨S1024x5632, .bf16⟩
  | .hbm, ⟨15, _⟩ => ⟨S1x2816, .f32⟩
  | .hbm, ⟨16, _⟩ => ⟨S2816x1024, .bf16⟩
  | .hbm, ⟨17, _⟩ => ⟨S1x1024, .f32⟩
  | .hbm, ⟨18, _⟩ => ⟨S1024x1024, .bf16⟩
  | .hbm, ⟨19, _⟩ => ⟨S1x1024, .f32⟩
  | .hbm, ⟨20, _⟩ => ⟨S256x1024, .bf16⟩
  | .hbm, ⟨21, _⟩ => ⟨S1x1024, .f32⟩
  | .hbm, ⟨22, _⟩ => ⟨S32768x1024, .f32⟩
  | .hbm, ⟨23, _⟩ => ⟨S4x2x2816, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S1x2x2816, .f32⟩
  | .local _ .vmem, ⟨5, _⟩ => ⟨S1x2x2816, .f32⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S256x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S1x2x2816, .f32⟩
  | .local _ .vmem, ⟨19, _⟩ => ⟨S1x2x2816, .f32⟩
  | .local _ .vmem, ⟨20, _⟩ => ⟨S2x2816, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S32768x1024 : Shape := ⟨2, ![32768, 1024]⟩
abbrev S32768x256 : Shape := ⟨2, ![32768, 256]⟩
abbrev S4x2x2816 : Shape := ⟨3, ![4, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x1024 : Shape := ⟨2, ![1024, 1024]⟩
abbrev S256x1024 : Shape := ⟨2, ![256, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x8194x2816 : Shape := ⟨3, ![4, 8194, 2816]⟩
abbrev S1x2816 : Shape := ⟨2, ![1, 2816]⟩
abbrev S1x1x2816 : Shape := ⟨3, ![1, 1, 2816]⟩
abbrev S4x8192x256 : Shape := ⟨3, ![4, 8192, 256]⟩

abbrev nBuf : Space → Nat
  | .hbm => 127
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S4x2x2816, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S256x1024, .f32⟩
  | .hbm, ⟨12, _⟩ => ⟨S1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S4x8192x5632, .f32⟩
  | .hbm, ⟨31, _⟩ => ⟨S4x8192x2816, .f32⟩
  | .hbm, ⟨32, _⟩ => ⟨S4x8192x2816, .f32⟩
  | .hbm, ⟨33, _⟩ => ⟨S4x8194x2816, .f32⟩
  | .hbm, ⟨34, _⟩ => ⟨S1x2816, .f32⟩
  | .hbm, ⟨35, _⟩ => ⟨S2816, .f32⟩
  | .hbm, ⟨36, _⟩ => ⟨S4x8192x2816, .f32⟩
  | .hbm, ⟨37, _⟩ => ⟨S1x1x2816, .f32⟩
  | .hbm, ⟨38, _⟩ => ⟨S4x8192x2816, .f32⟩
  | .hbm, ⟨39, _⟩ => ⟨S4x8192x2816, .f32⟩
  | .hbm, ⟨40, _⟩ => ⟨S1x1x2816, .f32⟩
  | .hbm, ⟨41, _⟩ => ⟨S4x8192x2816, .f32⟩
  | .hbm, ⟨42, _⟩ => ⟨S4x8192x2816, .f32⟩
  | .hbm, ⟨43, _⟩ => ⟨S1x2816, .f32⟩
  | .hbm, ⟨44, _⟩ => ⟨S2816, .f32⟩
  | .hbm, ⟨45, _⟩ => ⟨S4x8192x2816, .f32⟩
  | .hbm, ⟨46, _⟩ => ⟨S1x1x2816, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S1x2816, .f32⟩
  | .hbm, ⟨51, _⟩ => ⟨S2816, .f32⟩
  | .hbm, ⟨52, _⟩ => ⟨S4x8192x2816, .f32⟩
  | .hbm, ⟨53, _⟩ => ⟨S1x1x2816, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S4x8192x2816, .f32⟩
  | .hbm, ⟨59, _⟩ => ⟨S_, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S_, .f32⟩
  | .hbm, ⟨64, _⟩ => ⟨S4x8192x2816, .f32⟩
  | .hbm, ⟨65, _⟩ => ⟨S4x8192x2816, .f32⟩
  | .hbm, ⟨66, _⟩ => ⟨S4x8192x2816, .f32⟩
  | .hbm, ⟨67, _⟩ => ⟨S_, .f32⟩
  | .hbm, ⟨68, _⟩ => ⟨S4x8192x2816, .f32⟩
  | .hbm, ⟨69, _⟩ => ⟨S4x8192x2816, .f32⟩
  | .hbm, ⟨70, _⟩ => ⟨S_, .f32⟩
  | .hbm, ⟨71, _⟩ => ⟨S4x8192x2816, .f32⟩
  | .hbm, ⟨72, _⟩ => ⟨S4x8192x2816, .f32⟩
  | .hbm, ⟨73, _⟩ => ⟨S4x8192x2816, .f32⟩
  | .hbm, ⟨74, _⟩ => ⟨S4x8192x2816, .f32⟩
  | .hbm, ⟨75, _⟩ => ⟨S4x8192x1024, .f32⟩
  | .hbm, ⟨76, _⟩ => ⟨S4x2x2816, .f32⟩
  | .hbm, ⟨77, _⟩ => ⟨S4x8192x1024, .f32⟩
  | .hbm, ⟨78, _⟩ => ⟨S4x8192x256, .f32⟩
  | .hbm, ⟨79, _⟩ => ⟨S4x8192x1024, .f32⟩
  | .hbm, ⟨80, _⟩ => ⟨S_, .f32⟩
  | .hbm, ⟨81, _⟩ => ⟨S4x8192, .f32⟩
  | .hbm, ⟨82, _⟩ => ⟨S4x8192x1, .f32⟩
  | .hbm, ⟨83, _⟩ => ⟨S_, .f32⟩
  | .hbm, ⟨84, _⟩ => ⟨S4x8192x1, .f32⟩
  | .hbm, ⟨85, _⟩ => ⟨S4x8192x1, .f32⟩
  | .hbm, ⟨86, _⟩ => ⟨S_, .f32⟩
  | .hbm, ⟨87, _⟩ => ⟨S4x8192x1, .f32⟩
  | .hbm, ⟨88, _⟩ => ⟨S4x8192x1, .f32⟩
  | .hbm, ⟨89, _⟩ => ⟨S4x8192x1, .f32⟩
  | .hbm, ⟨90, _⟩ => ⟨S4x8192x1024, .f32⟩
  | .hbm, ⟨91, _⟩ => ⟨S4x8192x1024, .f32⟩
  | .hbm, ⟨92, _⟩ => ⟨S1x1x1024, .f32⟩
  | .hbm, ⟨93, _⟩ => ⟨S4x8192x1024, .f32⟩
  | .hbm, ⟨94, _⟩ => ⟨S4x8192x1024, .f32⟩
  | .hbm, ⟨95, _⟩ => ⟨S4x8192x1024, .f32⟩
  | .hbm, ⟨96, _⟩ => ⟨S1x1x1024, .f32⟩
  | .hbm, ⟨97, _⟩ => ⟨S4x8192x1024, .f32⟩
  | .hbm, ⟨98, _⟩ => ⟨S4x8192x1024, .f32⟩
  | .hbm, ⟨99, _⟩ => ⟨S4x8192x1024, .f32⟩
  | .hbm, ⟨100, _⟩ => ⟨S4x8192x1024, .f32⟩
  | .hbm, ⟨101, _⟩ => ⟨S_, .f32⟩
  | .hbm, ⟨102, _⟩ => ⟨S4x8192x1024, .f32⟩
  | .hbm, ⟨103, _⟩ => ⟨S4x8192x1024, .f32⟩
  | .hbm, ⟨104, _⟩ => ⟨S_, .f32⟩
  | .hbm, ⟨105, _⟩ => ⟨S4x8192x1024, .f32⟩
  | .hbm, ⟨106, _⟩ => ⟨S4x8192x1024, .f32⟩
  | .hbm, ⟨107, _⟩ => ⟨S4x8192x1024, .f32⟩
  | .hbm, ⟨108, _⟩ => ⟨S4x8192x1024, .f32⟩
  | .hbm, ⟨109, _⟩ => ⟨S4x8192x1024, .f32⟩
  | .hbm, ⟨110, _⟩ => ⟨S4x8192x1024, .f32⟩
  | .hbm, ⟨111, _⟩ => ⟨S_, .f32⟩
  | .hbm, ⟨112, _⟩ => ⟨S4x8192, .f32⟩
  | .hbm, ⟨113, _⟩ => ⟨S4x8192x1, .f32⟩
  | .hbm, ⟨114, _⟩ => ⟨S_, .f32⟩
  | .hbm, ⟨115, _⟩ => ⟨S4x8192x1, .f32⟩
  | .hbm, ⟨116, _⟩ => ⟨S4x8192x1, .f32⟩
  | .hbm, ⟨117, _⟩ => ⟨S_, .f32⟩
  | .hbm, ⟨118, _⟩ => ⟨S4x8192x1, .f32⟩
  | .hbm, ⟨119, _⟩ => ⟨S4x8192x1, .f32⟩
  | .hbm, ⟨120, _⟩ => ⟨S4x8192x1, .f32⟩
  | .hbm, ⟨121, _⟩ => ⟨S4x8192x1024, .f32⟩
  | .hbm, ⟨122, _⟩ => ⟨S4x8192x1024, .f32⟩
  | .hbm, ⟨123, _⟩ => ⟨S1x1x1024, .f32⟩
  | .hbm, ⟨124, _⟩ => ⟨S4x8192x1024, .f32⟩
  | .hbm, ⟨125, _⟩ => ⟨S4x8192x1024, .f32⟩
  | .hbm, ⟨126, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_6 : Ref sig .tc := ⟨.hbm, 80, rfl⟩
abbrev main_v60 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_9 : Ref sig .tc := ⟨.hbm, 101, rfl⟩
abbrev main_v78 : Ref sig .tc := ⟨.hbm, 102, rfl⟩
abbrev main_v79 : Ref sig .tc := ⟨.hbm, 103, rfl⟩
abbrev main_cst_10 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_11 : Ref sig .tc := ⟨.hbm, 111, rfl⟩
abbrev main_v86 : Ref sig .tc := ⟨.hbm, 112, rfl⟩
abbrev main_v87 : Ref sig .tc := ⟨.hbm, 113, rfl⟩
abbrev main_cst_12 : Ref sig .tc := ⟨.hbm, 114, rfl⟩
abbrev main_v88 : Ref sig .tc := ⟨.hbm, 115, rfl⟩
abbrev main_v89 : Ref sig .tc := ⟨.hbm, 116, rfl⟩
abbrev main_cst_13 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩

abbrev nD : Nat := 1
abbrev τ : Topo := Topo.v7x

variable {F : FTy → Type} [FloatOps F]
-- ==== Kernel3.lean ====
abbrev S32768x512 : Shape := ⟨2, ![32768, 512]⟩
abbrev S4x8192x128 : Shape := ⟨3, ![4, 8192, 128]⟩
abbrev S_ : Shape := ⟨0, ![]⟩
abbrev S4x8192x8x3 : Shape := ⟨4, ![4, 8192, 8, 3]⟩
abbrev S4x8192x8x58 : Shape := ⟨4, ![4, 8192, 8, 58]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S4x8192x8x128 : Shape := ⟨4, ![4, 8192, 8, 128]⟩
abbrev S4x8x8192x128 : Shape := ⟨4, ![4, 8, 8192, 128]⟩
abbrev S32x8192x128 : Shape := ⟨3, ![32, 8192, 128]⟩
abbrev S4x8x8192x64 : Shape := ⟨4, ![4, 8, 8192, 64]⟩
abbrev S32x8192x64 : Shape := ⟨3, ![32, 8192, 64]⟩
abbrev S32x8192x1 : Shape := ⟨3, ![32, 8192, 1]⟩
abbrev S32x8192x63 : Shape := ⟨3, ![32, 8192, 63]⟩
abbrev S1x512x128 : Shape := ⟨3, ![1, 512, 128]⟩
abbrev S1x8192x128 : Shape := ⟨3, ![1, 8192, 128]⟩
abbrev S1x512x64 : Shape := ⟨3, ![1, 512, 64]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S512x64 : Shape := ⟨2, ![512, 64]⟩

abbrev nBuf : Space → Nat
  | .hbm => 44
  | .vmem => 8
  | .smem => 0
  | _ => 0

abbrev bufTy : (tb : Table) → Fin (tcTables nBuf tb) → BufTy
  | .hbm, ⟨0, _⟩ => ⟨S32768x512, .bf16⟩
  | .hbm, ⟨1, _⟩ => ⟨S32768x512, .f32⟩
  | .hbm, ⟨2, _⟩ => ⟨S4x8192x128, .bf16⟩
  | .hbm, ⟨3, _⟩ => ⟨S4x8192x128, .bf16⟩
  | .hbm, ⟨4, _⟩ => ⟨S4x8192x128, .bf16⟩
  | .hbm, ⟨5, _⟩ => ⟨S32768x512, .f32⟩
  | .hbm, ⟨6, _⟩ => ⟨S_, .bf16⟩
  | .hbm, ⟨7, _⟩ => ⟨S4x8192x8x3, .bf16⟩
  | .hbm, ⟨8, _⟩ => ⟨S_, .bf16⟩
  | .hbm, ⟨9, _⟩ => ⟨S4x8192x8x58, .bf16⟩
  | .hbm, ⟨10, _⟩ => ⟨S4x8192x8x64, .bf16⟩
  | .hbm, ⟨11, _⟩ => ⟨S4x8192x8, .bf16⟩
  | .hbm, ⟨12, _⟩ => ⟨S4x8192x8x1, .bf16⟩
  | .hbm, ⟨13, _⟩ => ⟨S4x8192x8, .bf16⟩
  | .hbm, ⟨14, _⟩ => ⟨S4x8192x8x1, .bf16⟩
  | .hbm, ⟨15, _⟩ => ⟨S4x8192x8, .bf16⟩
  | .hbm, ⟨16, _⟩ => ⟨S4x8192x8x1, .bf16⟩
  | .hbm, ⟨17, _⟩ => ⟨S4x8192x8x128, .bf16⟩
  | .hbm, ⟨18, _⟩ => ⟨S32768x512, .bf16⟩
  | .hbm, ⟨19, _⟩ => ⟨S4x8192x8x64, .bf16⟩
  | .hbm, ⟨20, _⟩ => ⟨S4x8192x128, .bf16⟩
  | .hbm, ⟨21, _⟩ => ⟨S4x8192x8, .bf16⟩
  | .hbm, ⟨22, _⟩ => ⟨S4x8192x8x1, .bf16⟩
  | .hbm, ⟨23, _⟩ => ⟨S4x8192x128, .bf16⟩
  | .hbm, ⟨24, _⟩ => ⟨S4x8192x8, .bf16⟩
  | .hbm, ⟨25, _⟩ => ⟨S4x8192x8x1, .bf16⟩
  | .hbm, ⟨26, _⟩ => ⟨S4x8192x128, .bf16⟩
  | .hbm, ⟨27, _⟩ => ⟨S4x8192x8, .bf16⟩
  | .hbm, ⟨28, _⟩ => ⟨S4x8192x8x1, .bf16⟩
  | .hbm, ⟨29, _⟩ => ⟨S4x8192x8x128, .bf16⟩
  | .hbm, ⟨30, _⟩ => ⟨S4x8x8192x128, .bf16⟩
  | .hbm, ⟨31, _⟩ => ⟨S32x8192x128, .bf16⟩
  | .hbm, ⟨32, _⟩ => ⟨S4x8x8192x128, .bf16⟩
  | .hbm, ⟨33, _⟩ => ⟨S32x8192x128, .bf16⟩
  | .hbm, ⟨34, _⟩ => ⟨S32768x512, .bf16⟩
  | .hbm, ⟨35, _⟩ => ⟨S4x8192x8x64, .bf16⟩
  | .hbm, ⟨36, _⟩ => ⟨S4x8x8192x64, .bf16⟩
  | .hbm, ⟨37, _⟩ => ⟨S32x8192x64, .bf16⟩
  | .hbm, ⟨38, _⟩ => ⟨S_, .bf16⟩
  | .hbm, ⟨39, _⟩ => ⟨S32x8192x1, .bf16⟩
  | .hbm, ⟨40, _⟩ => ⟨S_, .bf16⟩
  | .hbm, ⟨41, _⟩ => ⟨S32x8192x63, .bf16⟩
  | .hbm, ⟨42, _⟩ => ⟨S32x8192x128, .bf16⟩
  | .hbm, ⟨43, _⟩ => ⟨S32x8192x64, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x64, .bf16⟩
  | .local _ .vmem, ⟨7, _⟩ => ⟨S1x512x64, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 16], ![false, false]⟩

@[reducible] def k0_t1_loop (i : grid0.Coords) : Scf.Loop 32 :=
  let c0_i32_15 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_9 : BitVec 32 := 0#32
  let v24 : BitVec 1 := Scalar.cmpi .sgt v19 c0_i32_9
  let v25 : BitVec 32 := Scalar.extui v24
  let c0_i32_10 : BitVec 32 := 0#32
  let v26 : BitVec 1 := Scalar.cmpi .slt v19 c0_i32_10
  let v27 : BitVec 32 := Scalar.extui v26
  let v28 : BitVec 32 := Scalar.subi v25 v27
  let c4_i32 : BitVec 32 := 4#32
  let c0_i32_11 : BitVec 32 := 0#32
  let v29 : BitVec 1 := Scalar.cmpi .sgt c4_i32 c0_i32_11
  let v30 : BitVec 32 := Scalar.extui v29
  let c0_i32_12 : BitVec 32 := 0#32
  let v31 : BitVec 1 := Scalar.cmpi .slt c4_i32 c0_i32_12
  let v32 : BitVec 32 := Scalar.extui v31
  let v33 : BitVec 32 := Scalar.subi v30 v32
  let v34 : BitVec 1 := Scalar.cmpi .ne v28 v33
  let v35 : BitVec 32 := Scalar.remsi v19 c4_i32
  let c0_i32_13 : BitVec 32 := 0#32
  let v36 : BitVec 1 := Scalar.cmpi .ne v35 c0_i32_13
  let v37 : BitVec 1 := Scalar.andi v34 v36
  let v23 : BitVec 32 := Scalar.divsi v19 c4_i32
  let c1_i32_14 : BitVec 32 := 1#32
  let v38 : BitVec 32 := Scalar.subi v23 c1_i32_14
  let v39 : BitVec 32 := Scalar.select v37 v38 v23
  let v40 : BitVec 32 := Scalar.subi v39 c0_i32_15
  let c1_i32_16 : BitVec 32 := 1#32
  let v42 : BitVec 32 := Scalar.divsi v40 c1_i32_16
  let v43 : BitVec 32 := Scalar.muli v42 c1_i32_16
  let v44 : BitVec 32 := Scalar.addi c0_i32_15 v43
  let c1_i32_17 : BitVec 32 := 1#32
  ⟨c0_i32_15, v44, c1_i32_17⟩
def k0_mult1 (i : grid0.Coords) (k0_t1 : Fin (k0_t1_loop i).trips) : BitVec 32 :=
  let c4_i32_50 : BitVec 32 := 4#32
  let c0_i32_15 : BitVec 32 := 0#32
  let c1_i32_17 : BitVec 32 := 1#32
  let arg6 : BitVec 32 := Scf.iv c0_i32_15 c1_i32_17 k0_t1
  let v137 : BitVec 32 := Scalar.muli c4_i32_50 arg6
  let c0_i32_51 : BitVec 32 := 0#32
  let v138 : BitVec 32 := Scalar.addi v137 c0_i32_51
  let c512_i32_52 : BitVec 32 := 512#32
  let v139 : BitVec 32 := Scalar.muli v138 c512_i32_52
  v139
def k0_off1 (i : grid0.Coords) (k0_t1 : Fin (k0_t1_loop i).trips) (c0_i32_51 : BitVec 32) : Fin 3 → Nat :=
  let c0_53 : Index := 0#32
  let c4_i32_50 : BitVec 32 := 4#32
  let c0_i32_15 : BitVec 32 := 0#32
  let c1_i32_17 : BitVec 32 := 1#32
  let arg6 : BitVec 32 := Scf.iv c0_i32_15 c1_i32_17 k0_t1
  let v137 : BitVec 32 := Scalar.muli c4_i32_50 arg6
  let v138 : BitVec 32 := Scalar.addi v137 c0_i32_51
  let c512_i32_52 : BitVec 32 := 512#32
  let v139 : BitVec 32 := Scalar.muli v138 c512_i32_52
  let v140 : BitVec 32 := v139
  let v141 : Index := Scalar.indexCast v140
  let c0_54 : Index := 0#32
  ![0, v141.toNat, 0]
def k0_mult2 (i : grid0.Coords) (k0_t1 : Fin (k0_t1_loop i).trips) : BitVec 32 :=
  let c4_i32_56 : BitVec 32 := 4#32
  let c0_i32_15 : BitVec 32 := 0#32
  let c1_i32_17 : BitVec 32 := 1#32
  let arg6 : BitVec 32 := Scf.iv c0_i32_15 c1_i32_17 k0_t1
  let v145 : BitVec 32 := Scalar.muli c4_i32_56 arg6
  let c1_i32_57 : BitVec 32 := 1#32
  let v146 : BitVec 32 := Scalar.addi v145 c1_i32_57
  let c512_i32_58 : BitVec 32 := 512#32
  let v147 : BitVec 32 := Scalar.muli v146 c512_i32_58
  v147
def k0_mult3 (i : grid0.Coords) (k0_t1 : Fin (k0_t1_loop i).trips) : BitVec 32 :=
  let c4_i32_62 : BitVec 32 := 4#32
  let c0_i32_15 : BitVec 32 := 0#32
  let c1_i32_17 : BitVec 32 := 1#32
  let arg6 : BitVec 32 := Scf.iv c0_i32_15 c1_i32_17 k0_t1
  let v153 : BitVec 32 := Scalar.muli c4_i32_62 arg6
  let c2_i32 : BitVec 32 := 2#32
  let v154 : BitVec 32 := Scalar.addi v153 c2_i32
  let c512_i32_63 : BitVec 32 := 512#32
  let v155 : BitVec 32 := Scalar.muli v154 c512_i32_63
  v155
def k0_mult4 (i : grid0.Coords) (k0_t1 : Fin (k0_t1_loop i).trips) : BitVec 32 :=
  let c4_i32_67 : BitVec 32 := 4#32
  let c0_i32_15 : BitVec 32 := 0#32
  let c1_i32_17 : BitVec 32 := 1#32
  let arg6 : BitVec 32 := Scf.iv c0_i32_15 c1_i32_17 k0_t1
  let v161 : BitVec 32 := Scalar.muli c4_i32_67 arg6
  let c3_i32 : BitVec 32 := 3#32
  let v162 : BitVec 32 := Scalar.addi v161 c3_i32
  let c512_i32_68 : BitVec 32 := 512#32
  let v163 : BitVec 32 := Scalar.muli v162 c512_i32_68
  v163
def k0_mult5 (i : grid0.Coords) (k0_t1 : Fin (k0_t1_loop i).trips) : BitVec 32 :=
  let c4_i32_72 : BitVec 32 := 4#32
  let c0_i32_15 : BitVec 32 := 0#32
  let c1_i32_17 : BitVec 32 := 1#32
  let arg6 : BitVec 32 := Scf.iv c0_i32_15 c1_i32_17 k0_t1
  let v169 : BitVec 32 := Scalar.muli c4_i32_72 arg6
  let c0_i32_73 : BitVec 32 := 0#32
  let v170 : BitVec 32 := Scalar.addi v169 c0_i32_73
  let c512_i32_74 : BitVec 32 := 512#32
  let v171 : BitVec 32 := Scalar.muli v170 c512_i32_74
  v171
def k0_mult6 (i : grid0.Coords) (k0_t1 : Fin (k0_t1_loop i).trips) : BitVec 32 :=
  let c4_i32_79 : BitVec 32 := 4#32
  let c0_i32_15 : BitVec 32 := 0#32
  let c1_i32_17 : BitVec 32 := 1#32
  let arg6 : BitVec 32 := Scf.iv c0_i32_15 c1_i32_17 k0_t1
  let v189 : BitVec 32 := Scalar.muli c4_i32_79 arg6
  let c1_i32_80 : BitVec 32 := 1#32
  let v190 : BitVec 32 := Scalar.addi v189 c1_i32_80
  let c512_i32_81 : BitVec 32 := 512#32
  let v191 : BitVec 32 := Scalar.muli v190 c512_i32_81
  v191
def k0_mult7 (i : grid0.Coords) (k0_t1 : Fin (k0_t1_loop i).trips) : BitVec 32 :=
  let c4_i32_86 : BitVec 32 := 4#32
  let c0_i32_15 : BitVec 32 := 0#32
  let c1_i32_17 : BitVec 32 := 1#32
  let arg6 : BitVec 32 := Scf.iv c0_i32_15 c1_i32_17 k0_t1
  let v209 : BitVec 32 := Scalar.muli c4_i32_86 arg6
  let c2_i32_87 : BitVec 32 := 2#32
  let v210 : BitVec 32 := Scalar.addi v209 c2_i32_87
  let c512_i32_88 : BitVec 32 := 512#32
  let v211 : BitVec 32 := Scalar.muli v210 c512_i32_88
  v211
def k0_mult8 (i : grid0.Coords) (k0_t1 : Fin (k0_t1_loop i).trips) : BitVec 32 :=
  let c4_i32_93 : BitVec 32 := 4#32
  let c0_i32_15 : BitVec 32 := 0#32
  let c1_i32_17 : BitVec 32 := 1#32
  let arg6 : BitVec 32 := Scf.iv c0_i32_15 c1_i32_17 k0_t1
  let v229 : BitVec 32 := Scalar.muli c4_i32_93 arg6
  let c3_i32_94 : BitVec 32 := 3#32
  let v230 : BitVec 32 := Scalar.addi v229 c3_i32_94
  let c512_i32_95 : BitVec 32 := 512#32
  let v231 : BitVec 32 := Scalar.muli v230 c512_i32_95
  v231
@[reducible] def k0_t2_loop (i : grid0.Coords) : Scf.Loop 32 :=
  let c0_i32_15 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_9 : BitVec 32 := 0#32
  let v24 : BitVec 1 := Scalar.cmpi .sgt v19 c0_i32_9
  let v25 : BitVec 32 := Scalar.extui v24
  let c0_i32_10 : BitVec 32 := 0#32
  let v26 : BitVec 1 := Scalar.cmpi .slt v19 c0_i32_10
  let v27 : BitVec 32 := Scalar.extui v26
  let v28 : BitVec 32 := Scalar.subi v25 v27
  let c4_i32 : BitVec 32 := 4#32
  let c0_i32_11 : BitVec 32 := 0#32
  let v29 : BitVec 1 := Scalar.cmpi .sgt c4_i32 c0_i32_11
  let v30 : BitVec 32 := Scalar.extui v29
  let c0_i32_12 : BitVec 32 := 0#32
  let v31 : BitVec 1 := Scalar.cmpi .slt c4_i32 c0_i32_12
  let v32 : BitVec 32 := Scalar.extui v31
  let v33 : BitVec 32 := Scalar.subi v30 v32
  let v34 : BitVec 1 := Scalar.cmpi .ne v28 v33
  let v35 : BitVec 32 := Scalar.remsi v19 c4_i32
  let c0_i32_13 : BitVec 32 := 0#32
  let v36 : BitVec 1 := Scalar.cmpi .ne v35 c0_i32_13
  let v37 : BitVec 1 := Scalar.andi v34 v36
  let v23 : BitVec 32 := Scalar.divsi v19 c4_i32
  let c1_i32_14 : BitVec 32 := 1#32
  let v38 : BitVec 32 := Scalar.subi v23 c1_i32_14
  let v39 : BitVec 32 := Scalar.select v37 v38 v23
  let v40 : BitVec 32 := Scalar.subi v39 c0_i32_15
  let c1_i32_16 : BitVec 32 := 1#32
  let v42 : BitVec 32 := Scalar.divsi v40 c1_i32_16
  let v43 : BitVec 32 := Scalar.muli v42 c1_i32_16
  let v44 : BitVec 32 := Scalar.addi c0_i32_15 v43
  let v41 : BitVec 32 := Scalar.addi c0_i32_15 v40
  let c1_i32_18 : BitVec 32 := 1#32
  ⟨v44, v41, c1_i32_18⟩
def k0_mult9 (i : grid0.Coords) (k0_t2 : Fin (k0_t2_loop i).trips) : BitVec 32 :=
  let c4_i32_50 : BitVec 32 := 4#32
  let c0_i32_15 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_9 : BitVec 32 := 0#32
  let v24 : BitVec 1 := Scalar.cmpi .sgt v19 c0_i32_9
  let v25 : BitVec 32 := Scalar.extui v24
  let c0_i32_10 : BitVec 32 := 0#32
  let v26 : BitVec 1 := Scalar.cmpi .slt v19 c0_i32_10
  let v27 : BitVec 32 := Scalar.extui v26
  let v28 : BitVec 32 := Scalar.subi v25 v27
  let c4_i32 : BitVec 32 := 4#32
  let c0_i32_11 : BitVec 32 := 0#32
  let v29 : BitVec 1 := Scalar.cmpi .sgt c4_i32 c0_i32_11
  let v30 : BitVec 32 := Scalar.extui v29
  let c0_i32_12 : BitVec 32 := 0#32
  let v31 : BitVec 1 := Scalar.cmpi .slt c4_i32 c0_i32_12
  let v32 : BitVec 32 := Scalar.extui v31
  let v33 : BitVec 32 := Scalar.subi v30 v32
  let v34 : BitVec 1 := Scalar.cmpi .ne v28 v33
  let v35 : BitVec 32 := Scalar.remsi v19 c4_i32
  let c0_i32_13 : BitVec 32 := 0#32
  let v36 : BitVec 1 := Scalar.cmpi .ne v35 c0_i32_13
  let v37 : BitVec 1 := Scalar.andi v34 v36
  let v23 : BitVec 32 := Scalar.divsi v19 c4_i32
  let c1_i32_14 : BitVec 32 := 1#32
  let v38 : BitVec 32 := Scalar.subi v23 c1_i32_14
  let v39 : BitVec 32 := Scalar.select v37 v38 v23
  let v40 : BitVec 32 := Scalar.subi v39 c0_i32_15
  let c1_i32_16 : BitVec 32 := 1#32
  let v42 : BitVec 32 := Scalar.divsi v40 c1_i32_16
  let v43 : BitVec 32 := Scalar.muli v42 c1_i32_16
  let v44 : BitVec 32 := Scalar.addi c0_i32_15 v43
  let c1_i32_18 : BitVec 32 := 1#32
  let arg6 : BitVec 32 := Scf.iv v44 c1_i32_18 k0_t2
  let v137 : BitVec 32 := Scalar.muli c4_i32_50 arg6
  let c0_i32_51 : BitVec 32 := 0#32
  let v138 : BitVec 32 := Scalar.addi v137 c0_i32_51
  let c512_i32_52 : BitVec 32 := 512#32
  let v139 : BitVec 32 := Scalar.muli v138 c512_i32_52
  v139
def k0_off2 (i : grid0.Coords) (k0_t2 : Fin (k0_t2_loop i).trips) (c0_i32_51 : BitVec 32) : Fin 3 → Nat :=
  let c0_53 : Index := 0#32
  let c4_i32_50 : BitVec 32 := 4#32
  let c0_i32_15 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_9 : BitVec 32 := 0#32
  let v24 : BitVec 1 := Scalar.cmpi .sgt v19 c0_i32_9
  let v25 : BitVec 32 := Scalar.extui v24
  let c0_i32_10 : BitVec 32 := 0#32
  let v26 : BitVec 1 := Scalar.cmpi .slt v19 c0_i32_10
  let v27 : BitVec 32 := Scalar.extui v26
  let v28 : BitVec 32 := Scalar.subi v25 v27
  let c4_i32 : BitVec 32 := 4#32
  let c0_i32_11 : BitVec 32 := 0#32
  let v29 : BitVec 1 := Scalar.cmpi .sgt c4_i32 c0_i32_11
  let v30 : BitVec 32 := Scalar.extui v29
  let c0_i32_12 : BitVec 32 := 0#32
  let v31 : BitVec 1 := Scalar.cmpi .slt c4_i32 c0_i32_12
  let v32 : BitVec 32 := Scalar.extui v31
  let v33 : BitVec 32 := Scalar.subi v30 v32
  let v34 : BitVec 1 := Scalar.cmpi .ne v28 v33
  let v35 : BitVec 32 := Scalar.remsi v19 c4_i32
  let c0_i32_13 : BitVec 32 := 0#32
  let v36 : BitVec 1 := Scalar.cmpi .ne v35 c0_i32_13
  let v37 : BitVec 1 := Scalar.andi v34 v36
  let v23 : BitVec 32 := Scalar.divsi v19 c4_i32
  let c1_i32_14 : BitVec 32 := 1#32
  let v38 : BitVec 32 := Scalar.subi v23 c1_i32_14
  let v39 : BitVec 32 := Scalar.select v37 v38 v23
  let v40 : BitVec 32 := Scalar.subi v39 c0_i32_15
  let c1_i32_16 : BitVec 32 := 1#32
  let v42 : BitVec 32 := Scalar.divsi v40 c1_i32_16
  let v43 : BitVec 32 := Scalar.muli v42 c1_i32_16
  let v44 : BitVec 32 := Scalar.addi c0_i32_15 v43
  let c1_i32_18 : BitVec 32 := 1#32
  let arg6 : BitVec 32 := Scf.iv v44 c1_i32_18 k0_t2
  let v137 : BitVec 32 := Scalar.muli c4_i32_50 arg6
  let v138 : BitVec 32 := Scalar.addi v137 c0_i32_51
  let c512_i32_52 : BitVec 32 := 512#32
  let v139 : BitVec 32 := Scalar.muli v138 c512_i32_52
  let v140 : BitVec 32 := v139
  let v141 : Index := Scalar.indexCast v140
  let c0_54 : Index := 0#32
  ![0, v141.toNat, 0]
def k0_mult10 (i : grid0.Coords) (k0_t2 : Fin (k0_t2_loop i).trips) : BitVec 32 :=
  let c4_i32_56 : BitVec 32 := 4#32
  let c0_i32_15 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_9 : BitVec 32 := 0#32
  let v24 : BitVec 1 := Scalar.cmpi .sgt v19 c0_i32_9
  let v25 : BitVec 32 := Scalar.extui v24
  let c0_i32_10 : BitVec 32 := 0#32
  let v26 : BitVec 1 := Scalar.cmpi .slt v19 c0_i32_10
  let v27 : BitVec 32 := Scalar.extui v26
  let v28 : BitVec 32 := Scalar.subi v25 v27
  let c4_i32 : BitVec 32 := 4#32
  let c0_i32_11 : BitVec 32 := 0#32
  let v29 : BitVec 1 := Scalar.cmpi .sgt c4_i32 c0_i32_11
  let v30 : BitVec 32 := Scalar.extui v29
  let c0_i32_12 : BitVec 32 := 0#32
  let v31 : BitVec 1 := Scalar.cmpi .slt c4_i32 c0_i32_12
  let v32 : BitVec 32 := Scalar.extui v31
  let v33 : BitVec 32 := Scalar.subi v30 v32
  let v34 : BitVec 1 := Scalar.cmpi .ne v28 v33
  let v35 : BitVec 32 := Scalar.remsi v19 c4_i32
  let c0_i32_13 : BitVec 32 := 0#32
  let v36 : BitVec 1 := Scalar.cmpi .ne v35 c0_i32_13
  let v37 : BitVec 1 := Scalar.andi v34 v36
  let v23 : BitVec 32 := Scalar.divsi v19 c4_i32
  let c1_i32_14 : BitVec 32 := 1#32
  let v38 : BitVec 32 := Scalar.subi v23 c1_i32_14
  let v39 : BitVec 32 := Scalar.select v37 v38 v23
  let v40 : BitVec 32 := Scalar.subi v39 c0_i32_15
  let c1_i32_16 : BitVec 32 := 1#32
  let v42 : BitVec 32 := Scalar.divsi v40 c1_i32_16
  let v43 : BitVec 32 := Scalar.muli v42 c1_i32_16
  let v44 : BitVec 32 := Scalar.addi c0_i32_15 v43
  let c1_i32_18 : BitVec 32 := 1#32
  let arg6 : BitVec 32 := Scf.iv v44 c1_i32_18 k0_t2
  let v145 : BitVec 32 := Scalar.muli c4_i32_56 arg6
  let c1_i32_57 : BitVec 32 := 1#32
  let v146 : BitVec 32 := Scalar.addi v145 c1_i32_57
  let c512_i32_58 : BitVec 32 := 512#32
  let v147 : BitVec 32 := Scalar.muli v146 c512_i32_58
  v147
def k0_mult11 (i : grid0.Coords) (k0_t2 : Fin (k0_t2_loop i).trips) : BitVec 32 :=
  let c4_i32_62 : BitVec 32 := 4#32
  let c0_i32_15 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_9 : BitVec 32 := 0#32
  let v24 : BitVec 1 := Scalar.cmpi .sgt v19 c0_i32_9
  let v25 : BitVec 32 := Scalar.extui v24
  let c0_i32_10 : BitVec 32 := 0#32
  let v26 : BitVec 1 := Scalar.cmpi .slt v19 c0_i32_10
  let v27 : BitVec 32 := Scalar.extui v26
  let v28 : BitVec 32 := Scalar.subi v25 v27
  let c4_i32 : BitVec 32 := 4#32
  let c0_i32_11 : BitVec 32 := 0#32
  let v29 : BitVec 1 := Scalar.cmpi .sgt c4_i32 c0_i32_11
  let v30 : BitVec 32 := Scalar.extui v29
  let c0_i32_12 : BitVec 32 := 0#32
  let v31 : BitVec 1 := Scalar.cmpi .slt c4_i32 c0_i32_12
  let v32 : BitVec 32 := Scalar.extui v31
  let v33 : BitVec 32 := Scalar.subi v30 v32
  let v34 : BitVec 1 := Scalar.cmpi .ne v28 v33
  let v35 : BitVec 32 := Scalar.remsi v19 c4_i32
  let c0_i32_13 : BitVec 32 := 0#32
  let v36 : BitVec 1 := Scalar.cmpi .ne v35 c0_i32_13
  let v37 : BitVec 1 := Scalar.andi v34 v36
  let v23 : BitVec 32 := Scalar.divsi v19 c4_i32
  let c1_i32_14 : BitVec 32 := 1#32
  let v38 : BitVec 32 := Scalar.subi v23 c1_i32_14
  let v39 : BitVec 32 := Scalar.select v37 v38 v23
  let v40 : BitVec 32 := Scalar.subi v39 c0_i32_15
  let c1_i32_16 : BitVec 32 := 1#32
  let v42 : BitVec 32 := Scalar.divsi v40 c1_i32_16
  let v43 : BitVec 32 := Scalar.muli v42 c1_i32_16
  let v44 : BitVec 32 := Scalar.addi c0_i32_15 v43
  let c1_i32_18 : BitVec 32 := 1#32
  let arg6 : BitVec 32 := Scf.iv v44 c1_i32_18 k0_t2
  let v153 : BitVec 32 := Scalar.muli c4_i32_62 arg6
  let c2_i32 : BitVec 32 := 2#32
  let v154 : BitVec 32 := Scalar.addi v153 c2_i32
  let c512_i32_63 : BitVec 32 := 512#32
  let v155 : BitVec 32 := Scalar.muli v154 c512_i32_63
  v155
def k0_mult12 (i : grid0.Coords) (k0_t2 : Fin (k0_t2_loop i).trips) : BitVec 32 :=
  let c4_i32_67 : BitVec 32 := 4#32
  let c0_i32_15 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_9 : BitVec 32 := 0#32
  let v24 : BitVec 1 := Scalar.cmpi .sgt v19 c0_i32_9
  let v25 : BitVec 32 := Scalar.extui v24
  let c0_i32_10 : BitVec 32 := 0#32
  let v26 : BitVec 1 := Scalar.cmpi .slt v19 c0_i32_10
  let v27 : BitVec 32 := Scalar.extui v26
  let v28 : BitVec 32 := Scalar.subi v25 v27
  let c4_i32 : BitVec 32 := 4#32
  let c0_i32_11 : BitVec 32 := 0#32
  let v29 : BitVec 1 := Scalar.cmpi .sgt c4_i32 c0_i32_11
  let v30 : BitVec 32 := Scalar.extui v29
  let c0_i32_12 : BitVec 32 := 0#32
  let v31 : BitVec 1 := Scalar.cmpi .slt c4_i32 c0_i32_12
  let v32 : BitVec 32 := Scalar.extui v31
  let v33 : BitVec 32 := Scalar.subi v30 v32
  let v34 : BitVec 1 := Scalar.cmpi .ne v28 v33
  let v35 : BitVec 32 := Scalar.remsi v19 c4_i32
  let c0_i32_13 : BitVec 32 := 0#32
  let v36 : BitVec 1 := Scalar.cmpi .ne v35 c0_i32_13
  let v37 : BitVec 1 := Scalar.andi v34 v36
  let v23 : BitVec 32 := Scalar.divsi v19 c4_i32
  let c1_i32_14 : BitVec 32 := 1#32
  let v38 : BitVec 32 := Scalar.subi v23 c1_i32_14
  let v39 : BitVec 32 := Scalar.select v37 v38 v23
  let v40 : BitVec 32 := Scalar.subi v39 c0_i32_15
  let c1_i32_16 : BitVec 32 := 1#32
  let v42 : BitVec 32 := Scalar.divsi v40 c1_i32_16
  let v43 : BitVec 32 := Scalar.muli v42 c1_i32_16
  let v44 : BitVec 32 := Scalar.addi c0_i32_15 v43
  let c1_i32_18 : BitVec 32 := 1#32
  let arg6 : BitVec 32 := Scf.iv v44 c1_i32_18 k0_t2
  let v161 : BitVec 32 := Scalar.muli c4_i32_67 arg6
  let c3_i32 : BitVec 32 := 3#32
  let v162 : BitVec 32 := Scalar.addi v161 c3_i32
  let c512_i32_68 : BitVec 32 := 512#32
  let v163 : BitVec 32 := Scalar.muli v162 c512_i32_68
  v163
def k0_mult13 (i : grid0.Coords) (k0_t2 : Fin (k0_t2_loop i).trips) : BitVec 32 :=
  let c4_i32_72 : BitVec 32 := 4#32
  let c0_i32_15 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_9 : BitVec 32 := 0#32
  let v24 : BitVec 1 := Scalar.cmpi .sgt v19 c0_i32_9
  let v25 : BitVec 32 := Scalar.extui v24
  let c0_i32_10 : BitVec 32 := 0#32
  let v26 : BitVec 1 := Scalar.cmpi .slt v19 c0_i32_10
  let v27 : BitVec 32 := Scalar.extui v26
  let v28 : BitVec 32 := Scalar.subi v25 v27
  let c4_i32 : BitVec 32 := 4#32
  let c0_i32_11 : BitVec 32 := 0#32
  let v29 : BitVec 1 := Scalar.cmpi .sgt c4_i32 c0_i32_11
  let v30 : BitVec 32 := Scalar.extui v29
  let c0_i32_12 : BitVec 32 := 0#32
  let v31 : BitVec 1 := Scalar.cmpi .slt c4_i32 c0_i32_12
  let v32 : BitVec 32 := Scalar.extui v31
  let v33 : BitVec 32 := Scalar.subi v30 v32
  let v34 : BitVec 1 := Scalar.cmpi .ne v28 v33
  let v35 : BitVec 32 := Scalar.remsi v19 c4_i32
  let c0_i32_13 : BitVec 32 := 0#32
  let v36 : BitVec 1 := Scalar.cmpi .ne v35 c0_i32_13
  let v37 : BitVec 1 := Scalar.andi v34 v36
  let v23 : BitVec 32 := Scalar.divsi v19 c4_i32
  let c1_i32_14 : BitVec 32 := 1#32
  let v38 : BitVec 32 := Scalar.subi v23 c1_i32_14
  let v39 : BitVec 32 := Scalar.select v37 v38 v23
  let v40 : BitVec 32 := Scalar.subi v39 c0_i32_15
  let c1_i32_16 : BitVec 32 := 1#32
  let v42 : BitVec 32 := Scalar.divsi v40 c1_i32_16
  let v43 : BitVec 32 := Scalar.muli v42 c1_i32_16
  let v44 : BitVec 32 := Scalar.addi c0_i32_15 v43
  let c1_i32_18 : BitVec 32 := 1#32
  let arg6 : BitVec 32 := Scf.iv v44 c1_i32_18 k0_t2
  let v169 : BitVec 32 := Scalar.muli c4_i32_72 arg6
  let c0_i32_73 : BitVec 32 := 0#32
  let v170 : BitVec 32 := Scalar.addi v169 c0_i32_73
  let c512_i32_74 : BitVec 32 := 512#32
  let v171 : BitVec 32 := Scalar.muli v170 c512_i32_74
  v171
def k0_mult14 (i : grid0.Coords) (k0_t2 : Fin (k0_t2_loop i).trips) : BitVec 32 :=
  let c4_i32_79 : BitVec 32 := 4#32
  let c0_i32_15 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_9 : BitVec 32 := 0#32
  let v24 : BitVec 1 := Scalar.cmpi .sgt v19 c0_i32_9
  let v25 : BitVec 32 := Scalar.extui v24
  let c0_i32_10 : BitVec 32 := 0#32
  let v26 : BitVec 1 := Scalar.cmpi .slt v19 c0_i32_10
  let v27 : BitVec 32 := Scalar.extui v26
  let v28 : BitVec 32 := Scalar.subi v25 v27
  let c4_i32 : BitVec 32 := 4#32
  let c0_i32_11 : BitVec 32 := 0#32
  let v29 : BitVec 1 := Scalar.cmpi .sgt c4_i32 c0_i32_11
  let v30 : BitVec 32 := Scalar.extui v29
  let c0_i32_12 : BitVec 32 := 0#32
  let v31 : BitVec 1 := Scalar.cmpi .slt c4_i32 c0_i32_12
  let v32 : BitVec 32 := Scalar.extui v31
  let v33 : BitVec 32 := Scalar.subi v30 v32
  let v34 : BitVec 1 := Scalar.cmpi .ne v28 v33
  let v35 : BitVec 32 := Scalar.remsi v19 c4_i32
  let c0_i32_13 : BitVec 32 := 0#32
  let v36 : BitVec 1 := Scalar.cmpi .ne v35 c0_i32_13
  let v37 : BitVec 1 := Scalar.andi v34 v36
  let v23 : BitVec 32 := Scalar.divsi v19 c4_i32
  let c1_i32_14 : BitVec 32 := 1#32
  let v38 : BitVec 32 := Scalar.subi v23 c1_i32_14
  let v39 : BitVec 32 := Scalar.select v37 v38 v23
  let v40 : BitVec 32 := Scalar.subi v39 c0_i32_15
  let c1_i32_16 : BitVec 32 := 1#32
  let v42 : BitVec 32 := Scalar.divsi v40 c1_i32_16
  let v43 : BitVec 32 := Scalar.muli v42 c1_i32_16
  let v44 : BitVec 32 := Scalar.addi c0_i32_15 v43
  let c1_i32_18 : BitVec 32 := 1#32
  let arg6 : BitVec 32 := Scf.iv v44 c1_i32_18 k0_t2
  let v189 : BitVec 32 := Scalar.muli c4_i32_79 arg6
  let c1_i32_80 : BitVec 32 := 1#32
  let v190 : BitVec 32 := Scalar.addi v189 c1_i32_80
  let c512_i32_81 : BitVec 32 := 512#32
  let v191 : BitVec 32 := Scalar.muli v190 c512_i32_81
  v191
def k0_mult15 (i : grid0.Coords) (k0_t2 : Fin (k0_t2_loop i).trips) : BitVec 32 :=
  let c4_i32_86 : BitVec 32 := 4#32
  let c0_i32_15 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_9 : BitVec 32 := 0#32
  let v24 : BitVec 1 := Scalar.cmpi .sgt v19 c0_i32_9
  let v25 : BitVec 32 := Scalar.extui v24
  let c0_i32_10 : BitVec 32 := 0#32
  let v26 : BitVec 1 := Scalar.cmpi .slt v19 c0_i32_10
  let v27 : BitVec 32 := Scalar.extui v26
  let v28 : BitVec 32 := Scalar.subi v25 v27
  let c4_i32 : BitVec 32 := 4#32
  let c0_i32_11 : BitVec 32 := 0#32
  let v29 : BitVec 1 := Scalar.cmpi .sgt c4_i32 c0_i32_11
  let v30 : BitVec 32 := Scalar.extui v29
  let c0_i32_12 : BitVec 32 := 0#32
  let v31 : BitVec 1 := Scalar.cmpi .slt c4_i32 c0_i32_12
  let v32 : BitVec 32 := Scalar.extui v31
  let v33 : BitVec 32 := Scalar.subi v30 v32
  let v34 : BitVec 1 := Scalar.cmpi .ne v28 v33
  let v35 : BitVec 32 := Scalar.remsi v19 c4_i32
  let c0_i32_13 : BitVec 32 := 0#32
  let v36 : BitVec 1 := Scalar.cmpi .ne v35 c0_i32_13
  let v37 : BitVec 1 := Scalar.andi v34 v36
  let v23 : BitVec 32 := Scalar.divsi v19 c4_i32
  let c1_i32_14 : BitVec 32 := 1#32
  let v38 : BitVec 32 := Scalar.subi v23 c1_i32_14
  let v39 : BitVec 32 := Scalar.select v37 v38 v23
  let v40 : BitVec 32 := Scalar.subi v39 c0_i32_15
  let c1_i32_16 : BitVec 32 := 1#32
  let v42 : BitVec 32 := Scalar.divsi v40 c1_i32_16
  let v43 : BitVec 32 := Scalar.muli v42 c1_i32_16
  let v44 : BitVec 32 := Scalar.addi c0_i32_15 v43
  let c1_i32_18 : BitVec 32 := 1#32
  let arg6 : BitVec 32 := Scf.iv v44 c1_i32_18 k0_t2
  let v209 : BitVec 32 := Scalar.muli c4_i32_86 arg6
  let c2_i32_87 : BitVec 32 := 2#32
  let v210 : BitVec 32 := Scalar.addi v209 c2_i32_87
  let c512_i32_88 : BitVec 32 := 512#32
  let v211 : BitVec 32 := Scalar.muli v210 c512_i32_88
  v211
def k0_mult16 (i : grid0.Coords) (k0_t2 : Fin (k0_t2_loop i).trips) : BitVec 32 :=
  let c4_i32_93 : BitVec 32 := 4#32
  let c0_i32_15 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_9 : BitVec 32 := 0#32
  let v24 : BitVec 1 := Scalar.cmpi .sgt v19 c0_i32_9
  let v25 : BitVec 32 := Scalar.extui v24
  let c0_i32_10 : BitVec 32 := 0#32
  let v26 : BitVec 1 := Scalar.cmpi .slt v19 c0_i32_10
  let v27 : BitVec 32 := Scalar.extui v26
  let v28 : BitVec 32 := Scalar.subi v25 v27
  let c4_i32 : BitVec 32 := 4#32
  let c0_i32_11 : BitVec 32 := 0#32
  let v29 : BitVec 1 := Scalar.cmpi .sgt c4_i32 c0_i32_11
  let v30 : BitVec 32 := Scalar.extui v29
  let c0_i32_12 : BitVec 32 := 0#32
  let v31 : BitVec 1 := Scalar.cmpi .slt c4_i32 c0_i32_12
  let v32 : BitVec 32 := Scalar.extui v31
  let v33 : BitVec 32 := Scalar.subi v30 v32
  let v34 : BitVec 1 := Scalar.cmpi .ne v28 v33
  let v35 : BitVec 32 := Scalar.remsi v19 c4_i32
  let c0_i32_13 : BitVec 32 := 0#32
  let v36 : BitVec 1 := Scalar.cmpi .ne v35 c0_i32_13
  let v37 : BitVec 1 := Scalar.andi v34 v36
  let v23 : BitVec 32 := Scalar.divsi v19 c4_i32
  let c1_i32_14 : BitVec 32 := 1#32
  let v38 : BitVec 32 := Scalar.subi v23 c1_i32_14
  let v39 : BitVec 32 := Scalar.select v37 v38 v23
  let v40 : BitVec 32 := Scalar.subi v39 c0_i32_15
  let c1_i32_16 : BitVec 32 := 1#32
  let v42 : BitVec 32 := Scalar.divsi v40 c1_i32_16
  let v43 : BitVec 32 := Scalar.muli v42 c1_i32_16
  let v44 : BitVec 32 := Scalar.addi c0_i32_15 v43
  let c1_i32_18 : BitVec 32 := 1#32
  let arg6 : BitVec 32 := Scf.iv v44 c1_i32_18 k0_t2
  let v229 : BitVec 32 := Scalar.muli c4_i32_93 arg6
  let c3_i32_94 : BitVec 32 := 3#32
  let v230 : BitVec 32 := Scalar.addi v229 c3_i32_94
  let c512_i32_95 : BitVec 32 := 512#32
  let v231 : BitVec 32 := Scalar.muli v230 c512_i32_95
  v231
@[reducible] def k0_t3_loop (i : grid0.Coords) : Scf.Loop 32 :=
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_20 : BitVec 32 := 0#32
  let v48 : BitVec 1 := Scalar.cmpi .sgt v19 c0_i32_20
  let v49 : BitVec 32 := Scalar.extui v48
  let c0_i32_21 : BitVec 32 := 0#32
  let v50 : BitVec 1 := Scalar.cmpi .slt v19 c0_i32_21
  let v51 : BitVec 32 := Scalar.extui v50
  let v52 : BitVec 32 := Scalar.subi v49 v51
  let c4_i32_19 : BitVec 32 := 4#32
  let c0_i32_22 : BitVec 32 := 0#32
  let v53 : BitVec 1 := Scalar.cmpi .sgt c4_i32_19 c0_i32_22
  let v54 : BitVec 32 := Scalar.extui v53
  let c0_i32_23 : BitVec 32 := 0#32
  let v55 : BitVec 1 := Scalar.cmpi .slt c4_i32_19 c0_i32_23
  let v56 : BitVec 32 := Scalar.extui v55
  let v57 : BitVec 32 := Scalar.subi v54 v56
  let v58 : BitVec 1 := Scalar.cmpi .ne v52 v57
  let v59 : BitVec 32 := Scalar.remsi v19 c4_i32_19
  let c0_i32_24 : BitVec 32 := 0#32
  let v60 : BitVec 1 := Scalar.cmpi .ne v59 c0_i32_24
  let v61 : BitVec 1 := Scalar.andi v58 v60
  let v47 : BitVec 32 := Scalar.divsi v19 c4_i32_19
  let c1_i32_25 : BitVec 32 := 1#32
  let v62 : BitVec 32 := Scalar.subi v47 c1_i32_25
  let v63 : BitVec 32 := Scalar.select v61 v62 v47
  let c4_i32_26 : BitVec 32 := 4#32
  let v64 : BitVec 32 := Scalar.muli v63 c4_i32_26
  let v65 : BitVec 32 := Scalar.subi v19 v64
  let c1_i32_27 : BitVec 32 := 1#32
  let v67 : BitVec 32 := Scalar.divsi v65 c1_i32_27
  let v68 : BitVec 32 := Scalar.muli v67 c1_i32_27
  let v69 : BitVec 32 := Scalar.addi v64 v68
  let c1_i32_28 : BitVec 32 := 1#32
  ⟨v64, v69, c1_i32_28⟩
def k0_mult17 (i : grid0.Coords) (k0_t3 : Fin (k0_t3_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_20 : BitVec 32 := 0#32
  let v48 : BitVec 1 := Scalar.cmpi .sgt v19 c0_i32_20
  let v49 : BitVec 32 := Scalar.extui v48
  let c0_i32_21 : BitVec 32 := 0#32
  let v50 : BitVec 1 := Scalar.cmpi .slt v19 c0_i32_21
  let v51 : BitVec 32 := Scalar.extui v50
  let v52 : BitVec 32 := Scalar.subi v49 v51
  let c4_i32_19 : BitVec 32 := 4#32
  let c0_i32_22 : BitVec 32 := 0#32
  let v53 : BitVec 1 := Scalar.cmpi .sgt c4_i32_19 c0_i32_22
  let v54 : BitVec 32 := Scalar.extui v53
  let c0_i32_23 : BitVec 32 := 0#32
  let v55 : BitVec 1 := Scalar.cmpi .slt c4_i32_19 c0_i32_23
  let v56 : BitVec 32 := Scalar.extui v55
  let v57 : BitVec 32 := Scalar.subi v54 v56
  let v58 : BitVec 1 := Scalar.cmpi .ne v52 v57
  let v59 : BitVec 32 := Scalar.remsi v19 c4_i32_19
  let c0_i32_24 : BitVec 32 := 0#32
  let v60 : BitVec 1 := Scalar.cmpi .ne v59 c0_i32_24
  let v61 : BitVec 1 := Scalar.andi v58 v60
  let v47 : BitVec 32 := Scalar.divsi v19 c4_i32_19
  let c1_i32_25 : BitVec 32 := 1#32
  let v62 : BitVec 32 := Scalar.subi v47 c1_i32_25
  let v63 : BitVec 32 := Scalar.select v61 v62 v47
  let c4_i32_26 : BitVec 32 := 4#32
  let v64 : BitVec 32 := Scalar.muli v63 c4_i32_26
  let c1_i32_28 : BitVec 32 := 1#32
  let arg6 : BitVec 32 := Scf.iv v64 c1_i32_28 k0_t3
  let c512_i32_50 : BitVec 32 := 512#32
  let v137 : BitVec 32 := Scalar.muli arg6 c512_i32_50
  v137
def k0_off3 (i : grid0.Coords) (k0_t3 : Fin (k0_t3_loop i).trips) : Fin 3 → Nat :=
  let c0_51 : Index := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_20 : BitVec 32 := 0#32
  let v48 : BitVec 1 := Scalar.cmpi .sgt v19 c0_i32_20
  let v49 : BitVec 32 := Scalar.extui v48
  let c0_i32_21 : BitVec 32 := 0#32
  let v50 : BitVec 1 := Scalar.cmpi .slt v19 c0_i32_21
  let v51 : BitVec 32 := Scalar.extui v50
  let v52 : BitVec 32 := Scalar.subi v49 v51
  let c4_i32_19 : BitVec 32 := 4#32
  let c0_i32_22 : BitVec 32 := 0#32
  let v53 : BitVec 1 := Scalar.cmpi .sgt c4_i32_19 c0_i32_22
  let v54 : BitVec 32 := Scalar.extui v53
  let c0_i32_23 : BitVec 32 := 0#32
  let v55 : BitVec 1 := Scalar.cmpi .slt c4_i32_19 c0_i32_23
  let v56 : BitVec 32 := Scalar.extui v55
  let v57 : BitVec 32 := Scalar.subi v54 v56
  let v58 : BitVec 1 := Scalar.cmpi .ne v52 v57
  let v59 : BitVec 32 := Scalar.remsi v19 c4_i32_19
  let c0_i32_24 : BitVec 32 := 0#32
  let v60 : BitVec 1 := Scalar.cmpi .ne v59 c0_i32_24
  let v61 : BitVec 1 := Scalar.andi v58 v60
  let v47 : BitVec 32 := Scalar.divsi v19 c4_i32_19
  let c1_i32_25 : BitVec 32 := 1#32
  let v62 : BitVec 32 := Scalar.subi v47 c1_i32_25
  let v63 : BitVec 32 := Scalar.select v61 v62 v47
  let c4_i32_26 : BitVec 32 := 4#32
  let v64 : BitVec 32 := Scalar.muli v63 c4_i32_26
  let c1_i32_28 : BitVec 32 := 1#32
  let arg6 : BitVec 32 := Scf.iv v64 c1_i32_28 k0_t3
  let c512_i32_50 : BitVec 32 := 512#32
  let v137 : BitVec 32 := Scalar.muli arg6 c512_i32_50
  let v138 : BitVec 32 := v137
  let v139 : Index := Scalar.indexCast v138
  let c0_52 : Index := 0#32
  ![0, v139.toNat, 0]
def k0_mult18 (i : grid0.Coords) (k0_t3 : Fin (k0_t3_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_20 : BitVec 32 := 0#32
  let v48 : BitVec 1 := Scalar.cmpi .sgt v19 c0_i32_20
  let v49 : BitVec 32 := Scalar.extui v48
  let c0_i32_21 : BitVec 32 := 0#32
  let v50 : BitVec 1 := Scalar.cmpi .slt v19 c0_i32_21
  let v51 : BitVec 32 := Scalar.extui v50
  let v52 : BitVec 32 := Scalar.subi v49 v51
  let c4_i32_19 : BitVec 32 := 4#32
  let c0_i32_22 : BitVec 32 := 0#32
  let v53 : BitVec 1 := Scalar.cmpi .sgt c4_i32_19 c0_i32_22
  let v54 : BitVec 32 := Scalar.extui v53
  let c0_i32_23 : BitVec 32 := 0#32
  let v55 : BitVec 1 := Scalar.cmpi .slt c4_i32_19 c0_i32_23
  let v56 : BitVec 32 := Scalar.extui v55
  let v57 : BitVec 32 := Scalar.subi v54 v56
  let v58 : BitVec 1 := Scalar.cmpi .ne v52 v57
  let v59 : BitVec 32 := Scalar.remsi v19 c4_i32_19
  let c0_i32_24 : BitVec 32 := 0#32
  let v60 : BitVec 1 := Scalar.cmpi .ne v59 c0_i32_24
  let v61 : BitVec 1 := Scalar.andi v58 v60
  let v47 : BitVec 32 := Scalar.divsi v19 c4_i32_19
  let c1_i32_25 : BitVec 32 := 1#32
  let v62 : BitVec 32 := Scalar.subi v47 c1_i32_25
  let v63 : BitVec 32 := Scalar.select v61 v62 v47
  let c4_i32_26 : BitVec 32 := 4#32
  let v64 : BitVec 32 := Scalar.muli v63 c4_i32_26
  let c1_i32_28 : BitVec 32 := 1#32
  let arg6 : BitVec 32 := Scf.iv v64 c1_i32_28 k0_t3
  let c512_i32_54 : BitVec 32 := 512#32
  let v143 : BitVec 32 := Scalar.muli arg6 c512_i32_54
  v143
@[reducible] def k0_t4_loop (i : grid0.Coords) : Scf.Loop 32 :=
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_20 : BitVec 32 := 0#32
  let v48 : BitVec 1 := Scalar.cmpi .sgt v19 c0_i32_20
  let v49 : BitVec 32 := Scalar.extui v48
  let c0_i32_21 : BitVec 32 := 0#32
  let v50 : BitVec 1 := Scalar.cmpi .slt v19 c0_i32_21
  let v51 : BitVec 32 := Scalar.extui v50
  let v52 : BitVec 32 := Scalar.subi v49 v51
  let c4_i32_19 : BitVec 32 := 4#32
  let c0_i32_22 : BitVec 32 := 0#32
  let v53 : BitVec 1 := Scalar.cmpi .sgt c4_i32_19 c0_i32_22
  let v54 : BitVec 32 := Scalar.extui v53
  let c0_i32_23 : BitVec 32 := 0#32
  let v55 : BitVec 1 := Scalar.cmpi .slt c4_i32_19 c0_i32_23
  let v56 : BitVec 32 := Scalar.extui v55
  let v57 : BitVec 32 := Scalar.subi v54 v56
  let v58 : BitVec 1 := Scalar.cmpi .ne v52 v57
  let v59 : BitVec 32 := Scalar.remsi v19 c4_i32_19
  let c0_i32_24 : BitVec 32 := 0#32
  let v60 : BitVec 1 := Scalar.cmpi .ne v59 c0_i32_24
  let v61 : BitVec 1 := Scalar.andi v58 v60
  let v47 : BitVec 32 := Scalar.divsi v19 c4_i32_19
  let c1_i32_25 : BitVec 32 := 1#32
  let v62 : BitVec 32 := Scalar.subi v47 c1_i32_25
  let v63 : BitVec 32 := Scalar.select v61 v62 v47
  let c4_i32_26 : BitVec 32 := 4#32
  let v64 : BitVec 32 := Scalar.muli v63 c4_i32_26
  let v65 : BitVec 32 := Scalar.subi v19 v64
  let c1_i32_27 : BitVec 32 := 1#32
  let v67 : BitVec 32 := Scalar.divsi v65 c1_i32_27
  let v68 : BitVec 32 := Scalar.muli v67 c1_i32_27
  let v69 : BitVec 32 := Scalar.addi v64 v68
  let v66 : BitVec 32 := Scalar.addi v64 v65
  let c1_i32_29 : BitVec 32 := 1#32
  ⟨v69, v66, c1_i32_29⟩
def k0_mult19 (i : grid0.Coords) (k0_t4 : Fin (k0_t4_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_20 : BitVec 32 := 0#32
  let v48 : BitVec 1 := Scalar.cmpi .sgt v19 c0_i32_20
  let v49 : BitVec 32 := Scalar.extui v48
  let c0_i32_21 : BitVec 32 := 0#32
  let v50 : BitVec 1 := Scalar.cmpi .slt v19 c0_i32_21
  let v51 : BitVec 32 := Scalar.extui v50
  let v52 : BitVec 32 := Scalar.subi v49 v51
  let c4_i32_19 : BitVec 32 := 4#32
  let c0_i32_22 : BitVec 32 := 0#32
  let v53 : BitVec 1 := Scalar.cmpi .sgt c4_i32_19 c0_i32_22
  let v54 : BitVec 32 := Scalar.extui v53
  let c0_i32_23 : BitVec 32 := 0#32
  let v55 : BitVec 1 := Scalar.cmpi .slt c4_i32_19 c0_i32_23
  let v56 : BitVec 32 := Scalar.extui v55
  let v57 : BitVec 32 := Scalar.subi v54 v56
  let v58 : BitVec 1 := Scalar.cmpi .ne v52 v57
  let v59 : BitVec 32 := Scalar.remsi v19 c4_i32_19
  let c0_i32_24 : BitVec 32 := 0#32
  let v60 : BitVec 1 := Scalar.cmpi .ne v59 c0_i32_24
  let v61 : BitVec 1 := Scalar.andi v58 v60
  let v47 : BitVec 32 := Scalar.divsi v19 c4_i32_19
  let c1_i32_25 : BitVec 32 := 1#32
  let v62 : BitVec 32 := Scalar.subi v47 c1_i32_25
  let v63 : BitVec 32 := Scalar.select v61 v62 v47
  let c4_i32_26 : BitVec 32 := 4#32
  let v64 : BitVec 32 := Scalar.muli v63 c4_i32_26
  let v65 : BitVec 32 := Scalar.subi v19 v64
  let c1_i32_27 : BitVec 32 := 1#32
  let v67 : BitVec 32 := Scalar.divsi v65 c1_i32_27
  let v68 : BitVec 32 := Scalar.muli v67 c1_i32_27
  let v69 : BitVec 32 := Scalar.addi v64 v68
  let c1_i32_29 : BitVec 32 := 1#32
  let arg6 : BitVec 32 := Scf.iv v69 c1_i32_29 k0_t4
  let c512_i32_50 : BitVec 32 := 512#32
  let v137 : BitVec 32 := Scalar.muli arg6 c512_i32_50
  v137
def k0_off4 (i : grid0.Coords) (k0_t4 : Fin (k0_t4_loop i).trips) : Fin 3 → Nat :=
  let c0_51 : Index := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_20 : BitVec 32 := 0#32
  let v48 : BitVec 1 := Scalar.cmpi .sgt v19 c0_i32_20
  let v49 : BitVec 32 := Scalar.extui v48
  let c0_i32_21 : BitVec 32 := 0#32
  let v50 : BitVec 1 := Scalar.cmpi .slt v19 c0_i32_21
  let v51 : BitVec 32 := Scalar.extui v50
  let v52 : BitVec 32 := Scalar.subi v49 v51
  let c4_i32_19 : BitVec 32 := 4#32
  let c0_i32_22 : BitVec 32 := 0#32
  let v53 : BitVec 1 := Scalar.cmpi .sgt c4_i32_19 c0_i32_22
  let v54 : BitVec 32 := Scalar.extui v53
  let c0_i32_23 : BitVec 32 := 0#32
  let v55 : BitVec 1 := Scalar.cmpi .slt c4_i32_19 c0_i32_23
  let v56 : BitVec 32 := Scalar.extui v55
  let v57 : BitVec 32 := Scalar.subi v54 v56
  let v58 : BitVec 1 := Scalar.cmpi .ne v52 v57
  let v59 : BitVec 32 := Scalar.remsi v19 c4_i32_19
  let c0_i32_24 : BitVec 32 := 0#32
  let v60 : BitVec 1 := Scalar.cmpi .ne v59 c0_i32_24
  let v61 : BitVec 1 := Scalar.andi v58 v60
  let v47 : BitVec 32 := Scalar.divsi v19 c4_i32_19
  let c1_i32_25 : BitVec 32 := 1#32
  let v62 : BitVec 32 := Scalar.subi v47 c1_i32_25
  let v63 : BitVec 32 := Scalar.select v61 v62 v47
  let c4_i32_26 : BitVec 32 := 4#32
  let v64 : BitVec 32 := Scalar.muli v63 c4_i32_26
  let v65 : BitVec 32 := Scalar.subi v19 v64
  let c1_i32_27 : BitVec 32 := 1#32
  let v67 : BitVec 32 := Scalar.divsi v65 c1_i32_27
  let v68 : BitVec 32 := Scalar.muli v67 c1_i32_27
  let v69 : BitVec 32 := Scalar.addi v64 v68
  let c1_i32_29 : BitVec 32 := 1#32
  let arg6 : BitVec 32 := Scf.iv v69 c1_i32_29 k0_t4
  let c512_i32_50 : BitVec 32 := 512#32
  let v137 : BitVec 32 := Scalar.muli arg6 c512_i32_50
  let v138 : BitVec 32 := v137
  let v139 : Index := Scalar.indexCast v138
  let c0_52 : Index := 0#32
  ![0, v139.toNat, 0]
def k0_mult20 (i : grid0.Coords) (k0_t4 : Fin (k0_t4_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c0_i32_20 : BitVec 32 := 0#32
  let v48 : BitVec 1 := Scalar.cmpi .sgt v19 c0_i32_20
  let v49 : BitVec 32 := Scalar.extui v48
  let c0_i32_21 : BitVec 32 := 0#32
  let v50 : BitVec 1 := Scalar.cmpi .slt v19 c0_i32_21
  let v51 : BitVec 32 := Scalar.extui v50
  let v52 : BitVec 32 := Scalar.subi v49 v51
  let c4_i32_19 : BitVec 32 := 4#32
  let c0_i32_22 : BitVec 32 := 0#32
  let v53 : BitVec 1 := Scalar.cmpi .sgt c4_i32_19 c0_i32_22
  let v54 : BitVec 32 := Scalar.extui v53
  let c0_i32_23 : BitVec 32 := 0#32
  let v55 : BitVec 1 := Scalar.cmpi .slt c4_i32_19 c0_i32_23
  let v56 : BitVec 32 := Scalar.extui v55
  let v57 : BitVec 32 := Scalar.subi v54 v56
  let v58 : BitVec 1 := Scalar.cmpi .ne v52 v57
  let v59 : BitVec 32 := Scalar.remsi v19 c4_i32_19
  let c0_i32_24 : BitVec 32 := 0#32
  let v60 : BitVec 1 := Scalar.cmpi .ne v59 c0_i32_24
  let v61 : BitVec 1 := Scalar.andi v58 v60
  let v47 : BitVec 32 := Scalar.divsi v19 c4_i32_19
  let c1_i32_25 : BitVec 32 := 1#32
  let v62 : BitVec 32 := Scalar.subi v47 c1_i32_25
  let v63 : BitVec 32 := Scalar.select v61 v62 v47
  let c4_i32_26 : BitVec 32 := 4#32
  let v64 : BitVec 32 := Scalar.muli v63 c4_i32_26
  let v65 : BitVec 32 := Scalar.subi v19 v64
  let c1_i32_27 : BitVec 32 := 1#32
  let v67 : BitVec 32 := Scalar.divsi v65 c1_i32_27
  let v68 : BitVec 32 := Scalar.muli v67 c1_i32_27
  let v69 : BitVec 32 := Scalar.addi v64 v68
  let c1_i32_29 : BitVec 32 := 1#32
  let arg6 : BitVec 32 := Scf.iv v69 c1_i32_29 k0_t4
  let c512_i32_54 : BitVec 32 := 512#32
  let v143 : BitVec 32 := Scalar.muli arg6 c512_i32_54
  v143
def k0_mult21 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c512_i32_30 : BitVec 32 := 512#32
  let v72 : BitVec 32 := Scalar.muli v19 c512_i32_30
  v72
def k0_off5 (i : grid0.Coords) : Fin 3 → Nat :=
  let c0_31 : Index := 0#32
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c512_i32_30 : BitVec 32 := 512#32
  let v72 : BitVec 32 := Scalar.muli v19 c512_i32_30
  let v73 : BitVec 32 := v72
  let v74 : Index := Scalar.indexCast v73
  let c0_32 : Index := 0#32
  ![0, v74.toNat, 0]
def k0_mult22 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v4 : BitVec 1 := Scalar.cmpi .sgt v0 c0_i32
  let v5 : BitVec 32 := Scalar.extui v4
  let c0_i32_3 : BitVec 32 := 0#32
  let v6 : BitVec 1 := Scalar.cmpi .slt v0 c0_i32_3
  let v7 : BitVec 32 := Scalar.extui v6
  let v8 : BitVec 32 := Scalar.subi v5 v7
  let c512_i32_2 : BitVec 32 := 512#32
  let c0_i32_4 : BitVec 32 := 0#32
  let v9 : BitVec 1 := Scalar.cmpi .sgt c512_i32_2 c0_i32_4
  let v10 : BitVec 32 := Scalar.extui v9
  let c0_i32_5 : BitVec 32 := 0#32
  let v11 : BitVec 1 := Scalar.cmpi .slt c512_i32_2 c0_i32_5
  let v12 : BitVec 32 := Scalar.extui v11
  let v13 : BitVec 32 := Scalar.subi v10 v12
  let v14 : BitVec 1 := Scalar.cmpi .ne v8 v13
  let v15 : BitVec 32 := Scalar.remsi v0 c512_i32_2
  let c0_i32_6 : BitVec 32 := 0#32
  let v16 : BitVec 1 := Scalar.cmpi .ne v15 c0_i32_6
  let v17 : BitVec 1 := Scalar.andi v14 v16
  let v3 : BitVec 32 := Scalar.divsi v0 c512_i32_2
  let c1_i32 : BitVec 32 := 1#32
  let v18 : BitVec 32 := Scalar.subi v3 c1_i32
  let v19 : BitVec 32 := Scalar.select v17 v18 v3
  let c512_i32_34 : BitVec 32 := 512#32
  let v78 : BitVec 32 := Scalar.muli v19 c512_i32_34
  v78
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S32768x512 : Shape := ⟨2, ![32768, 512]⟩
abbrev S4x8192x128 : Shape := ⟨3, ![4, 8192, 128]⟩
abbrev S4x8192x8 : Shape := ⟨3, ![4, 8192, 8]⟩
abbrev S8192 : Shape := ⟨1, ![8192]⟩
abbrev S4x8192x8x64 : Shape := ⟨4, ![4, 8192, 8, 64]⟩
abbrev S4x8x8192x8192 : Shape := ⟨4, ![4, 8, 8192, 8192]⟩
abbrev S4x8x8192 : Shape := ⟨3, ![4, 8, 8192]⟩
abbrev S4x8x8192x1 : Shape := ⟨4, ![4, 8, 8192, 1]⟩
abbrev S4x8x1x8192 : Shape := ⟨4, ![4, 8, 1, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x8x64x8192 : Shape := ⟨4, ![4, 8, 64, 8192]⟩
abbrev S4x8x8192x64 : Shape := ⟨4, ![4, 8, 8192, 64]⟩
abbrev S32x8192x64 : Shape := ⟨3, ![32, 8192, 64]⟩

abbrev nBuf : Space → Nat
  | .hbm => 55
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .f32⟩
  | .hbm, ⟨2, _⟩ => ⟨S4x8192x128, .bf16⟩
  | .hbm, ⟨3, _⟩ => ⟨S4x8192x128, .bf16⟩
  | .hbm, ⟨4, _⟩ => ⟨S4x8192x128, .bf16⟩
  | .hbm, ⟨5, _⟩ => ⟨S32768x512, .f32⟩
  | .hbm, ⟨6, _⟩ => ⟨S4x8192x128, .f32⟩
  | .hbm, ⟨7, _⟩ => ⟨S4x8192x128, .f32⟩
  | .hbm, ⟨8, _⟩ => ⟨S4x8192x128, .f32⟩
  | .hbm, ⟨9, _⟩ => ⟨S4x8192x128, .f32⟩
  | .hbm, ⟨10, _⟩ => ⟨S4x8192x128, .f32⟩
  | .hbm, ⟨11, _⟩ => ⟨S4x8192x8, .f32⟩
  | .hbm, ⟨12, _⟩ => ⟨S8192, .i32⟩
  | .hbm, ⟨13, _⟩ => ⟨S32768x512, .f32⟩
  | .hbm, ⟨14, _⟩ => ⟨S4x8192x8x64, .f32⟩
  | .hbm, ⟨15, _⟩ => ⟨S4x8192x8x64, .f32⟩
  | .hbm, ⟨16, _⟩ => ⟨S4x8192x8x64, .f32⟩
  | .hbm, ⟨17, _⟩ => ⟨S4x8x8192x8192, .f32⟩
  | .hbm, ⟨18, _⟩ => ⟨S4x8x8192, .f32⟩
  | .hbm, ⟨19, _⟩ => ⟨S4x8x8192x1, .f32⟩
  | .hbm, ⟨20, _⟩ => ⟨S4x8x8192x8192, .f32⟩
  | .hbm, ⟨21, _⟩ => ⟨S4x8x8192x8192, .f32⟩
  | .hbm, ⟨22, _⟩ => ⟨S4x8x8192, .f32⟩
  | .hbm, ⟨23, _⟩ => ⟨S4x8x1x8192, .f32⟩
  | .hbm, ⟨24, _⟩ => ⟨S4x8x8192x8192, .f32⟩
  | .hbm, ⟨25, _⟩ => ⟨S4x8x8192x8192, .f32⟩
  | .hbm, ⟨26, _⟩ => ⟨S1x8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S4x8x8192x8192, .i1⟩
  | .hbm, ⟨34, _⟩ => ⟨S4x8x8192x8192, .f32⟩
  | .hbm, ⟨35, _⟩ => ⟨S4x8x8192x8192, .f32⟩
  | .hbm, ⟨36, _⟩ => ⟨S_, .f32⟩
  | .hbm, ⟨37, _⟩ => ⟨S4x8x8192, .f32⟩
  | .hbm, ⟨38, _⟩ => ⟨S_, .f32⟩
  | .hbm, ⟨39, _⟩ => ⟨S4x8x8192, .f32⟩
  | .hbm, ⟨40, _⟩ => ⟨S4x8x8192, .f32⟩
  | .hbm, ⟨41, _⟩ => ⟨S4x8x8192x1, .f32⟩
  | .hbm, ⟨42, _⟩ => ⟨S4x8x8192x8192, .f32⟩
  | .hbm, ⟨43, _⟩ => ⟨S4x8x8192x8192, .f32⟩
  | .hbm, ⟨44, _⟩ => ⟨S4x8x8192x8192, .f32⟩
  | .hbm, ⟨45, _⟩ => ⟨S_, .f32⟩
  | .hbm, ⟨46, _⟩ => ⟨S4x8x8192, .f32⟩
  | .hbm, ⟨47, _⟩ => ⟨S4x8x8192x1, .f32⟩
  | .hbm, ⟨48, _⟩ => ⟨S4x8x8192x8192, .f32⟩
  | .hbm, ⟨49, _⟩ => ⟨S4x8x8192x8192, .f32⟩
  | .hbm, ⟨50, _⟩ => ⟨S4x8x64x8192, .f32⟩
  | .hbm, ⟨51, _⟩ => ⟨S4x8192x8x64, .f32⟩
  | .hbm, ⟨52, _⟩ => ⟨S4x8x8192x64, .f32⟩
  | .hbm, ⟨53, _⟩ => ⟨S32x8192x64, .f32⟩
  | .hbm, ⟨54, _⟩ => ⟨S32x8192x64, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel4.lean ====
abbrev S4x8192x1024 : Shape := ⟨3, ![4, 8192, 1024]⟩
abbrev S2x1024 : Shape := ⟨2, ![2, 1024]⟩
abbrev S1x1024x2056 : Shape := ⟨3, ![1, 1024, 2056]⟩
abbrev S1x8 : Shape := ⟨2, ![1, 8]⟩
abbrev S1024x2056 : Shape := ⟨2, ![1024, 2056]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x2176 : Shape := ⟨2, ![1024, 2176]⟩
abbrev S8 : Shape := ⟨1, ![8]⟩
abbrev S1x128 : Shape := ⟨2, ![1, 128]⟩
abbrev S32768x1024 : Shape := ⟨2, ![32768, 1024]⟩
abbrev S1x1024 : Shape := ⟨2, ![1, 1024]⟩
abbrev S1024 : Shape := ⟨1, ![1024]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2176 : Shape := ⟨2, ![512, 2176]⟩

abbrev nBuf : Space → Nat
  | .hbm => 27
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S1x1024x2056, .f32⟩
  | .hbm, ⟨3, _⟩ => ⟨S1x8, .f32⟩
  | .hbm, ⟨4, _⟩ => ⟨S1024x2056, .f32⟩
  | .hbm, ⟨5, _⟩ => ⟨S1024x1536, .f32⟩
  | .hbm, ⟨6, _⟩ => ⟨S1024x512, .f32⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x2176, .f32⟩
  | .hbm, ⟨12, _⟩ => ⟨S1024x2176, .bf16⟩
  | .hbm, ⟨13, _⟩ => ⟨S8, .f32⟩
  | .hbm, ⟨14, _⟩ => ⟨S1x8, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S32768x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S32768x512, .bf16⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x128, .f32⟩
  | .local _ .vmem, ⟨14, _⟩ => ⟨S512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel4Ideal.lean ====
abbrev S4x8192x1024 : Shape := ⟨3, ![4, 8192, 1024]⟩
abbrev S2x1024 : Shape := ⟨2, ![2, 1024]⟩
abbrev S1x1024x2056 : Shape := ⟨3, ![1, 1024, 2056]⟩
abbrev S1x8 : Shape := ⟨2, ![1, 8]⟩
abbrev S1024x2056 : Shape := ⟨2, ![1024, 2056]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x2176 : Shape := ⟨2, ![1024, 2176]⟩
abbrev S8 : Shape := ⟨1, ![8]⟩
abbrev S1x128 : Shape := ⟨2, ![1, 128]⟩
abbrev S32768x1024 : Shape := ⟨2, ![32768, 1024]⟩
abbrev S1x1024 : Shape := ⟨2, ![1, 1024]⟩
abbrev S1024 : Shape := ⟨1, ![1024]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2176 : Shape := ⟨2, ![512, 2176]⟩

abbrev nBuf : Space → Nat
  | .hbm => 27
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S1x1024x2056, .f32⟩
  | .hbm, ⟨3, _⟩ => ⟨S1x8, .f32⟩
  | .hbm, ⟨4, _⟩ => ⟨S1024x2056, .f32⟩
  | .hbm, ⟨5, _⟩ => ⟨S1024x1536, .f32⟩
  | .hbm, ⟨6, _⟩ => ⟨S1024x512, .f32⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x2176, .f32⟩
  | .hbm, ⟨12, _⟩ => ⟨S1024x2176, .bf16⟩
  | .hbm, ⟨13, _⟩ => ⟨S8, .f32⟩
  | .hbm, ⟨14, _⟩ => ⟨S1x8, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S32768x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S32768x512, .bf16⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x128, .f32⟩
  | .local _ .vmem, ⟨14, _⟩ => ⟨S512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4x8192x1024 : Shape := ⟨3, ![4, 8192, 1024]⟩
abbrev S2x1024 : Shape := ⟨2, ![2, 1024]⟩
abbrev S1x1024x2056 : Shape := ⟨3, ![1, 1024, 2056]⟩
abbrev S1x8 : Shape := ⟨2, ![1, 8]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2056 : Shape := ⟨2, ![1024, 2056]⟩
abbrev S4x8192x2056 : Shape := ⟨3, ![4, 8192, 2056]⟩
abbrev S32768x2056 : Shape := ⟨2, ![32768, 2056]⟩
abbrev S32768x512 : Shape := ⟨2, ![32768, 512]⟩
abbrev S32768x8 : Shape := ⟨2, ![32768, 8]⟩
abbrev S8 : Shape := ⟨1, ![8]⟩
abbrev S32768x128 : Shape := ⟨2, ![32768, 128]⟩

abbrev nBuf : Space → Nat
  | .hbm => 57
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S1x1024x2056, .f32⟩
  | .hbm, ⟨3, _⟩ => ⟨S1x8, .f32⟩
  | .hbm, ⟨4, _⟩ => ⟨S1x1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1024x2056, .f32⟩
  | .hbm, ⟨23, _⟩ => ⟨S4x8192x2056, .f32⟩
  | .hbm, ⟨24, _⟩ => ⟨S32768x2056, .f32⟩
  | .hbm, ⟨25, _⟩ => ⟨S32768x512, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x8, .f32⟩
  | .hbm, ⟨32, _⟩ => ⟨S8, .f32⟩
  | .hbm, ⟨33, _⟩ => ⟨S1x8, .f32⟩
  | .hbm, ⟨34, _⟩ => ⟨S32768x8, .f32⟩
  | .hbm, ⟨35, _⟩ => ⟨S32768x8, .f32⟩
  | .hbm, ⟨36, _⟩ => ⟨S_, .i32⟩
  | .hbm, ⟨37, _⟩ => ⟨S_, .f32⟩
  | .hbm, ⟨38, _⟩ => ⟨S32768x128, .f32⟩
  | .hbm, ⟨39, _⟩ => ⟨S32768x128, .f32⟩
  | .hbm, ⟨40, _⟩ => ⟨S_, .f32⟩
  | .hbm, ⟨41, _⟩ => ⟨S32768x128, .f32⟩
  | .hbm, ⟨42, _⟩ => ⟨S32768x128, .f32⟩
  | .hbm, ⟨43, _⟩ => ⟨S32768x128, .f32⟩
  | .hbm, ⟨44, _⟩ => ⟨S32768x128, .f32⟩
  | .hbm, ⟨45, _⟩ => ⟨S32768x128, .i1⟩
  | .hbm, ⟨46, _⟩ => ⟨S32768x128, .f32⟩
  | .hbm, ⟨47, _⟩ => ⟨S32768x128, .f32⟩
  | .hbm, ⟨48, _⟩ => ⟨S32768x128, .f32⟩
  | .hbm, ⟨49, _⟩ => ⟨S32768x128, .f32⟩
  | .hbm, ⟨50, _⟩ => ⟨S32768x128, .f32⟩
  | .hbm, ⟨51, _⟩ => ⟨S32768x128, .f32⟩
  | .hbm, ⟨52, _⟩ => ⟨S32768x128, .f32⟩
  | .hbm, ⟨53, _⟩ => ⟨S32768x128, .f32⟩
  | .hbm, ⟨54, _⟩ => ⟨S32768x128, .f32⟩
  | .hbm, ⟨55, _⟩ => ⟨S32768x512, .f32⟩
  | .hbm, ⟨56, _⟩ => ⟨S32768x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩

abbrev nD : Nat := 1
abbrev τ : Topo := Topo.v7x

variable {F : FTy → Type} [FloatOps F]
-- ==== Kernel5.lean ====
abbrev S128x8x1024 : Shape := ⟨3, ![128, 8, 1024]⟩
abbrev S2x1024 : Shape := ⟨2, ![2, 1024]⟩
abbrev S1x1024x2056 : Shape := ⟨3, ![1, 1024, 2056]⟩
abbrev S1x8 : Shape := ⟨2, ![1, 8]⟩
abbrev S1024x2056 : Shape := ⟨2, ![1024, 2056]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x2176 : Shape := ⟨2, ![1024, 2176]⟩
abbrev S8 : Shape := ⟨1, ![8]⟩
abbrev S1x128 : Shape := ⟨2, ![1, 128]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2176 : Shape := ⟨2, ![512, 2176]⟩

abbrev nBuf : Space → Nat
  | .hbm => 27
  | .vmem => 15
  | .smem => 0
  | _ => 0

abbrev bufTy : (tb : Table) → Fin (tcTables nBuf tb) → BufTy
  | .hbm, ⟨0, _⟩ => ⟨S128x8x1024, .f32⟩
  | .hbm, ⟨1, _⟩ => ⟨S2x1024, .f32⟩
  | .hbm, ⟨2, _⟩ => ⟨S1x1024x2056, .f32⟩
  | .hbm, ⟨3, _⟩ => ⟨S1x8, .f32⟩
  | .hbm, ⟨4, _⟩ => ⟨S1024x2056, .f32⟩
  | .hbm, ⟨5, _⟩ => ⟨S1024x1536, .f32⟩
  | .hbm, ⟨6, _⟩ => ⟨S1024x512, .f32⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x2176, .f32⟩
  | .hbm, ⟨12, _⟩ => ⟨S1024x2176, .bf16⟩
  | .hbm, ⟨13, _⟩ => ⟨S8, .f32⟩
  | .hbm, ⟨14, _⟩ => ⟨S1x8, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1024x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024x512, .bf16⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x128, .f32⟩
  | .local _ .vmem, ⟨14, _⟩ => ⟨S512x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S128x8x1024 : Shape := ⟨3, ![128, 8, 1024]⟩
abbrev S2x1024 : Shape := ⟨2, ![2, 1024]⟩
abbrev S1x1024x2056 : Shape := ⟨3, ![1, 1024, 2056]⟩
abbrev S1x8 : Shape := ⟨2, ![1, 8]⟩
abbrev S1x1024 : Shape := ⟨2, ![1, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x2056 : Shape := ⟨2, ![1024, 2056]⟩
abbrev S128x8x2056 : Shape := ⟨3, ![128, 8, 2056]⟩
abbrev S1024x512 : Shape := ⟨2, ![1024, 512]⟩
abbrev S1024x8 : Shape := ⟨2, ![1024, 8]⟩
abbrev S8 : Shape := ⟨1, ![8]⟩
abbrev S1024x128 : Shape := ⟨2, ![1024, 128]⟩

abbrev nBuf : Space → Nat
  | .hbm => 57
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S2x1024, .f32⟩
  | .hbm, ⟨2, _⟩ => ⟨S1x1024x2056, .f32⟩
  | .hbm, ⟨3, _⟩ => ⟨S1x8, .f32⟩
  | .hbm, ⟨4, _⟩ => ⟨S1x1024, .f32⟩
  | .hbm, ⟨5, _⟩ => ⟨S1024, .f32⟩
  | .hbm, ⟨6, _⟩ => ⟨S128x8x1024, .f32⟩
  | .hbm, ⟨7, _⟩ => ⟨S_, .f32⟩
  | .hbm, ⟨8, _⟩ => ⟨S128x8, .f32⟩
  | .hbm, ⟨9, _⟩ => ⟨S128x8x1, .f32⟩
  | .hbm, ⟨10, _⟩ => ⟨S_, .f32⟩
  | .hbm, ⟨11, _⟩ => ⟨S128x8x1, .f32⟩
  | .hbm, ⟨12, _⟩ => ⟨S128x8x1, .f32⟩
  | .hbm, ⟨13, _⟩ => ⟨S_, .f32⟩
  | .hbm, ⟨14, _⟩ => ⟨S128x8x1, .f32⟩
  | .hbm, ⟨15, _⟩ => ⟨S128x8x1, .f32⟩
  | .hbm, ⟨16, _⟩ => ⟨S128x8x1, .f32⟩
  | .hbm, ⟨17, _⟩ => ⟨S128x8x1024, .f32⟩
  | .hbm, ⟨18, _⟩ => ⟨S128x8x1024, .f32⟩
  | .hbm, ⟨19, _⟩ => ⟨S1x1x1024, .f32⟩
  | .hbm, ⟨20, _⟩ => ⟨S128x8x1024, .f32⟩
  | .hbm, ⟨21, _⟩ => ⟨S128x8x1024, .f32⟩
  | .hbm, ⟨22, _⟩ => ⟨S1024x2056, .f32⟩
  | .hbm, ⟨23, _⟩ => ⟨S128x8x2056, .f32⟩
  | .hbm, ⟨24, _⟩ => ⟨S1024x2056, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S1024x8, .f32⟩
  | .hbm, ⟨32, _⟩ => ⟨S8, .f32⟩
  | .hbm, ⟨33, _⟩ => ⟨S1x8, .f32⟩
  | .hbm, ⟨34, _⟩ => ⟨S1024x8, .f32⟩
  | .hbm, ⟨35, _⟩ => ⟨S1024x8, .f32⟩
  | .hbm, ⟨36, _⟩ => ⟨S_, .i32⟩
  | .hbm, ⟨37, _⟩ => ⟨S_, .f32⟩
  | .hbm, ⟨38, _⟩ => ⟨S1024x128, .f32⟩
  | .hbm, ⟨39, _⟩ => ⟨S1024x128, .f32⟩
  | .hbm, ⟨40, _⟩ => ⟨S_, .f32⟩
  | .hbm, ⟨41, _⟩ => ⟨S1024x128, .f32⟩
  | .hbm, ⟨42, _⟩ => ⟨S1024x128, .f32⟩
  | .hbm, ⟨43, _⟩ => ⟨S1024x128, .f32⟩
  | .hbm, ⟨44, _⟩ => ⟨S1024x128, .f32⟩
  | .hbm, ⟨45, _⟩ => ⟨S1024x128, .i1⟩
  | .hbm, ⟨46, _⟩ => ⟨S1024x128, .f32⟩
  | .hbm, ⟨47, _⟩ => ⟨S1024x128, .f32⟩
  | .hbm, ⟨48, _⟩ => ⟨S1024x128, .f32⟩
  | .hbm, ⟨49, _⟩ => ⟨S1024x128, .f32⟩
  | .hbm, ⟨50, _⟩ => ⟨S1024x128, .f32⟩
  | .hbm, ⟨51, _⟩ => ⟨S1024x128, .f32⟩
  | .hbm, ⟨52, _⟩ => ⟨S1024x128, .f32⟩
  | .hbm, ⟨53, _⟩ => ⟨S1024x128, .f32⟩
  | .hbm, ⟨54, _⟩ => ⟨S1024x128, .f32⟩
  | .hbm, ⟨55, _⟩ => ⟨S1024x512, .f32⟩
  | .hbm, ⟨56, _⟩ => ⟨S1024x512, .bf16⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩

abbrev nD : Nat := 1
abbrev τ : Topo := Topo.v7x

variable {F : FTy → Type} [FloatOps F]
-- ==== Kernel6.lean ====
abbrev S1024x1024 : Shape := ⟨2, ![1024, 1024]⟩
abbrev S1024x256 : Shape := ⟨2, ![1024, 256]⟩
abbrev S128x2x2816 : Shape := ⟨3, ![128, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S1x1024 : Shape := ⟨2, ![1, 1024]⟩
abbrev S1x2816 : Shape := ⟨2, ![1, 2816]⟩
abbrev S128x1x2816 : Shape := ⟨3, ![128, 1, 2816]⟩
abbrev S128x2816 : Shape := ⟨2, ![128, 2816]⟩
abbrev S128x8x2816 : Shape := ⟨3, ![128, 8, 2816]⟩
abbrev S1024x2816 : Shape := ⟨2, ![1024, 2816]⟩
abbrev S256x256 : Shape := ⟨2, ![256, 256]⟩
abbrev S256x2816 : Shape := ⟨2, ![256, 2816]⟩
abbrev S32x2x2816 : Shape := ⟨3, ![32, 2, 2816]⟩
abbrev S2x2816 : Shape := ⟨2, ![2, 2816]⟩
abbrev S256 : Shape := ⟨1, ![256]⟩
abbrev S256x1 : Shape := ⟨2, ![256, 1]⟩
abbrev S256x5632 : Shape := ⟨2, ![256, 5632]⟩
abbrev S32x8x2816 : Shape := ⟨3, ![32, 8, 2816]⟩

abbrev nBuf : Space → Nat
  | .hbm => 32
  | .vmem => 23
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S128x2x2816, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S256x1024, .f32⟩
  | .hbm, ⟨12, _⟩ => ⟨S1024, .f32⟩
  | .hbm, ⟨13, _⟩ => ⟨S1x1024, .f32⟩
  | .hbm, ⟨14, _⟩ => ⟨S1024x5632, .bf16⟩
  | .hbm, ⟨15, _⟩ => ⟨S1x2816, .f32⟩
  | .hbm, ⟨16, _⟩ => ⟨S2816x1024, .bf16⟩
  | .hbm, ⟨17, _⟩ => ⟨S1x1024, .f32⟩
  | .hbm, ⟨18, _⟩ => ⟨S1024x1024, .bf16⟩
  | .hbm, ⟨19, _⟩ => ⟨S1x1024, .f32⟩
  | .hbm, ⟨20, _⟩ => ⟨S256x1024, .bf16⟩
  | .hbm, ⟨21, _⟩ => ⟨S1x1024, .f32⟩
  | .hbm, ⟨22, _⟩ => ⟨S128x1x2816, .f32⟩
  | .hbm, ⟨23, _⟩ => ⟨S128x2816, .f32⟩
  | .hbm, ⟨24, _⟩ => ⟨S128x8x2816, .f32⟩
  | .hbm, ⟨25, _⟩ => ⟨S1024x2816, .f32⟩
  | .hbm, ⟨26, _⟩ => ⟨S128x1x2816, .f32⟩
  | .hbm, ⟨27, _⟩ => ⟨S128x2816, .f32⟩
  | .hbm, ⟨28, _⟩ => ⟨S128x8x2816, .f32⟩
  | .hbm, ⟨29, _⟩ => ⟨S1024x2816, .f32⟩
  | .hbm, ⟨30, _⟩ => ⟨S1024x1024, .f32⟩
  | .hbm, ⟨31, _⟩ => ⟨S128x2x2816, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x2816, .f32⟩
  | .local _ .vmem, ⟨8, _⟩ => ⟨S1x1024, .f32⟩
  | .local _ .vmem, ⟨9, _⟩ => ⟨S1024x5632, .bf16⟩
  | .local _ .vmem, ⟨10, _⟩ => ⟨S3x2816, .f32⟩
  | .local _ .vmem, ⟨11, _⟩ => ⟨S1x2816, .f32⟩
  | .local _ .vmem, ⟨12, _⟩ => ⟨S2816x1024, .bf16⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S256x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S32x2x2816, .f32⟩
  | .local _ .vmem, ⟨21, _⟩ => ⟨S32x2x2816, .f32⟩
  | .local _ .vmem, ⟨22, _⟩ => ⟨S2x2816, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x2x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S1024x1024 : Shape := ⟨2, ![1024, 1024]⟩
abbrev S1024x256 : Shape := ⟨2, ![1024, 256]⟩
abbrev S128x2x2816 : Shape := ⟨3, ![128, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S128x8x1024 : Shape := ⟨3, ![128, 8, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x5632 : Shape := ⟨3, ![128, 8, 5632]⟩
abbrev S128x8x2816 : Shape := ⟨3, ![128, 8, 2816]⟩
abbrev S128x10x2816 : Shape := ⟨3, ![128, 10, 2816]⟩
abbrev S1x2816 : Shape := ⟨2, ![1, 2816]⟩
abbrev S1x1x2816 : Shape := ⟨3, ![1, 1, 2816]⟩
abbrev S128x8x256 : Shape := ⟨3, ![128, 8, 256]⟩

abbrev nBuf : Space → Nat
  | .hbm => 127
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S128x2x2816, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S256x1024, .f32⟩
  | .hbm, ⟨12, _⟩ => ⟨S1024, .f32⟩
  | .hbm, ⟨13, _⟩ => ⟨S128x8x1024, .f32⟩
  | .hbm, ⟨14, _⟩ => ⟨S128x8x1024, .f32⟩
  | .hbm, ⟨15, _⟩ => ⟨S_, .f32⟩
  | .hbm, ⟨16, _⟩ => ⟨S128x8, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S_, .f32⟩
  | .hbm, ⟨22, _⟩ => ⟨S128x8x1, .f32⟩
  | .hbm, ⟨23, _⟩ => ⟨S128x8x1, .f32⟩
  | .hbm, ⟨24, _⟩ => ⟨S128x8x1, .f32⟩
  | .hbm, ⟨25, _⟩ => ⟨S128x8x1024, .f32⟩
  | .hbm, ⟨26, _⟩ => ⟨S128x8x1024, .f32⟩
  | .hbm, ⟨27, _⟩ => ⟨S1x1x1024, .f32⟩
  | .hbm, ⟨28, _⟩ => ⟨S128x8x1024, .f32⟩
  | .hbm, ⟨29, _⟩ => ⟨S128x8x1024, .f32⟩
  | .hbm, ⟨30, _⟩ => ⟨S128x8x5632, .f32⟩
  | .hbm, ⟨31, _⟩ => ⟨S128x8x2816, .f32⟩
  | .hbm, ⟨32, _⟩ => ⟨S128x8x2816, .f32⟩
  | .hbm, ⟨33, _⟩ => ⟨S128x10x2816, .f32⟩
  | .hbm, ⟨34, _⟩ => ⟨S1x2816, .f32⟩
  | .hbm, ⟨35, _⟩ => ⟨S2816, .f32⟩
  | .hbm, ⟨36, _⟩ => ⟨S128x8x2816, .f32⟩
  | .hbm, ⟨37, _⟩ => ⟨S1x1x2816, .f32⟩
  | .hbm, ⟨38, _⟩ => ⟨S128x8x2816, .f32⟩
  | .hbm, ⟨39, _⟩ => ⟨S128x8x2816, .f32⟩
  | .hbm, ⟨40, _⟩ => ⟨S1x1x2816, .f32⟩
  | .hbm, ⟨41, _⟩ => ⟨S128x8x2816, .f32⟩
  | .hbm, ⟨42, _⟩ => ⟨S128x8x2816, .f32⟩
  | .hbm, ⟨43, _⟩ => ⟨S1x2816, .f32⟩
  | .hbm, ⟨44, _⟩ => ⟨S2816, .f32⟩
  | .hbm, ⟨45, _⟩ => ⟨S128x8x2816, .f32⟩
  | .hbm, ⟨46, _⟩ => ⟨S1x1x2816, .f32⟩
  | .hbm, ⟨47, _⟩ => ⟨S128x8x2816, .f32⟩
  | .hbm, ⟨48, _⟩ => ⟨S128x8x2816, .f32⟩
  | .hbm, ⟨49, _⟩ => ⟨S128x8x2816, .f32⟩
  | .hbm, ⟨50, _⟩ => ⟨S1x2816, .f32⟩
  | .hbm, ⟨51, _⟩ => ⟨S2816, .f32⟩
  | .hbm, ⟨52, _⟩ => ⟨S128x8x2816, .f32⟩
  | .hbm, ⟨53, _⟩ => ⟨S1x1x2816, .f32⟩
  | .hbm, ⟨54, _⟩ => ⟨S128x8x2816, .f32⟩
  | .hbm, ⟨55, _⟩ => ⟨S128x8x2816, .f32⟩
  | .hbm, ⟨56, _⟩ => ⟨S128x8x2816, .f32⟩
  | .hbm, ⟨57, _⟩ => ⟨S128x8x2816, .f32⟩
  | .hbm, ⟨58, _⟩ => ⟨S128x8x2816, .f32⟩
  | .hbm, ⟨59, _⟩ => ⟨S_, .f32⟩
  | .hbm, ⟨60, _⟩ => ⟨S128x8x2816, .f32⟩
  | .hbm, ⟨61, _⟩ => ⟨S128x8x2816, .f32⟩
  | .hbm, ⟨62, _⟩ => ⟨S128x8x2816, .f32⟩
  | .hbm, ⟨63, _⟩ => ⟨S_, .f32⟩
  | .hbm, ⟨64, _⟩ => ⟨S128x8x2816, .f32⟩
  | .hbm, ⟨65, _⟩ => ⟨S128x8x2816, .f32⟩
  | .hbm, ⟨66, _⟩ => ⟨S128x8x2816, .f32⟩
  | .hbm, ⟨67, _⟩ => ⟨S_, .f32⟩
  | .hbm, ⟨68, _⟩ => ⟨S128x8x2816, .f32⟩
  | .hbm, ⟨69, _⟩ => ⟨S128x8x2816, .f32⟩
  | .hbm, ⟨70, _⟩ => ⟨S_, .f32⟩
  | .hbm, ⟨71, _⟩ => ⟨S128x8x2816, .f32⟩
  | .hbm, ⟨72, _⟩ => ⟨S128x8x2816, .f32⟩
  | .hbm, ⟨73, _⟩ => ⟨S128x8x2816, .f32⟩
  | .hbm, ⟨74, _⟩ => ⟨S128x8x2816, .f32⟩
  | .hbm, ⟨75, _⟩ => ⟨S128x8x1024, .f32⟩
  | .hbm, ⟨76, _⟩ => ⟨S128x2x2816, .f32⟩
  | .hbm, ⟨77, _⟩ => ⟨S128x8x1024, .f32⟩
  | .hbm, ⟨78, _⟩ => ⟨S128x8x256, .f32⟩
  | .hbm, ⟨79, _⟩ => ⟨S128x8x1024, .f32⟩
  | .hbm, ⟨80, _⟩ => ⟨S_, .f32⟩
  | .hbm, ⟨81, _⟩ => ⟨S128x8, .f32⟩
  | .hbm, ⟨82, _⟩ => ⟨S128x8x1, .f32⟩
  | .hbm, ⟨83, _⟩ => ⟨S_, .f32⟩
  | .hbm, ⟨84, _⟩ => ⟨S128x8x1, .f32⟩
  | .hbm, ⟨85, _⟩ => ⟨S128x8x1, .f32⟩
  | .hbm, ⟨86, _⟩ => ⟨S_, .f32⟩
  | .hbm, ⟨87, _⟩ => ⟨S128x8x1, .f32⟩
  | .hbm, ⟨88, _⟩ => ⟨S128x8x1, .f32⟩
  | .hbm, ⟨89, _⟩ => ⟨S128x8x1, .f32⟩
  | .hbm, ⟨90, _⟩ => ⟨S128x8x1024, .f32⟩
  | .hbm, ⟨91, _⟩ => ⟨S128x8x1024, .f32⟩
  | .hbm, ⟨92, _⟩ => ⟨S1x1x1024, .f32⟩
  | .hbm, ⟨93, _⟩ => ⟨S128x8x1024, .f32⟩
  | .hbm, ⟨94, _⟩ => ⟨S128x8x1024, .f32⟩
  | .hbm, ⟨95, _⟩ => ⟨S128x8x1024, .f32⟩
  | .hbm, ⟨96, _⟩ => ⟨S1x1x1024, .f32⟩
  | .hbm, ⟨97, _⟩ => ⟨S128x8x1024, .f32⟩
  | .hbm, ⟨98, _⟩ => ⟨S128x8x1024, .f32⟩
  | .hbm, ⟨99, _⟩ => ⟨S128x8x1024, .f32⟩
  | .hbm, ⟨100, _⟩ => ⟨S128x8x1024, .f32⟩
  | .hbm, ⟨101, _⟩ => ⟨S_, .f32⟩
  | .hbm, ⟨102, _⟩ => ⟨S128x8x1024, .f32⟩
  | .hbm, ⟨103, _⟩ => ⟨S128x8x1024, .f32⟩
  | .hbm, ⟨104, _⟩ => ⟨S_, .f32⟩
  | .hbm, ⟨105, _⟩ => ⟨S128x8x1024, .f32⟩
  | .hbm, ⟨106, _⟩ => ⟨S128x8x1024, .f32⟩
  | .hbm, ⟨107, _⟩ => ⟨S128x8x1024, .f32⟩
  | .hbm, ⟨108, _⟩ => ⟨S128x8x1024, .f32⟩
  | .hbm, ⟨109, _⟩ => ⟨S128x8x1024, .f32⟩
  | .hbm, ⟨110, _⟩ => ⟨S128x8x1024, .f32⟩
  | .hbm, ⟨111, _⟩ => ⟨S_, .f32⟩
  | .hbm, ⟨112, _⟩ => ⟨S128x8, .f32⟩
  | .hbm, ⟨113, _⟩ => ⟨S128x8x1, .f32⟩
  | .hbm, ⟨114, _⟩ => ⟨S_, .f32⟩
  | .hbm, ⟨115, _⟩ => ⟨S128x8x1, .f32⟩
  | .hbm, ⟨116, _⟩ => ⟨S128x8x1, .f32⟩
  | .hbm, ⟨117, _⟩ => ⟨S_, .f32⟩
  | .hbm, ⟨118, _⟩ => ⟨S128x8x1, .f32⟩
  | .hbm, ⟨119, _⟩ => ⟨S128x8x1, .f32⟩
  | .hbm, ⟨120, _⟩ => ⟨S128x8x1, .f32⟩
  | .hbm, ⟨121, _⟩ => ⟨S128x8x1024, .f32⟩
  | .hbm, ⟨122, _⟩ => ⟨S128x8x1024, .f32⟩
  | .hbm, ⟨123, _⟩ => ⟨S1x1x1024, .f32⟩
  | .hbm, ⟨124, _⟩ => ⟨S128x8x1024, .f32⟩
  | .hbm, ⟨125, _⟩ => ⟨S128x8x1024, .f32⟩
  | .hbm, ⟨126, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_6 : Ref sig .tc := ⟨.hbm, 80, rfl⟩
abbrev main_v60 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_9 : Ref sig .tc := ⟨.hbm, 101, rfl⟩
abbrev main_v78 : Ref sig .tc := ⟨.hbm, 102, rfl⟩
abbrev main_v79 : Ref sig .tc := ⟨.hbm, 103, rfl⟩
abbrev main_cst_10 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_11 : Ref sig .tc := ⟨.hbm, 111, rfl⟩
abbrev main_v86 : Ref sig .tc := ⟨.hbm, 112, rfl⟩
abbrev main_v87 : Ref sig .tc := ⟨.hbm, 113, rfl⟩
abbrev main_cst_12 : Ref sig .tc := ⟨.hbm, 114, rfl⟩
abbrev main_v88 : Ref sig .tc := ⟨.hbm, 115, rfl⟩
abbrev main_v89 : Ref sig .tc := ⟨.hbm, 116, rfl⟩
abbrev main_cst_13 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩

abbrev nD : Nat := 1
abbrev τ : Topo := Topo.v7x

variable {F : FTy → Type} [FloatOps F]
-- ==== Kernel7.lean ====
abbrev S32768x1024 : Shape := ⟨2, ![32768, 1024]⟩
abbrev S32768x256 : Shape := ⟨2, ![32768, 256]⟩
abbrev S4x2x2816 : Shape := ⟨3, ![4, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S1x2816 : Shape := ⟨2, ![1, 2816]⟩
abbrev S256x256 : Shape := ⟨2, ![256, 256]⟩
abbrev S1x2x2816 : Shape := ⟨3, ![1, 2, 2816]⟩
abbrev S2x2816 : Shape := ⟨2, ![2, 2816]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 24
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S4x2x2816, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S256x1024, .f32⟩
  | .hbm, ⟨12, _⟩ => ⟨S1024, .f32⟩
  | .hbm, ⟨13, _⟩ => ⟨S1x1024, .f32⟩
  | .hbm, ⟨14, _⟩ => ⟨S1024x5632, .bf16⟩
  | .hbm, ⟨15, _⟩ => ⟨S1x2816, .f32⟩
  | .hbm, ⟨16, _⟩ => ⟨S2816x1024, .bf16⟩
  | .hbm, ⟨17, _⟩ => ⟨S1x1024, .f32⟩
  | .hbm, ⟨18, _⟩ => ⟨S1024x1024, .bf16⟩
  | .hbm, ⟨19, _⟩ => ⟨S1x1024, .f32⟩
  | .hbm, ⟨20, _⟩ => ⟨S256x1024, .bf16⟩
  | .hbm, ⟨21, _⟩ => ⟨S1x1024, .f32⟩
  | .hbm, ⟨22, _⟩ => ⟨S32768x1024, .f32⟩
  | .hbm, ⟨23, _⟩ => ⟨S4x2x2816, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S1x2x2816, .f32⟩
  | .local _ .vmem, ⟨5, _⟩ => ⟨S1x2x2816, .f32⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S256x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S1x2x2816, .f32⟩
  | .local _ .vmem, ⟨19, _⟩ => ⟨S1x2x2816, .f32⟩
  | .local _ .vmem, ⟨20, _⟩ => ⟨S2x2816, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S32768x1024 : Shape := ⟨2, ![32768, 1024]⟩
abbrev S32768x256 : Shape := ⟨2, ![32768, 256]⟩
abbrev S4x2x2816 : Shape := ⟨3, ![4, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x1024 : Shape := ⟨2, ![1024, 1024]⟩
abbrev S256x1024 : Shape := ⟨2, ![256, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x8194x2816 : Shape := ⟨3, ![4, 8194, 2816]⟩
abbrev S1x2816 : Shape := ⟨2, ![1, 2816]⟩
abbrev S1x1x2816 : Shape := ⟨3, ![1, 1, 2816]⟩
abbrev S4x8192x256 : Shape := ⟨3, ![4, 8192, 256]⟩

abbrev nBuf : Space → Nat
  | .hbm => 111
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S4x2x2816, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S256x1024, .f32⟩
  | .hbm, ⟨12, _⟩ => ⟨S1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S4x8192x5632, .f32⟩
  | .hbm, ⟨31, _⟩ => ⟨S4x8192x2816, .f32⟩
  | .hbm, ⟨32, _⟩ => ⟨S4x8192x2816, .f32⟩
  | .hbm, ⟨33, _⟩ => ⟨S4x8194x2816, .f32⟩
  | .hbm, ⟨34, _⟩ => ⟨S1x2816, .f32⟩
  | .hbm, ⟨35, _⟩ => ⟨S2816, .f32⟩
  | .hbm, ⟨36, _⟩ => ⟨S4x8192x2816, .f32⟩
  | .hbm, ⟨37, _⟩ => ⟨S1x1x2816, .f32⟩
  | .hbm, ⟨38, _⟩ => ⟨S4x8192x2816, .f32⟩
  | .hbm, ⟨39, _⟩ => ⟨S4x8192x2816, .f32⟩
  | .hbm, ⟨40, _⟩ => ⟨S1x1x2816, .f32⟩
  | .hbm, ⟨41, _⟩ => ⟨S4x8192x2816, .f32⟩
  | .hbm, ⟨42, _⟩ => ⟨S4x8192x2816, .f32⟩
  | .hbm, ⟨43, _⟩ => ⟨S1x2816, .f32⟩
  | .hbm, ⟨44, _⟩ => ⟨S2816, .f32⟩
  | .hbm, ⟨45, _⟩ => ⟨S4x8192x2816, .f32⟩
  | .hbm, ⟨46, _⟩ => ⟨S1x1x2816, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S1x2816, .f32⟩
  | .hbm, ⟨51, _⟩ => ⟨S2816, .f32⟩
  | .hbm, ⟨52, _⟩ => ⟨S4x8192x2816, .f32⟩
  | .hbm, ⟨53, _⟩ => ⟨S1x1x2816, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S4x8192x2816, .f32⟩
  | .hbm, ⟨59, _⟩ => ⟨S_, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S_, .f32⟩
  | .hbm, ⟨64, _⟩ => ⟨S4x8192x2816, .f32⟩
  | .hbm, ⟨65, _⟩ => ⟨S4x8192x2816, .f32⟩
  | .hbm, ⟨66, _⟩ => ⟨S4x8192x2816, .f32⟩
  | .hbm, ⟨67, _⟩ => ⟨S_, .f32⟩
  | .hbm, ⟨68, _⟩ => ⟨S4x8192x2816, .f32⟩
  | .hbm, ⟨69, _⟩ => ⟨S4x8192x2816, .f32⟩
  | .hbm, ⟨70, _⟩ => ⟨S_, .f32⟩
  | .hbm, ⟨71, _⟩ => ⟨S4x8192x2816, .f32⟩
  | .hbm, ⟨72, _⟩ => ⟨S4x8192x2816, .f32⟩
  | .hbm, ⟨73, _⟩ => ⟨S4x8192x2816, .f32⟩
  | .hbm, ⟨74, _⟩ => ⟨S4x8192x2816, .f32⟩
  | .hbm, ⟨75, _⟩ => ⟨S4x8192x1024, .f32⟩
  | .hbm, ⟨76, _⟩ => ⟨S4x2x2816, .f32⟩
  | .hbm, ⟨77, _⟩ => ⟨S4x8192x1024, .f32⟩
  | .hbm, ⟨78, _⟩ => ⟨S4x8192x256, .f32⟩
  | .hbm, ⟨79, _⟩ => ⟨S4x8192x1024, .f32⟩
  | .hbm, ⟨80, _⟩ => ⟨S_, .f32⟩
  | .hbm, ⟨81, _⟩ => ⟨S4x8192, .f32⟩
  | .hbm, ⟨82, _⟩ => ⟨S4x8192x1, .f32⟩
  | .hbm, ⟨83, _⟩ => ⟨S_, .f32⟩
  | .hbm, ⟨84, _⟩ => ⟨S4x8192x1, .f32⟩
  | .hbm, ⟨85, _⟩ => ⟨S4x8192x1, .f32⟩
  | .hbm, ⟨86, _⟩ => ⟨S_, .f32⟩
  | .hbm, ⟨87, _⟩ => ⟨S4x8192x1, .f32⟩
  | .hbm, ⟨88, _⟩ => ⟨S4x8192x1, .f32⟩
  | .hbm, ⟨89, _⟩ => ⟨S4x8192x1, .f32⟩
  | .hbm, ⟨90, _⟩ => ⟨S4x8192x1024, .f32⟩
  | .hbm, ⟨91, _⟩ => ⟨S4x8192x1024, .f32⟩
  | .hbm, ⟨92, _⟩ => ⟨S1x1x1024, .f32⟩
  | .hbm, ⟨93, _⟩ => ⟨S4x8192x1024, .f32⟩
  | .hbm, ⟨94, _⟩ => ⟨S4x8192x1024, .f32⟩
  | .hbm, ⟨95, _⟩ => ⟨S4x8192x1024, .f32⟩
  | .hbm, ⟨96, _⟩ => ⟨S1x1x1024, .f32⟩
  | .hbm, ⟨97, _⟩ => ⟨S4x8192x1024, .f32⟩
  | .hbm, ⟨98, _⟩ => ⟨S4x8192x1024, .f32⟩
  | .hbm, ⟨99, _⟩ => ⟨S4x8192x1024, .f32⟩
  | .hbm, ⟨100, _⟩ => ⟨S4x8192x1024, .f32⟩
  | .hbm, ⟨101, _⟩ => ⟨S_, .f32⟩
  | .hbm, ⟨102, _⟩ => ⟨S4x8192x1024, .f32⟩
  | .hbm, ⟨103, _⟩ => ⟨S4x8192x1024, .f32⟩
  | .hbm, ⟨104, _⟩ => ⟨S_, .f32⟩
  | .hbm, ⟨105, _⟩ => ⟨S4x8192x1024, .f32⟩
  | .hbm, ⟨106, _⟩ => ⟨S4x8192x1024, .f32⟩
  | .hbm, ⟨107, _⟩ => ⟨S4x8192x1024, .f32⟩
  | .hbm, ⟨108, _⟩ => ⟨S4x8192x1024, .f32⟩
  | .hbm, ⟨109, _⟩ => ⟨S4x8192x1024, .f32⟩
  | .hbm, ⟨110, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_6 : Ref sig .tc := ⟨.hbm, 80, rfl⟩
abbrev main_v60 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_9 : Ref sig .tc := ⟨.hbm, 101, rfl⟩
abbrev main_v78 : Ref sig .tc := ⟨.hbm, 102, rfl⟩
abbrev main_v79 : Ref sig .tc := ⟨.hbm, 103, rfl⟩
abbrev main_cst_10 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Kernel8.lean ====
abbrev S1024x1024 : Shape := ⟨2, ![1024, 1024]⟩
abbrev S1024x256 : Shape := ⟨2, ![1024, 256]⟩
abbrev S128x2x2816 : Shape := ⟨3, ![128, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S1x1024 : Shape := ⟨2, ![1, 1024]⟩
abbrev S1x2816 : Shape := ⟨2, ![1, 2816]⟩
abbrev S128x1x2816 : Shape := ⟨3, ![128, 1, 2816]⟩
abbrev S128x2816 : Shape := ⟨2, ![128, 2816]⟩
abbrev S128x8x2816 : Shape := ⟨3, ![128, 8, 2816]⟩
abbrev S1024x2816 : Shape := ⟨2, ![1024, 2816]⟩
abbrev S256x256 : Shape := ⟨2, ![256, 256]⟩
abbrev S256x2816 : Shape := ⟨2, ![256, 2816]⟩
abbrev S32x2x2816 : Shape := ⟨3, ![32, 2, 2816]⟩
abbrev S2x2816 : Shape := ⟨2, ![2, 2816]⟩
abbrev S256 : Shape := ⟨1, ![256]⟩
abbrev S256x1 : Shape := ⟨2, ![256, 1]⟩
abbrev S256x5632 : Shape := ⟨2, ![256, 5632]⟩
abbrev S32x8x2816 : Shape := ⟨3, ![32, 8, 2816]⟩

abbrev nBuf : Space → Nat
  | .hbm => 32
  | .vmem => 23
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S128x2x2816, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S256x1024, .f32⟩
  | .hbm, ⟨12, _⟩ => ⟨S1024, .f32⟩
  | .hbm, ⟨13, _⟩ => ⟨S1x1024, .f32⟩
  | .hbm, ⟨14, _⟩ => ⟨S1024x5632, .bf16⟩
  | .hbm, ⟨15, _⟩ => ⟨S1x2816, .f32⟩
  | .hbm, ⟨16, _⟩ => ⟨S2816x1024, .bf16⟩
  | .hbm, ⟨17, _⟩ => ⟨S1x1024, .f32⟩
  | .hbm, ⟨18, _⟩ => ⟨S1024x1024, .bf16⟩
  | .hbm, ⟨19, _⟩ => ⟨S1x1024, .f32⟩
  | .hbm, ⟨20, _⟩ => ⟨S256x1024, .bf16⟩
  | .hbm, ⟨21, _⟩ => ⟨S1x1024, .f32⟩
  | .hbm, ⟨22, _⟩ => ⟨S128x1x2816, .f32⟩
  | .hbm, ⟨23, _⟩ => ⟨S128x2816, .f32⟩
  | .hbm, ⟨24, _⟩ => ⟨S128x8x2816, .f32⟩
  | .hbm, ⟨25, _⟩ => ⟨S1024x2816, .f32⟩
  | .hbm, ⟨26, _⟩ => ⟨S128x1x2816, .f32⟩
  | .hbm, ⟨27, _⟩ => ⟨S128x2816, .f32⟩
  | .hbm, ⟨28, _⟩ => ⟨S128x8x2816, .f32⟩
  | .hbm, ⟨29, _⟩ => ⟨S1024x2816, .f32⟩
  | .hbm, ⟨30, _⟩ => ⟨S1024x1024, .f32⟩
  | .hbm, ⟨31, _⟩ => ⟨S128x2x2816, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x2816, .f32⟩
  | .local _ .vmem, ⟨8, _⟩ => ⟨S1x1024, .f32⟩
  | .local _ .vmem, ⟨9, _⟩ => ⟨S1024x5632, .bf16⟩
  | .local _ .vmem, ⟨10, _⟩ => ⟨S3x2816, .f32⟩
  | .local _ .vmem, ⟨11, _⟩ => ⟨S1x2816, .f32⟩
  | .local _ .vmem, ⟨12, _⟩ => ⟨S2816x1024, .bf16⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S256x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S32x2x2816, .f32⟩
  | .local _ .vmem, ⟨21, _⟩ => ⟨S32x2x2816, .f32⟩
  | .local _ .vmem, ⟨22, _⟩ => ⟨S2x2816, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x2x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference8Ideal.lean ====
abbrev S1024x1024 : Shape := ⟨2, ![1024, 1024]⟩
abbrev S1024x256 : Shape := ⟨2, ![1024, 256]⟩
abbrev S128x2x2816 : Shape := ⟨3, ![128, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S128x8x1024 : Shape := ⟨3, ![128, 8, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x5632 : Shape := ⟨3, ![128, 8, 5632]⟩
abbrev S128x8x2816 : Shape := ⟨3, ![128, 8, 2816]⟩
abbrev S128x10x2816 : Shape := ⟨3, ![128, 10, 2816]⟩
abbrev S1x2816 : Shape := ⟨2, ![1, 2816]⟩
abbrev S1x1x2816 : Shape := ⟨3, ![1, 1, 2816]⟩
abbrev S128x8x256 : Shape := ⟨3, ![128, 8, 256]⟩

abbrev nBuf : Space → Nat
  | .hbm => 111
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x256, .f32⟩
  | .hbm, ⟨2, _⟩ => ⟨S128x2x2816, .f32⟩
  | .hbm, ⟨3, _⟩ => ⟨S1024, .f32⟩
  | .hbm, ⟨4, _⟩ => ⟨S1024x5632, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S256x1024, .f32⟩
  | .hbm, ⟨12, _⟩ => ⟨S1024, .f32⟩
  | .hbm, ⟨13, _⟩ => ⟨S128x8x1024, .f32⟩
  | .hbm, ⟨14, _⟩ => ⟨S128x8x1024, .f32⟩
  | .hbm, ⟨15, _⟩ => ⟨S_, .f32⟩
  | .hbm, ⟨16, _⟩ => ⟨S128x8, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S_, .f32⟩
  | .hbm, ⟨22, _⟩ => ⟨S128x8x1, .f32⟩
  | .hbm, ⟨23, _⟩ => ⟨S128x8x1, .f32⟩
  | .hbm, ⟨24, _⟩ => ⟨S128x8x1, .f32⟩
  | .hbm, ⟨25, _⟩ => ⟨S128x8x1024, .f32⟩
  | .hbm, ⟨26, _⟩ => ⟨S128x8x1024, .f32⟩
  | .hbm, ⟨27, _⟩ => ⟨S1x1x1024, .f32⟩
  | .hbm, ⟨28, _⟩ => ⟨S128x8x1024, .f32⟩
  | .hbm, ⟨29, _⟩ => ⟨S128x8x1024, .f32⟩
  | .hbm, ⟨30, _⟩ => ⟨S128x8x5632, .f32⟩
  | .hbm, ⟨31, _⟩ => ⟨S128x8x2816, .f32⟩
  | .hbm, ⟨32, _⟩ => ⟨S128x8x2816, .f32⟩
  | .hbm, ⟨33, _⟩ => ⟨S128x10x2816, .f32⟩
  | .hbm, ⟨34, _⟩ => ⟨S1x2816, .f32⟩
  | .hbm, ⟨35, _⟩ => ⟨S2816, .f32⟩
  | .hbm, ⟨36, _⟩ => ⟨S128x8x2816, .f32⟩
  | .hbm, ⟨37, _⟩ => ⟨S1x1x2816, .f32⟩
  | .hbm, ⟨38, _⟩ => ⟨S128x8x2816, .f32⟩
  | .hbm, ⟨39, _⟩ => ⟨S128x8x2816, .f32⟩
  | .hbm, ⟨40, _⟩ => ⟨S1x1x2816, .f32⟩
  | .hbm, ⟨41, _⟩ => ⟨S128x8x2816, .f32⟩
  | .hbm, ⟨42, _⟩ => ⟨S128x8x2816, .f32⟩
  | .hbm, ⟨43, _⟩ => ⟨S1x2816, .f32⟩
  | .hbm, ⟨44, _⟩ => ⟨S2816, .f32⟩
  | .hbm, ⟨45, _⟩ => ⟨S128x8x2816, .f32⟩
  | .hbm, ⟨46, _⟩ => ⟨S1x1x2816, .f32⟩
  | .hbm, ⟨47, _⟩ => ⟨S128x8x2816, .f32⟩
  | .hbm, ⟨48, _⟩ => ⟨S128x8x2816, .f32⟩
  | .hbm, ⟨49, _⟩ => ⟨S128x8x2816, .f32⟩
  | .hbm, ⟨50, _⟩ => ⟨S1x2816, .f32⟩
  | .hbm, ⟨51, _⟩ => ⟨S2816, .f32⟩
  | .hbm, ⟨52, _⟩ => ⟨S128x8x2816, .f32⟩
  | .hbm, ⟨53, _⟩ => ⟨S1x1x2816, .f32⟩
  | .hbm, ⟨54, _⟩ => ⟨S128x8x2816, .f32⟩
  | .hbm, ⟨55, _⟩ => ⟨S128x8x2816, .f32⟩
  | .hbm, ⟨56, _⟩ => ⟨S128x8x2816, .f32⟩
  | .hbm, ⟨57, _⟩ => ⟨S128x8x2816, .f32⟩
  | .hbm, ⟨58, _⟩ => ⟨S128x8x2816, .f32⟩
  | .hbm, ⟨59, _⟩ => ⟨S_, .f32⟩
  | .hbm, ⟨60, _⟩ => ⟨S128x8x2816, .f32⟩
  | .hbm, ⟨61, _⟩ => ⟨S128x8x2816, .f32⟩
  | .hbm, ⟨62, _⟩ => ⟨S128x8x2816, .f32⟩
  | .hbm, ⟨63, _⟩ => ⟨S_, .f32⟩
  | .hbm, ⟨64, _⟩ => ⟨S128x8x2816, .f32⟩
  | .hbm, ⟨65, _⟩ => ⟨S128x8x2816, .f32⟩
  | .hbm, ⟨66, _⟩ => ⟨S128x8x2816, .f32⟩
  | .hbm, ⟨67, _⟩ => ⟨S_, .f32⟩
  | .hbm, ⟨68, _⟩ => ⟨S128x8x2816, .f32⟩
  | .hbm, ⟨69, _⟩ => ⟨S128x8x2816, .f32⟩
  | .hbm, ⟨70, _⟩ => ⟨S_, .f32⟩
  | .hbm, ⟨71, _⟩ => ⟨S128x8x2816, .f32⟩
  | .hbm, ⟨72, _⟩ => ⟨S128x8x2816, .f32⟩
  | .hbm, ⟨73, _⟩ => ⟨S128x8x2816, .f32⟩
  | .hbm, ⟨74, _⟩ => ⟨S128x8x2816, .f32⟩
  | .hbm, ⟨75, _⟩ => ⟨S128x8x1024, .f32⟩
  | .hbm, ⟨76, _⟩ => ⟨S128x2x2816, .f32⟩
  | .hbm, ⟨77, _⟩ => ⟨S128x8x1024, .f32⟩
  | .hbm, ⟨78, _⟩ => ⟨S128x8x256, .f32⟩
  | .hbm, ⟨79, _⟩ => ⟨S128x8x1024, .f32⟩
  | .hbm, ⟨80, _⟩ => ⟨S_, .f32⟩
  | .hbm, ⟨81, _⟩ => ⟨S128x8, .f32⟩
  | .hbm, ⟨82, _⟩ => ⟨S128x8x1, .f32⟩
  | .hbm, ⟨83, _⟩ => ⟨S_, .f32⟩
  | .hbm, ⟨84, _⟩ => ⟨S128x8x1, .f32⟩
  | .hbm, ⟨85, _⟩ => ⟨S128x8x1, .f32⟩
  | .hbm, ⟨86, _⟩ => ⟨S_, .f32⟩
  | .hbm, ⟨87, _⟩ => ⟨S128x8x1, .f32⟩
  | .hbm, ⟨88, _⟩ => ⟨S128x8x1, .f32⟩
  | .hbm, ⟨89, _⟩ => ⟨S128x8x1, .f32⟩
  | .hbm, ⟨90, _⟩ => ⟨S128x8x1024, .f32⟩
  | .hbm, ⟨91, _⟩ => ⟨S128x8x1024, .f32⟩
  | .hbm, ⟨92, _⟩ => ⟨S1x1x1024, .f32⟩
  | .hbm, ⟨93, _⟩ => ⟨S128x8x1024, .f32⟩
  | .hbm, ⟨94, _⟩ => ⟨S128x8x1024, .f32⟩
  | .hbm, ⟨95, _⟩ => ⟨S128x8x1024, .f32⟩
  | .hbm, ⟨96, _⟩ => ⟨S1x1x1024, .f32⟩
  | .hbm, ⟨97, _⟩ => ⟨S128x8x1024, .f32⟩
  | .hbm, ⟨98, _⟩ => ⟨S128x8x1024, .f32⟩
  | .hbm, ⟨99, _⟩ => ⟨S128x8x1024, .f32⟩
  | .hbm, ⟨100, _⟩ => ⟨S128x8x1024, .f32⟩
  | .hbm, ⟨101, _⟩ => ⟨S_, .f32⟩
  | .hbm, ⟨102, _⟩ => ⟨S128x8x1024, .f32⟩
  | .hbm, ⟨103, _⟩ => ⟨S128x8x1024, .f32⟩
  | .hbm, ⟨104, _⟩ => ⟨S_, .f32⟩
  | .hbm, ⟨105, _⟩ => ⟨S128x8x1024, .f32⟩
  | .hbm, ⟨106, _⟩ => ⟨S128x8x1024, .f32⟩
  | .hbm, ⟨107, _⟩ => ⟨S128x8x1024, .f32⟩
  | .hbm, ⟨108, _⟩ => ⟨S128x8x1024, .f32⟩
  | .hbm, ⟨109, _⟩ => ⟨S128x8x1024, .f32⟩
  | .hbm, ⟨110, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_6 : Ref sig .tc := ⟨.hbm, 80, rfl⟩
abbrev main_v60 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_9 : Ref sig .tc := ⟨.hbm, 101, rfl⟩
abbrev main_v78 : Ref sig .tc := ⟨.hbm, 102, rfl⟩
abbrev main_v79 : Ref sig .tc := ⟨.hbm, 103, rfl⟩
abbrev main_cst_10 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Kernel9.lean ====
abbrev S32768x1024 : Shape := ⟨2, ![32768, 1024]⟩
abbrev S2x1024 : Shape := ⟨2, ![2, 1024]⟩
abbrev S1x1024x2112 : Shape := ⟨3, ![1, 1024, 2112]⟩
abbrev S1024x2112 : Shape := ⟨2, ![1024, 2112]⟩
abbrev S1024x416 : Shape := ⟨2, ![1024, 416]⟩
abbrev S1024x32 : Shape := ⟨2, ![1024, 32]⟩
abbrev S1024x384 : Shape := ⟨2, ![1024, 384]⟩
abbrev S1024x1x2x16 : Shape := ⟨4, ![1024, 1, 2, 16]⟩
abbrev S1024x448 : Shape := ⟨2, ![1024, 448]⟩
abbrev S_ : Shape := ⟨0, ![]⟩
abbrev S1024x512 : Shape := ⟨2, ![1024, 512]⟩
abbrev S1024x1696 : Shape := ⟨2, ![1024, 1696]⟩
abbrev S1024x1536 : Shape := ⟨2, ![1024, 1536]⟩
abbrev S1024x128 : Shape := ⟨2, ![1024, 128]⟩
abbrev S1024x96 : Shape := ⟨2, ![1024, 96]⟩
abbrev S1024x1920 : Shape := ⟨2, ![1024, 1920]⟩
abbrev S1024x2432 : Shape := ⟨2, ![1024, 2432]⟩
abbrev S1x1024 : Shape := ⟨2, ![1, 1024]⟩
abbrev S1024 : Shape := ⟨1, ![1024]⟩
abbrev S32768x1920 : Shape := ⟨2, ![32768, 1920]⟩
abbrev S32768x512 : Shape := ⟨2, ![32768, 512]⟩
abbrev S512x1024 : Shape := ⟨2, ![512, 1024]⟩
abbrev S512x1920 : Shape := ⟨2, ![512, 1920]⟩
abbrev S512x512 : Shape := ⟨2, ![512, 512]⟩
abbrev S512 : Shape := ⟨1, ![512]⟩
abbrev S512x1 : Shape := ⟨2, ![512, 1]⟩
abbrev S512x2432 : Shape := ⟨2, ![512, 2432]⟩

abbrev nBuf : Space → Nat
  | .hbm => 36
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x2112, .f32⟩
  | .hbm, ⟨3, _⟩ => ⟨S1024x2112, .f32⟩
  | .hbm, ⟨4, _⟩ => ⟨S1024x416, .f32⟩
  | .hbm, ⟨5, _⟩ => ⟨S1024x32, .f32⟩
  | .hbm, ⟨6, _⟩ => ⟨S1024x384, .f32⟩
  | .hbm, ⟨7, _⟩ => ⟨S1024x1x2x16, .f32⟩
  | .hbm, ⟨8, _⟩ => ⟨S1024x1x2x16, .f32⟩
  | .hbm, ⟨9, _⟩ => ⟨S1024x32, .f32⟩
  | .hbm, ⟨10, _⟩ => ⟨S1024x448, .f32⟩
  | .hbm, ⟨11, _⟩ => ⟨S_, .i32⟩
  | .hbm, ⟨12, _⟩ => ⟨S_, .f32⟩
  | .hbm, ⟨13, _⟩ => ⟨S1024x512, .f32⟩
  | .hbm, ⟨14, _⟩ => ⟨S1024x1696, .f32⟩
  | .hbm, ⟨15, _⟩ => ⟨S1024x1536, .f32⟩
  | .hbm, ⟨16, _⟩ => ⟨S1024x32, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x32, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x96, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x1920, .f32⟩
  | .hbm, ⟨29, _⟩ => ⟨S1024x2432, .f32⟩
  | .hbm, ⟨30, _⟩ => ⟨S1024x2432, .bf16⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S32768x1920, .f32⟩
  | .hbm, ⟨35, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x1920, .f32⟩
  | .local _ .vmem, ⟨5, _⟩ => ⟨S512x1920, .f32⟩
  | .local _ .vmem, ⟨6, _⟩ => ⟨S512x512, .f32⟩
  | .local _ .vmem, ⟨7, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call3_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel9Ideal.lean ====
abbrev S32768x1024 : Shape := ⟨2, ![32768, 1024]⟩
abbrev S2x1024 : Shape := ⟨2, ![2, 1024]⟩
abbrev S1x1024x2112 : Shape := ⟨3, ![1, 1024, 2112]⟩
abbrev S1024x2112 : Shape := ⟨2, ![1024, 2112]⟩
abbrev S1024x416 : Shape := ⟨2, ![1024, 416]⟩
abbrev S1024x32 : Shape := ⟨2, ![1024, 32]⟩
abbrev S1024x384 : Shape := ⟨2, ![1024, 384]⟩
abbrev S1024x1x2x16 : Shape := ⟨4, ![1024, 1, 2, 16]⟩
abbrev S1024x448 : Shape := ⟨2, ![1024, 448]⟩
abbrev S_ : Shape := ⟨0, ![]⟩
abbrev S1024x512 : Shape := ⟨2, ![1024, 512]⟩
abbrev S1024x1696 : Shape := ⟨2, ![1024, 1696]⟩
abbrev S1024x1536 : Shape := ⟨2, ![1024, 1536]⟩
abbrev S1024x128 : Shape := ⟨2, ![1024, 128]⟩
abbrev S1024x96 : Shape := ⟨2, ![1024, 96]⟩
abbrev S1024x1920 : Shape := ⟨2, ![1024, 1920]⟩
abbrev S1024x2432 : Shape := ⟨2, ![1024, 2432]⟩
abbrev S1x1024 : Shape := ⟨2, ![1, 1024]⟩
abbrev S1024 : Shape := ⟨1, ![1024]⟩
abbrev S32768x1920 : Shape := ⟨2, ![32768, 1920]⟩
abbrev S32768x512 : Shape := ⟨2, ![32768, 512]⟩
abbrev S512x1024 : Shape := ⟨2, ![512, 1024]⟩
abbrev S512x1920 : Shape := ⟨2, ![512, 1920]⟩
abbrev S512x512 : Shape := ⟨2, ![512, 512]⟩
abbrev S512 : Shape := ⟨1, ![512]⟩
abbrev S512x1 : Shape := ⟨2, ![512, 1]⟩
abbrev S512x2432 : Shape := ⟨2, ![512, 2432]⟩

abbrev nBuf : Space → Nat
  | .hbm => 36
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x2112, .f32⟩
  | .hbm, ⟨3, _⟩ => ⟨S1024x2112, .f32⟩
  | .hbm, ⟨4, _⟩ => ⟨S1024x416, .f32⟩
  | .hbm, ⟨5, _⟩ => ⟨S1024x32, .f32⟩
  | .hbm, ⟨6, _⟩ => ⟨S1024x384, .f32⟩
  | .hbm, ⟨7, _⟩ => ⟨S1024x1x2x16, .f32⟩
  | .hbm, ⟨8, _⟩ => ⟨S1024x1x2x16, .f32⟩
  | .hbm, ⟨9, _⟩ => ⟨S1024x32, .f32⟩
  | .hbm, ⟨10, _⟩ => ⟨S1024x448, .f32⟩
  | .hbm, ⟨11, _⟩ => ⟨S_, .i32⟩
  | .hbm, ⟨12, _⟩ => ⟨S_, .f32⟩
  | .hbm, ⟨13, _⟩ => ⟨S1024x512, .f32⟩
  | .hbm, ⟨14, _⟩ => ⟨S1024x1696, .f32⟩
  | .hbm, ⟨15, _⟩ => ⟨S1024x1536, .f32⟩
  | .hbm, ⟨16, _⟩ => ⟨S1024x32, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x32, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x96, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x1920, .f32⟩
  | .hbm, ⟨29, _⟩ => ⟨S1024x2432, .f32⟩
  | .hbm, ⟨30, _⟩ => ⟨S1024x2432, .bf16⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S32768x1920, .f32⟩
  | .hbm, ⟨35, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x1920, .f32⟩
  | .local _ .vmem, ⟨5, _⟩ => ⟨S512x1920, .f32⟩
  | .local _ .vmem, ⟨6, _⟩ => ⟨S512x512, .f32⟩
  | .local _ .vmem, ⟨7, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call3_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S32768x1024 : Shape := ⟨2, ![32768, 1024]⟩
abbrev S2x1024 : Shape := ⟨2, ![2, 1024]⟩
abbrev S1x1024x2112 : Shape := ⟨3, ![1, 1024, 2112]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2112 : Shape := ⟨2, ![1024, 2112]⟩
abbrev S32768x2112 : Shape := ⟨2, ![32768, 2112]⟩
abbrev S32768x1696 : Shape := ⟨2, ![32768, 1696]⟩
abbrev S32768x416 : Shape := ⟨2, ![32768, 416]⟩
abbrev S32768x1536 : Shape := ⟨2, ![32768, 1536]⟩
abbrev S32768x32 : Shape := ⟨2, ![32768, 32]⟩
abbrev S32768x128 : Shape := ⟨2, ![32768, 128]⟩
abbrev S32768x96 : Shape := ⟨2, ![32768, 96]⟩
abbrev S32768x1920 : Shape := ⟨2, ![32768, 1920]⟩
abbrev S32768x16 : Shape := ⟨2, ![32768, 16]⟩
abbrev S32768x448 : Shape := ⟨2, ![32768, 448]⟩
abbrev S32768x512 : Shape := ⟨2, ![32768, 512]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x2112, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x2112, .f32⟩
  | .hbm, ⟨22, _⟩ => ⟨S32768x2112, .f32⟩
  | .hbm, ⟨23, _⟩ => ⟨S32768x1696, .f32⟩
  | .hbm, ⟨24, _⟩ => ⟨S32768x416, .f32⟩
  | .hbm, ⟨25, _⟩ => ⟨S32768x1536, .f32⟩
  | .hbm, ⟨26, _⟩ => ⟨S32768x32, .f32⟩
  | .hbm, ⟨27, _⟩ => ⟨S_, .i32⟩
  | .hbm, ⟨28, _⟩ => ⟨S_, .f32⟩
  | .hbm, ⟨29, _⟩ => ⟨S32768x128, .f32⟩
  | .hbm, ⟨30, _⟩ => ⟨S32768x32, .f32⟩
  | .hbm, ⟨31, _⟩ => ⟨S_, .i32⟩
  | .hbm, ⟨32, _⟩ => ⟨S_, .f32⟩
  | .hbm, ⟨33, _⟩ => ⟨S32768x128, .f32⟩
  | .hbm, ⟨34, _⟩ => ⟨S32768x96, .f32⟩
  | .hbm, ⟨35, _⟩ => ⟨S_, .i32⟩
  | .hbm, ⟨36, _⟩ => ⟨S_, .f32⟩
  | .hbm, ⟨37, _⟩ => ⟨S32768x128, .f32⟩
  | .hbm, ⟨38, _⟩ => ⟨S32768x1920, .f32⟩
  | .hbm, ⟨39, _⟩ => ⟨S32768x16, .f32⟩
  | .hbm, ⟨40, _⟩ => ⟨S32768x16, .f32⟩
  | .hbm, ⟨41, _⟩ => ⟨S32768x448, .f32⟩
  | .hbm, ⟨42, _⟩ => ⟨S_, .i32⟩
  | .hbm, ⟨43, _⟩ => ⟨S_, .f32⟩
  | .hbm, ⟨44, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_call1_v0 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_call2_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_call3_v0 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel10.lean ====
abbrev S1024x1024 : Shape := ⟨2, ![1024, 1024]⟩
abbrev S2x1024 : Shape := ⟨2, ![2, 1024]⟩
abbrev S1x1024x2112 : Shape := ⟨3, ![1, 1024, 2112]⟩
abbrev S1024x2112 : Shape := ⟨2, ![1024, 2112]⟩
abbrev S1024x416 : Shape := ⟨2, ![1024, 416]⟩
abbrev S1024x32 : Shape := ⟨2, ![1024, 32]⟩
abbrev S1024x384 : Shape := ⟨2, ![1024, 384]⟩
abbrev S1024x1x2x16 : Shape := ⟨4, ![1024, 1, 2, 16]⟩
abbrev S1024x448 : Shape := ⟨2, ![1024, 448]⟩
abbrev S_ : Shape := ⟨0, ![]⟩
abbrev S1024x512 : Shape := ⟨2, ![1024, 512]⟩
abbrev S1024x1696 : Shape := ⟨2, ![1024, 1696]⟩
abbrev S1024x1536 : Shape := ⟨2, ![1024, 1536]⟩
abbrev S1024x128 : Shape := ⟨2, ![1024, 128]⟩
abbrev S1024x96 : Shape := ⟨2, ![1024, 96]⟩
abbrev S1024x1920 : Shape := ⟨2, ![1024, 1920]⟩
abbrev S1024x2432 : Shape := ⟨2, ![1024, 2432]⟩
abbrev S1x1024 : Shape := ⟨2, ![1, 1024]⟩
abbrev S1024 : Shape := ⟨1, ![1024]⟩
abbrev S512x1024 : Shape := ⟨2, ![512, 1024]⟩
abbrev S512x1920 : Shape := ⟨2, ![512, 1920]⟩
abbrev S512x512 : Shape := ⟨2, ![512, 512]⟩
abbrev S512 : Shape := ⟨1, ![512]⟩
abbrev S512x1 : Shape := ⟨2, ![512, 1]⟩
abbrev S512x2432 : Shape := ⟨2, ![512, 2432]⟩

abbrev nBuf : Space → Nat
  | .hbm => 36
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S2x1024, .f32⟩
  | .hbm, ⟨2, _⟩ => ⟨S1x1024x2112, .f32⟩
  | .hbm, ⟨3, _⟩ => ⟨S1024x2112, .f32⟩
  | .hbm, ⟨4, _⟩ => ⟨S1024x416, .f32⟩
  | .hbm, ⟨5, _⟩ => ⟨S1024x32, .f32⟩
  | .hbm, ⟨6, _⟩ => ⟨S1024x384, .f32⟩
  | .hbm, ⟨7, _⟩ => ⟨S1024x1x2x16, .f32⟩
  | .hbm, ⟨8, _⟩ => ⟨S1024x1x2x16, .f32⟩
  | .hbm, ⟨9, _⟩ => ⟨S1024x32, .f32⟩
  | .hbm, ⟨10, _⟩ => ⟨S1024x448, .f32⟩
  | .hbm, ⟨11, _⟩ => ⟨S_, .i32⟩
  | .hbm, ⟨12, _⟩ => ⟨S_, .f32⟩
  | .hbm, ⟨13, _⟩ => ⟨S1024x512, .f32⟩
  | .hbm, ⟨14, _⟩ => ⟨S1024x1696, .f32⟩
  | .hbm, ⟨15, _⟩ => ⟨S1024x1536, .f32⟩
  | .hbm, ⟨16, _⟩ => ⟨S1024x32, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x32, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x96, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x1920, .f32⟩
  | .hbm, ⟨29, _⟩ => ⟨S1024x2432, .f32⟩
  | .hbm, ⟨30, _⟩ => ⟨S1024x2432, .bf16⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024x1920, .f32⟩
  | .hbm, ⟨35, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x1920, .f32⟩
  | .local _ .vmem, ⟨5, _⟩ => ⟨S512x1920, .f32⟩
  | .local _ .vmem, ⟨6, _⟩ => ⟨S512x512, .f32⟩
  | .local _ .vmem, ⟨7, _⟩ => ⟨S512x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call3_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S1024x1024 : Shape := ⟨2, ![1024, 1024]⟩
abbrev S2x1024 : Shape := ⟨2, ![2, 1024]⟩
abbrev S1x1024x2112 : Shape := ⟨3, ![1, 1024, 2112]⟩
abbrev S1x1024 : Shape := ⟨2, ![1, 1024]⟩
abbrev S1024 : Shape := ⟨1, ![1024]⟩
abbrev S_ : Shape := ⟨0, ![]⟩
abbrev S1024x1 : Shape := ⟨2, ![1024, 1]⟩
abbrev S1024x2112 : Shape := ⟨2, ![1024, 2112]⟩
abbrev S1024x1696 : Shape := ⟨2, ![1024, 1696]⟩
abbrev S1024x416 : Shape := ⟨2, ![1024, 416]⟩
abbrev S1024x1536 : Shape := ⟨2, ![1024, 1536]⟩
abbrev S1024x32 : Shape := ⟨2, ![1024, 32]⟩
abbrev S1024x128 : Shape := ⟨2, ![1024, 128]⟩
abbrev S1024x96 : Shape := ⟨2, ![1024, 96]⟩
abbrev S1024x1920 : Shape := ⟨2, ![1024, 1920]⟩
abbrev S1024x16 : Shape := ⟨2, ![1024, 16]⟩
abbrev S1024x448 : Shape := ⟨2, ![1024, 448]⟩
abbrev S1024x512 : Shape := ⟨2, ![1024, 512]⟩

abbrev nBuf : Space → Nat
  | .hbm => 45
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2x1024, .f32⟩
  | .hbm, ⟨2, _⟩ => ⟨S1x1024x2112, .f32⟩
  | .hbm, ⟨3, _⟩ => ⟨S1x1024, .f32⟩
  | .hbm, ⟨4, _⟩ => ⟨S1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x2112, .f32⟩
  | .hbm, ⟨22, _⟩ => ⟨S1024x2112, .f32⟩
  | .hbm, ⟨23, _⟩ => ⟨S1024x1696, .f32⟩
  | .hbm, ⟨24, _⟩ => ⟨S1024x416, .f32⟩
  | .hbm, ⟨25, _⟩ => ⟨S1024x1536, .f32⟩
  | .hbm, ⟨26, _⟩ => ⟨S1024x32, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x32, .f32⟩
  | .hbm, ⟨31, _⟩ => ⟨S_, .i32⟩
  | .hbm, ⟨32, _⟩ => ⟨S_, .f32⟩
  | .hbm, ⟨33, _⟩ => ⟨S1024x128, .f32⟩
  | .hbm, ⟨34, _⟩ => ⟨S1024x96, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x1920, .f32⟩
  | .hbm, ⟨39, _⟩ => ⟨S1024x16, .f32⟩
  | .hbm, ⟨40, _⟩ => ⟨S1024x16, .f32⟩
  | .hbm, ⟨41, _⟩ => ⟨S1024x448, .f32⟩
  | .hbm, ⟨42, _⟩ => ⟨S_, .i32⟩
  | .hbm, ⟨43, _⟩ => ⟨S_, .f32⟩
  | .hbm, ⟨44, _⟩ => ⟨S1024x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_call1_v0 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_call2_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_call3_v0 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Proof.Consts.lean ====
module

public import Idealize.ShloMosaic.PureOps.Ideal

/-! The values of the literals that the programs hold, as extended reals. -/

@[expose] public section

namespace Proof.Consts

open Idealize.ShloMosaic

/-- The word of `-∞`. -/
theorem neg_inf : Ideal.ofBits .f32 0xFF800000#32 = ⊥ := by
  simp [Ideal.ofBits, Ideal.ieee, -EReal.coe_mul]

/-- The word of `+∞`. -/
theorem pos_inf : Ideal.ofBits .f32 0x7F800000#32 = ⊤ := by
  simp [Ideal.ofBits, Ideal.ieee, -EReal.coe_mul]

/-- The word of `96`. -/
theorem ninety_six : Ideal.ofBits .f32 0x42C00000#32 = ((96 : ℝ) : EReal) := by
  simp [Ideal.ofBits, Ideal.ieee, -EReal.coe_mul]
  norm_num

end Proof.Consts
-- ==== Proof.Finite.lean ====
module

public import proofs.«01_k».proof.Defs
public import proofs.«01_k».proof.Proof.Consts
public import Idealize.ShloMosaic.Lib.Pointwise

/-!
What the precondition says: every element of an argument is a real number.
-/

@[expose] public section

set_option maxRecDepth 16384

noncomputable section

namespace Proof.Finite

open Idealize.ShloMosaic

/-- An absolute value below `+∞` is a real number's. -/
theorem real_of_abs_lt {x : EReal} (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- The half-width word of `+∞`. -/
theorem pos_inf_half : Ideal.ofBits .bf16 0x7F80#16 = ⊤ := by
  simp [Ideal.ofBits, Ideal.ieee, -EReal.coe_mul]

/-- The precondition's broadcasts have the shapes they state. -/
instance facts : Cert.Pre_finite.Facts :=
  ⟨by decide, by decide, by decide, by decide⟩

theorem real_arg0 {a0 : Vec Ideal Cert.Pre_finite.S32768x1024 .bf16} {a1 : Vec Ideal Cert.Pre_finite.S32768x256 .bf16}
    {a2 : Vec Ideal Cert.Pre_finite.S32768x128 .f32} {a3 : Vec Ideal Cert.Pre_finite.S32768x32 .f32}
    (h : (Cert.Pre_finite.fn (F := Ideal) a0 a1 a2 a3).1 = fun _ => 1#1) (y) : ∃ r : ℝ, a0 y = (r : EReal) := by
  have hy := congrFun h y
  refine real_of_abs_lt (Eq.trans ?_ hy)
  rw [← pos_inf_half]
  rfl

theorem real_arg1 {a0 : Vec Ideal Cert.Pre_finite.S32768x1024 .bf16} {a1 : Vec Ideal Cert.Pre_finite.S32768x256 .bf16}
    {a2 : Vec Ideal Cert.Pre_finite.S32768x128 .f32} {a3 : Vec Ideal Cert.Pre_finite.S32768x32 .f32}
    (h : (Cert.Pre_finite.fn (F := Ideal) a0 a1 a2 a3).2.1 = fun _ => 1#1) (y) : ∃ r : ℝ, a1 y = (r : EReal) := by
  refine real_of_abs_lt (Eq.trans ?_ (congrFun h y))
  rw [← pos_inf_half]
  rfl

theorem real_arg2 {a0 : Vec Ideal Cert.Pre_finite.S32768x1024 .bf16} {a1 : Vec Ideal Cert.Pre_finite.S32768x256 .bf16}
    {a2 : Vec Ideal Cert.Pre_finite.S32768x128 .f32} {a3 : Vec Ideal Cert.Pre_finite.S32768x32 .f32}
    (h : (Cert.Pre_finite.fn (F := Ideal) a0 a1 a2 a3).2.2.1 = fun _ => 1#1) (y) : ∃ r : ℝ, a2 y = (r : EReal) := by
  refine real_of_abs_lt (Eq.trans ?_ (congrFun h y))
  rw [← Consts.pos_inf]
  rfl

theorem real_arg3 {a0 : Vec Ideal Cert.Pre_finite.S32768x1024 .bf16} {a1 : Vec Ideal Cert.Pre_finite.S32768x256 .bf16}
    {a2 : Vec Ideal Cert.Pre_finite.S32768x128 .f32} {a3 : Vec Ideal Cert.Pre_finite.S32768x32 .f32}
    (h : (Cert.Pre_finite.fn (F := Ideal) a0 a1 a2 a3).2.2.2 = fun _ => 1#1) (y) : ∃ r : ℝ, a3 y = (r : EReal) := by
  refine real_of_abs_lt (Eq.trans ?_ (congrFun h y))
  rw [← Consts.pos_inf]
  rfl

end Proof.Finite
-- ==== Proof.Online.lean ====
module

public import Idealize.ShloMosaic.PureOps.Ideal

/-!
The mathematics of softmax taken over the keys in blocks, with a running maximum.

After `n` keys the kernel holds the maximum `mx s n` of the scores, the sum `den` of the weights
`e (s j - mx s n)`, and the sum `num` of the weighted values. Taking `b` keys more rescales both sums
by `e (mx s n - mx s (n + b))` and adds the new keys. The quotient `num / den` at the end is the
softmax average, whatever the maximum was. A key whose score is `-∞` has weight zero, so that a
masked key and a key never visited count the same.
-/

@[expose] public section

noncomputable section

namespace Proof.Online

open Idealize.ShloMosaic Finset

/-- `e` is an exponential: zero at `-∞`, and the positive, additive-to-multiplicative `g` on reals. -/
structure ExpLike (e : EReal → EReal) (g : ℝ → ℝ) : Prop where
  bot : e ⊥ = 0
  coe : ∀ r : ℝ, e (r : EReal) = ((g r : ℝ) : EReal)
  pos : ∀ r, 0 < g r
  add : ∀ x y, g (x + y) = g x * g y

theorem expLike_exp : ExpLike Ideal.exp Real.exp :=
  ⟨rfl, fun _ => rfl, Real.exp_pos, Real.exp_add⟩

theorem expLike_exp2 : ExpLike Ideal.exp2 (fun r => Real.rpow 2 r) :=
  ⟨rfl, fun _ => rfl, fun r => Real.rpow_pos_of_pos two_pos r,
    fun x y => Real.rpow_add two_pos x y⟩

variable {e : EReal → EReal} {g : ℝ → ℝ}

/-- Below the maximum a weight is a nonnegative real. -/
theorem ExpLike.weight (h : ExpLike e g) {s m : EReal} (hs : s ≤ m) :
    ∃ r : ℝ, 0 ≤ r ∧ e (s - m) = (r : EReal) := by
  induction m with
  | bot =>
    obtain rfl : s = ⊥ := le_bot_iff.mp hs
    exact ⟨0, le_rfl, by simpa using h.bot⟩
  | top => exact ⟨0, le_rfl, by rw [EReal.sub_top]; simpa using h.bot⟩
  | coe m =>
    induction s with
    | bot => exact ⟨0, le_rfl, by rw [EReal.bot_sub]; simpa using h.bot⟩
    | top => exact absurd (top_le_iff.mp hs) (EReal.coe_ne_top m)
    | coe s =>
      exact ⟨g (s - m), (h.pos _).le, by rw [← EReal.coe_sub]; exact h.coe _⟩

/-- Rescaling a weight from one maximum to a larger one. -/
theorem ExpLike.rescale (h : ExpLike e g) {s m m' : EReal} (hs : s ≤ m) (hm : m ≤ m') :
    e (m - m') * e (s - m) = e (s - m') := by
  induction m' with
  | bot =>
    obtain rfl : m = ⊥ := le_bot_iff.mp hm
    obtain rfl : s = ⊥ := le_bot_iff.mp hs
    simp [h.bot]
  | top => rw [EReal.sub_top, EReal.sub_top, h.bot, zero_mul]
  | coe m' =>
    induction m with
    | bot =>
      obtain rfl : s = ⊥ := le_bot_iff.mp hs
      simp [h.bot]
    | top => exact absurd (top_le_iff.mp hm) (EReal.coe_ne_top m')
    | coe m =>
      induction s with
      | bot => simp [h.bot]
      | top => exact absurd (top_le_iff.mp hs) (EReal.coe_ne_top m)
      | coe s =>
        rw [← EReal.coe_sub, ← EReal.coe_sub, ← EReal.coe_sub, h.coe, h.coe, h.coe,
          ← EReal.coe_mul, ← h.add]
        congr 2
        ring

/-- Multiplication by a nonnegative real goes through a finite sum of extended reals. -/
theorem coe_mul_sum {ι : Type*} (r : ℝ) (hr : 0 ≤ r) (t : Finset ι) (f : ι → EReal) :
    (r : EReal) * ∑ i ∈ t, f i = ∑ i ∈ t, (r : EReal) * f i := by
  classical
  induction t using Finset.induction_on with
  | empty => simp
  | insert a t ha ih =>
    rw [sum_insert ha, sum_insert ha,
      EReal.left_distrib_of_nonneg_of_ne_top (by exact_mod_cast hr) (EReal.coe_ne_top r), ih]

/-- The largest of the first `n` scores, `-∞` of none. -/
def mx (s : ℕ → EReal) (n : ℕ) : EReal := (range n).sup s

/-- The sum of the first `n` weights. -/
def den (e : EReal → EReal) (s : ℕ → EReal) (n : ℕ) : EReal := ∑ j ∈ range n, e (s j - mx s n)

/-- The sum of the first `n` weighted values. -/
def num (e : EReal → EReal) (s v : ℕ → EReal) (n : ℕ) : EReal :=
  ∑ j ∈ range n, e (s j - mx s n) * v j

theorem mx_zero (s : ℕ → EReal) : mx s 0 = ⊥ := rfl
theorem den_zero (e : EReal → EReal) (s : ℕ → EReal) : den e s 0 = 0 := rfl
theorem num_zero (e : EReal → EReal) (s v : ℕ → EReal) : num e s v 0 = 0 := rfl

theorem le_mx {s : ℕ → EReal} {n j : ℕ} (hj : j < n) : s j ≤ mx s n :=
  le_sup (mem_range.mpr hj)

theorem mx_mono (s : ℕ → EReal) {n n' : ℕ} (h : n ≤ n') : mx s n ≤ mx s n' :=
  sup_mono (range_mono h)

/-- The fold of `max` from `-∞`, as the supremum. -/
theorem fold_max_bot {ι : Type*} (t : Finset ι) (f : ι → EReal) : t.fold max ⊥ f = t.sup f := rfl

/-- The running maximum after a block of `b` keys more. -/
theorem mx_add (s : ℕ → EReal) (n b : ℕ) :
    max (mx s n) ((univ : Finset (Fin b)).fold max ⊥ fun k : Fin b => s (n + k.val)) = mx s (n + b) := by
  rw [fold_max_bot]
  apply le_antisymm
  · refine max_le (mx_mono s (Nat.le_add_right n b)) (Finset.sup_le fun k _ => le_mx ?_)
    have := k.isLt
    omega
  · refine Finset.sup_le fun j hj => ?_
    by_cases h : j < n
    · exact le_max_of_le_left (le_mx h)
    · have hj := mem_range.mp hj
      refine le_max_of_le_right ?_
      have := le_sup (f := fun k : Fin b => s (n + k)) (mem_univ (⟨j - n, by omega⟩ : Fin b))
      simpa [Nat.add_sub_of_le (Nat.le_of_not_lt h)] using this

theorem num_add (h : ExpLike e g) (s v : ℕ → EReal) (n b : ℕ) :
    e (mx s n - mx s (n + b)) * num e s v n
      + ∑ k : Fin b, e (s (n + k) - mx s (n + b)) * v (n + k) = num e s v (n + b) := by
  obtain ⟨r, hr, he⟩ := h.weight (mx_mono s (Nat.le_add_right n b))
  unfold num
  rw [sum_range_add, he, coe_mul_sum r hr,
    sum_range (fun k => e (s (n + k) - mx s (n + b)) * v (n + k))]
  congr 1
  refine sum_congr rfl fun j hj => ?_
  rw [← he, ← mul_assoc, h.rescale (le_mx (mem_range.mp hj)) (mx_mono s (Nat.le_add_right n b))]

theorem den_add (h : ExpLike e g) (s : ℕ → EReal) (n b : ℕ) :
    e (mx s n - mx s (n + b)) * den e s n + ∑ k : Fin b, e (s (n + k) - mx s (n + b))
      = den e s (n + b) := by
  have := num_add h s (fun _ => 1) n b
  simpa only [num, den, mul_one] using this

/-- Of the first `n` keys the maximum is a real, when no score is `+∞` and one is above `-∞`. -/
theorem mx_real {s : ℕ → EReal} {n : ℕ} (ht : ∀ j < n, s j ≠ ⊤) (hp : ∃ j < n, s j ≠ ⊥) :
    ∃ r : ℝ, mx s n = (r : EReal) := by
  obtain ⟨j, hj, hb⟩ := hp
  have h1 : mx s n ≠ ⊥ := fun h => hb (le_bot_iff.mp (h ▸ le_mx hj))
  have h2 : mx s n ≠ ⊤ := by
    refine ne_of_lt ((Finset.sup_lt_iff bot_lt_top).mpr fun j hj => ?_)
    exact lt_top_iff_ne_top.mpr (ht j (mem_range.mp hj))
  exact ⟨(mx s n).toReal, (EReal.coe_toReal h2 h1).symm⟩

/-- A weight against a real maximum factors. -/
theorem ExpLike.sub_real (h : ExpLike e g) {x : EReal} (hx : x ≠ ⊤) (m : ℝ) {w : ℝ}
    (hw : e x = (w : EReal)) : e (x - m) = ((g (-m) * w : ℝ) : EReal) := by
  induction x with
  | bot =>
    rw [EReal.bot_sub, h.bot]
    have hw0 : w = 0 := by
      have := h.bot.symm.trans hw
      exact_mod_cast this.symm
    rw [hw0, mul_zero, EReal.coe_zero]
  | top => exact absurd rfl hx
  | coe x =>
    rw [← EReal.coe_sub, h.coe, sub_eq_neg_add, h.add]
    rw [h.coe] at hw
    rw [EReal.coe_eq_coe_iff.mp hw]

theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [sum_insert ha, sum_insert ha, EReal.coe_add, ih]

theorem ExpLike.nonneg (h : ExpLike e g) {x : EReal} (hx : x ≠ ⊤) {w : ℝ}
    (hw : e x = (w : EReal)) : 0 ≤ w := by
  induction x with
  | bot => exact le_of_eq (by exact_mod_cast h.bot.symm.trans hw)
  | top => exact absurd rfl hx
  | coe x => rw [h.coe] at hw; rw [← EReal.coe_eq_coe_iff.mp hw]; exact (h.pos x).le

theorem ExpLike.weight_pos (h : ExpLike e g) {x : EReal} (hx : x ≠ ⊤) (hb : x ≠ ⊥) {w : ℝ}
    (hw : e x = (w : EReal)) : 0 < w := by
  induction x with
  | bot => exact absurd rfl hb
  | top => exact absurd rfl hx
  | coe x => rw [h.coe] at hw; rw [← EReal.coe_eq_coe_iff.mp hw]; exact h.pos x

theorem ExpLike.total_pos (h : ExpLike e g) {s : ℕ → EReal} {w : ℕ → ℝ} {n : ℕ}
    (ht : ∀ j < n, s j ≠ ⊤) (hp : ∃ j < n, s j ≠ ⊥) (hw : ∀ j < n, e (s j) = (w j : EReal)) :
    0 < ∑ j ∈ range n, w j := by
  obtain ⟨j, hj, hb⟩ := hp
  refine sum_pos' (fun i hi => ?_) ⟨j, mem_range.mpr hj, h.weight_pos (ht j hj) hb (hw j hj)⟩
  exact h.nonneg (ht i (mem_range.mp hi)) (hw i (mem_range.mp hi))

/-- The quotient that the kernel leaves is the weighted average. -/
theorem ratio (h : ExpLike e g) {s v : ℕ → EReal} {w c : ℕ → ℝ} {n : ℕ}
    (ht : ∀ j < n, s j ≠ ⊤) (hp : ∃ j < n, s j ≠ ⊥) (hw : ∀ j < n, e (s j) = (w j : EReal))
    (hv : ∀ j < n, v j = (c j : EReal)) :
    Ideal.div (num e s v n) (den e s n)
      = (((∑ j ∈ range n, w j * c j) / ∑ j ∈ range n, w j : ℝ) : EReal) := by
  obtain ⟨m, hm⟩ := mx_real ht hp
  have hd : den e s n = ((g (-m) * ∑ j ∈ range n, w j : ℝ) : EReal) := by
    rw [den, hm, mul_sum, coe_sum]
    exact sum_congr rfl fun j hj =>
      h.sub_real (ht j (mem_range.mp hj)) m (hw j (mem_range.mp hj))
  have hn : num e s v n = ((g (-m) * ∑ j ∈ range n, w j * c j : ℝ) : EReal) := by
    rw [num, hm, mul_sum, coe_sum]
    refine sum_congr rfl fun j hj => ?_
    rw [h.sub_real (ht j (mem_range.mp hj)) m (hw j (mem_range.mp hj)), hv j (mem_range.mp hj),
      ← EReal.coe_mul, mul_assoc]
  have hT := h.total_pos ht hp hw
  have hg := h.pos (-m)
  rw [hd, hn, Ideal.div_coe (mul_pos hg hT).ne', ← EReal.coe_mul]
  congr 1
  field_simp

/-- Softmax first and the average of the values after: the same weighted average. The sums run over
`Fin N` and the maximum is any fold of `max` from `-∞`. -/
theorem softmax_average (h : ExpLike e g) {s v : ℕ → EReal} {w c : ℕ → ℝ} {n : ℕ}
    (ht : ∀ j < n, s j ≠ ⊤) (hp : ∃ j < n, s j ≠ ⊥) (hw : ∀ j < n, e (s j) = (w j : EReal))
    (hv : ∀ j < n, v j = (c j : EReal)) :
    ∑ k : Fin n, v k * Ideal.div (e (s k - mx s n)) (∑ i : Fin n, e (s i - mx s n))
      = (((∑ j ∈ range n, w j * c j) / ∑ j ∈ range n, w j : ℝ) : EReal) := by
  obtain ⟨m, hm⟩ := mx_real ht hp
  have hT := h.total_pos ht hp hw
  have hg := h.pos (-m)
  have hd : ∑ i : Fin n, e (s i - mx s n) = ((g (-m) * ∑ j ∈ range n, w j : ℝ) : EReal) := by
    rw [hm, mul_sum, coe_sum, sum_range]
    exact sum_congr rfl fun j _ => h.sub_real (ht j j.isLt) m (hw j j.isLt)
  rw [hd, sum_div, coe_sum,
    sum_range (fun j => ((w j * c j / ∑ j ∈ range n, w j : ℝ) : EReal))]
  refine sum_congr rfl fun j _ => ?_
  rw [hm, Ideal.div_coe (mul_pos hg hT).ne', h.sub_real (ht j j.isLt) m (hw j j.isLt),
    hv j j.isLt, ← EReal.coe_mul, ← EReal.coe_mul]
  congr 1
  field_simp

/-- The fold of `max` over `Fin n`, as the maximum of the first `n`. -/
theorem fold_max_fin (s : ℕ → EReal) (n : ℕ) :
    ((univ : Finset (Fin n)).fold max ⊥ fun k : Fin n => s k.val) = mx s n := by
  have := mx_add s 0 n
  simpa [mx_zero] using this

/-- Keys of weight zero after the first `n` change no sum. -/
theorem sum_range_tail (f : ℕ → ℝ) {n N : ℕ} (hn : n ≤ N) (hz : ∀ j, n ≤ j → j < N → f j = 0) :
    ∑ j ∈ range n, f j = ∑ j ∈ range N, f j := by
  refine sum_subset (range_mono hn) fun j hj hj' => hz j ?_ (mem_range.mp hj)
  simpa using hj'

/-- Powers of two with the scale `(log 2)⁻¹` are exponentials. -/
theorem exp2_scaled (x : ℝ) : Real.rpow 2 (x * (Real.log 2)⁻¹) = Real.exp x := by
  have h2 : Real.log 2 ≠ 0 := (Real.log_pos one_lt_two).ne'
  show (2 : ℝ) ^ (x * (Real.log 2)⁻¹) = _
  rw [Real.rpow_def_of_pos two_pos]
  congr 1
  field_simp

end Proof.Online
-- ==== Proof.Mla.Chunk.lean ====
module

public import proofs.«01_k».proof.Proof.Gen.KernelIdeal.Value
public import proofs.«01_k».proof.Proof.Online
public import proofs.«01_k».proof.Proof.Consts
public import Idealize.ShloMosaic.Lib.Pointwise
public import Idealize.ShloMosaic.Lib.Pipeline.ValueKit

/-!
One block of 512 keys of the attention kernel: the running maximum, the sum of the weights and the
weighted sum of the values, from those before and the block's scores, as the kernel computes them on
whole vectors; and what they are at each query row.
-/

@[expose] public section

set_option maxRecDepth 16384

noncomputable section

namespace Proof.Mla

open Idealize.ShloMosaic Cert.KernelIdeal Cert.KernelIdeal.Gen Proof.Online

section
variable {F : FTy → Type} [FloatOps F]

/-- The running maximum after a block with scores `sc`. -/
def mNew (m : FVec F S1024x1 .f32) (sc : FVec F S1024x512 .f32) : FVec F S1024x1 .f32 :=
  maximumf m (shapeCast S1024x1
    (multiReduction .maximumf [1] S1024 sc 0xFF800000#32 reduces_S1024x512_S1024 (.inl rfl) rfl)
    shapeCasts_S1024_S1024x1)

/-- The block's weights against the new maximum. -/
def pNew (m : FVec F S1024x1 .f32) (sc : FVec F S1024x512 .f32) : FVec F S1024x512 .f32 :=
  exp2 (subf sc (broadcastTo S1024x512 (mNew m sc) broadcasts_S1024x1_S1024x512))

/-- The factor that rescales what was summed against the old maximum. -/
def aNew (m : FVec F S1024x1 .f32) (sc : FVec F S1024x512 .f32) : FVec F S1024x1 .f32 :=
  exp2 (subf m (mNew m sc))

/-- The sum of the weights after the block. -/
def lNew (m l : FVec F S1024x1 .f32) (sc : FVec F S1024x512 .f32) : FVec F S1024x1 .f32 :=
  addf (mulf (aNew m sc) l) (shapeCast S1024x1
    (multiReduction .add [1] S1024 (pNew m sc) 0x00000000#32 reduces_S1024x512_S1024 (.inl rfl) rfl)
    shapeCasts_S1024_S1024x1)

/-- The weighted sum of the values after the block. -/
def accNew (m : FVec F S1024x1 .f32) (acc : FVec F S1024x128 .f32) (sc : FVec F S1024x512 .f32)
    (vb : FVec F S512x128 .bf16) : FVec F S1024x128 .f32 :=
  addf (mulf (broadcastTo S1024x128 (aNew m sc) broadcasts_S1024x1_S1024x128) acc)
    (matmul dot_S1024x512_S512x128_S1024x128_1_0_0_1_n_n none (truncf .bf16 (pNew m sc) bitsLt_bf16_f32)
      vb (constant S1024x128 .f32 0x00000000#32))

/-- What the kernel carries from block to block. -/
abbrev St (F : FTy → Type) : Type := FVec F S1024x1 .f32 × FVec F S1024x1 .f32 × FVec F S1024x128 .f32

/-- One block: scores `sc`, values `vb`. -/
def step (sc : FVec F S1024x512 .f32) (vb : FVec F S512x128 .bf16) (st : St F) : St F :=
  (mNew st.1 sc, lNew st.1 st.2.1 sc, accNew st.1 st.2.2 sc vb)

end

/-- The carried vectors are the running maximum and sums of the scores `s` and values `v` over the
first `n` keys, at every query row. -/
def Holds (s : Fin 1024 → ℕ → EReal) (v : Fin 128 → ℕ → EReal) (n : ℕ) (st : St Ideal) : Prop :=
  ∀ r : Fin 1024, st.1 (ix2 r 0) = mx (s r) n ∧ st.2.1 (ix2 r 0) = den Ideal.exp2 (s r) n
    ∧ ∀ d : Fin 128, st.2.2 (ix2 r d) = num Ideal.exp2 (s r) (v d) n

theorem mNew_apply (m : FVec Ideal S1024x1 .f32) (sc : FVec Ideal S1024x512 .f32) (r : Fin 1024) :
    mNew m sc (ix2 r 0)
      = max (m (ix2 r 0)) ((Finset.univ : Finset (Fin 512)).fold max ⊥ fun k => sc (ix2 r k)) := by
  pointwise [mNew, Consts.neg_inf]

theorem pNew_apply (m : FVec Ideal S1024x1 .f32) (sc : FVec Ideal S1024x512 .f32) (r : Fin 1024)
    (k : Fin 512) : pNew m sc (ix2 r k) = Ideal.exp2 (sc (ix2 r k) - mNew m sc (ix2 r 0)) := by
  pointwise [pNew]
  rfl

theorem aNew_apply (m : FVec Ideal S1024x1 .f32) (sc : FVec Ideal S1024x512 .f32) (r : Fin 1024) :
    aNew m sc (ix2 r 0) = Ideal.exp2 (m (ix2 r 0) - mNew m sc (ix2 r 0)) := by
  pointwise [aNew]
  rfl

theorem lNew_apply (m l : FVec Ideal S1024x1 .f32) (sc : FVec Ideal S1024x512 .f32) (r : Fin 1024) :
    lNew m l sc (ix2 r 0)
      = aNew m sc (ix2 r 0) * l (ix2 r 0) + ∑ k : Fin 512, pNew m sc (ix2 r k) := by
  pointwise [lNew]

theorem accNew_apply (m : FVec Ideal S1024x1 .f32) (acc : FVec Ideal S1024x128 .f32)
    (sc : FVec Ideal S1024x512 .f32) (vb : FVec Ideal S512x128 .bf16) (r : Fin 1024) (d : Fin 128) :
    accNew m acc sc vb (ix2 r d)
      = aNew m sc (ix2 r 0) * acc (ix2 r d) + ∑ k : Fin 512, pNew m sc (ix2 r k) * vb (ix2 k d) := by
  pointwise [accNew]

/-- A block carries the running maximum and sums on by 512 keys. -/
theorem Holds.step {s : Fin 1024 → ℕ → EReal} {v : Fin 128 → ℕ → EReal} {n : ℕ} {st : St Ideal}
    (h : Holds s v n st) {sc : FVec Ideal S1024x512 .f32} {vb : FVec Ideal S512x128 .bf16}
    (hs : ∀ (r : Fin 1024) (k : Fin 512), sc (ix2 r k) = s r (n + k))
    (hv : ∀ (k : Fin 512) (d : Fin 128), vb (ix2 k d) = v d (n + k)) :
    Holds s v (n + 512) (step sc vb st) := by
  intro r
  obtain ⟨hm, hl, ha⟩ := h r
  have hM : mNew st.1 sc (ix2 r 0) = mx (s r) (n + 512) := by
    rw [mNew_apply, hm]
    simp only [hs]
    exact mx_add (s r) n 512
  refine ⟨hM, ?_, fun d => ?_⟩
  · show lNew st.1 st.2.1 sc (ix2 r 0) = _
    rw [lNew_apply, aNew_apply, hM, hm, hl]
    simp only [pNew_apply, hM, hs]
    exact den_add expLike_exp2 (s r) n 512
  · show accNew st.1 st.2.2 sc vb (ix2 r d) = _
    rw [accNew_apply, aNew_apply, hM, hm, ha d]
    simp only [pNew_apply, hM, hs, hv]
    exact num_add expLike_exp2 (s r) (v d) n 512

end Proof.Mla
-- ==== Proof.Mla.Bounds.lean ====
module

public import proofs.«01_k».proof.Proof.Gen.KernelIdeal.Value

/-!
The attention kernel's word arithmetic at each grid point, in closed form: how many trips each of its
loops takes and at which key each block starts. A point's second coordinate `b` is its block of 128
query positions; the keys below `512 * (b / 4)` are seen by all of them.
-/

@[expose] public section

set_option maxRecDepth 16384

noncomputable section

namespace Proof.Mla

open Idealize.ShloMosaic Cert.KernelIdeal Cert.KernelIdeal.Gen

/-- The block of query positions of a grid point. -/
abbrev blkOf (t : Fin grid0.N) : ℕ := ((grid0.coords t) 1).val

theorem trips1 : ∀ t : Fin grid0.N, (k0_t1_loop (grid0.coords t)).trips = blkOf t / 16 := by
  decide +kernel

theorem trips2 : ∀ t : Fin grid0.N, (k0_t2_loop (grid0.coords t)).trips = 0 := by
  decide +kernel

theorem trips3 : ∀ t : Fin grid0.N, (k0_t3_loop (grid0.coords t)).trips = blkOf t / 4 % 4 := by
  decide +kernel

theorem trips4 : ∀ t : Fin grid0.N, (k0_t4_loop (grid0.coords t)).trips = 0 := by
  decide +kernel

theorem off1 : ∀ (t : Fin grid0.N) (k : Fin (k0_t1_loop (grid0.coords t)).trips) (u : Fin 4),
    k0_off1 (grid0.coords t) k (BitVec.ofNat 32 u.val) = ![0, 2048 * k.val + 512 * u.val, 0] := by
  decide +kernel

theorem off2 : ∀ (t : Fin grid0.N) (k : Fin (k0_t1_loop (grid0.coords t)).trips) (u : Fin 4),
    k0_off2 (grid0.coords t) k (BitVec.ofNat 32 u.val) = ![0, 2048 * k.val + 512 * u.val, 0] := by
  decide +kernel

theorem off5 : ∀ (t : Fin grid0.N) (k : Fin (k0_t3_loop (grid0.coords t)).trips),
    k0_off5 (grid0.coords t) k = ![0, 2048 * (blkOf t / 16) + 512 * k.val, 0] := by
  decide +kernel

theorem off6 : ∀ (t : Fin grid0.N) (k : Fin (k0_t3_loop (grid0.coords t)).trips),
    k0_off6 (grid0.coords t) k = ![0, 2048 * (blkOf t / 16) + 512 * k.val, 0] := by
  decide +kernel

theorem off9 : ∀ t : Fin grid0.N, k0_off9 (grid0.coords t) = ![0, 512 * (blkOf t / 4), 0] := by
  decide +kernel

theorem off10 : ∀ t : Fin grid0.N, k0_off10 (grid0.coords t) = ![0, 512 * (blkOf t / 4), 0] := by
  decide +kernel

end Proof.Mla
-- ==== Proof.Mla.Point.lean ====
module

public import proofs.«01_k».proof.Proof.Mla.Chunk
public import proofs.«01_k».proof.Proof.Mla.Bounds
public import Idealize.ShloMosaic.Lib.WordCmp

/-!
What one grid point of the attention kernel writes: at query row `r` and value column `d`, the quotient
of the weighted sum of the values by the sum of the weights, over the keys that the row sees.
-/

@[expose] public section

set_option maxRecDepth 16384

noncomputable section

namespace Proof.Mla

open Idealize.ShloMosaic Cert.KernelIdeal Cert.KernelIdeal.Gen Proof.Online

/-- The factor of the scores: `1/√96`, and `1/log 2` for the base-two exponential. -/
def scale2 : ℝ := (Real.sqrt 96)⁻¹ * (Real.log 2)⁻¹

theorem named_scale2 : Named.named (F := Ideal) κ "scale2" (φ := .f32) 0x3E16C740#32 = (scale2 : EReal) :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

theorem bot_mul_scale2 : (⊥ : EReal) * (scale2 : EReal) = ⊥ := by
  refine EReal.bot_mul_coe_of_pos ?_
  have := Real.log_pos one_lt_two
  unfold scale2
  positivity

/-- The product of query row `r` with key `j`. -/
def raw (x0 : Vec Ideal S1x1024x256 .bf16) (x1 : Vec Ideal S1x8192x256 .bf16) (r : Fin 1024) (j : ℕ) : EReal :=
  ∑ c : Fin 256, x0 (ix3 0 r c) * x1 (ix3 0 ⟨j % 8192, Nat.mod_lt _ (by norm_num)⟩ c)

/-- The scores of query row `r` of a block of query positions: `-∞` at a key after the row's position. -/
def scores (x0 : Vec Ideal S1x1024x256 .bf16) (x1 : Vec Ideal S1x8192x256 .bf16) (b : ℕ) (r : Fin 1024)
    (j : ℕ) : EReal :=
  if j ≤ 128 * b + r.val / 8 then raw x0 x1 r j * (scale2 : EReal) else ⊥

/-- Column `d` of the values, by key. -/
def vals (x2 : Vec Ideal S1x8192x128 .bf16) (d : Fin 128) (j : ℕ) : EReal :=
  x2 (ix3 0 ⟨j % 8192, Nat.mod_lt _ (by norm_num)⟩ d)

theorem mod_key {o k : ℕ} (h : o + k < 8192) : (⟨(o + k) % 8192, Nat.mod_lt _ (by norm_num)⟩ : Fin 8192) = ⟨o + k, h⟩ :=
  Fin.ext (Nat.mod_eq_of_lt h)

/-- `K` is the block of 512 keys that starts at key `o`. -/
def KeysAt (x1 : Vec Ideal S1x8192x256 .bf16) (o : ℕ) (K : Vec Ideal S1x512x256 .bf16) : Prop :=
  ∀ (k : Fin 512) (c : Fin 256), K (ix3 0 k c) = x1 (ix3 0 ⟨(o + k.val) % 8192, Nat.mod_lt _ (by norm_num)⟩ c)

/-- `V` is the block of the values of the 512 keys from `o` on. -/
def ValsAt (x2 : Vec Ideal S1x8192x128 .bf16) (o : ℕ) (V : Vec Ideal S1x512x128 .bf16) : Prop :=
  ∀ (k : Fin 512) (d : Fin 128), V (ix3 0 k d) = vals x2 d (o + k.val)

theorem keysAt_ld (x1 : Vec Ideal S1x8192x256 .bf16) {off : Fin 3 → ℕ} (inb) (o : ℕ) (h : off = ![0, o, 0])
    (ho : o + 512 ≤ 8192) :
    KeysAt x1 o (View.ld x1 (Rect.unit (s := S1x8192x256) off S1x512x256.size inb)) := by
  intro k c
  subst h
  have hk := k.isLt
  rw [mod_key (by omega)]
  exact View.ld_unit_apply_of _ _ _ _ _ _ fun a => by fin_cases a <;> simp [ix3]

theorem valsAt_ld (x2 : Vec Ideal S1x8192x128 .bf16) {off : Fin 3 → ℕ} (inb) (o : ℕ) (h : off = ![0, o, 0])
    (ho : o + 512 ≤ 8192) :
    ValsAt x2 o (View.ld x2 (Rect.unit (s := S1x8192x128) off S1x512x128.size inb)) := by
  intro k c
  subst h
  have hk := k.isLt
  rw [vals, mod_key (by omega)]
  exact View.ld_unit_apply_of _ _ _ _ _ _ fun a => by fin_cases a <;> simp [ix3]

/-- The scaled scores of a block that every query row of the grid point sees. -/
theorem full_scores {x0 : Vec Ideal S1x1024x256 .bf16} {x1 : Vec Ideal S1x8192x256 .bf16} {b o : ℕ}
    {K : Vec Ideal S1x512x256 .bf16} (hK : KeysAt x1 o K) (hb : o + 512 ≤ 128 * b) (r : Fin 1024)
    (k : Fin 512) : k0_pay66 (F := Ideal) (k0_pay52 x0) K (ix2 r k) = scores x0 x1 b r (o + k.val) := by
  have hk := k.isLt
  rw [scores, if_pos (by omega), raw]
  pointwise [k0_pay66, k0_pay52, named_scale2]
  simp only [hK k]

theorem block_vals {x2 : Vec Ideal S1x8192x128 .bf16} {o : ℕ} {V : Vec Ideal S1x512x128 .bf16}
    (hV : ValsAt x2 o V) (k : Fin 512) (d : Fin 128) :
    k0_pay79 (F := Ideal) V (ix2 k d) = vals x2 d (o + k.val) := by
  rw [← hV k d]
  pointwise [k0_pay79]

/-- The kernel's floor division of a row's number by the eight heads. -/
theorem row_div : ∀ r : Fin 1024,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 8#32 0#32))
            (Scalar.extui (Scalar.cmpi CmpIPredicate.slt 8#32 0#32))))
        (IntOp.cmpi CmpIPredicate.ne (IntOp.remsi ArithUnit.vector (BitVec.ofNat 32 r.val) 8#32) 0#32))
      (IntOp.subi (IntOp.divsi ArithUnit.vector (BitVec.ofNat 32 r.val) 8#32) 1#32)
      (IntOp.divsi ArithUnit.vector (BitVec.ofNat 32 r.val) 8#32) = BitVec.ofNat 32 (r.val / 8) := by
  decide +kernel

/-- A key's position against a row's, as the kernel compares them. -/
theorem key_le {n p q : ℕ} (b : ℕ) (hb : n * 512 + p < 2 ^ 31) (hq : b + q < 2 ^ 31) :
    (IntOp.cmpi CmpIPredicate.sle
      (IntOp.addi (Scalar.muli (BitVec.ofNat 32 n) 512#32) (BitVec.ofNat 32 p))
      (IntOp.addi (BitVec.ofNat 32 b) (BitVec.ofNat 32 q)) = 1#1) ↔ n * 512 + p ≤ b + q := by
  have e1 : IntOp.addi (Scalar.muli (BitVec.ofNat 32 n) 512#32) (BitVec.ofNat 32 p)
      = BitVec.ofNat 32 (n * 512 + p) := by
    simp [IntOp.addi, Scalar.muli, IntOp.muli, BitVec.ofNat_add, BitVec.ofNat_mul]
  have e2 : IntOp.addi (BitVec.ofNat 32 b) (BitVec.ofNat 32 q) = BitVec.ofNat 32 (b + q) := by
    simp [IntOp.addi, BitVec.ofNat_add]
  rw [e1, e2]
  exact WordCmp.cmpi_sle_ofNat_eq_one_iff hb hq

/-- The scaled and masked scores of the last block. -/
theorem last_scores {x0 : Vec Ideal S1x1024x256 .bf16} {x1 : Vec Ideal S1x8192x256 .bf16} {b : ℕ}
    (hb : b < 64) {K : Vec Ideal S1x512x256 .bf16} (hK : KeysAt x1 (512 * (b / 4)) K) {w0 w19 : BitVec 32}
    (hw0 : w0 = BitVec.ofNat 32 (128 * b)) (hw19 : w19 = BitVec.ofNat 32 (b / 4)) (r : Fin 1024) (k : Fin 512) :
    k0_pay80 (F := Ideal) w0 w19 (k0_pay78 (k0_pay52 x0) K) (ix2 r k)
      = scores x0 x1 b r (512 * (b / 4) + k.val) := by
  have hk := k.isLt
  rw [scores, raw]
  pointwise [k0_pay80, k0_pay78, k0_pay52, named_scale2, named_mask]
  simp only [hK k]
  rw [row_div, hw0, hw19, Scalar.select, ite_mul, bot_mul_scale2]
  refine if_congr ?_ rfl rfl
  have hr := r.isLt
  have := key_le (n := b / 4) (p := k.val) (q := r.val / 8) (128 * b) (by omega) (by omega)
  rw [mul_comm 512 (b / 4)]
  exact this

/-- The words of the point: its first query position and the number of the blocks before its last. -/
theorem last_step {x0 : Vec Ideal S1x1024x256 .bf16} {x1 : Vec Ideal S1x8192x256 .bf16}
    {x2 : Vec Ideal S1x8192x128 .bf16} {b : ℕ}
    (hb : b < 64) {K : Vec Ideal S1x512x256 .bf16} (hK : KeysAt x1 (512 * (b / 4)) K)
    {V : Vec Ideal S1x512x128 .bf16} (hV : ValsAt x2 (512 * (b / 4)) V) {w0 w19 : BitVec 32}
    (hw0 : w0 = BitVec.ofNat 32 (128 * b)) (hw19 : w19 = BitVec.ofNat 32 (b / 4)) {st : St Ideal}
    (h : Holds (scores x0 x1 b) (vals x2) (512 * (b / 4)) st) (r : Fin 1024) (d : Fin 128) :
    k0_pay1 (F := Ideal) st.2.1 st.2.2 (k0_pay79 V) (k0_pay82 w0 w19 st.1 (k0_pay78 (k0_pay52 x0) K))
        (k0_pay83 w0 w19 st.1 (k0_pay78 (k0_pay52 x0) K)) (ix3 0 r d)
      = Ideal.div (num Ideal.exp2 (scores x0 x1 b r) (vals x2 d) (512 * (b / 4) + 512))
          (den Ideal.exp2 (scores x0 x1 b r) (512 * (b / 4) + 512)) := by
  obtain ⟨-, hl, ha⟩ := h.step (last_scores (x0 := x0) hb hK hw0 hw19) (block_vals hV) r
  rw [← hl, ← ha d]
  have e : ∀ (l : FVec Ideal S1024x1 .f32) (a : FVec Ideal S1024x128 .f32),
      (shapeCast S1x1024x128 (truncf .bf16 (divf a (broadcastTo S1024x128 l broadcasts_S1024x1_S1024x128))
        bitsLt_bf16_f32) shapeCasts_S1024x128_S1x1024x128 : FVec Ideal S1x1024x128 .bf16) (ix3 0 r d)
        = Ideal.div (a (ix2 r d)) (l (ix2 r 0)) := by
    intro l a
    pointwise []
    try rfl
  exact e _ _

end Proof.Mla
-- ==== Proof.Mla.Loops.lean ====
module

public import proofs.«01_k».proof.Proof.Mla.Point

/-!
The attention kernel's loops over the key blocks that every query row of a grid point sees: what they
carry after each trip. The first loop takes four blocks a trip, the third one the blocks left over;
the second and the fourth take none.
-/

@[expose] public section

set_option maxRecDepth 16384

noncomputable section

namespace Proof.Mla

open Idealize.ShloMosaic Cert.KernelIdeal Cert.KernelIdeal.Gen Proof.Online

section
variable {F : FTy → Type} [FloatOps F] [Named F]

variable (𝒱 : Variants) (c : Dev nD) (bd : Option 𝒱.V) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S1x8192x128 .bf16) (harg4 : arg4.IsWhole)
  (arg5 : Memref sig .tc .vmem S1x1024x128 .bf16) (harg5 : arg5.IsWhole)
  (v2 : FVec F S1024x256 .bf16) (v19 : BitVec 32) (v20 v21 : FVec F S1024x1 .f32) (v22 : FVec F S1024x128 .f32)
  (v23 : BitVec 32) (v37 : BitVec 1)

/-- One block, from the keys and values as loaded. -/
def blockStep (v2 : FVec F S1024x256 .bf16) (K : Vec F S1x512x256 .bf16) (V : Vec F S1x512x128 .bf16) :
    St F → St F := step (k0_pay66 v2 K) (k0_pay79 V)

/-- A trip of the third loop is one block. -/
theorem trip3_eq (x1 : Vec F S1x8192x256 .bf16) (x2 : Vec F S1x8192x128 .bf16)
    (k : Fin (k0_t3_loop i).trips) (acc : St F) :
    tripR_k0_t3 𝒱 c bd i arg2 harg2 arg3 harg3 arg4 harg4 arg5 harg5 v2 v19 v20 v21 v22 v23 v37
        (harg3.unread x1) (harg4.unread x2) k acc
      = blockStep v2 (View.ld x1 (Rect.unit (s := S1x8192x256) (k0_off5 i k) S1x512x256.size (k0_off5_inb i k)))
          (View.ld x2 (Rect.unit (s := S1x8192x128) (k0_off6 i k) S1x512x128.size (k0_off6_inb i k))) acc := by
  unfold tripR_k0_t3 trip_k0_t3
  simp only [View.readAt_eq_ld, Memref.IsWhole.read_unread]
  rfl

/-- A trip of the first loop is four blocks. -/
theorem trip1_eq (x1 : Vec F S1x8192x256 .bf16) (x2 : Vec F S1x8192x128 .bf16)
    (k : Fin (k0_t1_loop i).trips) (acc : St F) :
    tripR_k0_t1 𝒱 c bd i arg2 harg2 arg3 harg3 arg4 harg4 arg5 harg5 v2 v19 v20 v21 v22 v23 v37
        (harg3.unread x1) (harg4.unread x2) k acc
      = blockStep v2 (View.ld x1 (Rect.unit (s := S1x8192x256) (k0_off1 i k 3#32) S1x512x256.size (k0_off1_inb i k 3)))
          (View.ld x2 (Rect.unit (s := S1x8192x128) (k0_off2 i k 3#32) S1x512x128.size (k0_off2_inb i k 3)))
         (blockStep v2 (View.ld x1 (Rect.unit (s := S1x8192x256) (k0_off1 i k 2#32) S1x512x256.size (k0_off1_inb i k 2)))
          (View.ld x2 (Rect.unit (s := S1x8192x128) (k0_off2 i k 2#32) S1x512x128.size (k0_off2_inb i k 2)))
         (blockStep v2 (View.ld x1 (Rect.unit (s := S1x8192x256) (k0_off1 i k 1#32) S1x512x256.size (k0_off1_inb i k 1)))
          (View.ld x2 (Rect.unit (s := S1x8192x128) (k0_off2 i k 1#32) S1x512x128.size (k0_off2_inb i k 1)))
         (blockStep v2 (View.ld x1 (Rect.unit (s := S1x8192x256) (k0_off1 i k 0#32) S1x512x256.size (k0_off1_inb i k 0)))
          (View.ld x2 (Rect.unit (s := S1x8192x128) (k0_off2 i k 0#32) S1x512x128.size (k0_off2_inb i k 0))) acc))) := by
  unfold tripR_k0_t1 trip_k0_t1
  dsimp only
  sl_unfold_words
  simp only [View.readAt_eq_ld, Memref.IsWhole.read_unread]
  rfl

end

theorem blockStep_holds {x0 : Vec Ideal S1x1024x256 .bf16} {x1 : Vec Ideal S1x8192x256 .bf16}
    {x2 : Vec Ideal S1x8192x128 .bf16} {b o : ℕ} {K : Vec Ideal S1x512x256 .bf16} (hK : KeysAt x1 o K)
    {V : Vec Ideal S1x512x128 .bf16} (hV : ValsAt x2 o V) (hb : o + 512 ≤ 128 * b) {st : St Ideal}
    (h : Holds (scores x0 x1 b) (vals x2) o st) :
    Holds (scores x0 x1 b) (vals x2) (o + 512) (blockStep (k0_pay52 x0) K V st) :=
  h.step (full_scores hK hb) (block_vals hV)

theorem blk_lt (t : Fin grid0.N) : blkOf t < 64 := ((grid0.coords t) 1).isLt

/-- Before any key: maximum `-∞`, sums zero. -/
theorem init_holds (s : Fin 1024 → ℕ → EReal) (v : Fin 128 → ℕ → EReal) :
    Holds s v 0 (k0_pay53 (F := Ideal), k0_pay54, k0_pay55) := by
  intro r
  refine ⟨?_, ?_, fun d => ?_⟩
  · rw [mx_zero]
    pointwise [k0_pay53, named_mask]
  · rw [den_zero]
    pointwise [k0_pay54]
  · rw [num_zero]
    pointwise [k0_pay55]

variable (𝒱 : Variants) (c : Dev nD) (bd : Option 𝒱.V) (t : Fin grid0.N)
  (arg2 : Memref sig .tc .vmem S1x1024x256 .bf16) (harg2 : arg2.IsWhole)
  (arg3 : Memref sig .tc .vmem S1x8192x256 .bf16) (harg3 : arg3.IsWhole)
  (arg4 : Memref sig .tc .vmem S1x8192x128 .bf16) (harg4 : arg4.IsWhole)
  (arg5 : Memref sig .tc .vmem S1x1024x128 .bf16) (harg5 : arg5.IsWhole)
  (v19 : BitVec 32) (v20 v21 : FVec Ideal S1024x1 .f32) (v22 : FVec Ideal S1024x128 .f32)
  (v23 : BitVec 32) (v37 : BitVec 1) (v44 : BitVec 32)

theorem loop1_holds (x0 : Vec Ideal S1x1024x256 .bf16) (x1 : Vec Ideal S1x8192x256 .bf16)
    (x2 : Vec Ideal S1x8192x128 .bf16) {init : St Ideal}
    (h0 : Holds (scores x0 x1 (blkOf t)) (vals x2) 0 init) :
    ∀ n, n ≤ (k0_t1_loop (grid0.coords t)).trips →
      Holds (scores x0 x1 (blkOf t)) (vals x2) (2048 * n)
        (st_k0_t1 𝒱 c bd (grid0.coords t) arg2 harg2 arg3 harg3 arg4 harg4 arg5 harg5 (k0_pay52 x0) v19 v20 v21 v22
          v23 v37 (harg3.unread x1) (harg4.unread x2) init n) := by
  intro n
  induction n with
  | zero => intro _; exact h0
  | succ n ih =>
    intro hn
    have hb := blk_lt t
    have htr := trips1 t
    have e := st_k0_t1_succ 𝒱 c bd (grid0.coords t) arg2 harg2 arg3 harg3 arg4 harg4 arg5 harg5 (k0_pay52 x0) v19 v20
      v21 v22 v23 v37 (harg3.unread x1) (harg4.unread x2) init ⟨n, hn⟩
    rw [e, trip1_eq]
    have o1 : ∀ u : Fin 4, _ := off1 t ⟨n, hn⟩
    have o2 : ∀ u : Fin 4, _ := off2 t ⟨n, hn⟩
    have hK := fun u : Fin 4 => keysAt_ld x1 (k0_off1_inb (grid0.coords t) ⟨n, hn⟩ u) _ (o1 u)
      (by have := u.isLt; show 2048 * n + 512 * u.val + 512 ≤ 8192; omega)
    have hV := fun u : Fin 4 => valsAt_ld x2 (k0_off2_inb (grid0.coords t) ⟨n, hn⟩ u) _ (o2 u)
      (by have := u.isLt; show 2048 * n + 512 * u.val + 512 ≤ 8192; omega)
    have s0 := blockStep_holds (hK 0) (hV 0) (by show 2048 * n + 512 * 0 + 512 ≤ _; omega) (ih (by omega))
    have s1 := blockStep_holds (hK 1) (hV 1) (by show 2048 * n + 512 * 1 + 512 ≤ _; omega) s0
    have s2 := blockStep_holds (hK 2) (hV 2) (by show 2048 * n + 512 * 2 + 512 ≤ _; omega) s1
    have s3 := blockStep_holds (hK 3) (hV 3) (by show 2048 * n + 512 * 3 + 512 ≤ _; omega) s2
    exact s3

theorem loop3_holds (x0 : Vec Ideal S1x1024x256 .bf16) (x1 : Vec Ideal S1x8192x256 .bf16)
    (x2 : Vec Ideal S1x8192x128 .bf16) {init : St Ideal}
    (h0 : Holds (scores x0 x1 (blkOf t)) (vals x2) (2048 * (blkOf t / 16)) init) :
    ∀ n, n ≤ (k0_t3_loop (grid0.coords t)).trips →
      Holds (scores x0 x1 (blkOf t)) (vals x2) (2048 * (blkOf t / 16) + 512 * n)
        (st_k0_t3 𝒱 c bd (grid0.coords t) arg2 harg2 arg3 harg3 arg4 harg4 arg5 harg5 (k0_pay52 x0) v19 v20 v21 v22
          v23 v37 (harg3.unread x1) (harg4.unread x2) init n) := by
  intro n
  induction n with
  | zero => intro _; exact h0
  | succ n ih =>
    intro hn
    have hb := blk_lt t
    have htr := trips3 t
    have e := st_k0_t3_succ 𝒱 c bd (grid0.coords t) arg2 harg2 arg3 harg3 arg4 harg4 arg5 harg5 (k0_pay52 x0) v19 v20
      v21 v22 v23 v37 (harg3.unread x1) (harg4.unread x2) init ⟨n, hn⟩
    rw [e, trip3_eq]
    exact blockStep_holds
      (keysAt_ld x1 _ _ (off5 t ⟨n, hn⟩) (by show 2048 * (blkOf t / 16) + 512 * n + 512 ≤ 8192; omega))
      (valsAt_ld x2 _ _ (off6 t ⟨n, hn⟩) (by show 2048 * (blkOf t / 16) + 512 * n + 512 ≤ 8192; omega))
      (by show 2048 * (blkOf t / 16) + 512 * n + 512 ≤ _; omega) (ih (by omega))

theorem loop2_none {H : St Ideal → Prop} (v2 : FVec Ideal S1024x256 .bf16) (x1 : Vec Ideal S1x8192x256 .bf16)
    (x2 : Vec Ideal S1x8192x128 .bf16) {init : St Ideal} (h : H init) :
    H (st_k0_t2 𝒱 c bd (grid0.coords t) arg2 harg2 arg3 harg3 arg4 harg4 arg5 harg5 v2 v19 v20 v21 v22
      v23 v37 v44 (harg3.unread x1) (harg4.unread x2) init (k0_t2_loop (grid0.coords t)).trips) := by
  rw [trips2]
  exact h

theorem loop4_none {H : St Ideal → Prop} (v2 : FVec Ideal S1024x256 .bf16) (x1 : Vec Ideal S1x8192x256 .bf16)
    (x2 : Vec Ideal S1x8192x128 .bf16) {init : St Ideal} (h : H init) :
    H (st_k0_t4 𝒱 c bd (grid0.coords t) arg2 harg2 arg3 harg3 arg4 harg4 arg5 harg5 v2 v19 v20 v21 v22
      v23 v37 (harg3.unread x1) (harg4.unread x2) init (k0_t4_loop (grid0.coords t)).trips) := by
  rw [trips4]
  exact h

/-- What the grid point writes at a row and a column. -/
theorem out_apply (x0 : Vec Ideal S1x1024x256 .bf16) (x1 : Vec Ideal S1x8192x256 .bf16)
    (x2 : Vec Ideal S1x8192x128 .bf16) (r : Fin 1024) (d : Fin 128) :
    out0_A_3 c (grid0.coords t) arg2 harg2 arg3 harg3 arg4 harg4 arg5 harg5 x0 x1 x2 (ix3 0 r d)
      = Ideal.div
          (num Ideal.exp2 (scores x0 x1 (blkOf t) r) (vals x2 d) (512 * (blkOf t / 4) + 512))
          (den Ideal.exp2 (scores x0 x1 (blkOf t) r) (512 * (blkOf t / 4) + 512)) := by
  have hb := blk_lt t
  frame_out
  refine last_step hb (keysAt_ld x1 _ _ (off9 t) (by omega)) (valsAt_ld x2 _ _ (off10 t) (by omega)) ?_ ?_ ?_ r d
  · clear hb; revert t; decide +kernel
  · clear hb; revert t; decide +kernel
  · refine loop4_none (H := Holds _ _ _) _ _ _ t _ _ _ _ _ _ _ _ _ _ _ _ _ _ _ _ _ ?_
    have e3 : 512 * (blkOf t / 4) = 2048 * (blkOf t / 16) + 512 * (k0_t3_loop (grid0.coords t)).trips := by
      rw [trips3]; omega
    have e1 : 2048 * (blkOf t / 16) = 2048 * (k0_t1_loop (grid0.coords t)).trips := by rw [trips1]
    rw [e3]
    refine loop3_holds _ _ _ t _ _ _ _ _ _ _ _ _ _ _ _ _ _ _ _ _ ?_ _ le_rfl
    refine loop2_none (H := Holds _ _ _) _ _ _ t _ _ _ _ _ _ _ _ _ _ _ _ _ _ _ _ _ _ ?_
    rw [e1]
    exact loop1_holds _ _ _ t _ _ _ _ _ _ _ _ _ _ _ _ _ _ _ _ _ (init_holds _ _) _ le_rfl

end Proof.Mla
-- ==== Proof.Mla.Array.lean ====
module

public import proofs.«01_k».proof.Proof.Mla.Loops
public import Idealize.ShloMosaic.Lib.Claim

/-!
The attention kernel's result array, from the arrays it is launched on.
-/

@[expose] public section

set_option maxRecDepth 16384

noncomputable section

namespace Proof.Mla

open Idealize.ShloMosaic Idealize.ShloMosaic.TcCoe Cert.KernelIdeal Cert.KernelIdeal.Gen Proof.Online

/-- The scores of query row `R` of prompt `b` against every key of the prompt. -/
def rowScore (q : Vec Ideal S4x65536x256 .bf16) (k : Vec Ideal S4x8192x256 .bf16) (b : Fin 4) (R : Fin 65536)
    (j : ℕ) : EReal :=
  if j ≤ R.val / 8 then
    (∑ c : Fin 256, q (ix3 b R c) * k (ix3 b ⟨j % 8192, Nat.mod_lt _ (by norm_num)⟩ c)) * (scale2 : EReal)
  else ⊥

/-- Column `d` of the values of prompt `b`, by key. -/
def colVal (v : Vec Ideal S4x8192x128 .bf16) (b : Fin 4) (d : Fin 128) (j : ℕ) : EReal :=
  v (ix3 b ⟨j % 8192, Nat.mod_lt _ (by norm_num)⟩ d)

/-- The attention of every query row over the keys up to the end of its block of 512. -/
def attnArr (q : Vec Ideal S4x65536x256 .bf16) (k : Vec Ideal S4x8192x256 .bf16) (v : Vec Ideal S4x8192x128 .bf16) :
    Vec Ideal S4x65536x128 .bf16 := fun y =>
  Ideal.div
    (num Ideal.exp2 (rowScore q k (y 0) (y 1)) (colVal v (y 0) (y 2)) (512 * ((y 1).val / 4096) + 512))
    (den Ideal.exp2 (rowScore q k (y 0) (y 1)) (512 * ((y 1).val / 4096) + 512))

variable (m : (ℓ : Loc nD τ sig) → Buf (Elt Ideal) ℓ)

theorem index0 : ∀ t : Fin grid0.N, win0_0.index t = ![((grid0.coords t) 0).val, ((grid0.coords t) 1).val, 0] := by
  decide +kernel
theorem index1 : ∀ t : Fin grid0.N, win0_1.index t = ![((grid0.coords t) 0).val, 0, 0] := by decide +kernel
theorem index2 : ∀ t : Fin grid0.N, win0_2.index t = ![((grid0.coords t) 0).val, 0, 0] := by decide +kernel
theorem index3 : ∀ t : Fin grid0.N, win0_3.index t = ![((grid0.coords t) 0).val, ((grid0.coords t) 1).val, 0] := by
  decide +kernel

/-- The query block of a grid point, in the array. -/
theorem iblk0_apply (c : Dev nD) (t : Fin grid0.N) (r : Fin 1024) (d : Fin 256) (b : Fin 4) (R : Fin 65536)
    (hb : b.val = ((grid0.coords t) 0).val) (hR : R.val = 1024 * blkOf t + r.val) :
    (iblk m c 0 t : Vec Ideal S1x1024x256 .bf16) (ix3 0 r d) = (V m c main_v3 : Vec Ideal S4x65536x256 .bf16) (ix3 b R d) := by
  refine congrArg (V m c main_v3 : Vec Ideal S4x65536x256 .bf16) (funext fun a => Fin.ext ?_)
  blk_simp [index0 t]
  fin_cases a
  · simp [ix3, hb]
  · simp [ix3, hR, blkOf]; omega
  · simp [ix3]

theorem iblk1_apply (c : Dev nD) (t : Fin grid0.N) (k : Fin 8192) (d : Fin 256) (b : Fin 4)
    (hb : b.val = ((grid0.coords t) 0).val) :
    (iblk m c 1 t : Vec Ideal S1x8192x256 .bf16) (ix3 0 k d) = (V m c main_v9 : Vec Ideal S4x8192x256 .bf16) (ix3 b k d) := by
  refine congrArg (V m c main_v9 : Vec Ideal S4x8192x256 .bf16) (funext fun a => Fin.ext ?_)
  blk_simp [index1 t]
  fin_cases a
  · simp [ix3, hb]
  · simp [ix3]
  · simp [ix3]

theorem iblk2_apply (c : Dev nD) (t : Fin grid0.N) (k : Fin 8192) (d : Fin 128) (b : Fin 4)
    (hb : b.val = ((grid0.coords t) 0).val) :
    (iblk m c 2 t : Vec Ideal S1x8192x128 .bf16) (ix3 0 k d) = (V m c main_v5 : Vec Ideal S4x8192x128 .bf16) (ix3 b k d) := by
  refine congrArg (V m c main_v5 : Vec Ideal S4x8192x128 .bf16) (funext fun a => Fin.ext ?_)
  blk_simp [index2 t]
  fin_cases a
  · simp [ix3, hb]
  · simp [ix3]
  · simp [ix3]

theorem final_at (c : Dev nD) (t : Fin grid0.N) (r : Fin 1024) (d : Fin 128) (b : Fin 4) (R : Fin 65536)
    (hb : b.val = ((grid0.coords t) 0).val) (hR : R.val = 1024 * blkOf t + r.val) :
    out0_A_3 (F := Ideal) c (grid0.coords t) (ms0_0 t) (hs0_0 t) (ms0_1 t) (hs0_1 t) (ms0_2 t) (hs0_2 t) (ms0_3 t) (hs0_3 t)
        (iblk m c 0 t) (iblk m c 1 t) (iblk m c 2 t) (ix3 0 r d)
      = attnArr (V m c main_v3) (V m c main_v9) (V m c main_v5) (ix3 b R d) := by
  have hr := r.isLt
  rw [out_apply]
  have es : scores (iblk m c 0 t) (iblk m c 1 t) (blkOf t) r
      = rowScore (V m c main_v3) (V m c main_v9) b R := by
    funext j
    have hq : 128 * blkOf t + r.val / 8 = R.val / 8 := by omega
    rw [scores, rowScore, raw, hq]
    simp only [iblk0_apply m c t r _ b R hb hR, iblk1_apply m c t _ _ b hb]
  have ev : vals (iblk m c 2 t) d = colVal (V m c main_v5) b d := by
    funext j
    rw [vals, colVal, iblk2_apply m c t _ _ b hb]
  have en : blkOf t / 4 = R.val / 4096 := by omega
  rw [es, ev, en]
  rfl

theorem final (c : Dev nD) : (dats m 0 c).arrAt 3 cfg0.N
    = attnArr (V m c main_v3) (V m c main_v9) (V m c main_v5) := by
  refine (dats m 0 c).arrAt_eq_of_covers 3 _ (by decide +kernel) fun t hf y => ?_
  blk_simp
  rw [after0_3]
  unfold outsAt0
  change S1x1024x128.Idx at y
  obtain ⟨r, d, rfl⟩ : ∃ (r : Fin 1024) (d : Fin 128), y = ix3 0 r d :=
    ⟨y 1, y 2, (eq_ix3 y).trans (by congr 1; exact Subsingleton.elim (α := Fin 1) _ _)⟩
  have h0 : ((grid0.coords t) 0).val < 4 := ((grid0.coords t) 0).isLt
  have h1 := blk_lt t
  have hr := r.isLt
  refine (final_at m c t r d ⟨((grid0.coords t) 0).val, h0⟩ ⟨1024 * blkOf t + r.val, by omega⟩ rfl rfl).trans ?_
  refine congrArg (attnArr _ _ _) (funext fun a => Fin.ext ?_)
  symm
  blk_simp [index3 t]
  fin_cases a
  · simp [ix3]
  · simp [ix3, blkOf]; omega
  · simp [ix3]

end Proof.Mla
-- ==== Proof.Mla.Entry.lean ====
module

public import proofs.«01_k».proof.Proof.Mla.Array
public import Idealize.ShloMosaic.Lib.StableHlo.ReadAt

/-!
The arrays that the attention kernel is launched on, from the program's arguments: the queries and the
keys are the latent and the rotary parts side by side, padded with zeros; the values are the latents.
-/

@[expose] public section

set_option maxRecDepth 16384

noncomputable section

namespace Proof.Mla

open Idealize.ShloMosaic Idealize.ShloMosaic.TcCoe Cert.KernelIdeal Cert.KernelIdeal.Gen Proof.Online

/-- The unscaled logit of query `q` of head `h` against key `j` in prompt `b`: the latent part and the rotary part. -/
def logit (a0 : Vec Ideal S32768x1024 .bf16) (a1 : Vec Ideal S32768x256 .bf16) (a2 : Vec Ideal S32768x128 .f32)
    (a3 : Vec Ideal S32768x32 .f32) (b : Fin 4) (q : Fin 8192) (h : Fin 8) (j : Fin 8192) : EReal :=
  (∑ x : Fin 128, a0 (ix2 ⟨b.val * 8192 + q.val, by omega⟩ ⟨h.val * 128 + x.val, by omega⟩) *
      a2 (ix2 ⟨b.val * 8192 + j.val, by omega⟩ x)) +
    ∑ x : Fin 32, a1 (ix2 ⟨b.val * 8192 + q.val, by omega⟩ ⟨h.val * 32 + x.val, by omega⟩) *
      a3 (ix2 ⟨b.val * 8192 + j.val, by omega⟩ x)

variable (m : (ℓ : Loc nD τ sig) → Buf (Elt Ideal) ℓ)

theorem queries_eq (c : Dev nD) :
    (V m c main_v3 : Vec Ideal S4x65536x256 .bf16) =
      concatenate S4x65536x256 2
        [⟨S4x65536x128, V m c main_v0⟩, ⟨S4x65536x32, V m c main_v1⟩, ⟨S4x65536x96, V m c main_v2⟩]
        concatenates_S4x65536x128_S4x65536x32_S4x65536x96_S4x65536x256_d2 := by
  rfl

theorem keys_eq (c : Dev nD) :
    (V m c main_v9 : Vec Ideal S4x8192x256 .bf16) =
      concatenate S4x8192x256 2
        [⟨S4x8192x128, V m c main_v5⟩, ⟨S4x8192x32, V m c main_v7⟩, ⟨S4x8192x96, V m c main_v8⟩]
        concatenates_S4x8192x128_S4x8192x32_S4x8192x96_S4x8192x256_d2 := by
  rfl

theorem latent_queries (c : Dev nD) (b : Fin 4) (R : Fin 65536) (x : Fin 128) :
    (V m c main_v0 : Vec Ideal S4x65536x128 .bf16) (ix3 b R x) =
      m (c, Proc.tc.devRef main_arg0)
        (ix2 ⟨b.val * 8192 + R.val / 8, by omega⟩ ⟨R.val % 8 * 128 + x.val, by omega⟩) := by
  entry_read
  pointwise

theorem rotary_queries (c : Dev nD) (b : Fin 4) (R : Fin 65536) (x : Fin 32) :
    (V m c main_v1 : Vec Ideal S4x65536x32 .bf16) (ix3 b R x) =
      m (c, Proc.tc.devRef main_arg1)
        (ix2 ⟨b.val * 8192 + R.val / 8, by omega⟩ ⟨R.val % 8 * 32 + x.val, by omega⟩) := by
  entry_read
  pointwise

theorem padding (c : Dev nD) (b : Fin 4) (R : Fin 65536) (x : Fin 96) :
    (V m c main_v2 : Vec Ideal S4x65536x96 .bf16) (ix3 b R x) = (0 : EReal) := by
  entry_read
  pointwise

theorem latents (c : Dev nD) (b : Fin 4) (j : Fin 8192) (x : Fin 128) :
    (V m c main_v5 : Vec Ideal S4x8192x128 .bf16) (ix3 b j x) =
      m (c, Proc.tc.devRef main_arg2) (ix2 ⟨b.val * 8192 + j.val, by omega⟩ x) := by
  entry_read
  pointwise

theorem rotary_keys (c : Dev nD) (b : Fin 4) (j : Fin 8192) (x : Fin 32) :
    (V m c main_v7 : Vec Ideal S4x8192x32 .bf16) (ix3 b j x) =
      m (c, Proc.tc.devRef main_arg3) (ix2 ⟨b.val * 8192 + j.val, by omega⟩ x) := by
  entry_read
  pointwise

/-- A scalar product over two parts side by side and zeros. -/
theorem cat_dot (q0 : Vec Ideal S4x65536x128 .bf16) (q1 : Vec Ideal S4x65536x32 .bf16)
    (q2 : Vec Ideal S4x65536x96 .bf16)
    (k0 : Vec Ideal S4x8192x128 .bf16) (k1 : Vec Ideal S4x8192x32 .bf16)
    (k2 : Vec Ideal S4x8192x96 .bf16)
    (hq : ∀ b R x, q2 (ix3 b R x) = (0 : EReal)) (b : Fin 4) (R : Fin 65536) (j : Fin 8192) :
    (∑ x : Fin 256,
      concatenate S4x65536x256 2 [⟨S4x65536x128, q0⟩, ⟨S4x65536x32, q1⟩, ⟨S4x65536x96, q2⟩]
        concatenates_S4x65536x128_S4x65536x32_S4x65536x96_S4x65536x256_d2 (ix3 b R x) *
      concatenate S4x8192x256 2 [⟨S4x8192x128, k0⟩, ⟨S4x8192x32, k1⟩, ⟨S4x8192x96, k2⟩]
        concatenates_S4x8192x128_S4x8192x32_S4x8192x96_S4x8192x256_d2 (ix3 b j x)) =
    (∑ x : Fin 128, q0 (ix3 b R x) * k0 (ix3 b j x)) +
      (∑ x : Fin 32, q1 (ix3 b R x) * k1 (ix3 b j x) : EReal) := by
  pointwise
  refine (Fin.sum_univ_add (a := 128) (b := 128) _).trans ?_
  refine congrArg₂ (· + ·) (Finset.sum_congr rfl fun x _ => ?_) ?_
  · simp [Fin.val_castAdd]
  · refine (Fin.sum_univ_add (a := 32) (b := 96) _).trans ?_
    refine Eq.trans (congrArg₂ (· + ·) (Finset.sum_congr rfl fun x _ => ?_)
      (Finset.sum_eq_zero fun x _ => ?_)) (add_zero _)
    · simp [Fin.val_castAdd, Fin.val_natAdd]
    · simp [Fin.val_natAdd, hq]

/-- The kernel's scores, from the program's arguments. -/
theorem rowScore_entry (c : Dev nD) (b : Fin 4) (R : Fin 65536) (j : ℕ) :
    rowScore (V m c main_v3) (V m c main_v9) b R j =
      if j ≤ R.val / 8 then
        logit (m (c, Proc.tc.devRef main_arg0)) (m (c, Proc.tc.devRef main_arg1))
          (m (c, Proc.tc.devRef main_arg2)) (m (c, Proc.tc.devRef main_arg3)) b ⟨R.val / 8, by omega⟩
          ⟨R.val % 8, by omega⟩ ⟨j % 8192, by omega⟩ * (scale2 : EReal)
      else ⊥ := by
  unfold rowScore logit
  rw [queries_eq, keys_eq, cat_dot _ _ _ _ _ _ (padding m c)]
  exact if_congr Iff.rfl (congrArg (· * (scale2 : EReal)) (congrArg₂ (· + ·)
    (Finset.sum_congr rfl fun x _ => congrArg₂ (· * ·) (latent_queries m c b R x) (latents m c b _ x))
    (Finset.sum_congr rfl fun x _ => congrArg₂ (· * ·) (rotary_queries m c b R x) (rotary_keys m c b _ x)))) rfl

/-- The kernel's values, from the program's arguments. -/
theorem colVal_entry (c : Dev nD) (b : Fin 4) (d : Fin 128) (j : ℕ) :
    colVal (V m c main_v5) b d j =
      m (c, Proc.tc.devRef main_arg2) (ix2 ⟨b.val * 8192 + j % 8192, by omega⟩ d) :=
  latents m c b ⟨j % 8192, by omega⟩ d

end Proof.Mla
-- ==== Proof.Mla.Ref.lean ====
module

public import proofs.«01_k».proof.Proof.Gen.ReferenceIdeal.Run
public import proofs.«01_k».proof.Proof.Consts
public import proofs.«01_k».proof.Proof.Online
public import Idealize.ShloMosaic.Lib.Pointwise
public import Idealize.ShloMosaic.Lib.WordCmp

/-!
The reference's result, element by element.
-/

@[expose] public section

set_option maxRecDepth 16384

noncomputable section

namespace Proof.Mla.Ref

open Idealize.ShloMosaic Idealize.ShloMosaic.TcCoe Cert.ReferenceIdeal Cert.ReferenceIdeal.Gen

/-- The masked, scaled scores. -/
def scores (a0 : FVec Ideal S32768x1024 .bf16) (a1 : FVec Ideal S32768x256 .bf16) (a2 : FVec Ideal S32768x128 .f32)
    (a3 : FVec Ideal S32768x32 .f32) : FVec Ideal S4x8x8192x8192 .f32 :=
  select (broadcastInDim S4x8x8192x8192 ![2, 3] bcast_S8192x8192_S4x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (Host.divf (addf
      (transpose S4x8x8192x8192 [0, 3, 2, 1] (Host.dotGeneral dot_S4x8192x128_S4x8192x8x128_S4x8192x8192x8_2_3_1_12_0_0 none (shapeCast _ a2 shapeCasts_S32768x128_S4x8192x128) (shapeCast _ (extf .f32 a0 bitsLt_bf16_f32) shapeCasts_S32768x1024_S4x8192x8x128)) transposes_S4x8192x8192x8_S4x8x8192x8192_0_3_2_1)
      (transpose S4x8x8192x8192 [0, 3, 2, 1] (Host.dotGeneral dot_S4x8192x32_S4x8192x8x32_S4x8192x8192x8_2_3_1_12_0_0 none (shapeCast _ a3 shapeCasts_S32768x32_S4x8192x32) (shapeCast _ (extf .f32 a1 bitsLt_bf16_f32) shapeCasts_S32768x256_S4x8192x8x32)) transposes_S4x8192x8192x8_S4x8x8192x8192_0_3_2_1))
      (broadcastInDim S4x8x8192x8192 ![] bcast_S_S4x8x8192x8192 (Host.sqrt (constant S_ .f32 0x42C00000#32))))
    (broadcastInDim S4x8x8192x8192 ![] bcast_S_S4x8x8192x8192 (id (constant S_ .f32 0xFF800000#32)))

/-- The exponentials of scores less the row's maximum. -/
def weights (s : FVec Ideal S4x8x8192x8192 .f32) : FVec Ideal S4x8x8192x8192 .f32 :=
  Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 (maximumf (broadcastInDim S4x8x8192 ![] bcast_S_S4x8x8192 (constant S_ .f32 0xFF800000#32)) (Host.reduce FloatOps.maximumf s (constant S_ .f32 0xFF800000#32) reducesTo_S4x8x8192x8192_S4x8x8192_d3 h_S_)))))

/-- The average of the values by weights. -/
def average (a2 : FVec Ideal S32768x128 .f32) (e : FVec Ideal S4x8x8192x8192 .f32) : FVec Ideal S4x65536x128 .bf16 :=
  truncf .bf16 (shapeCast _ (transpose S4x8192x8x128 [0, 3, 2, 1] (Host.dotGeneral dot_S4x8192x128_S4x8x8192x8192_S4x128x8x8192_1_3_2_12_0_0 none (shapeCast _ a2 shapeCasts_S32768x128_S4x8192x128) (Host.divf e (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd e (constant S_ .f32 0x00000000#32) reducesTo_S4x8x8192x8192_S4x8x8192_d3 h_S_))))) transposes_S4x128x8x8192_S4x8192x8x128_0_3_2_1) shapeCasts_S4x8192x8x128_S4x65536x128) bitsLt_bf16_f32

theorem res_eq (m : (ℓ : Loc nD τ sig) → Buf (Elt Ideal) ℓ) (c : Dev nD) :
    Cert.ReferenceIdeal.Value.res_out0 m c =
      average (m ((c.tc : Thread nD τ).loc main_arg2)) (weights (scores (m ((c.tc : Thread nD τ).loc main_arg0))
        (m ((c.tc : Thread nD τ).loc main_arg1)) (m ((c.tc : Thread nD τ).loc main_arg2))
        (m ((c.tc : Thread nD τ).loc main_arg3)))) := by
  rfl

theorem average_apply (a2 : FVec Ideal S32768x128 .f32) (e : FVec Ideal S4x8x8192x8192 .f32) (b : Fin 4)
    (R : Fin 65536) (d : Fin 128) :
    average a2 e (ix3 b R d) =
      ∑ x : Fin 8192, a2 (ix2 ⟨b.val * 8192 + x.val, by omega⟩ d) *
        Ideal.div (e (ix4 b ⟨R.val % 8, by omega⟩ ⟨R.val / 8, by omega⟩ x))
          (∑ y : Fin 8192, e (ix4 b ⟨R.val % 8, by omega⟩ ⟨R.val / 8, by omega⟩ y)) := by
  pointwise [average]

theorem max_apply (s : FVec Ideal S4x8x8192x8192 .f32) (b : Fin 4) (h : Fin 8) (q : Fin 8192) :
    Host.reduce FloatOps.maximumf s (constant S_ .f32 0xFF800000#32) reducesTo_S4x8x8192x8192_S4x8x8192_d3 h_S_
        (ix3 b h q) =
      Finset.univ.fold max (Ideal.ofBits .f32 0xFF800000#32) fun x : Fin 8192 => s (ix4 b h q x) := by
  pointwise

theorem exp_apply (s : FVec Ideal S4x8x8192x8192 .f32) (M : FVec Ideal S4x8x8192 .f32) (b : Fin 4) (h : Fin 8)
    (q j : Fin 8192) :
    Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 (maximumf (broadcastInDim S4x8x8192 ![] bcast_S_S4x8x8192 (constant S_ .f32 0xFF800000#32)) M)))) (ix4 b h q j) =
      Ideal.exp (s (ix4 b h q j) - max (Ideal.ofBits .f32 0xFF800000#32) (M (ix3 b h q))) := by
  pointwise

theorem weights_apply (s : FVec Ideal S4x8x8192x8192 .f32) (b : Fin 4) (h : Fin 8) (q j : Fin 8192) :
    weights s (ix4 b h q j) =
      Ideal.exp (s (ix4 b h q j) - Finset.univ.fold max ⊥ fun x : Fin 8192 => s (ix4 b h q x)) := by
  refine (exp_apply s _ b h q j).trans ?_
  rw [max_apply, Consts.neg_inf, max_eq_right bot_le]

theorem scores_apply (a0 : FVec Ideal S32768x1024 .bf16) (a1 : FVec Ideal S32768x256 .bf16)
    (a2 : FVec Ideal S32768x128 .f32) (a3 : FVec Ideal S32768x32 .f32) (b : Fin 4) (h : Fin 8) (q j : Fin 8192) :
    scores a0 a1 a2 a3 (ix4 b h q j) =
      if j.val ≤ q.val then
        Ideal.div
          ((∑ x : Fin 128, a2 (ix2 ⟨b.val * 8192 + j.val, by omega⟩ x) *
              a0 (ix2 ⟨b.val * 8192 + q.val, by omega⟩ ⟨h.val * 128 + x.val, by omega⟩)) +
            ∑ x : Fin 32, a3 (ix2 ⟨b.val * 8192 + j.val, by omega⟩ x) *
              a1 (ix2 ⟨b.val * 8192 + q.val, by omega⟩ ⟨h.val * 32 + x.val, by omega⟩))
          ((√96 : ℝ) : EReal)
      else ⊥ := by
  have hc : IntOp.cmpi .sle (BitVec.ofNat 32 j.val) (BitVec.ofNat 32 q.val) = 1#1 ↔ j.val ≤ q.val :=
    WordCmp.cmpi_sle_ofNat_eq_one_iff (by omega) (by omega)
  pointwise [scores]
  refine if_congr hc ?_ Consts.neg_inf
  rw [Consts.ninety_six, Ideal.sqrt_coe, if_neg (by norm_num)]

end Proof.Mla.Ref
-- ==== Proof.Mla.Final.lean ====
module

public import proofs.«01_k».proof.Proof.Mla.Entry
public import proofs.«01_k».proof.Proof.Mla.Ref

/-!
On finite arguments the kernel's quotient and the reference's average are one number: both are the sum
of the values weighted by the exponentials of the scores, divided by the sum of those exponentials. The
kernel's powers of two, with its scale, are the reference's exponentials; the keys that only the
reference visits have weight zero.
-/

@[expose] public section

set_option maxRecDepth 16384

noncomputable section

namespace Proof.Mla

open Idealize.ShloMosaic Cert.KernelIdeal Proof.Online Finset

variable {a0 : Vec Ideal S32768x1024 .bf16} {a1 : Vec Ideal S32768x256 .bf16} {a2 : Vec Ideal S32768x128 .f32}
  {a3 : Vec Ideal S32768x32 .f32}

/-- A scalar product of finite vectors is finite. -/
theorem dot_real {n : ℕ} {f g : Fin n → EReal} (hf : ∀ x, ∃ r : ℝ, f x = r) (hg : ∀ x, ∃ r : ℝ, g x = r) :
    ∃ r : ℝ, ∑ x, f x * g x = (r : EReal) := by
  choose F hF using hf
  choose G hG using hg
  refine ⟨∑ x, F x * G x, ?_⟩
  rw [coe_sum]
  exact sum_congr rfl fun x _ => by rw [hF, hG, EReal.coe_mul]

theorem logit_real (h0 : ∀ y, ∃ r : ℝ, a0 y = (r : EReal)) (h1 : ∀ y, ∃ r : ℝ, a1 y = (r : EReal))
    (h2 : ∀ y, ∃ r : ℝ, a2 y = (r : EReal)) (h3 : ∀ y, ∃ r : ℝ, a3 y = (r : EReal)) (b : Fin 4) (q : Fin 8192)
    (h : Fin 8) (j : Fin 8192) : ∃ r : ℝ, logit a0 a1 a2 a3 b q h j = (r : EReal) := by
  obtain ⟨r, hr⟩ := dot_real (fun x : Fin 128 => h0 (ix2 ⟨b.val * 8192 + q.val, by omega⟩ ⟨h.val * 128 + x.val, by omega⟩))
    (fun x => h2 (ix2 ⟨b.val * 8192 + j.val, by omega⟩ x))
  obtain ⟨s, hs⟩ := dot_real (fun x : Fin 32 => h1 (ix2 ⟨b.val * 8192 + q.val, by omega⟩ ⟨h.val * 32 + x.val, by omega⟩))
    (fun x => h3 (ix2 ⟨b.val * 8192 + j.val, by omega⟩ x))
  exact ⟨r + s, by rw [EReal.coe_add, ← hr, ← hs]; rfl⟩

/-- The reference's scores, by the same logits. -/
theorem scores_logit (b : Fin 4) (h : Fin 8) (q j : Fin 8192) :
    Ref.scores a0 a1 a2 a3 (ix4 b h q j) =
      if j.val ≤ q.val then Ideal.div (logit a0 a1 a2 a3 b q h j) ((√96 : ℝ) : EReal) else ⊥ := by
  rw [Ref.scores_apply]
  refine if_congr Iff.rfl (congrArg (Ideal.div · _) ?_) rfl
  exact congrArg₂ (· + ·) (sum_congr rfl fun x _ => mul_comm _ _) (sum_congr rfl fun x _ => mul_comm _ _)

theorem attn_eq (h0 : ∀ y, ∃ r : ℝ, a0 y = (r : EReal)) (h1 : ∀ y, ∃ r : ℝ, a1 y = (r : EReal))
    (h2 : ∀ y, ∃ r : ℝ, a2 y = (r : EReal)) (h3 : ∀ y, ∃ r : ℝ, a3 y = (r : EReal)) (b : Fin 4)
    (R : Fin 65536) (d : Fin 128) (s v : ℕ → EReal)
    (hs : ∀ j, s j = if j ≤ R.val / 8 then
      logit a0 a1 a2 a3 b ⟨R.val / 8, by omega⟩ ⟨R.val % 8, by omega⟩ ⟨j % 8192, by omega⟩ * (scale2 : EReal) else ⊥)
    (hv : ∀ j, v j = a2 (ix2 ⟨b.val * 8192 + j % 8192, by omega⟩ d)) :
    Ideal.div (num Ideal.exp2 s v (512 * (R.val / 4096) + 512)) (den Ideal.exp2 s (512 * (R.val / 4096) + 512)) =
      Ref.average a2 (Ref.weights (Ref.scores a0 a1 a2 a3)) (ix3 b R d) := by
  choose A2 hA2 using h2
  choose L hL using fun j : Fin 8192 =>
    logit_real h0 h1 (fun y => ⟨_, hA2 y⟩) h3 b ⟨R.val / 8, by omega⟩ ⟨R.val % 8, by omega⟩ j
  have h96 : (√96 : ℝ) ≠ 0 := by positivity
  set w : ℕ → ℝ := fun j => if j ≤ R.val / 8 then Real.exp (L ⟨j % 8192, by omega⟩ * (√96)⁻¹) else 0 with hw
  set c : ℕ → ℝ := fun j => A2 (ix2 ⟨b.val * 8192 + j % 8192, by omega⟩ d) with hc
  set s' : ℕ → EReal := fun j => if j ≤ R.val / 8 then ((L ⟨j % 8192, by omega⟩ * (√96)⁻¹ : ℝ) : EReal) else ⊥
    with hs'
  have hsr : ∀ j, s j = if j ≤ R.val / 8 then ((L ⟨j % 8192, by omega⟩ * scale2 : ℝ) : EReal) else ⊥ := fun j => by
    rw [hs, hL, EReal.coe_mul]
  have kern := ratio expLike_exp2 (s := s) (v := v) (w := w) (c := c) (n := 512 * (R.val / 4096) + 512)
    (fun j _ => by rw [hsr]; split_ifs; exacts [EReal.coe_ne_top _, bot_ne_top])
    ⟨0, by omega, by rw [hsr, if_pos (Nat.zero_le _)]; exact EReal.coe_ne_bot _⟩
    (fun j _ => by
      rw [hsr, hw]
      split_ifs with hj
      · refine (expLike_exp2.coe _).trans ?_
        rw [scale2, ← mul_assoc, exp2_scaled]
        simp [hj]
      · simp [hj, expLike_exp2.bot])
    (fun j _ => by rw [hv, hA2])
  have refr := softmax_average expLike_exp (s := s') (v := v) (w := w) (c := c) (n := 8192)
    (fun j _ => by rw [hs']; dsimp only; split_ifs; exacts [EReal.coe_ne_top _, bot_ne_top])
    ⟨0, by omega, by rw [hs']; dsimp only; rw [if_pos (Nat.zero_le _)]; exact EReal.coe_ne_bot _⟩
    (fun j _ => by
      rw [hs', hw]
      dsimp only
      split_ifs with hj
      · exact expLike_exp.coe _
      · exact expLike_exp.bot)
    (fun j _ => by rw [hv, hA2])
  have hsc : ∀ j : Fin 8192, Ref.scores a0 a1 a2 a3
      (ix4 b ⟨R.val % 8, by omega⟩ ⟨R.val / 8, by omega⟩ j) = s' j.val := fun j => by
    rw [scores_logit, hL, Ideal.div_coe h96, hs']
    dsimp only
    refine if_congr Iff.rfl ?_ rfl
    rw [one_div, EReal.coe_mul]
    congr 4
    exact (Fin.ext (Nat.mod_eq_of_lt j.isLt)).symm
  have hwt : ∀ j : Fin 8192, Ref.weights (Ref.scores a0 a1 a2 a3)
      (ix4 b ⟨R.val % 8, by omega⟩ ⟨R.val / 8, by omega⟩ j) = Ideal.exp (s' j.val - mx s' 8192) := fun j => by
    rw [Ref.weights_apply, hsc, ← fold_max_fin]
    congr 2
    exact congrArg (Finset.univ.fold max ⊥) (funext hsc)
  rw [kern, Ref.average_apply]
  refine Eq.trans ?_ (Eq.trans refr.symm (sum_congr rfl fun j _ => ?_))
  · rw [sum_range_tail (fun j => w j * c j) (N := 8192) (by omega), sum_range_tail w (N := 8192) (by omega)]
    · intro j hj _
      rw [hw]
      exact if_neg (by omega)
    · intro j hj _
      rw [hw]
      dsimp only
      rw [if_neg (by omega), zero_mul]
  · have hj : a2 (ix2 ⟨b.val * 8192 + j.val, by omega⟩ d) = v j.val := by
      rw [hv]
      exact congrArg (fun k => a2 (ix2 k d)) (Fin.ext (congrArg (b.val * 8192 + ·) (Nat.mod_eq_of_lt j.isLt).symm))
    rw [hj, hwt]
    simp only [hwt]

end Proof.Mla
-- ==== Proof.Ffn.Row.lean ====
module

public import Idealize.ShloMosaic.Lib.Pointwise

/-!
One row of the feed-forward layer: the normalisation, the two halves of the projection upwards, the causal
convolution of three taps, the gated activation, the projection downwards, and the per-layer embedding with
its gate. Every function is of extended reals; a row is a function of its column.
-/

@[expose] public section

noncomputable section

namespace Proof.Ffn

open Idealize.ShloMosaic

/-- The row `x`, divided by the root of its mean square (with the layer's small constant under the root) and
scaled by `g`. -/
def rms (x g : Fin 1024 → EReal) (c : Fin 1024) : EReal :=
  x c * Ideal.rsqrt (Ideal.div (∑ j, x j * x j) (Ideal.ofBits .f32 0x44800000#32) +
    Ideal.ofBits .f32 0x358637BD#32) * g c

/-- The row's product with the weights upwards. -/
def up (x g : Fin 1024 → EReal) (w : Fin 1024 → Fin 5632 → EReal) (d : Fin 5632) : EReal :=
  ∑ c, rms x g c * w c d

/-- The first half of the columns: what is convolved. -/
def upA (x g : Fin 1024 → EReal) (w : Fin 1024 → Fin 5632 → EReal) (d : Fin 2816) : EReal :=
  up x g w ⟨d.val, by omega⟩

/-- The second half of the columns: what multiplies the activation. -/
def upB (x g : Fin 1024 → EReal) (w : Fin 1024 → Fin 5632 → EReal) (d : Fin 2816) : EReal :=
  up x g w ⟨2816 + d.val, by omega⟩

/-- The convolution at a row: `a` is the row's own value, `a1` and `a2` those of the rows one and two before. -/
def conv (bias : EReal) (w : Fin 3 → EReal) (a a1 a2 : EReal) : EReal :=
  bias + w 2 * a + w 1 * a1 + w 0 * a2

/-- The activation (the form with the hyperbolic tangent). -/
def gelu (v : EReal) : EReal :=
  v * (Ideal.ofBits .f32 0x3F000000#32 *
    (1 + Ideal.tanh (Ideal.ofBits .f32 0x3F4C422A#32 *
      (v + Ideal.ofBits .f32 0x3D372713#32 * (v * (v * v))))))

/-- The row after the feed-forward part: `u` is the convolution's row, `b` the multiplying half. -/
def mid (x : Fin 1024 → EReal) (b u : Fin 2816 → EReal) (w : Fin 2816 → Fin 1024 → EReal) (d : Fin 1024) : EReal :=
  x d + ∑ j, gelu (u j) * b j * w j d

/-- The logistic function. -/
def gate (z : EReal) : EReal := Ideal.div 1 (1 + Ideal.exp (-z))

/-- The row `h` and the gated per-layer embedding: `n` is the gate's normalised row, `p` the embedding's. -/
def embed (h n : Fin 1024 → EReal) (w : Fin 1024 → Fin 1024 → EReal) (b : Fin 1024 → EReal) (p : Fin 256 → EReal)
    (v : Fin 256 → Fin 1024 → EReal) (d : Fin 1024) : EReal :=
  h d + gate (∑ c, n c * w c d + b d) * ∑ e, p e * v e d

/-- The layer's weights. -/
structure Weights where
  normFfn : Fin 1024 → EReal
  up : Fin 1024 → Fin 5632 → EReal
  conv : Fin 3 → Fin 2816 → EReal
  convBias : Fin 2816 → EReal
  down : Fin 2816 → Fin 1024 → EReal
  normPle : Fin 1024 → EReal
  gate : Fin 1024 → Fin 1024 → EReal
  gateBias : Fin 1024 → EReal
  ple : Fin 256 → Fin 1024 → EReal
  normOut : Fin 1024 → EReal

/-- The convolved half of row `x`. -/
def Weights.a (W : Weights) (x : Fin 1024 → EReal) : Fin 2816 → EReal := upA x W.normFfn W.up

/-- The row after the feed-forward part, `a1` and `a2` being the convolved half of the two rows before it. -/
def Weights.mid (W : Weights) (x : Fin 1024 → EReal) (a1 a2 : Fin 2816 → EReal) : Fin 1024 → EReal :=
  Ffn.mid x (upB x W.normFfn W.up)
    (fun j => Ffn.conv (W.convBias j) (fun k => W.conv k j) (W.a x j) (a1 j) (a2 j)) W.down

/-- The layer's row, with the last normalisation. -/
def Weights.row (W : Weights) (x : Fin 1024 → EReal) (p : Fin 256 → EReal) (a1 a2 : Fin 2816 → EReal) :
    Fin 1024 → EReal :=
  rms (embed (W.mid x a1 a2) (rms (W.mid x a1 a2) W.normPle) W.gate W.gateBias p W.ple) W.normOut

/-- Row `r` of a matrix. -/
abbrev rowOf {m n : ℕ} {φ : FTy} (x : FVec Ideal ⟨2, ![m, n]⟩ φ) (r : Fin m) : Fin n → EReal := fun d => x (ix2 r d)

/-- The layer's weights, from the arrays that hold them. -/
def argWeights (a3 : FVec Ideal ⟨1, ![1024]⟩ .f32) (a4 : FVec Ideal ⟨2, ![1024, 5632]⟩ .f32)
    (a5 : FVec Ideal ⟨2, ![3, 2816]⟩ .f32) (a6 : FVec Ideal ⟨1, ![2816]⟩ .f32)
    (a7 : FVec Ideal ⟨2, ![2816, 1024]⟩ .f32) (a8 : FVec Ideal ⟨1, ![1024]⟩ .f32)
    (a9 : FVec Ideal ⟨2, ![1024, 1024]⟩ .f32) (a10 : FVec Ideal ⟨1, ![1024]⟩ .f32)
    (a11 : FVec Ideal ⟨2, ![256, 1024]⟩ .f32) (a12 : FVec Ideal ⟨1, ![1024]⟩ .f32) : Weights where
  normFfn := fun d => a3 (ix1 d)
  up := rowOf a4
  conv := rowOf a5
  convBias := fun d => a6 (ix1 d)
  down := rowOf a7
  normPle := fun d => a8 (ix1 d)
  gate := rowOf a9
  gateBias := fun d => a10 (ix1 d)
  ple := rowOf a11
  normOut := fun d => a12 (ix1 d)

/-- The convolved half, `k` positions before position `q` of prompt `b`: a position before the prompt's first is
taken from the two rows that the layer is given. -/
def past (W : Weights) (h : FVec Ideal ⟨2, ![32768, 1024]⟩ .f32) (buf : FVec Ideal ⟨3, ![4, 2, 2816]⟩ .f32) (k : ℕ)
    (hk : k ≤ 2) (b : Fin 4) (q : Fin 8192) (d : Fin 2816) : EReal :=
  if H : k ≤ q.val then W.a (rowOf h ⟨8192 * b.val + q.val - k, by omega⟩) d
  else buf (ix3 b ⟨q.val + 2 - k, by omega⟩ d)

/-- The layer at position `q` of prompt `b`. -/
def outRow (W : Weights) (h : FVec Ideal ⟨2, ![32768, 1024]⟩ .f32) (p : FVec Ideal ⟨2, ![32768, 256]⟩ .f32)
    (buf : FVec Ideal ⟨3, ![4, 2, 2816]⟩ .f32) (b : Fin 4) (q : Fin 8192) : Fin 1024 → EReal :=
  W.row (rowOf h ⟨8192 * b.val + q.val, by omega⟩) (rowOf p ⟨8192 * b.val + q.val, by omega⟩)
    (past W h buf 1 (by omega) b q) (past W h buf 2 le_rfl b q)

/-- The layer's rows, prompt after prompt. -/
def layerOut (W : Weights) (h : FVec Ideal ⟨2, ![32768, 1024]⟩ .f32) (p : FVec Ideal ⟨2, ![32768, 256]⟩ .f32)
    (buf : FVec Ideal ⟨3, ![4, 2, 2816]⟩ .f32) : FVec Ideal ⟨2, ![32768, 1024]⟩ .f32 := fun y =>
  outRow W h p buf ⟨(y 0).val / 8192, Nat.div_lt_of_lt_mul (y 0).isLt⟩ ⟨(y 0).val % 8192, Nat.mod_lt _ (by norm_num)⟩ (y 1)

/-- The convolved half at the last two positions of every prompt. -/
def layerTail (W : Weights) (h : FVec Ideal ⟨2, ![32768, 1024]⟩ .f32) : FVec Ideal ⟨3, ![4, 2, 2816]⟩ .f32 := fun y =>
  W.a (rowOf h ⟨8192 * (y 0).val + 8190 + (y 1).val, by
    have h0 : (y 0).val < 4 := (y 0).isLt
    have h1 : (y 1).val < 2 := (y 1).isLt
    omega⟩) (y 2)

end Proof.Ffn

end
-- ==== Proof.Ffn.Point.lean ====
module

public import proofs.«01_k».proof.Proof.Gen.Kernel2Ideal.Value
public import proofs.«01_k».proof.Proof.Ffn.Row
public import Idealize.ShloMosaic.Lib.Pointwise
public import Idealize.ShloMosaic.Lib.WordCmp
public import Idealize.ShloMosaic.Lib.Pipeline.ValueKit

/-!
What one grid point of the feed-forward kernel computes from its blocks, row by row: the point's 256 rows,
the two rows of the convolved half that it starts from, and the weights.
-/

@[expose] public section

set_option maxRecDepth 16384

noncomputable section

namespace Proof.Ffn

open Idealize.ShloMosaic Cert.Kernel2Ideal Cert.Kernel2Ideal.Gen

theorem up_apply (x : Vec Ideal S256x1024 .f32) (g : Vec Ideal S1x1024 .f32) (w : Vec Ideal S1024x5632 .bf16)
    (r : Fin 256) (d : Fin 5632) :
    k0_pay2 (F := Ideal) x g w (ix2 r d) = up (rowOf (φ := .f32) x r) (rowOf (φ := .f32) g 0) (rowOf (φ := .bf16) w) d := by
  pointwise [k0_pay2]
  rfl

theorem upA_apply (x : Vec Ideal S256x1024 .f32) (g : Vec Ideal S1x1024 .f32) (w : Vec Ideal S1024x5632 .bf16)
    (r : Fin 256) (d : Fin 2816) :
    k0_pay3 (F := Ideal) x g w (ix2 r d) = upA (rowOf (φ := .f32) x r) (rowOf (φ := .f32) g 0) (rowOf (φ := .bf16) w) d := by
  pointwise [k0_pay3]
  exact up_apply x g w r _

theorem upB_apply (x : Vec Ideal S256x1024 .f32) (g : Vec Ideal S1x1024 .f32) (w : Vec Ideal S1024x5632 .bf16)
    (r : Fin 256) (d : Fin 2816) :
    k0_pay4 (F := Ideal) x g w (ix2 r d) = upB (rowOf (φ := .f32) x r) (rowOf (φ := .f32) g 0) (rowOf (φ := .bf16) w) d := by
  pointwise [k0_pay4]
  exact up_apply x g w r _

/-- The convolved half, `k` rows before row `r` of the block: rows before the block's first are the two carried ones. -/
def before (s : Vec Ideal S2x2816 .f32) (a : FVec Ideal S256x2816 .f32) (k : ℕ) (hk : k ≤ 2) (r : Fin 256)
    (d : Fin 2816) : EReal :=
  if h : k ≤ r.val then a (ix2 ⟨r.val - k, by omega⟩ d) else s (ix2 ⟨r.val + 2 - k, by omega⟩ d)

theorem select_word (r : Fin 256) (k : ℕ) (hk : k < 256) (x y : EReal) :
    Scalar.select (IntOp.cmpi .eq (BitVec.ofNat 32 r.val) (BitVec.ofNat 32 k)) x y = if r.val = k then x else y :=
  if_congr (WordCmp.cmpi_eq_ofNat_eq_one_iff (by omega) (by omega)) rfl rfl

theorem pick_one (s : Vec Ideal S2x2816 .f32) (a : FVec Ideal S256x2816 .f32) (r : Fin 256) (d : Fin 2816)
    (q : Fin 256) (hq : q.val = (r.val + 256 - 1) % 256) :
    (if r.val = 0 then s (ix2 1 d) else a (ix2 q d)) = before s a 1 (by omega) r d := by
  have hr := r.isLt
  unfold before
  by_cases h : r.val = 0
  · rw [if_pos h, dif_neg (by omega)]
    exact congrArg s (congrArg₂ ix2 (Fin.ext (by simp; omega)) rfl)
  · rw [if_neg h, dif_pos (by omega)]
    exact congrArg a (congrArg₂ ix2 (Fin.ext (by simp; omega)) rfl)

theorem pick_two (s : Vec Ideal S2x2816 .f32) (a : FVec Ideal S256x2816 .f32) (r : Fin 256) (d : Fin 2816)
    (q : Fin 256) (hq : q.val = (r.val + 256 - 2) % 256) :
    (if r.val = 1 then s (ix2 1 d) else if r.val = 0 then s (ix2 0 d) else a (ix2 q d)) = before s a 2 le_rfl r d := by
  have hr := r.isLt
  unfold before
  by_cases h : r.val = 1
  · rw [if_pos h, dif_neg (by omega)]
    exact congrArg s (congrArg₂ ix2 (Fin.ext (by simp; omega)) rfl)
  · rw [if_neg h]
    by_cases h : r.val = 0
    · rw [if_pos h, dif_neg (by omega)]
      exact congrArg s (congrArg₂ ix2 (Fin.ext (by simp; omega)) rfl)
    · rw [if_neg h, dif_pos (by omega)]
      exact congrArg a (congrArg₂ ix2 (Fin.ext (by simp; omega)) rfl)

theorem conv_apply (a : FVec Ideal S256x2816 .f32) (s : Vec Ideal S2x2816 .f32) (b w2 w1 w0 : Vec Ideal S1x2816 .f32)
    (r : Fin 256) (d : Fin 2816) :
    k0_pay6 (F := Ideal) a s b w2 w1 w0 (ix2 r d) =
      b (ix2 0 d) + w2 (ix2 0 d) * a (ix2 r d) + w1 (ix2 0 d) * before s a 1 (by omega) r d +
        w0 (ix2 0 d) * before s a 2 le_rfl r d := by
  pointwise [k0_pay6]
  exact congrArg₂ (· + ·)
    (congrArg₂ (· + ·) rfl (congrArg₂ (· * ·) rfl
      ((select_word r 0 (by omega) _ _).trans (pick_one s a r d _ rfl))))
    (congrArg₂ (· * ·) rfl
      (((select_word r 1 (by omega) _ _).trans
        (if_congr Iff.rfl rfl (select_word r 0 (by omega) _ _))).trans (pick_two s a r d _ rfl)))

theorem mid_apply (x : Vec Ideal S256x1024 .f32) (b u : FVec Ideal S256x2816 .f32) (w : Vec Ideal S2816x1024 .bf16)
    (r : Fin 256) (d : Fin 1024) :
    k0_pay10 (F := Ideal) x b u w (ix2 r d) = mid (rowOf (φ := .f32) x r) (rowOf b r) (rowOf u r) (rowOf (φ := .bf16) w) d := by
  pointwise [k0_pay10]
  rfl

theorem norm_apply (x : Vec Ideal S256x1024 .f32) (b u : FVec Ideal S256x2816 .f32) (w : Vec Ideal S2816x1024 .bf16)
    (g : Vec Ideal S1x1024 .f32) (r : Fin 256) (d : Fin 1024) :
    k0_pay11 (F := Ideal) x b u w g (ix2 r d) = rms (rowOf (k0_pay10 x b u w) r) (rowOf (φ := .f32) g 0) d := by
  pointwise [k0_pay11]
  rfl

theorem last_apply (h : FVec Ideal S256x1024 .f32) (n : FVec Ideal S256x1024 .bf16) (w : FVec Ideal S1024x1024 .bf16)
    (b : Vec Ideal S1x1024 .f32) (p : Vec Ideal S256x256 .f32) (v : Vec Ideal S256x1024 .bf16)
    (g : Vec Ideal S1x1024 .f32) (r : Fin 256) (d : Fin 1024) :
    k0_pay1 (F := Ideal) h n w b p v g (ix2 r d) =
      rms (embed (rowOf h r) (rowOf n r) (rowOf w) (rowOf (φ := .f32) b 0) (rowOf (φ := .f32) p r)
        (rowOf (φ := .bf16) v)) (rowOf (φ := .f32) g 0) d := by
  pointwise [k0_pay1]
  simp only [rms, embed, gate, zero_sub]

theorem gateWeights_eq (w : Vec Ideal S1024x1024 .bf16) : k0_pay12 (F := Ideal) w = w := by
  funext y
  obtain ⟨i, j, rfl⟩ : ∃ i j, y = ix2 i j := ⟨y 0, y 1, eq_ix2 y⟩
  pointwise [k0_pay12]

theorem carryIn_apply (x : Vec Ideal S1x2x2816 .f32) (k : Fin 2) (d : Fin 2816) :
    k0_pay5 (F := Ideal) x (ix2 k d) = x (ix3 0 k d) := by
  pointwise [k0_pay5]

theorem carryOut_apply (a : FVec Ideal S256x2816 .f32) (k : Fin 2) (d : Fin 2816) :
    k0_pay8 (F := Ideal) (k0_pay7 a) (ix2 k d) = a (ix2 ⟨254 + k.val, by omega⟩ d) := by
  pointwise [k0_pay8, k0_pay7]

theorem tail_apply (a : FVec Ideal S256x2816 .f32) (k : Fin 2) (d : Fin 2816) :
    k0_pay9 (F := Ideal) a (ix3 0 k d) = a (ix2 ⟨254 + k.val, by omega⟩ d) := by
  pointwise [k0_pay9]

/-- A row of the convolution's weights, loaded alone. -/
theorem ld_row (x : Vec Ideal S3x2816 .f32) (k : Fin 3) {off : Fin 2 → ℕ} (inb) (h : off = ![k.val, 0]) (d : Fin 2816) :
    View.ld x (Rect.unit (s := S3x2816) off ![1, 2816] inb) (ix2 0 d) = x (ix2 k d) := by
  subst h
  exact View.ld_unit_apply_of _ _ _ _ _ _ fun a => by fin_cases a <;> simp [ix2]

/-- The weights, from the blocks that hold them. -/
def blockWeights (x3 : Vec Ideal S1x1024 .f32) (x4 : Vec Ideal S1024x5632 .bf16) (x5 : Vec Ideal S3x2816 .f32)
    (x6 : Vec Ideal S1x2816 .f32) (x7 : Vec Ideal S2816x1024 .bf16) (x8 : Vec Ideal S1x1024 .f32)
    (x9 : Vec Ideal S1024x1024 .bf16) (x10 : Vec Ideal S1x1024 .f32) (x11 : Vec Ideal S256x1024 .bf16)
    (x12 : Vec Ideal S1x1024 .f32) : Weights where
  normFfn := rowOf (φ := .f32) x3 0
  up := rowOf (φ := .bf16) x4
  conv := rowOf (φ := .f32) x5
  convBias := rowOf (φ := .f32) x6 0
  down := rowOf (φ := .bf16) x7
  normPle := rowOf (φ := .f32) x8 0
  gate := rowOf (φ := .bf16) x9
  gateBias := rowOf (φ := .f32) x10 0
  ple := rowOf (φ := .bf16) x11
  normOut := rowOf (φ := .f32) x12 0

variable (c : Dev nD) (i : grid0.Coords)
  (arg1 : Memref sig .tc .vmem S256x1024 .f32) (harg1 : arg1.IsWhole) (arg2 : Memref sig .tc .vmem S256x256 .f32)
  (harg2 : arg2.IsWhole) (arg3 : Memref sig .tc .vmem S1x2x2816 .f32) (harg3 : arg3.IsWhole)
  (arg4 : Memref sig .tc .vmem S1x1024 .f32) (harg4 : arg4.IsWhole)
  (arg5 : Memref sig .tc .vmem S1024x5632 .bf16) (harg5 : arg5.IsWhole)
  (arg6 : Memref sig .tc .vmem S3x2816 .f32) (harg6 : arg6.IsWhole)
  (arg7 : Memref sig .tc .vmem S1x2816 .f32) (harg7 : arg7.IsWhole)
  (arg8 : Memref sig .tc .vmem S2816x1024 .bf16) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S256x1024 .bf16) (harg12 : arg12.IsWhole)
  (arg13 : Memref sig .tc .vmem S1x1024 .f32) (harg13 : arg13.IsWhole)
  (arg14 : Memref sig .tc .vmem S256x1024 .f32) (harg14 : arg14.IsWhole)
  (arg15 : Memref sig .tc .vmem S1x2x2816 .f32) (harg15 : arg15.IsWhole)
  (arg16 : Memref sig .tc .vmem S2x2816 .f32) (harg16 : arg16.IsWhole)
  (x0 : Vec Ideal S256x1024 .f32) (x1 : Vec Ideal S256x256 .f32) (x2 : Vec Ideal S1x2x2816 .f32)
  (x3 : Vec Ideal S1x1024 .f32) (x4 : Vec Ideal S1024x5632 .bf16) (x5 : Vec Ideal S3x2816 .f32)
  (x6 : Vec Ideal S1x2816 .f32) (x7 : Vec Ideal S2816x1024 .bf16) (x8 : Vec Ideal S1x1024 .f32)
  (x9 : Vec Ideal S1024x1024 .bf16) (x10 : Vec Ideal S1x1024 .f32) (x11 : Vec Ideal S256x1024 .bf16)
  (x12 : Vec Ideal S1x1024 .f32) (xs0 : Vec Ideal S2x2816 .f32)

/-- What the point writes, from its blocks and the two rows `s` carried into it. -/
theorem written (s : Vec Ideal S2x2816 .f32) (i2 i1 i0) (r : Fin 256) (d : Fin 1024) :
    k0_pay1 (F := Ideal)
      (k0_pay10 x0 (k0_pay4 x0 x3 x4)
        (k0_pay6 (k0_pay3 x0 x3 x4) s x6 (View.ld x5 (Rect.unit (s := S3x2816) ![2, 0] ![1, 2816] i2))
          (View.ld x5 (Rect.unit (s := S3x2816) ![1, 0] ![1, 2816] i1))
          (View.ld x5 (Rect.unit (s := S3x2816) ![0, 0] ![1, 2816] i0)))
        x7)
      (k0_pay11 x0 (k0_pay4 x0 x3 x4)
        (k0_pay6 (k0_pay3 x0 x3 x4) s x6 (View.ld x5 (Rect.unit (s := S3x2816) ![2, 0] ![1, 2816] i2))
          (View.ld x5 (Rect.unit (s := S3x2816) ![1, 0] ![1, 2816] i1))
          (View.ld x5 (Rect.unit (s := S3x2816) ![0, 0] ![1, 2816] i0)))
        x7 x8)
      (k0_pay12 x9) x10 x1 x11 x12 (ix2 r d) =
    (blockWeights x3 x4 x5 x6 x7 x8 x9 x10 x11 x12).row (rowOf (φ := .f32) x0 r) (rowOf (φ := .f32) x1 r)
      (before s (k0_pay3 (F := Ideal) x0 x3 x4) 1 (by omega) r) (before s (k0_pay3 (F := Ideal) x0 x3 x4) 2 le_rfl r) d := by
  generalize hu : k0_pay6 (F := Ideal) (k0_pay3 x0 x3 x4) s x6 _ _ _ = u
  have eu : rowOf u r = fun j => conv (x6 (ix2 0 j)) (fun k => x5 (ix2 k j))
      (upA (rowOf (φ := .f32) x0 r) (rowOf (φ := .f32) x3 0) (rowOf (φ := .bf16) x4) j)
      (before s (k0_pay3 (F := Ideal) x0 x3 x4) 1 (by omega) r j) (before s (k0_pay3 (F := Ideal) x0 x3 x4) 2 le_rfl r j) := by
    funext j
    subst hu
    refine (conv_apply _ _ _ _ _ _ r j).trans ?_
    have e2 : View.ld x5 (Rect.unit (s := S3x2816) ![2, 0] ![1, 2816] i2) (ix2 0 j) = x5 (ix2 2 j) :=
      ld_row x5 2 i2 rfl j
    have e1 : View.ld x5 (Rect.unit (s := S3x2816) ![1, 0] ![1, 2816] i1) (ix2 0 j) = x5 (ix2 1 j) :=
      ld_row x5 1 i1 rfl j
    have e0 : View.ld x5 (Rect.unit (s := S3x2816) ![0, 0] ![1, 2816] i0) (ix2 0 j) = x5 (ix2 0 j) :=
      ld_row x5 0 i0 rfl j
    rw [e2, e1, e0, upA_apply]
    rfl
  have eb : rowOf (k0_pay4 (F := Ideal) x0 x3 x4) r =
      upB (rowOf (φ := .f32) x0 r) (rowOf (φ := .f32) x3 0) (rowOf (φ := .bf16) x4) :=
    funext fun j => upB_apply x0 x3 x4 r j
  have em : rowOf (k0_pay10 (F := Ideal) x0 (k0_pay4 x0 x3 x4) u x7) r =
      (blockWeights x3 x4 x5 x6 x7 x8 x9 x10 x11 x12).mid (rowOf (φ := .f32) x0 r)
        (before s (k0_pay3 (F := Ideal) x0 x3 x4) 1 (by omega) r) (before s (k0_pay3 (F := Ideal) x0 x3 x4) 2 le_rfl r) := by
    funext j
    refine (mid_apply _ _ _ _ r j).trans ?_
    rw [eu, eb]
    rfl
  have en : rowOf (k0_pay11 (F := Ideal) x0 (k0_pay4 x0 x3 x4) u x7 x8) r =
      rms (rowOf (k0_pay10 (F := Ideal) x0 (k0_pay4 x0 x3 x4) u x7) r) (rowOf (φ := .f32) x8 0) :=
    funext fun j => norm_apply _ _ _ _ _ r j
  refine (last_apply _ _ _ _ _ _ _ r d).trans ?_
  rw [en, em, gateWeights_eq]
  rfl

theorem out_A hc0 (r : Fin 256) (d : Fin 1024) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 (ix2 r d) =
    (blockWeights x3 x4 x5 x6 x7 x8 x9 x10 x11 x12).row (rowOf (φ := .f32) x0 r) (rowOf (φ := .f32) x1 r)
      (before (k0_pay5 (F := Ideal) x2) (k0_pay3 (F := Ideal) x0 x3 x4) 1 (by omega) r)
      (before (k0_pay5 (F := Ideal) x2) (k0_pay3 (F := Ideal) x0 x3 x4) 2 le_rfl r) d := by
  frame_out
  exact written ..

theorem out_B hc0 (r : Fin 256) (d : Fin 1024) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0 (ix2 r d) =
    (blockWeights x3 x4 x5 x6 x7 x8 x9 x10 x11 x12).row (rowOf (φ := .f32) x0 r) (rowOf (φ := .f32) x1 r)
      (before xs0 (k0_pay3 (F := Ideal) x0 x3 x4) 1 (by omega) r)
      (before xs0 (k0_pay3 (F := Ideal) x0 x3 x4) 2 le_rfl r) d := by
  frame_out
  exact written ..

theorem tail_A hc0 (k : Fin 2) (d : Fin 2816) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 (ix3 0 k d) =
      upA (rowOf (φ := .f32) x0 ⟨254 + k.val, by omega⟩) (rowOf (φ := .f32) x3 0) (rowOf (φ := .bf16) x4) d := by
  frame_out
  exact (tail_apply _ k d).trans (upA_apply _ _ _ _ d)

theorem tail_B hc0 (k : Fin 2) (d : Fin 2816) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0 (ix3 0 k d) =
      upA (rowOf (φ := .f32) x0 ⟨254 + k.val, by omega⟩) (rowOf (φ := .f32) x3 0) (rowOf (φ := .bf16) x4) d := by
  frame_out
  exact (tail_apply _ k d).trans (upA_apply _ _ _ _ d)

theorem carry_A hc0 (k : Fin 2) (d : Fin 2816) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 (ix2 k d) =
      upA (rowOf (φ := .f32) x0 ⟨254 + k.val, by omega⟩) (rowOf (φ := .f32) x3 0) (rowOf (φ := .bf16) x4) d := by
  frame_out
  exact (carryOut_apply _ k d).trans (upA_apply _ _ _ _ d)

theorem carry_B hc0 (k : Fin 2) (d : Fin 2816) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0 (ix2 k d) =
      upA (rowOf (φ := .f32) x0 ⟨254 + k.val, by omega⟩) (rowOf (φ := .f32) x3 0) (rowOf (φ := .bf16) x4) d := by
  frame_out
  exact (carryOut_apply _ k d).trans (upA_apply _ _ _ _ d)

end Proof.Ffn

end
-- ==== Proof.Ffn.Array.lean ====
module

public import proofs.«01_k».proof.Proof.Ffn.Point
public import Idealize.ShloMosaic.Lib.Claim
public import Idealize.ShloMosaic.Lib.StableHlo.ReadAt

/-!
The feed-forward kernel's two result arrays, from the program's arguments. The rows that a grid point carries to
the next one are the convolved half at its last two rows, whatever was carried into it.
-/

@[expose] public section

set_option maxRecDepth 16384

noncomputable section

namespace Proof.Ffn

open Idealize.ShloMosaic Idealize.ShloMosaic.TcCoe Cert.Kernel2Ideal Cert.Kernel2Ideal.Gen

variable (m : (ℓ : Loc nD τ sig) → Buf (Elt Ideal) ℓ)

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val / 32, 0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel

/-- The rows of a grid point. -/
theorem rows_apply (c : Dev nD) (t : Fin grid0.N) (r : Fin 256) (d : Fin 1024) (R : Fin 32768)
    (hR : R.val = 256 * t.val + r.val) :
    (iblk m c 0 t : Vec Ideal S256x1024 .f32) (ix2 r d) = m (c, Proc.tc.devRef main_arg0) (ix2 R d) := by
  refine congrArg (m (c, Proc.tc.devRef main_arg0)) (funext fun a => Fin.ext ?_)
  blk_simp [index0 t]
  fin_cases a
  · simp [ix2, hR]; omega
  · simp [ix2]

/-- The per-layer embeddings of a grid point. -/
theorem embeds_apply (c : Dev nD) (t : Fin grid0.N) (r : Fin 256) (d : Fin 256) (R : Fin 32768)
    (hR : R.val = 256 * t.val + r.val) :
    (iblk m c 1 t : Vec Ideal S256x256 .f32) (ix2 r d) = m (c, Proc.tc.devRef main_arg1) (ix2 R d) := by
  refine congrArg (m (c, Proc.tc.devRef main_arg1)) (funext fun a => Fin.ext ?_)
  blk_simp [index1 t]
  fin_cases a
  · simp [ix2, hR]; omega
  · simp [ix2]

/-- The two rows given for a grid point's prompt. -/
theorem given_apply (c : Dev nD) (t : Fin grid0.N) (k : Fin 2) (d : Fin 2816) (b : Fin 4) (hb : b.val = t.val / 32) :
    (iblk m c 2 t : Vec Ideal S1x2x2816 .f32) (ix3 0 k d) = m (c, Proc.tc.devRef main_arg2) (ix3 b k d) := by
  refine congrArg (m (c, Proc.tc.devRef main_arg2)) (funext fun a => Fin.ext ?_)
  blk_simp [index2 t]
  fin_cases a
  · simp [ix3, hb]
  · simp [ix3]
  · simp [ix3]

theorem weight3_apply (c : Dev nD) (t : Fin grid0.N) (j : Fin 1024) :
    (iblk m c 3 t : Vec Ideal S1x1024 .f32) (ix2 0 j) = m (c, Proc.tc.devRef main_arg3) (ix1 j) := by
  have e : (iblk m c 3 t : Vec Ideal S1x1024 .f32) (ix2 0 j) = (V m c main_v0 : Vec Ideal S1x1024 .f32) (ix2 0 j) := by
    refine congrArg (V m c main_v0 : Vec Ideal S1x1024 .f32) (funext fun a => Fin.ext ?_)
    blk_simp [index3 t]
    fin_cases a <;> simp [ix2]
  refine e.trans ?_
  entry_read
  pointwise

theorem weight4_apply (c : Dev nD) (t : Fin grid0.N) (i : Fin 1024) (j : Fin 5632) :
    (iblk m c 4 t : Vec Ideal S1024x5632 .bf16) (ix2 i j) = m (c, Proc.tc.devRef main_arg4) (ix2 i j) := by
  have e : (iblk m c 4 t : Vec Ideal S1024x5632 .bf16) (ix2 i j) = (V m c main_v1 : Vec Ideal S1024x5632 .bf16) (ix2 i j) := by
    refine congrArg (V m c main_v1 : Vec Ideal S1024x5632 .bf16) (funext fun a => Fin.ext ?_)
    blk_simp [index4 t]
    fin_cases a <;> simp [ix2]
  refine e.trans ?_
  entry_read
  pointwise

theorem weight5_apply (c : Dev nD) (t : Fin grid0.N) (i : Fin 3) (j : Fin 2816) :
    (iblk m c 5 t : Vec Ideal S3x2816 .f32) (ix2 i j) = m (c, Proc.tc.devRef main_arg5) (ix2 i j) := by
  have e : (iblk m c 5 t : Vec Ideal S3x2816 .f32) (ix2 i j) = (V m c main_arg5 : Vec Ideal S3x2816 .f32) (ix2 i j) := by
    refine congrArg (V m c main_arg5 : Vec Ideal S3x2816 .f32) (funext fun a => Fin.ext ?_)
    blk_simp [index5 t]
    fin_cases a <;> simp [ix2]
  refine e.trans ?_
  rfl

theorem weight6_apply (c : Dev nD) (t : Fin grid0.N) (j : Fin 2816) :
    (iblk m c 6 t : Vec Ideal S1x2816 .f32) (ix2 0 j) = m (c, Proc.tc.devRef main_arg6) (ix1 j) := by
  have e : (iblk m c 6 t : Vec Ideal S1x2816 .f32) (ix2 0 j) = (V m c main_v2 : Vec Ideal S1x2816 .f32) (ix2 0 j) := by
    refine congrArg (V m c main_v2 : Vec Ideal S1x2816 .f32) (funext fun a => Fin.ext ?_)
    blk_simp [index6 t]
    fin_cases a <;> simp [ix2]
  refine e.trans ?_
  entry_read
  pointwise

theorem weight7_apply (c : Dev nD) (t : Fin grid0.N) (i : Fin 2816) (j : Fin 1024) :
    (iblk m c 7 t : Vec Ideal S2816x1024 .bf16) (ix2 i j) = m (c, Proc.tc.devRef main_arg7) (ix2 i j) := by
  have e : (iblk m c 7 t : Vec Ideal S2816x1024 .bf16) (ix2 i j) = (V m c main_v3 : Vec Ideal S2816x1024 .bf16) (ix2 i j) := by
    refine congrArg (V m c main_v3 : Vec Ideal S2816x1024 .bf16) (funext fun a => Fin.ext ?_)
    blk_simp [index7 t]
    fin_cases a <;> simp [ix2]
  refine e.trans ?_
  entry_read
  pointwise

theorem weight8_apply (c : Dev nD) (t : Fin grid0.N) (j : Fin 1024) :
    (iblk m c 8 t : Vec Ideal S1x1024 .f32) (ix2 0 j) = m (c, Proc.tc.devRef main_arg8) (ix1 j) := by
  have e : (iblk m c 8 t : Vec Ideal S1x1024 .f32) (ix2 0 j) = (V m c main_v4 : Vec Ideal S1x1024 .f32) (ix2 0 j) := by
    refine congrArg (V m c main_v4 : Vec Ideal S1x1024 .f32) (funext fun a => Fin.ext ?_)
    blk_simp [index8 t]
    fin_cases a <;> simp [ix2]
  refine e.trans ?_
  entry_read
  pointwise

theorem weight9_apply (c : Dev nD) (t : Fin grid0.N) (i : Fin 1024) (j : Fin 1024) :
    (iblk m c 9 t : Vec Ideal S1024x1024 .bf16) (ix2 i j) = m (c, Proc.tc.devRef main_arg9) (ix2 i j) := by
  have e : (iblk m c 9 t : Vec Ideal S1024x1024 .bf16) (ix2 i j) = (V m c main_v5 : Vec Ideal S1024x1024 .bf16) (ix2 i j) := by
    refine congrArg (V m c main_v5 : Vec Ideal S1024x1024 .bf16) (funext fun a => Fin.ext ?_)
    blk_simp [index9 t]
    fin_cases a <;> simp [ix2]
  refine e.trans ?_
  entry_read
  pointwise

theorem weight10_apply (c : Dev nD) (t : Fin grid0.N) (j : Fin 1024) :
    (iblk m c 10 t : Vec Ideal S1x1024 .f32) (ix2 0 j) = m (c, Proc.tc.devRef main_arg10) (ix1 j) := by
  have e : (iblk m c 10 t : Vec Ideal S1x1024 .f32) (ix2 0 j) = (V m c main_v6 : Vec Ideal S1x1024 .f32) (ix2 0 j) := by
    refine congrArg (V m c main_v6 : Vec Ideal S1x1024 .f32) (funext fun a => Fin.ext ?_)
    blk_simp [index10 t]
    fin_cases a <;> simp [ix2]
  refine e.trans ?_
  entry_read
  pointwise

theorem weight11_apply (c : Dev nD) (t : Fin grid0.N) (i : Fin 256) (j : Fin 1024) :
    (iblk m c 11 t : Vec Ideal S256x1024 .bf16) (ix2 i j) = m (c, Proc.tc.devRef main_arg11) (ix2 i j) := by
  have e : (iblk m c 11 t : Vec Ideal S256x1024 .bf16) (ix2 i j) = (V m c main_v7 : Vec Ideal S256x1024 .bf16) (ix2 i j) := by
    refine congrArg (V m c main_v7 : Vec Ideal S256x1024 .bf16) (funext fun a => Fin.ext ?_)
    blk_simp [index11 t]
    fin_cases a <;> simp [ix2]
  refine e.trans ?_
  entry_read
  pointwise

theorem weight12_apply (c : Dev nD) (t : Fin grid0.N) (j : Fin 1024) :
    (iblk m c 12 t : Vec Ideal S1x1024 .f32) (ix2 0 j) = m (c, Proc.tc.devRef main_arg12) (ix1 j) := by
  have e : (iblk m c 12 t : Vec Ideal S1x1024 .f32) (ix2 0 j) = (V m c main_v8 : Vec Ideal S1x1024 .f32) (ix2 0 j) := by
    refine congrArg (V m c main_v8 : Vec Ideal S1x1024 .f32) (funext fun a => Fin.ext ?_)
    blk_simp [index12 t]
    fin_cases a <;> simp [ix2]
  refine e.trans ?_
  entry_read
  pointwise

/-- The program's weights. -/
abbrev weights (c : Dev nD) : Weights :=
  argWeights (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9)) (m (c, Proc.tc.devRef main_arg10)) (m (c, Proc.tc.devRef main_arg11))
    (m (c, Proc.tc.devRef main_arg12))

theorem blockWeights_eq (c : Dev nD) (t : Fin grid0.N) :
    blockWeights (iblk m c 3 t) (iblk m c 4 t) (iblk m c 5 t) (iblk m c 6 t) (iblk m c 7 t) (iblk m c 8 t)
      (iblk m c 9 t) (iblk m c 10 t) (iblk m c 11 t) (iblk m c 12 t) = weights m c := by
  unfold blockWeights weights argWeights
  congr 1
  · exact funext fun j => weight3_apply m c t j
  · exact funext fun i => funext fun j => weight4_apply m c t i j
  · exact funext fun i => funext fun j => weight5_apply m c t i j
  · exact funext fun j => weight6_apply m c t j
  · exact funext fun i => funext fun j => weight7_apply m c t i j
  · exact funext fun j => weight8_apply m c t j
  · exact funext fun i => funext fun j => weight9_apply m c t i j
  · exact funext fun j => weight10_apply m c t j
  · exact funext fun i => funext fun j => weight11_apply m c t i j
  · exact funext fun j => weight12_apply m c t j

theorem half_eq (c : Dev nD) (t : Fin grid0.N) (r : Fin 256) (R : Fin 32768) (hR : R.val = 256 * t.val + r.val)
    (d : Fin 2816) :
    upA (rowOf (φ := .f32) (iblk m c 0 t : Vec Ideal S256x1024 .f32) r)
        (rowOf (φ := .f32) (iblk m c 3 t : Vec Ideal S1x1024 .f32) 0)
        (rowOf (φ := .bf16) (iblk m c 4 t : Vec Ideal S1024x5632 .bf16)) d =
      (weights m c).a (rowOf (φ := .f32) (m (c, Proc.tc.devRef main_arg0)) R) d := by
  have e0 : rowOf (φ := .f32) (iblk m c 0 t : Vec Ideal S256x1024 .f32) r = rowOf (φ := .f32) (m (c, Proc.tc.devRef main_arg0)) R :=
    funext fun j => rows_apply m c t r j R hR
  have e3 : rowOf (φ := .f32) (iblk m c 3 t : Vec Ideal S1x1024 .f32) 0 = (weights m c).normFfn :=
    funext fun j => weight3_apply m c t j
  have e4 : rowOf (φ := .bf16) (iblk m c 4 t : Vec Ideal S1024x5632 .bf16) = (weights m c).up :=
    funext fun i => funext fun j => weight4_apply m c t i j
  rw [e0, e3, e4]
  rfl

/-- What a grid point carries on. -/
theorem carried (c : Dev nD) (t : Fin cfg0.N) (k : Fin 2) (d : Fin 2816) (R : Fin 32768)
    (hR : R.val = 256 * t.val + 254 + k.val) :
    (outsAt0 m c t.val t.isLt).2.2 (ix2 k d) = (weights m c).a (rowOf (φ := .f32) (m (c, Proc.tc.devRef main_arg0)) R) d := by
  have hk := k.isLt
  by_cases h : t.val % 32 = 0
  · rw [outsAt0_A m c t h]
    dsimp only
    rw [carry_A]
    exact (half_eq m c t ⟨254 + k.val, by omega⟩ R (by simp; omega) d)
  · rw [outsAt0_B m c t h]
    dsimp only
    rw [carry_B]
    exact (half_eq m c t ⟨254 + k.val, by omega⟩ R (by simp; omega) d)

/-- The last two rows of a grid point. -/
theorem tail_at (c : Dev nD) (t : Fin cfg0.N) (k : Fin 2) (d : Fin 2816) (R : Fin 32768)
    (hR : R.val = 256 * t.val + 254 + k.val) :
    (outsAt0 m c t.val t.isLt).2.1 (ix3 0 k d) = (weights m c).a (rowOf (φ := .f32) (m (c, Proc.tc.devRef main_arg0)) R) d := by
  have hk := k.isLt
  by_cases h : t.val % 32 = 0
  · rw [outsAt0_A m c t h]
    dsimp only
    rw [tail_A]
    exact (half_eq m c t ⟨254 + k.val, by omega⟩ R (by simp; omega) d)
  · rw [outsAt0_B m c t h]
    dsimp only
    rw [tail_B]
    exact (half_eq m c t ⟨254 + k.val, by omega⟩ R (by simp; omega) d)

/-- The rows before a row of a grid point, when the two carried ones are right. -/
theorem before_eq (c : Dev nD) (t : Fin grid0.N) (s : Vec Ideal S2x2816 .f32) (b : Fin 4) (q : Fin 8192) (r : Fin 256)
    (hb : b.val = t.val / 32) (hq : q.val = 256 * (t.val % 32) + r.val) (k : ℕ) (hk : k ≤ 2)
    (hs : ∀ (i : Fin 2) (d : Fin 2816), r.val + 2 = i.val + k →
      s (ix2 i d) = past (weights m c) (m (c, Proc.tc.devRef main_arg0)) (m (c, Proc.tc.devRef main_arg2)) k hk b q d) :
    before s (k0_pay3 (F := Ideal) (iblk m c 0 t) (iblk m c 3 t) (iblk m c 4 t)) k hk r =
      past (weights m c) (m (c, Proc.tc.devRef main_arg0)) (m (c, Proc.tc.devRef main_arg2)) k hk b q := by
  funext d
  have hr := r.isLt
  have hbl := b.isLt
  unfold before
  split_ifs with h
  · rw [past, dif_pos (by omega)]
    refine (upA_apply _ _ _ _ d).trans ?_
    exact half_eq m c t ⟨r.val - k, by omega⟩ ⟨8192 * b.val + q.val - k, by omega⟩ (by simp; omega) d
  · exact hs _ d (by simp; omega)

/-- The layer's row at a row of a grid point. -/
theorem row_eq (c : Dev nD) (t : Fin grid0.N) (b : Fin 4) (q : Fin 8192) (r : Fin 256)
    (hb : b.val = t.val / 32) (hq : q.val = 256 * (t.val % 32) + r.val) (d : Fin 1024) :
    (blockWeights (iblk m c 3 t) (iblk m c 4 t) (iblk m c 5 t) (iblk m c 6 t) (iblk m c 7 t) (iblk m c 8 t)
      (iblk m c 9 t) (iblk m c 10 t) (iblk m c 11 t) (iblk m c 12 t)).row
      (rowOf (φ := .f32) (iblk m c 0 t : Vec Ideal S256x1024 .f32) r)
      (rowOf (φ := .f32) (iblk m c 1 t : Vec Ideal S256x256 .f32) r)
      (past (weights m c) (m (c, Proc.tc.devRef main_arg0)) (m (c, Proc.tc.devRef main_arg2)) 1 (by omega) b q) (past (weights m c) (m (c, Proc.tc.devRef main_arg0)) (m (c, Proc.tc.devRef main_arg2)) 2 le_rfl b q) d =
    outRow (weights m c) (m (c, Proc.tc.devRef main_arg0)) (m (c, Proc.tc.devRef main_arg1)) (m (c, Proc.tc.devRef main_arg2)) b q d := by
  have hr := r.isLt
  have hbl := b.isLt
  have e0 : rowOf (φ := .f32) (iblk m c 0 t : Vec Ideal S256x1024 .f32) r =
      rowOf (φ := .f32) (m (c, Proc.tc.devRef main_arg0)) ⟨8192 * b.val + q.val, by omega⟩ :=
    funext fun j => rows_apply m c t r j _ (by simp; omega)
  have e1 : rowOf (φ := .f32) (iblk m c 1 t : Vec Ideal S256x256 .f32) r =
      rowOf (φ := .f32) (m (c, Proc.tc.devRef main_arg1)) ⟨8192 * b.val + q.val, by omega⟩ :=
    funext fun j => embeds_apply m c t r j _ (by simp; omega)
  rw [blockWeights_eq, e0, e1]
  rfl

/-- What a grid point writes. -/
theorem out_at (c : Dev nD) (t : Fin cfg0.N) (r : Fin 256) (d : Fin 1024) (b : Fin 4) (q : Fin 8192)
    (hb : b.val = t.val / 32) (hq : q.val = 256 * (t.val % 32) + r.val) :
    (outsAt0 m c t.val t.isLt).1 (ix2 r d) = outRow (weights m c) (m (c, Proc.tc.devRef main_arg0)) (m (c, Proc.tc.devRef main_arg1)) (m (c, Proc.tc.devRef main_arg2)) b q d := by
  have hr := r.isLt
  have hbl := b.isLt
  by_cases h : t.val % 32 = 0
  · have hs : ∀ (k : ℕ) (hk : k ≤ 2) (i : Fin 2) (d : Fin 2816), r.val + 2 = i.val + k →
        k0_pay5 (F := Ideal) (iblk m c 2 t) (ix2 i d) = past (weights m c) (m (c, Proc.tc.devRef main_arg0)) (m (c, Proc.tc.devRef main_arg2)) k hk b q d := by
      intro k hk i d hi
      have hi2 := i.isLt
      rw [past, dif_neg (by omega)]
      refine (carryIn_apply _ i d).trans ((given_apply m c t i d b hb).trans ?_)
      exact congrArg (m (c, Proc.tc.devRef main_arg2)) (congrArg (fun i => ix3 b i d) (Fin.ext (by simp; omega)))
    rw [outsAt0_A m c t h]
    dsimp only
    rw [out_A]
    rw [before_eq m c t _ b q r hb hq 1 (by omega) (hs 1 _), before_eq m c t _ b q r hb hq 2 le_rfl (hs 2 _)]
    exact row_eq m c t b q r hb hq d
  · obtain ⟨n, hn⟩ := t
    cases n with
    | zero => exact absurd (Nat.zero_mod 32) h
    | succ n =>
      have hN : n + 1 < 128 := lt_of_lt_of_eq hn N_0
      simp only at h hb hq
      have hs : ∀ (k : ℕ) (hk : k ≤ 2) (i : Fin 2) (d : Fin 2816), r.val + 2 = i.val + k →
          (outsAt0 m c n (Nat.lt_of_succ_lt hn)).2.2 (ix2 i d) =
            past (weights m c) (m (c, Proc.tc.devRef main_arg0)) (m (c, Proc.tc.devRef main_arg2)) k hk b q d := by
        intro k hk i d hi
        have hi2 := i.isLt
        rw [past, dif_pos (by omega)]
        exact carried m c ⟨n, Nat.lt_of_succ_lt hn⟩ i d _ (by simp; omega)
      rw [outsAt0_B m c ⟨n + 1, hn⟩ h]
      dsimp only
      rw [out_B]
      refine Eq.trans ?_ (row_eq m c ⟨n + 1, hn⟩ b q r hb hq d)
      exact congrFun (congrArg₂ (Weights.row _ _ _)
        (before_eq m c ⟨n + 1, hn⟩ _ b q r hb hq 1 (by omega) (hs 1 _))
        (before_eq m c ⟨n + 1, hn⟩ _ b q r hb hq 2 le_rfl (hs 2 _))) d

theorem out_array (c : Dev nD) :
    Value.G13 m c = layerOut (weights m c) (m (c, Proc.tc.devRef main_arg0)) (m (c, Proc.tc.devRef main_arg1)) (m (c, Proc.tc.devRef main_arg2)) := by
  funext y
  change S32768x1024.Idx at y
  obtain ⟨R, d, rfl⟩ : ∃ (R : Fin 32768) (d : Fin 1024), y = ix2 R d := ⟨y 0, y 1, eq_ix2 y⟩
  have hR := R.isLt
  have hd := d.isLt
  have hp : Value.pt13Of (ix2 R d) = R.val / 256 := by
    simp [Value.pt13Of, Value.run13Of, ix2]
  have hlt : Value.pt13Of (ix2 R d) < cfg0.N := by rw [hp]; exact lt_of_lt_of_eq (by omega) N_0.symm
  unfold Value.G13
  rw [dif_pos hlt, ← Value.outsAt0_sweep m c _ hlt]
  have hl : Value.loc13Of (ix2 R d) = ix2 ⟨R.val % 256, by omega⟩ d := by
    funext a
    fin_cases a
    · rfl
    · exact Fin.ext (Nat.mod_eq_of_lt hd)
  rw [hl]
  exact out_at m c ⟨_, hlt⟩ _ d _ _ (by simp only [hp]; simp only [ix2]; omega)
    (by simp only [hp]; simp only [ix2]; omega)

theorem tail_array (c : Dev nD) :
    Value.G14 m c = layerTail (weights m c) (m (c, Proc.tc.devRef main_arg0)) := by
  funext y
  change S4x2x2816.Idx at y
  obtain ⟨b, k, d, rfl⟩ : ∃ (b : Fin 4) (k : Fin 2) (d : Fin 2816), y = ix3 b k d := ⟨y 0, y 1, y 2, eq_ix3 y⟩
  have hb := b.isLt
  have hk := k.isLt
  have hd := d.isLt
  have hp : Value.pt14Of (ix3 b k d) = 32 * b.val + 31 := by
    simp [Value.pt14Of, Value.run14Of, ix3]; omega
  have hlt : Value.pt14Of (ix3 b k d) < cfg0.N := by rw [hp]; exact lt_of_lt_of_eq (by omega) N_0.symm
  unfold Value.G14
  rw [dif_pos hlt, ← Value.outsAt0_sweep m c _ hlt]
  have hl : Value.loc14Of (ix3 b k d) = ix3 0 k d := by
    funext a
    fin_cases a
    · exact Subsingleton.elim (α := Fin 1) _ _
    · exact Fin.ext (Nat.mod_eq_of_lt hk)
    · exact Fin.ext (Nat.mod_eq_of_lt hd)
  rw [hl]
  exact tail_at m c ⟨_, hlt⟩ k d _ (by simp [hp, ix3]; omega)

end Proof.Ffn

end
-- ==== Proof.Ffn.Sample.Row.lean ====
module

public import proofs.«01_k».proof.Proof.Ffn.Row

/-!
The feed-forward layer on the sample, 128 sequences of 8 positions: its rows and its last convolved rows.
-/

@[expose] public section

noncomputable section

namespace Proof.Ffn.Sample

open Idealize.ShloMosaic

/-- The convolved half, `k` positions before position `q` of sequence `b`: a position before the sequence's first is
taken from the two rows that the layer is given. -/
def past (W : Weights) (h : FVec Ideal ⟨2, ![1024, 1024]⟩ .f32) (buf : FVec Ideal ⟨3, ![128, 2, 2816]⟩ .f32) (k : ℕ)
    (hk : k ≤ 2) (b : Fin 128) (q : Fin 8) (d : Fin 2816) : EReal :=
  if H : k ≤ q.val then W.a (rowOf h ⟨8 * b.val + q.val - k, by omega⟩) d
  else buf (ix3 b ⟨q.val + 2 - k, by omega⟩ d)

/-- The layer at position `q` of sequence `b`. -/
def outRow (W : Weights) (h : FVec Ideal ⟨2, ![1024, 1024]⟩ .f32) (p : FVec Ideal ⟨2, ![1024, 256]⟩ .f32)
    (buf : FVec Ideal ⟨3, ![128, 2, 2816]⟩ .f32) (b : Fin 128) (q : Fin 8) : Fin 1024 → EReal :=
  W.row (rowOf h ⟨8 * b.val + q.val, by omega⟩) (rowOf p ⟨8 * b.val + q.val, by omega⟩)
    (past W h buf 1 (by omega) b q) (past W h buf 2 le_rfl b q)

/-- The layer's rows, sequence after sequence. -/
def layerOut (W : Weights) (h : FVec Ideal ⟨2, ![1024, 1024]⟩ .f32) (p : FVec Ideal ⟨2, ![1024, 256]⟩ .f32)
    (buf : FVec Ideal ⟨3, ![128, 2, 2816]⟩ .f32) : FVec Ideal ⟨2, ![1024, 1024]⟩ .f32 := fun y =>
  outRow W h p buf ⟨(y 0).val / 8, Nat.div_lt_of_lt_mul (y 0).isLt⟩ ⟨(y 0).val % 8, Nat.mod_lt _ (by norm_num)⟩ (y 1)

/-- The convolved half at the last two positions of every sequence. -/
def layerTail (W : Weights) (h : FVec Ideal ⟨2, ![1024, 1024]⟩ .f32) : FVec Ideal ⟨3, ![128, 2, 2816]⟩ .f32 := fun y =>
  W.a (rowOf h ⟨8 * (y 0).val + 6 + (y 1).val, by
    have h0 : (y 0).val < 128 := (y 0).isLt
    have h1 : (y 1).val < 2 := (y 1).isLt
    omega⟩) (y 2)

end Proof.Ffn.Sample

end
-- ==== Proof.Ffn.Sample.Point.lean ====
module

public import proofs.«01_k».proof.Proof.Gen.Kernel6Ideal.Value
public import proofs.«01_k».proof.Proof.Ffn.Sample.Row
public import Idealize.ShloMosaic.Lib.Pointwise
public import Idealize.ShloMosaic.Lib.WordCmp
public import Idealize.ShloMosaic.Lib.Pipeline.ValueKit

/-!
What one grid point of the feed-forward kernel computes on the sample, row by row: the point's 256 rows are 32
sequences of 8 positions, and every row comes with the two rows of the convolved half given before its sequence.
-/

@[expose] public section

set_option maxRecDepth 16384

noncomputable section

namespace Proof.Ffn.Sample

open Idealize.ShloMosaic Cert.Kernel6Ideal Cert.Kernel6Ideal.Gen

theorem up_apply (x : Vec Ideal S256x1024 .f32) (g : Vec Ideal S1x1024 .f32) (w : Vec Ideal S1024x5632 .bf16)
    (r : Fin 256) (d : Fin 5632) :
    k0_pay1 (F := Ideal) x g w (ix2 r d) = up (rowOf (φ := .f32) x r) (rowOf (φ := .f32) g 0) (rowOf (φ := .bf16) w) d := by
  pointwise [k0_pay1]
  rfl

theorem upA_apply (x : Vec Ideal S256x1024 .f32) (g : Vec Ideal S1x1024 .f32) (w : Vec Ideal S1024x5632 .bf16)
    (r : Fin 256) (d : Fin 2816) :
    k0_pay2 (F := Ideal) x g w (ix2 r d) = upA (rowOf (φ := .f32) x r) (rowOf (φ := .f32) g 0) (rowOf (φ := .bf16) w) d := by
  pointwise [k0_pay2]
  exact up_apply x g w r _

theorem upB_apply (x : Vec Ideal S256x1024 .f32) (g : Vec Ideal S1x1024 .f32) (w : Vec Ideal S1024x5632 .bf16)
    (r : Fin 256) (d : Fin 2816) :
    k0_pay3 (F := Ideal) x g w (ix2 r d) = upB (rowOf (φ := .f32) x r) (rowOf (φ := .f32) g 0) (rowOf (φ := .bf16) w) d := by
  pointwise [k0_pay3]
  exact up_apply x g w r _

/-- The position of a row in its sequence, as the kernel's word. -/
theorem place_apply : ∀ r : Fin 256, k0_pay10 (ix2 r 0) = BitVec.ofNat 32 (r.val % 8) := by decide +kernel

theorem first_apply : ∀ r : Fin 256, k0_pay11 (ix2 r 0) = if r.val % 8 = 0 then 1 else 0 := by decide +kernel

theorem select_first (r : Fin 256) (x y : EReal) :
    Scalar.select (k0_pay11 (ix2 r 0)) x y = if r.val % 8 = 0 then x else y := by
  rw [first_apply]
  by_cases h : r.val % 8 = 0
  · rw [if_pos h, if_pos h]
    rfl
  · rw [if_neg h, if_neg h]
    rfl

theorem select_second (r : Fin 256) (x y : EReal) :
    Scalar.select (IntOp.cmpi .eq (k0_pay10 (ix2 r 0)) (BitVec.ofNat 32 1)) x y = if r.val % 8 = 1 then x else y := by
  rw [place_apply]
  exact if_congr (WordCmp.cmpi_eq_ofNat_eq_one_iff (by omega) (by omega)) rfl rfl

/-- The convolved half, `k` rows before row `r` of the block: of rows before the sequence's first, the older is in
`s0` and the younger in `s1`, at the row itself. -/
def before (s0 s1 a : FVec Ideal S256x2816 .f32) (k : ℕ) (r : Fin 256) (d : Fin 2816) : EReal :=
  if k ≤ r.val % 8 then a (ix2 ⟨r.val - k, by omega⟩ d)
  else if r.val % 8 + 2 - k = 0 then s0 (ix2 r d) else s1 (ix2 r d)

theorem pick_one (s0 s1 a : FVec Ideal S256x2816 .f32) (r : Fin 256) (d : Fin 2816)
    (q : Fin 256) (hq : q.val = (r.val + 256 - 1) % 256) :
    (if r.val % 8 = 0 then s1 (ix2 r d) else a (ix2 q d)) = before s0 s1 a 1 r d := by
  have hr := r.isLt
  unfold before
  by_cases h : r.val % 8 = 0
  · rw [if_pos h, if_neg (by omega), if_neg (by omega)]
  · rw [if_neg h, if_pos (by omega)]
    exact congrArg a (congrArg₂ ix2 (Fin.ext (by simp; omega)) rfl)

theorem pick_two (s0 s1 a : FVec Ideal S256x2816 .f32) (r : Fin 256) (d : Fin 2816)
    (q : Fin 256) (hq : q.val = (r.val + 256 - 2) % 256) :
    (if r.val % 8 = 1 then s1 (ix2 r d) else if r.val % 8 = 0 then s0 (ix2 r d) else a (ix2 q d)) =
      before s0 s1 a 2 r d := by
  have hr := r.isLt
  unfold before
  by_cases h : r.val % 8 = 1
  · rw [if_pos h, if_neg (by omega), if_neg (by omega)]
  · rw [if_neg h]
    by_cases h : r.val % 8 = 0
    · rw [if_pos h, if_neg (by omega), if_pos (by omega)]
    · rw [if_neg h, if_pos (by omega)]
      exact congrArg a (congrArg₂ ix2 (Fin.ext (by simp; omega)) rfl)

/-- The convolution without its oldest tap. -/
theorem young_eq (s u a : FVec Ideal S256x2816 .f32) (w : Vec Ideal S1x2816 .f32) :
    k0_pay8 (F := Ideal) s u w a (iota .tc S256x1 32 [0] iota_S256x1_d0_w32) 8#32 0#1 =
      addf u (mulf (broadcastTo S256x2816 w broadcasts_S1x2816_S256x2816)
        (select (broadcastTo S256x2816 k0_pay11 broadcasts_S256x1_S256x2816) s a)) := by
  rfl

theorem young_apply (s u a : FVec Ideal S256x2816 .f32) (w : Vec Ideal S1x2816 .f32) (r : Fin 256) (d : Fin 2816) :
    k0_pay8 (F := Ideal) s u w a (iota .tc S256x1 32 [0] iota_S256x1_d0_w32) 8#32 0#1 (ix2 r d) =
      u (ix2 r d) + w (ix2 0 d) * if r.val % 8 = 0 then s (ix2 r d) else a (ix2 r d) := by
  rw [young_eq]
  pointwise
  exact congrArg (fun z => u (ix2 r d) + w (ix2 0 d) * z) (select_first r _ _)

theorem own_apply (x : Vec Ideal S256x1024 .f32) (g : Vec Ideal S1x1024 .f32) (w : Vec Ideal S1024x5632 .bf16)
    (b v : Vec Ideal S1x2816 .f32) (r : Fin 256) (d : Fin 2816) :
    k0_pay6 (F := Ideal) x g w b v (ix2 r d) = b (ix2 0 d) + v (ix2 0 d) * k0_pay2 (F := Ideal) x g w (ix2 r d) := by
  pointwise [k0_pay6]

theorem rolled_one (x : Vec Ideal S256x1024 .f32) (g : Vec Ideal S1x1024 .f32) (w : Vec Ideal S1024x5632 .bf16)
    (r : Fin 256) (d : Fin 2816) (q : Fin 256) (hq : q.val = (r.val + 256 - 1) % 256) :
    k0_pay7 (F := Ideal) x g w (ix2 r d) = k0_pay2 (F := Ideal) x g w (ix2 q d) := by
  pointwise [k0_pay7]
  exact congrArg (k0_pay2 (F := Ideal) x g w) (congrArg₂ ix2 (Fin.ext hq.symm) rfl)

theorem rolled_two (a : FVec Ideal S256x2816 .f32) (r : Fin 256) (d : Fin 2816) (q : Fin 256)
    (hq : q.val = (r.val + 256 - 2) % 256) : k0_pay9 (F := Ideal) a (ix2 r d) = a (ix2 q d) := by
  pointwise [k0_pay9]
  exact congrArg a (congrArg₂ ix2 (Fin.ext hq.symm) rfl)

theorem given_eq (s : Vec Ideal S256x2816 .f32) : k0_pay4 (F := Ideal) s = s := by
  funext y
  obtain ⟨i, j, rfl⟩ : ∃ i j, y = ix2 i j := ⟨y 0, y 1, eq_ix2 y⟩
  pointwise [k0_pay4]

theorem given_eq' (s : Vec Ideal S256x2816 .f32) : k0_pay5 (F := Ideal) s = s := given_eq s

theorem mid_apply (x : Vec Ideal S256x1024 .f32) (b s0 s1 u a : FVec Ideal S256x2816 .f32) (v : Vec Ideal S1x2816 .f32)
    (w : Vec Ideal S2816x1024 .bf16) (n : IVec S256x1 32) (f : IVec S256x1 1) (r : Fin 256) (d : Fin 1024) :
    k0_pay13 (F := Ideal) x b s0 s1 u v a n f w (ix2 r d) =
      mid (rowOf (φ := .f32) x r) (rowOf b r) (fun j => u (ix2 r j) + v (ix2 0 j) *
        Scalar.select (IntOp.cmpi .eq (n (ix2 r 0)) (BitVec.ofNat 32 1)) (s1 (ix2 r j))
          (Scalar.select (f (ix2 r 0)) (s0 (ix2 r j)) (a (ix2 r j)))) (rowOf (φ := .bf16) w) d := by
  pointwise [k0_pay13]
  rfl

theorem tail_apply (a : FVec Ideal S256x2816 .f32) (p : Fin 32) (k : Fin 2) (d : Fin 2816) :
    k0_pay12 (F := Ideal) a (ix3 p k d) = a (ix2 ⟨8 * p.val + 6 + k.val, by omega⟩ d) := by
  pointwise [k0_pay12]
  exact congrArg a (congrArg₂ ix2 (Fin.ext (by simp only; omega)) rfl)

theorem root_apply (x : Vec Ideal S256x1024 .f32) (b s0 s1 u a : FVec Ideal S256x2816 .f32) (v : Vec Ideal S1x2816 .f32)
    (w : Vec Ideal S2816x1024 .bf16) (n : IVec S256x1 32) (f : IVec S256x1 1) (r : Fin 256) (d : Fin 1024) :
    k0_pay15 (F := Ideal) x b s0 s1 u v a n f w (ix2 r d) =
      Ideal.rsqrt (Ideal.div (∑ j, k0_pay13 (F := Ideal) x b s0 s1 u v a n f w (ix2 r j) *
        k0_pay13 (F := Ideal) x b s0 s1 u v a n f w (ix2 r j)) (Ideal.ofBits .f32 0x44800000#32) +
        Ideal.ofBits .f32 0x358637BD#32) := by
  pointwise [k0_pay15]

theorem last_apply (h q : FVec Ideal S256x1024 .f32) (n : FVec Ideal S1x1024 .f32) (w : Vec Ideal S1024x1024 .bf16)
    (b : Vec Ideal S1x1024 .f32) (p : Vec Ideal S256x256 .f32) (v : Vec Ideal S256x1024 .bf16)
    (g : Vec Ideal S1x1024 .f32) (r : Fin 256) (d : Fin 1024) :
    k0_pay16 (F := Ideal) h n q w b p v g (ix2 r d) =
      rms (embed (rowOf h r) (fun j => h (ix2 r j) * q (ix2 r j) * n (ix2 0 j)) (rowOf (φ := .bf16) w)
        (rowOf (φ := .f32) b 0) (rowOf (φ := .f32) p r) (rowOf (φ := .bf16) v)) (rowOf (φ := .f32) g 0) d := by
  pointwise [k0_pay16]
  simp only [rms, embed, gate, zero_sub]

theorem scale_eq (g : Vec Ideal S1x1024 .f32) : k0_pay14 (F := Ideal) g = g := by
  funext y
  obtain ⟨i, j, rfl⟩ : ∃ i j, y = ix2 i j := ⟨y 0, y 1, eq_ix2 y⟩
  pointwise [k0_pay14]

/-- A row of the convolution's weights, loaded alone. -/
theorem ld_row (x : Vec Ideal S3x2816 .f32) (k : Fin 3) {off : Fin 2 → ℕ} (inb) (h : off = ![k.val, 0]) (d : Fin 2816) :
    View.ld x (Rect.unit (s := S3x2816) off ![1, 2816] inb) (ix2 0 d) = x (ix2 k d) := by
  subst h
  exact View.ld_unit_apply_of _ _ _ _ _ _ fun a => by fin_cases a <;> simp [ix2]

/-- The weights, from the blocks that hold them. -/
def blockWeights (x3 : Vec Ideal S1x1024 .f32) (x4 : Vec Ideal S1024x5632 .bf16) (x5 : Vec Ideal S3x2816 .f32)
    (x6 : Vec Ideal S1x2816 .f32) (x7 : Vec Ideal S2816x1024 .bf16) (x8 : Vec Ideal S1x1024 .f32)
    (x9 : Vec Ideal S1024x1024 .bf16) (x10 : Vec Ideal S1x1024 .f32) (x11 : Vec Ideal S256x1024 .bf16)
    (x12 : Vec Ideal S1x1024 .f32) : Weights where
  normFfn := rowOf (φ := .f32) x3 0
  up := rowOf (φ := .bf16) x4
  conv := rowOf (φ := .f32) x5
  convBias := rowOf (φ := .f32) x6 0
  down := rowOf (φ := .bf16) x7
  normPle := rowOf (φ := .f32) x8 0
  gate := rowOf (φ := .bf16) x9
  gateBias := rowOf (φ := .f32) x10 0
  ple := rowOf (φ := .bf16) x11
  normOut := rowOf (φ := .f32) x12 0

variable (c : Dev nD) (i : grid0.Coords)
  (arg1 : Memref sig .tc .vmem S256x1024 .f32) (harg1 : arg1.IsWhole)
  (arg2 : Memref sig .tc .vmem S256x256 .f32) (harg2 : arg2.IsWhole)
  (arg3 : Memref sig .tc .vmem S256x2816 .f32) (harg3 : arg3.IsWhole)
  (arg4 : Memref sig .tc .vmem S256x2816 .f32) (harg4 : arg4.IsWhole)
  (arg5 : Memref sig .tc .vmem S1x1024 .f32) (harg5 : arg5.IsWhole)
  (arg6 : Memref sig .tc .vmem S1024x5632 .bf16) (harg6 : arg6.IsWhole)
  (arg7 : Memref sig .tc .vmem S3x2816 .f32) (harg7 : arg7.IsWhole)
  (arg8 : Memref sig .tc .vmem S1x2816 .f32) (harg8 : arg8.IsWhole)
  (arg9 : Memref sig .tc .vmem S2816x1024 .bf16) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S256x1024 .bf16) (harg13 : arg13.IsWhole)
  (arg14 : Memref sig .tc .vmem S1x1024 .f32) (harg14 : arg14.IsWhole)
  (arg15 : Memref sig .tc .vmem S256x1024 .f32) (harg15 : arg15.IsWhole)
  (arg16 : Memref sig .tc .vmem S32x2x2816 .f32) (harg16 : arg16.IsWhole)
  (arg17 : Memref sig .tc .vmem S2x2816 .f32) (harg17 : arg17.IsWhole)
  (x0 : Vec Ideal S256x1024 .f32)
  (x1 : Vec Ideal S256x256 .f32)
  (x2 : Vec Ideal S256x2816 .f32)
  (x3 : Vec Ideal S256x2816 .f32)
  (x4 : Vec Ideal S1x1024 .f32)
  (x5 : Vec Ideal S1024x5632 .bf16)
  (x6 : Vec Ideal S3x2816 .f32)
  (x7 : Vec Ideal S1x2816 .f32)
  (x8 : Vec Ideal S2816x1024 .bf16)
  (x9 : Vec Ideal S1x1024 .f32)
  (x10 : Vec Ideal S1024x1024 .bf16)
  (x11 : Vec Ideal S1x1024 .f32)
  (x12 : Vec Ideal S256x1024 .bf16)
  (x13 : Vec Ideal S1x1024 .f32)

/-- The row after the feed-forward part. -/
theorem mid_row (i2 i1 i0) (r : Fin 256) (d : Fin 1024) :
    k0_pay13 (F := Ideal) x0 (k0_pay3 x0 x4 x5) (k0_pay4 x2) (k0_pay5 x3)
        (k0_pay8 (k0_pay5 x3) (k0_pay6 x0 x4 x5 x7 (View.ld x6 (Rect.unit (s := S3x2816) ![2, 0] ![1, 2816] i2)))
          (View.ld x6 (Rect.unit (s := S3x2816) ![1, 0] ![1, 2816] i1)) (k0_pay7 x0 x4 x5)
          (iota .tc S256x1 32 [0] iota_S256x1_d0_w32) 8#32 0#1)
        (View.ld x6 (Rect.unit (s := S3x2816) ![0, 0] ![1, 2816] i0)) (k0_pay9 (k0_pay2 x0 x4 x5)) k0_pay10
        k0_pay11 x8 (ix2 r d) =
      (blockWeights x4 x5 x6 x7 x8 x9 x10 x11 x12 x13).mid (rowOf (φ := .f32) x0 r)
        (before x2 x3 (k0_pay2 (F := Ideal) x0 x4 x5) 1 r) (before x2 x3 (k0_pay2 (F := Ideal) x0 x4 x5) 2 r) d := by
  have hr := r.isLt
  have eb : rowOf (k0_pay3 (F := Ideal) x0 x4 x5) r =
      upB (rowOf (φ := .f32) x0 r) (rowOf (φ := .f32) x4 0) (rowOf (φ := .bf16) x5) :=
    funext fun j => upB_apply x0 x4 x5 r j
  refine (mid_apply _ _ _ _ _ _ _ _ _ _ r d).trans ?_
  rw [eb]
  refine congrFun (congrFun (congrArg (mid _ _) (funext fun j => ?_)) _) d
  have e2 : View.ld x6 (Rect.unit (s := S3x2816) ![2, 0] ![1, 2816] i2) (ix2 0 j) = x6 (ix2 2 j) :=
    ld_row x6 2 i2 rfl j
  have e1 : View.ld x6 (Rect.unit (s := S3x2816) ![1, 0] ![1, 2816] i1) (ix2 0 j) = x6 (ix2 1 j) :=
    ld_row x6 1 i1 rfl j
  have e0 : View.ld x6 (Rect.unit (s := S3x2816) ![0, 0] ![1, 2816] i0) (ix2 0 j) = x6 (ix2 0 j) :=
    ld_row x6 0 i0 rfl j
  rw [select_second, select_first, given_eq, given_eq', young_apply, own_apply,
    rolled_one x0 x4 x5 r j ⟨(r.val + 256 - 1) % 256, by omega⟩ rfl,
    rolled_two _ r j ⟨(r.val + 256 - 2) % 256, by omega⟩ rfl,
    pick_one x2 x3 _ r j _ rfl, pick_two x2 x3 _ r j _ rfl, e2, e1, e0, upA_apply]
  rfl

/-- What the point writes. -/
theorem written (i2 i1 i0) (r : Fin 256) (d : Fin 1024) :
    k0_pay16 (F := Ideal)
      (k0_pay13 x0 (k0_pay3 x0 x4 x5) (k0_pay4 x2) (k0_pay5 x3)
        (k0_pay8 (k0_pay5 x3) (k0_pay6 x0 x4 x5 x7 (View.ld x6 (Rect.unit (s := S3x2816) ![2, 0] ![1, 2816] i2)))
          (View.ld x6 (Rect.unit (s := S3x2816) ![1, 0] ![1, 2816] i1)) (k0_pay7 x0 x4 x5)
          (iota .tc S256x1 32 [0] iota_S256x1_d0_w32) 8#32 0#1)
        (View.ld x6 (Rect.unit (s := S3x2816) ![0, 0] ![1, 2816] i0)) (k0_pay9 (k0_pay2 x0 x4 x5)) k0_pay10
        k0_pay11 x8)
      (k0_pay14 x9)
      (k0_pay15 x0 (k0_pay3 x0 x4 x5) (k0_pay4 x2) (k0_pay5 x3)
        (k0_pay8 (k0_pay5 x3) (k0_pay6 x0 x4 x5 x7 (View.ld x6 (Rect.unit (s := S3x2816) ![2, 0] ![1, 2816] i2)))
          (View.ld x6 (Rect.unit (s := S3x2816) ![1, 0] ![1, 2816] i1)) (k0_pay7 x0 x4 x5)
          (iota .tc S256x1 32 [0] iota_S256x1_d0_w32) 8#32 0#1)
        (View.ld x6 (Rect.unit (s := S3x2816) ![0, 0] ![1, 2816] i0)) (k0_pay9 (k0_pay2 x0 x4 x5)) k0_pay10
        k0_pay11 x8)
      x10 x11 x1 x12 x13 (ix2 r d) =
    (blockWeights x4 x5 x6 x7 x8 x9 x10 x11 x12 x13).row (rowOf (φ := .f32) x0 r) (rowOf (φ := .f32) x1 r)
      (before x2 x3 (k0_pay2 (F := Ideal) x0 x4 x5) 1 r) (before x2 x3 (k0_pay2 (F := Ideal) x0 x4 x5) 2 r) d := by
  have em := mid_row x0 x2 x3 x4 x5 x6 x7 x8 x9 x10 x11 x12 x13 i2 i1 i0 r
  generalize hu : k0_pay8 (F := Ideal) (k0_pay5 x3) _ _ _ _ _ _ = u at em ⊢
  refine (last_apply _ _ _ _ _ _ _ _ r d).trans ?_
  have er : rowOf (k0_pay13 (F := Ideal) x0 (k0_pay3 x0 x4 x5) (k0_pay4 x2) (k0_pay5 x3) u _ _ _ _ x8) r = _ :=
    funext em
  rw [scale_eq, er]
  simp only [root_apply, em]
  rfl

theorem out_A (r : Fin 256) (d : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 (ix2 r d) =
    (blockWeights x4 x5 x6 x7 x8 x9 x10 x11 x12 x13).row (rowOf (φ := .f32) x0 r) (rowOf (φ := .f32) x1 r)
      (before x2 x3 (k0_pay2 (F := Ideal) x0 x4 x5) 1 r) (before x2 x3 (k0_pay2 (F := Ideal) x0 x4 x5) 2 r) d := by
  frame_out
  exact written ..

theorem tail_A (p : Fin 32) (k : Fin 2) (d : Fin 2816) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 (ix3 p k d) =
      upA (rowOf (φ := .f32) x0 ⟨8 * p.val + 6 + k.val, by omega⟩) (rowOf (φ := .f32) x4 0) (rowOf (φ := .bf16) x5) d := by
  frame_out
  exact (tail_apply _ p k d).trans (upA_apply _ _ _ _ d)

end Proof.Ffn.Sample

end
-- ==== Proof.Ffn.Sample.Array.lean ====
module

public import proofs.«01_k».proof.Proof.Ffn.Sample.Point
public import Idealize.ShloMosaic.Lib.Claim
public import Idealize.ShloMosaic.Lib.StableHlo.ReadAt

/-!
The feed-forward kernel's two result arrays on the sample, from the program's arguments.
-/

@[expose] public section

set_option maxRecDepth 16384

noncomputable section

namespace Proof.Ffn.Sample

open Idealize.ShloMosaic Idealize.ShloMosaic.TcCoe Cert.Kernel6Ideal Cert.Kernel6Ideal.Gen

variable (m : (ℓ : Loc nD τ sig) → Buf (Elt Ideal) ℓ)

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![0, 0] := by decide +kernel
theorem index14 : ∀ t : Fin grid0.N, win0_14.index t = ![t.val, 0] := by decide +kernel
theorem index15 : ∀ t : Fin grid0.N, win0_15.index t = ![t.val, 0, 0] := by decide +kernel

/-- The rows of a grid point. -/
theorem rows_apply (c : Dev nD) (t : Fin grid0.N) (r : Fin 256) (d : Fin 1024) (R : Fin 1024)
    (hR : R.val = 256 * t.val + r.val) :
    (iblk m c 0 t : Vec Ideal S256x1024 .f32) (ix2 r d) = m (c, Proc.tc.devRef main_arg0) (ix2 R d) := by
  refine congrArg (m (c, Proc.tc.devRef main_arg0)) (funext fun a => Fin.ext ?_)
  blk_simp [index0 t]
  fin_cases a
  · simp [ix2, hR]; omega
  · simp [ix2]

/-- The per-layer embeddings of a grid point. -/
theorem embeds_apply (c : Dev nD) (t : Fin grid0.N) (r : Fin 256) (d : Fin 256) (R : Fin 1024)
    (hR : R.val = 256 * t.val + r.val) :
    (iblk m c 1 t : Vec Ideal S256x256 .f32) (ix2 r d) = m (c, Proc.tc.devRef main_arg1) (ix2 R d) := by
  refine congrArg (m (c, Proc.tc.devRef main_arg1)) (funext fun a => Fin.ext ?_)
  blk_simp [index1 t]
  fin_cases a
  · simp [ix2, hR]; omega
  · simp [ix2]

/-- A row of those given before each sequence, once for each of the sequence's positions. -/
theorem spread_apply (x : FVec Ideal S128x2x2816 .f32) (k : Fin 2) (hs : S128x2x2816.Slices ![0, k.val, 0] S128x1x2816)
    (R : Fin 1024) (d : Fin 2816) :
    shapeCast S1024x2816 (broadcastInDim S128x8x2816 ![0, 2] bcast_S128x2816_S128x8x2816_0_2 (shapeCast S128x2816
      (extractStridedSlice S128x1x2816 ![0, k.val, 0] x hs) shapeCasts_S128x1x2816_S128x2816))
      shapeCasts_S128x8x2816_S1024x2816 (ix2 R d) = x (ix3 ⟨R.val / 8, by omega⟩ k d) := by
  pointwise

theorem elder_eq (c : Dev nD) : (V m c main_v12 : Vec Ideal S1024x2816 .f32) =
    shapeCast S1024x2816 (broadcastInDim S128x8x2816 ![0, 2] bcast_S128x2816_S128x8x2816_0_2 (shapeCast S128x2816
      (extractStridedSlice S128x1x2816 ![0, 0, 0] (m (c, Proc.tc.devRef main_arg2))
        slices_S128x2x2816_S128x1x2816_0_0_0) shapeCasts_S128x1x2816_S128x2816))
      shapeCasts_S128x8x2816_S1024x2816 := by
  rfl

theorem younger_eq (c : Dev nD) : (V m c main_v16 : Vec Ideal S1024x2816 .f32) =
    shapeCast S1024x2816 (broadcastInDim S128x8x2816 ![0, 2] bcast_S128x2816_S128x8x2816_0_2 (shapeCast S128x2816
      (extractStridedSlice S128x1x2816 ![0, 1, 0] (m (c, Proc.tc.devRef main_arg2))
        slices_S128x2x2816_S128x1x2816_0_1_0) shapeCasts_S128x1x2816_S128x2816))
      shapeCasts_S128x8x2816_S1024x2816 := by
  rfl

/-- The older of the two rows given for a row's sequence. -/
theorem elder_apply (c : Dev nD) (t : Fin grid0.N) (r : Fin 256) (d : Fin 2816) (b : Fin 128)
    (hb : b.val = (256 * t.val + r.val) / 8) :
    (iblk m c 2 t : Vec Ideal S256x2816 .f32) (ix2 r d) = m (c, Proc.tc.devRef main_arg2) (ix3 b 0 d) := by
  have ht : t.val < 4 := lt_of_lt_of_eq t.isLt N_0
  have e : (iblk m c 2 t : Vec Ideal S256x2816 .f32) (ix2 r d) =
      (V m c main_v12 : Vec Ideal S1024x2816 .f32) (ix2 ⟨256 * t.val + r.val, by omega⟩ d) := by
    refine congrArg (V m c main_v12 : Vec Ideal S1024x2816 .f32) (funext fun a => Fin.ext ?_)
    blk_simp [index2 t]
    fin_cases a
    · simp [ix2]; omega
    · simp [ix2]
  refine e.trans ?_
  rw [elder_eq]
  refine (spread_apply (m (c, Proc.tc.devRef main_arg2)) 0 slices_S128x2x2816_S128x1x2816_0_0_0 _ d).trans ?_
  exact congrArg (m (c, Proc.tc.devRef main_arg2)) (congrArg (fun i => ix3 i 0 d) (Fin.ext (by simp only; omega)))

/-- The younger one. -/
theorem younger_apply (c : Dev nD) (t : Fin grid0.N) (r : Fin 256) (d : Fin 2816) (b : Fin 128)
    (hb : b.val = (256 * t.val + r.val) / 8) :
    (iblk m c 3 t : Vec Ideal S256x2816 .f32) (ix2 r d) = m (c, Proc.tc.devRef main_arg2) (ix3 b 1 d) := by
  have ht : t.val < 4 := lt_of_lt_of_eq t.isLt N_0
  have e : (iblk m c 3 t : Vec Ideal S256x2816 .f32) (ix2 r d) =
      (V m c main_v16 : Vec Ideal S1024x2816 .f32) (ix2 ⟨256 * t.val + r.val, by omega⟩ d) := by
    refine congrArg (V m c main_v16 : Vec Ideal S1024x2816 .f32) (funext fun a => Fin.ext ?_)
    blk_simp [index3 t]
    fin_cases a
    · simp [ix2]; omega
    · simp [ix2]
  refine e.trans ?_
  rw [younger_eq]
  refine (spread_apply (m (c, Proc.tc.devRef main_arg2)) 1 slices_S128x2x2816_S128x1x2816_0_1_0 _ d).trans ?_
  exact congrArg (m (c, Proc.tc.devRef main_arg2)) (congrArg (fun i => ix3 i 1 d) (Fin.ext (by simp only; omega)))

theorem weight3_apply (c : Dev nD) (t : Fin grid0.N) (j : Fin 1024) :
    (iblk m c 4 t : Vec Ideal S1x1024 .f32) (ix2 0 j) = m (c, Proc.tc.devRef main_arg3) (ix1 j) := by
  have e : (iblk m c 4 t : Vec Ideal S1x1024 .f32) (ix2 0 j) = (V m c main_v0 : Vec Ideal S1x1024 .f32) (ix2 0 j) := by
    refine congrArg (V m c main_v0 : Vec Ideal S1x1024 .f32) (funext fun a => Fin.ext ?_)
    blk_simp [index4 t]
    fin_cases a <;> simp [ix2]
  refine e.trans ?_
  entry_read
  pointwise

theorem weight4_apply (c : Dev nD) (t : Fin grid0.N) (i : Fin 1024) (j : Fin 5632) :
    (iblk m c 5 t : Vec Ideal S1024x5632 .bf16) (ix2 i j) = m (c, Proc.tc.devRef main_arg4) (ix2 i j) := by
  have e : (iblk m c 5 t : Vec Ideal S1024x5632 .bf16) (ix2 i j) = (V m c main_v1 : Vec Ideal S1024x5632 .bf16) (ix2 i j) := by
    refine congrArg (V m c main_v1 : Vec Ideal S1024x5632 .bf16) (funext fun a => Fin.ext ?_)
    blk_simp [index5 t]
    fin_cases a <;> simp [ix2]
  refine e.trans ?_
  entry_read
  pointwise

theorem weight5_apply (c : Dev nD) (t : Fin grid0.N) (i : Fin 3) (j : Fin 2816) :
    (iblk m c 6 t : Vec Ideal S3x2816 .f32) (ix2 i j) = m (c, Proc.tc.devRef main_arg5) (ix2 i j) := by
  have e : (iblk m c 6 t : Vec Ideal S3x2816 .f32) (ix2 i j) = (V m c main_arg5 : Vec Ideal S3x2816 .f32) (ix2 i j) := by
    refine congrArg (V m c main_arg5 : Vec Ideal S3x2816 .f32) (funext fun a => Fin.ext ?_)
    blk_simp [index6 t]
    fin_cases a <;> simp [ix2]
  refine e.trans ?_
  rfl

theorem weight6_apply (c : Dev nD) (t : Fin grid0.N) (j : Fin 2816) :
    (iblk m c 7 t : Vec Ideal S1x2816 .f32) (ix2 0 j) = m (c, Proc.tc.devRef main_arg6) (ix1 j) := by
  have e : (iblk m c 7 t : Vec Ideal S1x2816 .f32) (ix2 0 j) = (V m c main_v2 : Vec Ideal S1x2816 .f32) (ix2 0 j) := by
    refine congrArg (V m c main_v2 : Vec Ideal S1x2816 .f32) (funext fun a => Fin.ext ?_)
    blk_simp [index7 t]
    fin_cases a <;> simp [ix2]
  refine e.trans ?_
  entry_read
  pointwise

theorem weight7_apply (c : Dev nD) (t : Fin grid0.N) (i : Fin 2816) (j : Fin 1024) :
    (iblk m c 8 t : Vec Ideal S2816x1024 .bf16) (ix2 i j) = m (c, Proc.tc.devRef main_arg7) (ix2 i j) := by
  have e : (iblk m c 8 t : Vec Ideal S2816x1024 .bf16) (ix2 i j) = (V m c main_v3 : Vec Ideal S2816x1024 .bf16) (ix2 i j) := by
    refine congrArg (V m c main_v3 : Vec Ideal S2816x1024 .bf16) (funext fun a => Fin.ext ?_)
    blk_simp [index8 t]
    fin_cases a <;> simp [ix2]
  refine e.trans ?_
  entry_read
  pointwise

theorem weight8_apply (c : Dev nD) (t : Fin grid0.N) (j : Fin 1024) :
    (iblk m c 9 t : Vec Ideal S1x1024 .f32) (ix2 0 j) = m (c, Proc.tc.devRef main_arg8) (ix1 j) := by
  have e : (iblk m c 9 t : Vec Ideal S1x1024 .f32) (ix2 0 j) = (V m c main_v4 : Vec Ideal S1x1024 .f32) (ix2 0 j) := by
    refine congrArg (V m c main_v4 : Vec Ideal S1x1024 .f32) (funext fun a => Fin.ext ?_)
    blk_simp [index9 t]
    fin_cases a <;> simp [ix2]
  refine e.trans ?_
  entry_read
  pointwise

theorem weight9_apply (c : Dev nD) (t : Fin grid0.N) (i : Fin 1024) (j : Fin 1024) :
    (iblk m c 10 t : Vec Ideal S1024x1024 .bf16) (ix2 i j) = m (c, Proc.tc.devRef main_arg9) (ix2 i j) := by
  have e : (iblk m c 10 t : Vec Ideal S1024x1024 .bf16) (ix2 i j) = (V m c main_v5 : Vec Ideal S1024x1024 .bf16) (ix2 i j) := by
    refine congrArg (V m c main_v5 : Vec Ideal S1024x1024 .bf16) (funext fun a => Fin.ext ?_)
    blk_simp [index10 t]
    fin_cases a <;> simp [ix2]
  refine e.trans ?_
  entry_read
  pointwise

theorem weight10_apply (c : Dev nD) (t : Fin grid0.N) (j : Fin 1024) :
    (iblk m c 11 t : Vec Ideal S1x1024 .f32) (ix2 0 j) = m (c, Proc.tc.devRef main_arg10) (ix1 j) := by
  have e : (iblk m c 11 t : Vec Ideal S1x1024 .f32) (ix2 0 j) = (V m c main_v6 : Vec Ideal S1x1024 .f32) (ix2 0 j) := by
    refine congrArg (V m c main_v6 : Vec Ideal S1x1024 .f32) (funext fun a => Fin.ext ?_)
    blk_simp [index11 t]
    fin_cases a <;> simp [ix2]
  refine e.trans ?_
  entry_read
  pointwise

theorem weight11_apply (c : Dev nD) (t : Fin grid0.N) (i : Fin 256) (j : Fin 1024) :
    (iblk m c 12 t : Vec Ideal S256x1024 .bf16) (ix2 i j) = m (c, Proc.tc.devRef main_arg11) (ix2 i j) := by
  have e : (iblk m c 12 t : Vec Ideal S256x1024 .bf16) (ix2 i j) = (V m c main_v7 : Vec Ideal S256x1024 .bf16) (ix2 i j) := by
    refine congrArg (V m c main_v7 : Vec Ideal S256x1024 .bf16) (funext fun a => Fin.ext ?_)
    blk_simp [index12 t]
    fin_cases a <;> simp [ix2]
  refine e.trans ?_
  entry_read
  pointwise

theorem weight12_apply (c : Dev nD) (t : Fin grid0.N) (j : Fin 1024) :
    (iblk m c 13 t : Vec Ideal S1x1024 .f32) (ix2 0 j) = m (c, Proc.tc.devRef main_arg12) (ix1 j) := by
  have e : (iblk m c 13 t : Vec Ideal S1x1024 .f32) (ix2 0 j) = (V m c main_v8 : Vec Ideal S1x1024 .f32) (ix2 0 j) := by
    refine congrArg (V m c main_v8 : Vec Ideal S1x1024 .f32) (funext fun a => Fin.ext ?_)
    blk_simp [index13 t]
    fin_cases a <;> simp [ix2]
  refine e.trans ?_
  entry_read
  pointwise

/-- The program's weights. -/
abbrev weights (c : Dev nD) : Weights :=
  argWeights (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9)) (m (c, Proc.tc.devRef main_arg10)) (m (c, Proc.tc.devRef main_arg11))
    (m (c, Proc.tc.devRef main_arg12))

theorem blockWeights_eq (c : Dev nD) (t : Fin grid0.N) :
    blockWeights (iblk m c 4 t) (iblk m c 5 t) (iblk m c 6 t) (iblk m c 7 t) (iblk m c 8 t) (iblk m c 9 t)
      (iblk m c 10 t) (iblk m c 11 t) (iblk m c 12 t) (iblk m c 13 t) = weights m c := by
  unfold blockWeights weights argWeights
  congr 1
  · exact funext fun j => weight3_apply m c t j
  · exact funext fun i => funext fun j => weight4_apply m c t i j
  · exact funext fun i => funext fun j => weight5_apply m c t i j
  · exact funext fun j => weight6_apply m c t j
  · exact funext fun i => funext fun j => weight7_apply m c t i j
  · exact funext fun j => weight8_apply m c t j
  · exact funext fun i => funext fun j => weight9_apply m c t i j
  · exact funext fun j => weight10_apply m c t j
  · exact funext fun i => funext fun j => weight11_apply m c t i j
  · exact funext fun j => weight12_apply m c t j

theorem half_eq (c : Dev nD) (t : Fin grid0.N) (r : Fin 256) (R : Fin 1024) (hR : R.val = 256 * t.val + r.val)
    (d : Fin 2816) :
    upA (rowOf (φ := .f32) (iblk m c 0 t : Vec Ideal S256x1024 .f32) r)
        (rowOf (φ := .f32) (iblk m c 4 t : Vec Ideal S1x1024 .f32) 0)
        (rowOf (φ := .bf16) (iblk m c 5 t : Vec Ideal S1024x5632 .bf16)) d =
      (weights m c).a (rowOf (φ := .f32) (m (c, Proc.tc.devRef main_arg0)) R) d := by
  have e0 : rowOf (φ := .f32) (iblk m c 0 t : Vec Ideal S256x1024 .f32) r = rowOf (φ := .f32) (m (c, Proc.tc.devRef main_arg0)) R :=
    funext fun j => rows_apply m c t r j R hR
  have e3 : rowOf (φ := .f32) (iblk m c 4 t : Vec Ideal S1x1024 .f32) 0 = (weights m c).normFfn :=
    funext fun j => weight3_apply m c t j
  have e4 : rowOf (φ := .bf16) (iblk m c 5 t : Vec Ideal S1024x5632 .bf16) = (weights m c).up :=
    funext fun i => funext fun j => weight4_apply m c t i j
  rw [e0, e3, e4]
  rfl

/-- The rows before a row of a grid point. -/
theorem before_eq (c : Dev nD) (t : Fin grid0.N) (b : Fin 128) (q : Fin 8) (r : Fin 256)
    (hR : 8 * b.val + q.val = 256 * t.val + r.val) (k : ℕ) (hk : k ≤ 2) :
    before (iblk m c 2 t) (iblk m c 3 t) (k0_pay2 (F := Ideal) (iblk m c 0 t) (iblk m c 4 t) (iblk m c 5 t)) k r =
      past (weights m c) (m (c, Proc.tc.devRef main_arg0)) (m (c, Proc.tc.devRef main_arg2)) k hk b q := by
  funext d
  have hr := r.isLt
  have hbl := b.isLt
  have hq := q.isLt
  have hm : r.val % 8 = q.val := by omega
  unfold before past
  by_cases h : k ≤ q.val
  · rw [if_pos (by omega), dif_pos h]
    refine (upA_apply _ _ _ _ d).trans ?_
    exact half_eq m c t ⟨r.val - k, by omega⟩ ⟨8 * b.val + q.val - k, by omega⟩ (by simp only; omega) d
  · rw [if_neg (by omega), dif_neg h]
    by_cases h2 : r.val % 8 + 2 - k = 0
    · rw [if_pos h2, elder_apply m c t r d b (by omega)]
      exact congrArg (m (c, Proc.tc.devRef main_arg2)) (congrArg (fun i => ix3 b i d) (Fin.ext (by simp; omega)))
    · rw [if_neg h2, younger_apply m c t r d b (by omega)]
      exact congrArg (m (c, Proc.tc.devRef main_arg2)) (congrArg (fun i => ix3 b i d) (Fin.ext (by simp; omega)))

/-- What a grid point writes. -/
theorem out_at (c : Dev nD) (t : Fin cfg0.N) (r : Fin 256) (d : Fin 1024) (b : Fin 128) (q : Fin 8)
    (hR : 8 * b.val + q.val = 256 * t.val + r.val) :
    (outsAt0 m c t).1 (ix2 r d) = outRow (weights m c) (m (c, Proc.tc.devRef main_arg0))
      (m (c, Proc.tc.devRef main_arg1)) (m (c, Proc.tc.devRef main_arg2)) b q d := by
  have hbl := b.isLt
  have hq := q.isLt
  have e0 : rowOf (φ := .f32) (iblk m c 0 t : Vec Ideal S256x1024 .f32) r =
      rowOf (φ := .f32) (m (c, Proc.tc.devRef main_arg0)) ⟨8 * b.val + q.val, by omega⟩ :=
    funext fun j => rows_apply m c t r j _ hR
  have e1 : rowOf (φ := .f32) (iblk m c 1 t : Vec Ideal S256x256 .f32) r =
      rowOf (φ := .f32) (m (c, Proc.tc.devRef main_arg1)) ⟨8 * b.val + q.val, by omega⟩ :=
    funext fun j => embeds_apply m c t r j _ hR
  unfold outsAt0
  dsimp only
  rw [out_A, before_eq m c t b q r hR 1 (by omega), before_eq m c t b q r hR 2 le_rfl, blockWeights_eq, e0, e1]
  rfl

/-- The last two rows of a sequence of a grid point. -/
theorem tail_at (c : Dev nD) (t : Fin cfg0.N) (p : Fin 32) (k : Fin 2) (d : Fin 2816) (R : Fin 1024)
    (hR : R.val = 256 * t.val + 8 * p.val + 6 + k.val) :
    (outsAt0 m c t).2 (ix3 p k d) = (weights m c).a (rowOf (φ := .f32) (m (c, Proc.tc.devRef main_arg0)) R) d := by
  unfold outsAt0
  dsimp only
  rw [tail_A]
  exact half_eq m c t ⟨8 * p.val + 6 + k.val, by omega⟩ R (by simp only; omega) d

/-- The rows that the program leaves are the layer's. -/
theorem out_final (c : Dev nD) : (dats m 0 c).arrAt 14 cfg0.N = layerOut (weights m c)
    (m (c, Proc.tc.devRef main_arg0)) (m (c, Proc.tc.devRef main_arg1)) (m (c, Proc.tc.devRef main_arg2)) := by
  refine (dats m 0 c).arrAt_eq_of_covers 14 _ (by decide +kernel) fun t hf y => ?_
  blk_simp
  rw [after0_14]
  change S256x1024.Idx at y
  obtain ⟨r, d, rfl⟩ : ∃ (r : Fin 256) (d : Fin 1024), y = ix2 r d := ⟨y 0, y 1, eq_ix2 y⟩
  have hr := r.isLt
  have ht : t.val < 4 := lt_of_lt_of_eq t.isLt N_0
  have e : (win0_14.blk t).view.emb (ix2 r d) = ix2 (⟨256 * t.val + r.val, by omega⟩ : Fin 1024) d := by
    funext a
    refine Fin.ext ?_
    blk_simp [index14 t]
    fin_cases a
    · simp [ix2]; omega
    · simp [ix2]
  refine Eq.trans ?_ (congrArg (layerOut (weights m c) (m (c, Proc.tc.devRef main_arg0))
    (m (c, Proc.tc.devRef main_arg1)) (m (c, Proc.tc.devRef main_arg2))) e.symm)
  exact out_at m c t r d ⟨(256 * t.val + r.val) / 8, by omega⟩ ⟨(256 * t.val + r.val) % 8, by omega⟩
    (by simp only; omega)

/-- The last convolved rows that the program leaves are the layer's. -/
theorem tail_final (c : Dev nD) : (dats m 0 c).arrAt 15 cfg0.N = layerTail (weights m c)
    (m (c, Proc.tc.devRef main_arg0)) := by
  refine (dats m 0 c).arrAt_eq_of_covers 15 _ (by decide +kernel) fun t hf y => ?_
  blk_simp
  rw [after0_15]
  change S32x2x2816.Idx at y
  obtain ⟨p, k, d, rfl⟩ : ∃ (p : Fin 32) (k : Fin 2) (d : Fin 2816), y = ix3 p k d := ⟨y 0, y 1, y 2, eq_ix3 y⟩
  have hp := p.isLt
  have hk := k.isLt
  have ht : t.val < 4 := lt_of_lt_of_eq t.isLt N_0
  have e : (win0_15.blk t).view.emb (ix3 p k d) = ix3 (⟨32 * t.val + p.val, by omega⟩ : Fin 128) k d := by
    funext a
    refine Fin.ext ?_
    blk_simp [index15 t]
    fin_cases a
    · simp [ix3]; omega
    · simp [ix3]
    · simp [ix3]
  refine Eq.trans ?_ (congrArg (layerTail (weights m c) (m (c, Proc.tc.devRef main_arg0))) e.symm)
  exact tail_at m c t p k d ⟨8 * (32 * t.val + p.val) + 6 + k.val, by omega⟩ (by simp only; omega)

end Proof.Ffn.Sample

end
-- ==== Proof.Ffn.First.Row.lean ====
module

public import proofs.«01_k».proof.Proof.Ffn.Row

/-!
The first layer's feed-forward part: its row has no last normalisation. Its last convolved rows are as in the last
layer's.
-/

@[expose] public section

noncomputable section

namespace Proof.Ffn

open Idealize.ShloMosaic

/-- The layer's row, without a last normalisation. -/
def Weights.inner (W : Weights) (x : Fin 1024 → EReal) (p : Fin 256 → EReal) (a1 a2 : Fin 2816 → EReal) :
    Fin 1024 → EReal :=
  embed (W.mid x a1 a2) (rms (W.mid x a1 a2) W.normPle) W.gate W.gateBias p W.ple

namespace First

/-- The layer at position `q` of prompt `b`. -/
def outRow (W : Weights) (h : FVec Ideal ⟨2, ![32768, 1024]⟩ .f32) (p : FVec Ideal ⟨2, ![32768, 256]⟩ .f32)
    (buf : FVec Ideal ⟨3, ![4, 2, 2816]⟩ .f32) (b : Fin 4) (q : Fin 8192) : Fin 1024 → EReal :=
  W.inner (rowOf h ⟨8192 * b.val + q.val, by omega⟩) (rowOf p ⟨8192 * b.val + q.val, by omega⟩)
    (past W h buf 1 (by omega) b q) (past W h buf 2 le_rfl b q)

/-- The layer's rows, prompt after prompt. -/
def layerOut (W : Weights) (h : FVec Ideal ⟨2, ![32768, 1024]⟩ .f32) (p : FVec Ideal ⟨2, ![32768, 256]⟩ .f32)
    (buf : FVec Ideal ⟨3, ![4, 2, 2816]⟩ .f32) : FVec Ideal ⟨2, ![32768, 1024]⟩ .f32 := fun y =>
  outRow W h p buf ⟨(y 0).val / 8192, Nat.div_lt_of_lt_mul (y 0).isLt⟩ ⟨(y 0).val % 8192, Nat.mod_lt _ (by norm_num)⟩ (y 1)

end First

end Proof.Ffn

end
-- ==== Proof.Ffn.First.Point.lean ====
module

public import proofs.«01_k».proof.Proof.Gen.Kernel7Ideal.Value
public import proofs.«01_k».proof.Proof.Ffn.First.Row
public import Idealize.ShloMosaic.Lib.Pointwise
public import Idealize.ShloMosaic.Lib.WordCmp
public import Idealize.ShloMosaic.Lib.Pipeline.ValueKit

/-!
What one grid point of the first layer's feed-forward kernel computes from its blocks, row by row: the point's 256 rows,
the two rows of the convolved half that it starts from, and the weights.
-/

@[expose] public section

set_option maxRecDepth 16384

noncomputable section

namespace Proof.Ffn.First

open Idealize.ShloMosaic Cert.Kernel7Ideal Cert.Kernel7Ideal.Gen

theorem up_apply (x : Vec Ideal S256x1024 .f32) (g : Vec Ideal S1x1024 .f32) (w : Vec Ideal S1024x5632 .bf16)
    (r : Fin 256) (d : Fin 5632) :
    k0_pay2 (F := Ideal) x g w (ix2 r d) = up (rowOf (φ := .f32) x r) (rowOf (φ := .f32) g 0) (rowOf (φ := .bf16) w) d := by
  pointwise [k0_pay2]
  rfl

theorem upA_apply (x : Vec Ideal S256x1024 .f32) (g : Vec Ideal S1x1024 .f32) (w : Vec Ideal S1024x5632 .bf16)
    (r : Fin 256) (d : Fin 2816) :
    k0_pay3 (F := Ideal) x g w (ix2 r d) = upA (rowOf (φ := .f32) x r) (rowOf (φ := .f32) g 0) (rowOf (φ := .bf16) w) d := by
  pointwise [k0_pay3]
  exact up_apply x g w r _

theorem upB_apply (x : Vec Ideal S256x1024 .f32) (g : Vec Ideal S1x1024 .f32) (w : Vec Ideal S1024x5632 .bf16)
    (r : Fin 256) (d : Fin 2816) :
    k0_pay4 (F := Ideal) x g w (ix2 r d) = upB (rowOf (φ := .f32) x r) (rowOf (φ := .f32) g 0) (rowOf (φ := .bf16) w) d := by
  pointwise [k0_pay4]
  exact up_apply x g w r _

/-- The convolved half, `k` rows before row `r` of the block: rows before the block's first are the two carried ones. -/
def before (s : Vec Ideal S2x2816 .f32) (a : FVec Ideal S256x2816 .f32) (k : ℕ) (hk : k ≤ 2) (r : Fin 256)
    (d : Fin 2816) : EReal :=
  if h : k ≤ r.val then a (ix2 ⟨r.val - k, by omega⟩ d) else s (ix2 ⟨r.val + 2 - k, by omega⟩ d)

theorem select_word (r : Fin 256) (k : ℕ) (hk : k < 256) (x y : EReal) :
    Scalar.select (IntOp.cmpi .eq (BitVec.ofNat 32 r.val) (BitVec.ofNat 32 k)) x y = if r.val = k then x else y :=
  if_congr (WordCmp.cmpi_eq_ofNat_eq_one_iff (by omega) (by omega)) rfl rfl

theorem pick_one (s : Vec Ideal S2x2816 .f32) (a : FVec Ideal S256x2816 .f32) (r : Fin 256) (d : Fin 2816)
    (q : Fin 256) (hq : q.val = (r.val + 256 - 1) % 256) :
    (if r.val = 0 then s (ix2 1 d) else a (ix2 q d)) = before s a 1 (by omega) r d := by
  have hr := r.isLt
  unfold before
  by_cases h : r.val = 0
  · rw [if_pos h, dif_neg (by omega)]
    exact congrArg s (congrArg₂ ix2 (Fin.ext (by simp; omega)) rfl)
  · rw [if_neg h, dif_pos (by omega)]
    exact congrArg a (congrArg₂ ix2 (Fin.ext (by simp; omega)) rfl)

theorem pick_two (s : Vec Ideal S2x2816 .f32) (a : FVec Ideal S256x2816 .f32) (r : Fin 256) (d : Fin 2816)
    (q : Fin 256) (hq : q.val = (r.val + 256 - 2) % 256) :
    (if r.val = 1 then s (ix2 1 d) else if r.val = 0 then s (ix2 0 d) else a (ix2 q d)) = before s a 2 le_rfl r d := by
  have hr := r.isLt
  unfold before
  by_cases h : r.val = 1
  · rw [if_pos h, dif_neg (by omega)]
    exact congrArg s (congrArg₂ ix2 (Fin.ext (by simp; omega)) rfl)
  · rw [if_neg h]
    by_cases h : r.val = 0
    · rw [if_pos h, dif_neg (by omega)]
      exact congrArg s (congrArg₂ ix2 (Fin.ext (by simp; omega)) rfl)
    · rw [if_neg h, dif_pos (by omega)]
      exact congrArg a (congrArg₂ ix2 (Fin.ext (by simp; omega)) rfl)

theorem conv_apply (a : FVec Ideal S256x2816 .f32) (s : Vec Ideal S2x2816 .f32) (b w2 w1 w0 : Vec Ideal S1x2816 .f32)
    (r : Fin 256) (d : Fin 2816) :
    k0_pay6 (F := Ideal) a s b w2 w1 w0 (ix2 r d) =
      b (ix2 0 d) + w2 (ix2 0 d) * a (ix2 r d) + w1 (ix2 0 d) * before s a 1 (by omega) r d +
        w0 (ix2 0 d) * before s a 2 le_rfl r d := by
  pointwise [k0_pay6]
  exact congrArg₂ (· + ·)
    (congrArg₂ (· + ·) rfl (congrArg₂ (· * ·) rfl
      ((select_word r 0 (by omega) _ _).trans (pick_one s a r d _ rfl))))
    (congrArg₂ (· * ·) rfl
      (((select_word r 1 (by omega) _ _).trans
        (if_congr Iff.rfl rfl (select_word r 0 (by omega) _ _))).trans (pick_two s a r d _ rfl)))

theorem mid_apply (x : Vec Ideal S256x1024 .f32) (b u : FVec Ideal S256x2816 .f32) (w : Vec Ideal S2816x1024 .bf16)
    (r : Fin 256) (d : Fin 1024) :
    k0_pay10 (F := Ideal) x b u w (ix2 r d) = mid (rowOf (φ := .f32) x r) (rowOf b r) (rowOf u r) (rowOf (φ := .bf16) w) d := by
  pointwise [k0_pay10]
  rfl

theorem norm_apply (x : Vec Ideal S256x1024 .f32) (b u : FVec Ideal S256x2816 .f32) (w : Vec Ideal S2816x1024 .bf16)
    (g : Vec Ideal S1x1024 .f32) (r : Fin 256) (d : Fin 1024) :
    k0_pay11 (F := Ideal) x b u w g (ix2 r d) = rms (rowOf (k0_pay10 x b u w) r) (rowOf (φ := .f32) g 0) d := by
  pointwise [k0_pay11]
  rfl

theorem last_apply (h : FVec Ideal S256x1024 .f32) (n : FVec Ideal S256x1024 .bf16) (w : FVec Ideal S1024x1024 .bf16)
    (b : Vec Ideal S1x1024 .f32) (p : Vec Ideal S256x256 .f32) (v : Vec Ideal S256x1024 .bf16)
    (r : Fin 256) (d : Fin 1024) :
    k0_pay1 (F := Ideal) h n w b p v (ix2 r d) =
      embed (rowOf h r) (rowOf n r) (rowOf w) (rowOf (φ := .f32) b 0) (rowOf (φ := .f32) p r)
        (rowOf (φ := .bf16) v) d := by
  pointwise [k0_pay1]
  simp only [embed, gate, zero_sub]

theorem gateWeights_eq (w : Vec Ideal S1024x1024 .bf16) : k0_pay12 (F := Ideal) w = w := by
  funext y
  obtain ⟨i, j, rfl⟩ : ∃ i j, y = ix2 i j := ⟨y 0, y 1, eq_ix2 y⟩
  pointwise [k0_pay12]

theorem carryIn_apply (x : Vec Ideal S1x2x2816 .f32) (k : Fin 2) (d : Fin 2816) :
    k0_pay5 (F := Ideal) x (ix2 k d) = x (ix3 0 k d) := by
  pointwise [k0_pay5]

theorem carryOut_apply (a : FVec Ideal S256x2816 .f32) (k : Fin 2) (d : Fin 2816) :
    k0_pay8 (F := Ideal) (k0_pay7 a) (ix2 k d) = a (ix2 ⟨254 + k.val, by omega⟩ d) := by
  pointwise [k0_pay8, k0_pay7]

theorem tail_apply (a : FVec Ideal S256x2816 .f32) (k : Fin 2) (d : Fin 2816) :
    k0_pay9 (F := Ideal) a (ix3 0 k d) = a (ix2 ⟨254 + k.val, by omega⟩ d) := by
  pointwise [k0_pay9]

/-- A row of the convolution's weights, loaded alone. -/
theorem ld_row (x : Vec Ideal S3x2816 .f32) (k : Fin 3) {off : Fin 2 → ℕ} (inb) (h : off = ![k.val, 0]) (d : Fin 2816) :
    View.ld x (Rect.unit (s := S3x2816) off ![1, 2816] inb) (ix2 0 d) = x (ix2 k d) := by
  subst h
  exact View.ld_unit_apply_of _ _ _ _ _ _ fun a => by fin_cases a <;> simp [ix2]

/-- The weights, from the blocks that hold them. -/
def blockWeights (x3 : Vec Ideal S1x1024 .f32) (x4 : Vec Ideal S1024x5632 .bf16) (x5 : Vec Ideal S3x2816 .f32)
    (x6 : Vec Ideal S1x2816 .f32) (x7 : Vec Ideal S2816x1024 .bf16) (x8 : Vec Ideal S1x1024 .f32)
    (x9 : Vec Ideal S1024x1024 .bf16) (x10 : Vec Ideal S1x1024 .f32) (x11 : Vec Ideal S256x1024 .bf16)
    (x12 : Vec Ideal S1x1024 .f32) : Weights where
  normFfn := rowOf (φ := .f32) x3 0
  up := rowOf (φ := .bf16) x4
  conv := rowOf (φ := .f32) x5
  convBias := rowOf (φ := .f32) x6 0
  down := rowOf (φ := .bf16) x7
  normPle := rowOf (φ := .f32) x8 0
  gate := rowOf (φ := .bf16) x9
  gateBias := rowOf (φ := .f32) x10 0
  ple := rowOf (φ := .bf16) x11
  normOut := rowOf (φ := .f32) x12 0

variable (c : Dev nD) (i : grid0.Coords)
  (arg1 : Memref sig .tc .vmem S256x1024 .f32) (harg1 : arg1.IsWhole) (arg2 : Memref sig .tc .vmem S256x256 .f32)
  (harg2 : arg2.IsWhole) (arg3 : Memref sig .tc .vmem S1x2x2816 .f32) (harg3 : arg3.IsWhole)
  (arg4 : Memref sig .tc .vmem S1x1024 .f32) (harg4 : arg4.IsWhole)
  (arg5 : Memref sig .tc .vmem S1024x5632 .bf16) (harg5 : arg5.IsWhole)
  (arg6 : Memref sig .tc .vmem S3x2816 .f32) (harg6 : arg6.IsWhole)
  (arg7 : Memref sig .tc .vmem S1x2816 .f32) (harg7 : arg7.IsWhole)
  (arg8 : Memref sig .tc .vmem S2816x1024 .bf16) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S256x1024 .bf16) (harg12 : arg12.IsWhole)
  (arg13 : Memref sig .tc .vmem S1x1024 .f32) (harg13 : arg13.IsWhole)
  (arg14 : Memref sig .tc .vmem S256x1024 .f32) (harg14 : arg14.IsWhole)
  (arg15 : Memref sig .tc .vmem S1x2x2816 .f32) (harg15 : arg15.IsWhole)
  (arg16 : Memref sig .tc .vmem S2x2816 .f32) (harg16 : arg16.IsWhole)
  (x0 : Vec Ideal S256x1024 .f32) (x1 : Vec Ideal S256x256 .f32) (x2 : Vec Ideal S1x2x2816 .f32)
  (x3 : Vec Ideal S1x1024 .f32) (x4 : Vec Ideal S1024x5632 .bf16) (x5 : Vec Ideal S3x2816 .f32)
  (x6 : Vec Ideal S1x2816 .f32) (x7 : Vec Ideal S2816x1024 .bf16) (x8 : Vec Ideal S1x1024 .f32)
  (x9 : Vec Ideal S1024x1024 .bf16) (x10 : Vec Ideal S1x1024 .f32) (x11 : Vec Ideal S256x1024 .bf16)
  (x12 : Vec Ideal S1x1024 .f32) (xs0 : Vec Ideal S2x2816 .f32)

/-- What the point writes, from its blocks and the two rows `s` carried into it. -/
theorem written (s : Vec Ideal S2x2816 .f32) (i2 i1 i0) (r : Fin 256) (d : Fin 1024) :
    k0_pay1 (F := Ideal)
      (k0_pay10 x0 (k0_pay4 x0 x3 x4)
        (k0_pay6 (k0_pay3 x0 x3 x4) s x6 (View.ld x5 (Rect.unit (s := S3x2816) ![2, 0] ![1, 2816] i2))
          (View.ld x5 (Rect.unit (s := S3x2816) ![1, 0] ![1, 2816] i1))
          (View.ld x5 (Rect.unit (s := S3x2816) ![0, 0] ![1, 2816] i0)))
        x7)
      (k0_pay11 x0 (k0_pay4 x0 x3 x4)
        (k0_pay6 (k0_pay3 x0 x3 x4) s x6 (View.ld x5 (Rect.unit (s := S3x2816) ![2, 0] ![1, 2816] i2))
          (View.ld x5 (Rect.unit (s := S3x2816) ![1, 0] ![1, 2816] i1))
          (View.ld x5 (Rect.unit (s := S3x2816) ![0, 0] ![1, 2816] i0)))
        x7 x8)
      (k0_pay12 x9) x10 x1 x11 (ix2 r d) =
    (blockWeights x3 x4 x5 x6 x7 x8 x9 x10 x11 x12).inner (rowOf (φ := .f32) x0 r) (rowOf (φ := .f32) x1 r)
      (before s (k0_pay3 (F := Ideal) x0 x3 x4) 1 (by omega) r) (before s (k0_pay3 (F := Ideal) x0 x3 x4) 2 le_rfl r) d := by
  generalize hu : k0_pay6 (F := Ideal) (k0_pay3 x0 x3 x4) s x6 _ _ _ = u
  have eu : rowOf u r = fun j => conv (x6 (ix2 0 j)) (fun k => x5 (ix2 k j))
      (upA (rowOf (φ := .f32) x0 r) (rowOf (φ := .f32) x3 0) (rowOf (φ := .bf16) x4) j)
      (before s (k0_pay3 (F := Ideal) x0 x3 x4) 1 (by omega) r j) (before s (k0_pay3 (F := Ideal) x0 x3 x4) 2 le_rfl r j) := by
    funext j
    subst hu
    refine (conv_apply _ _ _ _ _ _ r j).trans ?_
    have e2 : View.ld x5 (Rect.unit (s := S3x2816) ![2, 0] ![1, 2816] i2) (ix2 0 j) = x5 (ix2 2 j) :=
      ld_row x5 2 i2 rfl j
    have e1 : View.ld x5 (Rect.unit (s := S3x2816) ![1, 0] ![1, 2816] i1) (ix2 0 j) = x5 (ix2 1 j) :=
      ld_row x5 1 i1 rfl j
    have e0 : View.ld x5 (Rect.unit (s := S3x2816) ![0, 0] ![1, 2816] i0) (ix2 0 j) = x5 (ix2 0 j) :=
      ld_row x5 0 i0 rfl j
    rw [e2, e1, e0, upA_apply]
    rfl
  have eb : rowOf (k0_pay4 (F := Ideal) x0 x3 x4) r =
      upB (rowOf (φ := .f32) x0 r) (rowOf (φ := .f32) x3 0) (rowOf (φ := .bf16) x4) :=
    funext fun j => upB_apply x0 x3 x4 r j
  have em : rowOf (k0_pay10 (F := Ideal) x0 (k0_pay4 x0 x3 x4) u x7) r =
      (blockWeights x3 x4 x5 x6 x7 x8 x9 x10 x11 x12).mid (rowOf (φ := .f32) x0 r)
        (before s (k0_pay3 (F := Ideal) x0 x3 x4) 1 (by omega) r) (before s (k0_pay3 (F := Ideal) x0 x3 x4) 2 le_rfl r) := by
    funext j
    refine (mid_apply _ _ _ _ r j).trans ?_
    rw [eu, eb]
    rfl
  have en : rowOf (k0_pay11 (F := Ideal) x0 (k0_pay4 x0 x3 x4) u x7 x8) r =
      rms (rowOf (k0_pay10 (F := Ideal) x0 (k0_pay4 x0 x3 x4) u x7) r) (rowOf (φ := .f32) x8 0) :=
    funext fun j => norm_apply _ _ _ _ _ r j
  refine (last_apply _ _ _ _ _ _ r d).trans ?_
  rw [en, em, gateWeights_eq]
  rfl

theorem out_A hc0 (r : Fin 256) (d : Fin 1024) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 (ix2 r d) =
    (blockWeights x3 x4 x5 x6 x7 x8 x9 x10 x11 x12).inner (rowOf (φ := .f32) x0 r) (rowOf (φ := .f32) x1 r)
      (before (k0_pay5 (F := Ideal) x2) (k0_pay3 (F := Ideal) x0 x3 x4) 1 (by omega) r)
      (before (k0_pay5 (F := Ideal) x2) (k0_pay3 (F := Ideal) x0 x3 x4) 2 le_rfl r) d := by
  frame_out
  exact written ..

theorem out_B hc0 (r : Fin 256) (d : Fin 1024) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0 (ix2 r d) =
    (blockWeights x3 x4 x5 x6 x7 x8 x9 x10 x11 x12).inner (rowOf (φ := .f32) x0 r) (rowOf (φ := .f32) x1 r)
      (before xs0 (k0_pay3 (F := Ideal) x0 x3 x4) 1 (by omega) r)
      (before xs0 (k0_pay3 (F := Ideal) x0 x3 x4) 2 le_rfl r) d := by
  frame_out
  exact written ..

theorem tail_A hc0 (k : Fin 2) (d : Fin 2816) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 (ix3 0 k d) =
      upA (rowOf (φ := .f32) x0 ⟨254 + k.val, by omega⟩) (rowOf (φ := .f32) x3 0) (rowOf (φ := .bf16) x4) d := by
  frame_out
  exact (tail_apply _ k d).trans (upA_apply _ _ _ _ d)

theorem tail_B hc0 (k : Fin 2) (d : Fin 2816) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0 (ix3 0 k d) =
      upA (rowOf (φ := .f32) x0 ⟨254 + k.val, by omega⟩) (rowOf (φ := .f32) x3 0) (rowOf (φ := .bf16) x4) d := by
  frame_out
  exact (tail_apply _ k d).trans (upA_apply _ _ _ _ d)

theorem carry_A hc0 (k : Fin 2) (d : Fin 2816) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 (ix2 k d) =
      upA (rowOf (φ := .f32) x0 ⟨254 + k.val, by omega⟩) (rowOf (φ := .f32) x3 0) (rowOf (φ := .bf16) x4) d := by
  frame_out
  exact (carryOut_apply _ k d).trans (upA_apply _ _ _ _ d)

theorem carry_B hc0 (k : Fin 2) (d : Fin 2816) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0 (ix2 k d) =
      upA (rowOf (φ := .f32) x0 ⟨254 + k.val, by omega⟩) (rowOf (φ := .f32) x3 0) (rowOf (φ := .bf16) x4) d := by
  frame_out
  exact (carryOut_apply _ k d).trans (upA_apply _ _ _ _ d)

end Proof.Ffn.First

end
-- ==== Proof.Ffn.First.Array.lean ====
module

public import proofs.«01_k».proof.Proof.Ffn.First.Point
public import Idealize.ShloMosaic.Lib.Claim
public import Idealize.ShloMosaic.Lib.StableHlo.ReadAt

/-!
The first layer's feed-forward kernel's two result arrays, from the program's arguments. The rows that a grid point carries to
the next one are the convolved half at its last two rows, whatever was carried into it.
-/

@[expose] public section

set_option maxRecDepth 16384

noncomputable section

namespace Proof.Ffn.First

open Idealize.ShloMosaic Idealize.ShloMosaic.TcCoe Cert.Kernel7Ideal Cert.Kernel7Ideal.Gen

variable (m : (ℓ : Loc nD τ sig) → Buf (Elt Ideal) ℓ)

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val / 32, 0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel

/-- The rows of a grid point. -/
theorem rows_apply (c : Dev nD) (t : Fin grid0.N) (r : Fin 256) (d : Fin 1024) (R : Fin 32768)
    (hR : R.val = 256 * t.val + r.val) :
    (iblk m c 0 t : Vec Ideal S256x1024 .f32) (ix2 r d) = m (c, Proc.tc.devRef main_arg0) (ix2 R d) := by
  refine congrArg (m (c, Proc.tc.devRef main_arg0)) (funext fun a => Fin.ext ?_)
  blk_simp [index0 t]
  fin_cases a
  · simp [ix2, hR]; omega
  · simp [ix2]

/-- The per-layer embeddings of a grid point. -/
theorem embeds_apply (c : Dev nD) (t : Fin grid0.N) (r : Fin 256) (d : Fin 256) (R : Fin 32768)
    (hR : R.val = 256 * t.val + r.val) :
    (iblk m c 1 t : Vec Ideal S256x256 .f32) (ix2 r d) = m (c, Proc.tc.devRef main_arg1) (ix2 R d) := by
  refine congrArg (m (c, Proc.tc.devRef main_arg1)) (funext fun a => Fin.ext ?_)
  blk_simp [index1 t]
  fin_cases a
  · simp [ix2, hR]; omega
  · simp [ix2]

/-- The two rows given for a grid point's prompt. -/
theorem given_apply (c : Dev nD) (t : Fin grid0.N) (k : Fin 2) (d : Fin 2816) (b : Fin 4) (hb : b.val = t.val / 32) :
    (iblk m c 2 t : Vec Ideal S1x2x2816 .f32) (ix3 0 k d) = m (c, Proc.tc.devRef main_arg2) (ix3 b k d) := by
  refine congrArg (m (c, Proc.tc.devRef main_arg2)) (funext fun a => Fin.ext ?_)
  blk_simp [index2 t]
  fin_cases a
  · simp [ix3, hb]
  · simp [ix3]
  · simp [ix3]

theorem weight3_apply (c : Dev nD) (t : Fin grid0.N) (j : Fin 1024) :
    (iblk m c 3 t : Vec Ideal S1x1024 .f32) (ix2 0 j) = m (c, Proc.tc.devRef main_arg3) (ix1 j) := by
  have e : (iblk m c 3 t : Vec Ideal S1x1024 .f32) (ix2 0 j) = (V m c main_v0 : Vec Ideal S1x1024 .f32) (ix2 0 j) := by
    refine congrArg (V m c main_v0 : Vec Ideal S1x1024 .f32) (funext fun a => Fin.ext ?_)
    blk_simp [index3 t]
    fin_cases a <;> simp [ix2]
  refine e.trans ?_
  entry_read
  pointwise

theorem weight4_apply (c : Dev nD) (t : Fin grid0.N) (i : Fin 1024) (j : Fin 5632) :
    (iblk m c 4 t : Vec Ideal S1024x5632 .bf16) (ix2 i j) = m (c, Proc.tc.devRef main_arg4) (ix2 i j) := by
  have e : (iblk m c 4 t : Vec Ideal S1024x5632 .bf16) (ix2 i j) = (V m c main_v1 : Vec Ideal S1024x5632 .bf16) (ix2 i j) := by
    refine congrArg (V m c main_v1 : Vec Ideal S1024x5632 .bf16) (funext fun a => Fin.ext ?_)
    blk_simp [index4 t]
    fin_cases a <;> simp [ix2]
  refine e.trans ?_
  entry_read
  pointwise

theorem weight5_apply (c : Dev nD) (t : Fin grid0.N) (i : Fin 3) (j : Fin 2816) :
    (iblk m c 5 t : Vec Ideal S3x2816 .f32) (ix2 i j) = m (c, Proc.tc.devRef main_arg5) (ix2 i j) := by
  have e : (iblk m c 5 t : Vec Ideal S3x2816 .f32) (ix2 i j) = (V m c main_arg5 : Vec Ideal S3x2816 .f32) (ix2 i j) := by
    refine congrArg (V m c main_arg5 : Vec Ideal S3x2816 .f32) (funext fun a => Fin.ext ?_)
    blk_simp [index5 t]
    fin_cases a <;> simp [ix2]
  refine e.trans ?_
  rfl

theorem weight6_apply (c : Dev nD) (t : Fin grid0.N) (j : Fin 2816) :
    (iblk m c 6 t : Vec Ideal S1x2816 .f32) (ix2 0 j) = m (c, Proc.tc.devRef main_arg6) (ix1 j) := by
  have e : (iblk m c 6 t : Vec Ideal S1x2816 .f32) (ix2 0 j) = (V m c main_v2 : Vec Ideal S1x2816 .f32) (ix2 0 j) := by
    refine congrArg (V m c main_v2 : Vec Ideal S1x2816 .f32) (funext fun a => Fin.ext ?_)
    blk_simp [index6 t]
    fin_cases a <;> simp [ix2]
  refine e.trans ?_
  entry_read
  pointwise

theorem weight7_apply (c : Dev nD) (t : Fin grid0.N) (i : Fin 2816) (j : Fin 1024) :
    (iblk m c 7 t : Vec Ideal S2816x1024 .bf16) (ix2 i j) = m (c, Proc.tc.devRef main_arg7) (ix2 i j) := by
  have e : (iblk m c 7 t : Vec Ideal S2816x1024 .bf16) (ix2 i j) = (V m c main_v3 : Vec Ideal S2816x1024 .bf16) (ix2 i j) := by
    refine congrArg (V m c main_v3 : Vec Ideal S2816x1024 .bf16) (funext fun a => Fin.ext ?_)
    blk_simp [index7 t]
    fin_cases a <;> simp [ix2]
  refine e.trans ?_
  entry_read
  pointwise

theorem weight8_apply (c : Dev nD) (t : Fin grid0.N) (j : Fin 1024) :
    (iblk m c 8 t : Vec Ideal S1x1024 .f32) (ix2 0 j) = m (c, Proc.tc.devRef main_arg8) (ix1 j) := by
  have e : (iblk m c 8 t : Vec Ideal S1x1024 .f32) (ix2 0 j) = (V m c main_v4 : Vec Ideal S1x1024 .f32) (ix2 0 j) := by
    refine congrArg (V m c main_v4 : Vec Ideal S1x1024 .f32) (funext fun a => Fin.ext ?_)
    blk_simp [index8 t]
    fin_cases a <;> simp [ix2]
  refine e.trans ?_
  entry_read
  pointwise

theorem weight9_apply (c : Dev nD) (t : Fin grid0.N) (i : Fin 1024) (j : Fin 1024) :
    (iblk m c 9 t : Vec Ideal S1024x1024 .bf16) (ix2 i j) = m (c, Proc.tc.devRef main_arg9) (ix2 i j) := by
  have e : (iblk m c 9 t : Vec Ideal S1024x1024 .bf16) (ix2 i j) = (V m c main_v5 : Vec Ideal S1024x1024 .bf16) (ix2 i j) := by
    refine congrArg (V m c main_v5 : Vec Ideal S1024x1024 .bf16) (funext fun a => Fin.ext ?_)
    blk_simp [index9 t]
    fin_cases a <;> simp [ix2]
  refine e.trans ?_
  entry_read
  pointwise

theorem weight10_apply (c : Dev nD) (t : Fin grid0.N) (j : Fin 1024) :
    (iblk m c 10 t : Vec Ideal S1x1024 .f32) (ix2 0 j) = m (c, Proc.tc.devRef main_arg10) (ix1 j) := by
  have e : (iblk m c 10 t : Vec Ideal S1x1024 .f32) (ix2 0 j) = (V m c main_v6 : Vec Ideal S1x1024 .f32) (ix2 0 j) := by
    refine congrArg (V m c main_v6 : Vec Ideal S1x1024 .f32) (funext fun a => Fin.ext ?_)
    blk_simp [index10 t]
    fin_cases a <;> simp [ix2]
  refine e.trans ?_
  entry_read
  pointwise

theorem weight11_apply (c : Dev nD) (t : Fin grid0.N) (i : Fin 256) (j : Fin 1024) :
    (iblk m c 11 t : Vec Ideal S256x1024 .bf16) (ix2 i j) = m (c, Proc.tc.devRef main_arg11) (ix2 i j) := by
  have e : (iblk m c 11 t : Vec Ideal S256x1024 .bf16) (ix2 i j) = (V m c main_v7 : Vec Ideal S256x1024 .bf16) (ix2 i j) := by
    refine congrArg (V m c main_v7 : Vec Ideal S256x1024 .bf16) (funext fun a => Fin.ext ?_)
    blk_simp [index11 t]
    fin_cases a <;> simp [ix2]
  refine e.trans ?_
  entry_read
  pointwise

theorem weight12_apply (c : Dev nD) (t : Fin grid0.N) (j : Fin 1024) :
    (iblk m c 12 t : Vec Ideal S1x1024 .f32) (ix2 0 j) = m (c, Proc.tc.devRef main_arg12) (ix1 j) := by
  have e : (iblk m c 12 t : Vec Ideal S1x1024 .f32) (ix2 0 j) = (V m c main_v8 : Vec Ideal S1x1024 .f32) (ix2 0 j) := by
    refine congrArg (V m c main_v8 : Vec Ideal S1x1024 .f32) (funext fun a => Fin.ext ?_)
    blk_simp [index12 t]
    fin_cases a <;> simp [ix2]
  refine e.trans ?_
  entry_read
  pointwise

/-- The program's weights. -/
abbrev weights (c : Dev nD) : Weights :=
  argWeights (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9)) (m (c, Proc.tc.devRef main_arg10)) (m (c, Proc.tc.devRef main_arg11))
    (m (c, Proc.tc.devRef main_arg12))

theorem blockWeights_eq (c : Dev nD) (t : Fin grid0.N) :
    blockWeights (iblk m c 3 t) (iblk m c 4 t) (iblk m c 5 t) (iblk m c 6 t) (iblk m c 7 t) (iblk m c 8 t)
      (iblk m c 9 t) (iblk m c 10 t) (iblk m c 11 t) (iblk m c 12 t) = weights m c := by
  unfold blockWeights weights argWeights
  congr 1
  · exact funext fun j => weight3_apply m c t j
  · exact funext fun i => funext fun j => weight4_apply m c t i j
  · exact funext fun i => funext fun j => weight5_apply m c t i j
  · exact funext fun j => weight6_apply m c t j
  · exact funext fun i => funext fun j => weight7_apply m c t i j
  · exact funext fun j => weight8_apply m c t j
  · exact funext fun i => funext fun j => weight9_apply m c t i j
  · exact funext fun j => weight10_apply m c t j
  · exact funext fun i => funext fun j => weight11_apply m c t i j
  · exact funext fun j => weight12_apply m c t j

theorem half_eq (c : Dev nD) (t : Fin grid0.N) (r : Fin 256) (R : Fin 32768) (hR : R.val = 256 * t.val + r.val)
    (d : Fin 2816) :
    upA (rowOf (φ := .f32) (iblk m c 0 t : Vec Ideal S256x1024 .f32) r)
        (rowOf (φ := .f32) (iblk m c 3 t : Vec Ideal S1x1024 .f32) 0)
        (rowOf (φ := .bf16) (iblk m c 4 t : Vec Ideal S1024x5632 .bf16)) d =
      (weights m c).a (rowOf (φ := .f32) (m (c, Proc.tc.devRef main_arg0)) R) d := by
  have e0 : rowOf (φ := .f32) (iblk m c 0 t : Vec Ideal S256x1024 .f32) r = rowOf (φ := .f32) (m (c, Proc.tc.devRef main_arg0)) R :=
    funext fun j => rows_apply m c t r j R hR
  have e3 : rowOf (φ := .f32) (iblk m c 3 t : Vec Ideal S1x1024 .f32) 0 = (weights m c).normFfn :=
    funext fun j => weight3_apply m c t j
  have e4 : rowOf (φ := .bf16) (iblk m c 4 t : Vec Ideal S1024x5632 .bf16) = (weights m c).up :=
    funext fun i => funext fun j => weight4_apply m c t i j
  rw [e0, e3, e4]
  rfl

/-- What a grid point carries on. -/
theorem carried (c : Dev nD) (t : Fin cfg0.N) (k : Fin 2) (d : Fin 2816) (R : Fin 32768)
    (hR : R.val = 256 * t.val + 254 + k.val) :
    (outsAt0 m c t.val t.isLt).2.2 (ix2 k d) = (weights m c).a (rowOf (φ := .f32) (m (c, Proc.tc.devRef main_arg0)) R) d := by
  have hk := k.isLt
  by_cases h : t.val % 32 = 0
  · rw [outsAt0_A m c t h]
    dsimp only
    rw [carry_A]
    exact (half_eq m c t ⟨254 + k.val, by omega⟩ R (by simp; omega) d)
  · rw [outsAt0_B m c t h]
    dsimp only
    rw [carry_B]
    exact (half_eq m c t ⟨254 + k.val, by omega⟩ R (by simp; omega) d)

/-- The last two rows of a grid point. -/
theorem tail_at (c : Dev nD) (t : Fin cfg0.N) (k : Fin 2) (d : Fin 2816) (R : Fin 32768)
    (hR : R.val = 256 * t.val + 254 + k.val) :
    (outsAt0 m c t.val t.isLt).2.1 (ix3 0 k d) = (weights m c).a (rowOf (φ := .f32) (m (c, Proc.tc.devRef main_arg0)) R) d := by
  have hk := k.isLt
  by_cases h : t.val % 32 = 0
  · rw [outsAt0_A m c t h]
    dsimp only
    rw [tail_A]
    exact (half_eq m c t ⟨254 + k.val, by omega⟩ R (by simp; omega) d)
  · rw [outsAt0_B m c t h]
    dsimp only
    rw [tail_B]
    exact (half_eq m c t ⟨254 + k.val, by omega⟩ R (by simp; omega) d)

/-- The rows before a row of a grid point, when the two carried ones are right. -/
theorem before_eq (c : Dev nD) (t : Fin grid0.N) (s : Vec Ideal S2x2816 .f32) (b : Fin 4) (q : Fin 8192) (r : Fin 256)
    (hb : b.val = t.val / 32) (hq : q.val = 256 * (t.val % 32) + r.val) (k : ℕ) (hk : k ≤ 2)
    (hs : ∀ (i : Fin 2) (d : Fin 2816), r.val + 2 = i.val + k →
      s (ix2 i d) = past (weights m c) (m (c, Proc.tc.devRef main_arg0)) (m (c, Proc.tc.devRef main_arg2)) k hk b q d) :
    before s (k0_pay3 (F := Ideal) (iblk m c 0 t) (iblk m c 3 t) (iblk m c 4 t)) k hk r =
      past (weights m c) (m (c, Proc.tc.devRef main_arg0)) (m (c, Proc.tc.devRef main_arg2)) k hk b q := by
  funext d
  have hr := r.isLt
  have hbl := b.isLt
  unfold before
  split_ifs with h
  · rw [past, dif_pos (by omega)]
    refine (upA_apply _ _ _ _ d).trans ?_
    exact half_eq m c t ⟨r.val - k, by omega⟩ ⟨8192 * b.val + q.val - k, by omega⟩ (by simp; omega) d
  · exact hs _ d (by simp; omega)

/-- The layer's row at a row of a grid point. -/
theorem row_eq (c : Dev nD) (t : Fin grid0.N) (b : Fin 4) (q : Fin 8192) (r : Fin 256)
    (hb : b.val = t.val / 32) (hq : q.val = 256 * (t.val % 32) + r.val) (d : Fin 1024) :
    (blockWeights (iblk m c 3 t) (iblk m c 4 t) (iblk m c 5 t) (iblk m c 6 t) (iblk m c 7 t) (iblk m c 8 t)
      (iblk m c 9 t) (iblk m c 10 t) (iblk m c 11 t) (iblk m c 12 t)).inner
      (rowOf (φ := .f32) (iblk m c 0 t : Vec Ideal S256x1024 .f32) r)
      (rowOf (φ := .f32) (iblk m c 1 t : Vec Ideal S256x256 .f32) r)
      (past (weights m c) (m (c, Proc.tc.devRef main_arg0)) (m (c, Proc.tc.devRef main_arg2)) 1 (by omega) b q) (past (weights m c) (m (c, Proc.tc.devRef main_arg0)) (m (c, Proc.tc.devRef main_arg2)) 2 le_rfl b q) d =
    outRow (weights m c) (m (c, Proc.tc.devRef main_arg0)) (m (c, Proc.tc.devRef main_arg1)) (m (c, Proc.tc.devRef main_arg2)) b q d := by
  have hr := r.isLt
  have hbl := b.isLt
  have e0 : rowOf (φ := .f32) (iblk m c 0 t : Vec Ideal S256x1024 .f32) r =
      rowOf (φ := .f32) (m (c, Proc.tc.devRef main_arg0)) ⟨8192 * b.val + q.val, by omega⟩ :=
    funext fun j => rows_apply m c t r j _ (by simp; omega)
  have e1 : rowOf (φ := .f32) (iblk m c 1 t : Vec Ideal S256x256 .f32) r =
      rowOf (φ := .f32) (m (c, Proc.tc.devRef main_arg1)) ⟨8192 * b.val + q.val, by omega⟩ :=
    funext fun j => embeds_apply m c t r j _ (by simp; omega)
  rw [blockWeights_eq, e0, e1]
  rfl

/-- What a grid point writes. -/
theorem out_at (c : Dev nD) (t : Fin cfg0.N) (r : Fin 256) (d : Fin 1024) (b : Fin 4) (q : Fin 8192)
    (hb : b.val = t.val / 32) (hq : q.val = 256 * (t.val % 32) + r.val) :
    (outsAt0 m c t.val t.isLt).1 (ix2 r d) = outRow (weights m c) (m (c, Proc.tc.devRef main_arg0)) (m (c, Proc.tc.devRef main_arg1)) (m (c, Proc.tc.devRef main_arg2)) b q d := by
  have hr := r.isLt
  have hbl := b.isLt
  by_cases h : t.val % 32 = 0
  · have hs : ∀ (k : ℕ) (hk : k ≤ 2) (i : Fin 2) (d : Fin 2816), r.val + 2 = i.val + k →
        k0_pay5 (F := Ideal) (iblk m c 2 t) (ix2 i d) = past (weights m c) (m (c, Proc.tc.devRef main_arg0)) (m (c, Proc.tc.devRef main_arg2)) k hk b q d := by
      intro k hk i d hi
      have hi2 := i.isLt
      rw [past, dif_neg (by omega)]
      refine (carryIn_apply _ i d).trans ((given_apply m c t i d b hb).trans ?_)
      exact congrArg (m (c, Proc.tc.devRef main_arg2)) (congrArg (fun i => ix3 b i d) (Fin.ext (by simp; omega)))
    rw [outsAt0_A m c t h]
    dsimp only
    rw [out_A]
    rw [before_eq m c t _ b q r hb hq 1 (by omega) (hs 1 _), before_eq m c t _ b q r hb hq 2 le_rfl (hs 2 _)]
    exact row_eq m c t b q r hb hq d
  · obtain ⟨n, hn⟩ := t
    cases n with
    | zero => exact absurd (Nat.zero_mod 32) h
    | succ n =>
      have hN : n + 1 < 128 := lt_of_lt_of_eq hn N_0
      simp only at h hb hq
      have hs : ∀ (k : ℕ) (hk : k ≤ 2) (i : Fin 2) (d : Fin 2816), r.val + 2 = i.val + k →
          (outsAt0 m c n (Nat.lt_of_succ_lt hn)).2.2 (ix2 i d) =
            past (weights m c) (m (c, Proc.tc.devRef main_arg0)) (m (c, Proc.tc.devRef main_arg2)) k hk b q d := by
        intro k hk i d hi
        have hi2 := i.isLt
        rw [past, dif_pos (by omega)]
        exact carried m c ⟨n, Nat.lt_of_succ_lt hn⟩ i d _ (by simp; omega)
      rw [outsAt0_B m c ⟨n + 1, hn⟩ h]
      dsimp only
      rw [out_B]
      refine Eq.trans ?_ (row_eq m c ⟨n + 1, hn⟩ b q r hb hq d)
      exact congrFun (congrArg₂ (Weights.inner _ _ _)
        (before_eq m c ⟨n + 1, hn⟩ _ b q r hb hq 1 (by omega) (hs 1 _))
        (before_eq m c ⟨n + 1, hn⟩ _ b q r hb hq 2 le_rfl (hs 2 _))) d

theorem out_array (c : Dev nD) :
    Value.G13 m c = layerOut (weights m c) (m (c, Proc.tc.devRef main_arg0)) (m (c, Proc.tc.devRef main_arg1)) (m (c, Proc.tc.devRef main_arg2)) := by
  funext y
  change S32768x1024.Idx at y
  obtain ⟨R, d, rfl⟩ : ∃ (R : Fin 32768) (d : Fin 1024), y = ix2 R d := ⟨y 0, y 1, eq_ix2 y⟩
  have hR := R.isLt
  have hd := d.isLt
  have hp : Value.pt13Of (ix2 R d) = R.val / 256 := by
    simp [Value.pt13Of, Value.run13Of, ix2]
  have hlt : Value.pt13Of (ix2 R d) < cfg0.N := by rw [hp]; exact lt_of_lt_of_eq (by omega) N_0.symm
  unfold Value.G13
  rw [dif_pos hlt, ← Value.outsAt0_sweep m c _ hlt]
  have hl : Value.loc13Of (ix2 R d) = ix2 ⟨R.val % 256, by omega⟩ d := by
    funext a
    fin_cases a
    · rfl
    · exact Fin.ext (Nat.mod_eq_of_lt hd)
  rw [hl]
  exact out_at m c ⟨_, hlt⟩ _ d _ _ (by simp only [hp]; simp only [ix2]; omega)
    (by simp only [hp]; simp only [ix2]; omega)

theorem tail_array (c : Dev nD) :
    Value.G14 m c = layerTail (weights m c) (m (c, Proc.tc.devRef main_arg0)) := by
  funext y
  change S4x2x2816.Idx at y
  obtain ⟨b, k, d, rfl⟩ : ∃ (b : Fin 4) (k : Fin 2) (d : Fin 2816), y = ix3 b k d := ⟨y 0, y 1, y 2, eq_ix3 y⟩
  have hb := b.isLt
  have hk := k.isLt
  have hd := d.isLt
  have hp : Value.pt14Of (ix3 b k d) = 32 * b.val + 31 := by
    simp [Value.pt14Of, Value.run14Of, ix3]; omega
  have hlt : Value.pt14Of (ix3 b k d) < cfg0.N := by rw [hp]; exact lt_of_lt_of_eq (by omega) N_0.symm
  unfold Value.G14
  rw [dif_pos hlt, ← Value.outsAt0_sweep m c _ hlt]
  have hl : Value.loc14Of (ix3 b k d) = ix3 0 k d := by
    funext a
    fin_cases a
    · exact Subsingleton.elim (α := Fin 1) _ _
    · exact Fin.ext (Nat.mod_eq_of_lt hk)
    · exact Fin.ext (Nat.mod_eq_of_lt hd)
  rw [hl]
  exact tail_at m c ⟨_, hlt⟩ k d _ (by simp [hp, ix3]; omega)

end Proof.Ffn.First

end
-- ==== Proof.Ffn.First.Ref.lean ====
module

public import proofs.«01_k».proof.Proof.Gen.Reference7Ideal.Run
public import proofs.«01_k».proof.Proof.Ffn.First.Row
public import Idealize.ShloMosaic.Lib.Pointwise

/-!
The first layer's feed-forward reference's two arrays, row by row: they are the layer's rows and its last convolved rows.
-/

@[expose] public section

set_option maxRecDepth 16384

noncomputable section

namespace Proof.Ffn.First.Ref

open Idealize.ShloMosaic Idealize.ShloMosaic.TcCoe Cert.Reference7Ideal Cert.Reference7Ideal.Gen

/-- The normalised rows. -/
def normed (h : FVec Ideal S4x8192x1024 .f32) (g : FVec Ideal S1024 .f32) : FVec Ideal S4x8192x1024 .f32 :=
  mulf (mulf h (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf h h) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

/-- The rows of all prompts, by prompt. -/
def byPrompt (h : FVec Ideal S32768x1024 .f32) : FVec Ideal S4x8192x1024 .f32 :=
  shapeCast _ h shapeCasts_S32768x1024_S4x8192x1024

/-- The projection upwards of normalised rows. -/
def proj (n : FVec Ideal S4x8192x1024 .f32) (w : FVec Ideal S1024x5632 .f32) : FVec Ideal S4x8192x5632 .f32 :=
  Host.dotGeneral dot_S4x8192x1024_S1024x5632_S4x8192x5632_2_0_01_1_n_n none n w

/-- The given rows, and after them the first half of the projection. -/
def ext (buf : FVec Ideal S4x2x2816 .f32) (u : FVec Ideal S4x8192x5632 .f32) : FVec Ideal S4x8194x2816 .f32 :=
  concatenate S4x8194x2816 1 [⟨S4x2x2816, buf⟩, ⟨S4x8192x2816, (extractStridedSlice S4x8192x2816 ![0, 0, 0] u slices_S4x8192x5632_S4x8192x2816_0_0_0)⟩] concatenates_S4x2x2816_S4x8192x2816_S4x8194x2816_d1

/-- The convolution. -/
def convolved (e : FVec Ideal S4x8194x2816 .f32) (cw : FVec Ideal S3x2816 .f32) (cb : FVec Ideal S2816 .f32) :
    FVec Ideal S4x8192x2816 .f32 :=
  addf (addf (addf (broadcastInDim S4x8192x2816 ![0, 1, 2] bcast_S1x1x2816_S4x8192x2816_0_1_2 (broadcastInDim S1x1x2816 ![2] bcast_S2816_S1x1x2816_2 cb)) (mulf (broadcastInDim S4x8192x2816 ![0, 1, 2] bcast_S1x1x2816_S4x8192x2816_0_1_2 (broadcastInDim S1x1x2816 ![2] bcast_S2816_S1x1x2816_2 (shapeCast _ (extractStridedSlice S1x2816 ![0, 0] cw slices_S3x2816_S1x2816_0_0) shapeCasts_S1x2816_S2816))) (extractStridedSlice S4x8192x2816 ![0, 0, 0] e slices_S4x8194x2816_S4x8192x2816_0_0_0))) (mulf (broadcastInDim S4x8192x2816 ![0, 1, 2] bcast_S1x1x2816_S4x8192x2816_0_1_2 (broadcastInDim S1x1x2816 ![2] bcast_S2816_S1x1x2816_2 (shapeCast _ (extractStridedSlice S1x2816 ![1, 0] cw slices_S3x2816_S1x2816_1_0) shapeCasts_S1x2816_S2816))) (extractStridedSlice S4x8192x2816 ![0, 1, 0] e slices_S4x8194x2816_S4x8192x2816_0_1_0))) (mulf (broadcastInDim S4x8192x2816 ![0, 1, 2] bcast_S1x1x2816_S4x8192x2816_0_1_2 (broadcastInDim S1x1x2816 ![2] bcast_S2816_S1x1x2816_2 (shapeCast _ (extractStridedSlice S1x2816 ![2, 0] cw slices_S3x2816_S1x2816_2_0) shapeCasts_S1x2816_S2816))) (extractStridedSlice S4x8192x2816 ![0, 2, 0] e slices_S4x8194x2816_S4x8192x2816_0_2_0))

/-- The rows after the feed-forward part. -/
def fed (h : FVec Ideal S4x8192x1024 .f32) (v : FVec Ideal S4x8192x2816 .f32) (u : FVec Ideal S4x8192x5632 .f32)
    (w : FVec Ideal S2816x1024 .f32) : FVec Ideal S4x8192x1024 .f32 :=
  addf h (Host.dotGeneral dot_S4x8192x2816_S2816x1024_S4x8192x1024_2_0_01_1_n_n none (mulf (mulf v (mulf (broadcastInDim S4x8192x2816 ![] bcast_S_S4x8192x2816 (constant S_ .f32 0x3F000000#32)) (addf (broadcastInDim S4x8192x2816 ![] bcast_S_S4x8192x2816 (constant S_ .f32 0x3F800000#32)) (Host.tanh (mulf (broadcastInDim S4x8192x2816 ![] bcast_S_S4x8192x2816 (constant S_ .f32 0x3F4C422A#32)) (addf v (mulf (broadcastInDim S4x8192x2816 ![] bcast_S_S4x8192x2816 (constant S_ .f32 0x3D372713#32)) (mulf (mulf v v) v)))))))) (extractStridedSlice S4x8192x2816 ![0, 0, 2816] u slices_S4x8192x5632_S4x8192x2816_0_0_2816)) w)

/-- The rows with the gated per-layer embedding. -/
def embedded (h n : FVec Ideal S4x8192x1024 .f32) (p : FVec Ideal S32768x256 .f32) (w : FVec Ideal S1024x1024 .f32)
    (b : FVec Ideal S1024 .f32) (v : FVec Ideal S256x1024 .f32) : FVec Ideal S4x8192x1024 .f32 :=
  addf h (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (addf (Host.dotGeneral dot_S4x8192x1024_S1024x1024_S4x8192x1024_2_0_01_1_n_n none n w) (broadcastInDim S4x8192x1024 ![0, 1, 2] bcast_S1x1x1024_S4x8192x1024_0_1_2 (broadcastInDim S1x1x1024 ![2] bcast_S1024_S1x1x1024_2 b))))))) (Host.dotGeneral dot_S4x8192x256_S256x1024_S4x8192x1024_2_0_01_1_n_n none (shapeCast _ p shapeCasts_S32768x256_S4x8192x256) v))

/-- The rows, prompt after prompt. -/
def allRows (h : FVec Ideal S4x8192x1024 .f32) : FVec Ideal S32768x1024 .f32 :=
  shapeCast _ h shapeCasts_S4x8192x1024_S32768x1024

/-- The last two rows of the convolved half. -/
def lastTwo (e : FVec Ideal S4x8194x2816 .f32) : FVec Ideal S4x2x2816 .f32 :=
  extractStridedSlice S4x2x2816 ![0, 8192, 0] e slices_S4x8194x2816_S4x2x2816_0_8192_0

theorem normed_apply (h : FVec Ideal S4x8192x1024 .f32) (g : FVec Ideal S1024 .f32) (b : Fin 4) (q : Fin 8192)
    (d : Fin 1024) : normed h g (ix3 b q d) = rms (fun j => h (ix3 b q j)) (fun j => g (ix1 j)) d := by
  pointwise [normed]
  rfl

theorem byPrompt_apply (h : FVec Ideal S32768x1024 .f32) (b : Fin 4) (q : Fin 8192) (d : Fin 1024) :
    byPrompt h (ix3 b q d) = h (ix2 ⟨8192 * b.val + q.val, by omega⟩ d) := by
  pointwise [byPrompt]
  exact congrArg h (congrArg (fun i => ix2 i d) (Fin.ext (by simp; omega)))

theorem proj_apply (n : FVec Ideal S4x8192x1024 .f32) (w : FVec Ideal S1024x5632 .f32) (b : Fin 4) (q : Fin 8192)
    (d : Fin 5632) : proj n w (ix3 b q d) = ∑ c : Fin 1024, n (ix3 b q c) * w (ix2 c d) := by
  pointwise [proj]

theorem ext_apply (buf : FVec Ideal S4x2x2816 .f32) (u : FVec Ideal S4x8192x5632 .f32) (b : Fin 4) (e : Fin 8194)
    (d : Fin 2816) : ext buf u (ix3 b e d) =
      if h : e.val < 2 then buf (ix3 b ⟨e.val, h⟩ d) else u (ix3 b ⟨e.val - 2, by omega⟩ ⟨d.val, by omega⟩) := by
  pointwise [ext]

/-- The taps, in the other order. -/
theorem taps (o x y z : EReal) : o + x + y + z = o + z + y + x := by
  rw [add_assoc o, add_assoc o, add_assoc o, add_assoc o, add_comm x y, add_comm (y + x), ← add_assoc z]

theorem convolved_apply (e : FVec Ideal S4x8194x2816 .f32) (cw : FVec Ideal S3x2816 .f32) (cb : FVec Ideal S2816 .f32)
    (b : Fin 4) (q : Fin 8192) (d : Fin 2816) : convolved e cw cb (ix3 b q d) =
      conv (cb (ix1 d)) (fun k => cw (ix2 k d)) (e (ix3 b ⟨q.val + 2, by omega⟩ d)) (e (ix3 b ⟨q.val + 1, by omega⟩ d))
        (e (ix3 b ⟨q.val, by omega⟩ d)) := by
  pointwise [convolved]
  have h1 : (⟨1 + q.val, by omega⟩ : Fin 8194) = ⟨q.val + 1, by omega⟩ := Fin.ext (Nat.add_comm _ _)
  have h2 : (⟨2 + q.val, by omega⟩ : Fin 8194) = ⟨q.val + 2, by omega⟩ := Fin.ext (Nat.add_comm _ _)
  rw [h1, h2]
  exact taps _ _ _ _

theorem fed_apply (h : FVec Ideal S4x8192x1024 .f32) (v : FVec Ideal S4x8192x2816 .f32) (u : FVec Ideal S4x8192x5632 .f32)
    (w : FVec Ideal S2816x1024 .f32) (b : Fin 4) (q : Fin 8192) (d : Fin 1024) : fed h v u w (ix3 b q d) =
      mid (fun j => h (ix3 b q j)) (fun j => u (ix3 b q ⟨2816 + j.val, by omega⟩)) (fun j => v (ix3 b q j)) (rowOf w) d := by
  pointwise [fed]
  simp only [mid, gelu, mul_comm (_ * _) (v _)]

theorem embedded_apply (h n : FVec Ideal S4x8192x1024 .f32) (p : FVec Ideal S32768x256 .f32)
    (w : FVec Ideal S1024x1024 .f32) (g : FVec Ideal S1024 .f32) (v : FVec Ideal S256x1024 .f32) (b : Fin 4)
    (q : Fin 8192) (d : Fin 1024) : embedded h n p w g v (ix3 b q d) =
      embed (fun j => h (ix3 b q j)) (fun j => n (ix3 b q j)) (rowOf w) (fun j => g (ix1 j))
        (rowOf p ⟨8192 * b.val + q.val, by omega⟩) (rowOf v) d := by
  pointwise [embedded]
  have hq : (⟨b.val * 8192 + q.val, by omega⟩ : Fin 32768) = ⟨8192 * b.val + q.val, by omega⟩ :=
    Fin.ext (by simp only; omega)
  exact congrArg (fun i => embed (fun j => h (ix3 b q j)) (fun j => n (ix3 b q j)) (rowOf w) (fun j => g (ix1 j))
    (rowOf p i) (rowOf v) d) hq

theorem allRows_apply (h : FVec Ideal S4x8192x1024 .f32) (R : Fin 32768) (d : Fin 1024) :
    allRows h (ix2 R d) = h (ix3 ⟨R.val / 8192, by omega⟩ ⟨R.val % 8192, by omega⟩ d) := by
  pointwise [allRows]

theorem lastTwo_apply (e : FVec Ideal S4x8194x2816 .f32) (b : Fin 4) (k : Fin 2) (d : Fin 2816) :
    lastTwo e (ix3 b k d) = e (ix3 b ⟨8192 + k.val, by omega⟩ d) := by
  pointwise [lastTwo]

/-- The reference's rows and its convolved rows, as arrays of the arguments. -/
def outArr (a0 : FVec Ideal S32768x1024 .f32) (a1 : FVec Ideal S32768x256 .f32) (a2 : FVec Ideal S4x2x2816 .f32)
    (a3 : FVec Ideal S1024 .f32) (a4 : FVec Ideal S1024x5632 .f32) (a5 : FVec Ideal S3x2816 .f32)
    (a6 : FVec Ideal S2816 .f32) (a7 : FVec Ideal S2816x1024 .f32) (a8 : FVec Ideal S1024 .f32)
    (a9 : FVec Ideal S1024x1024 .f32) (a10 : FVec Ideal S1024 .f32) (a11 : FVec Ideal S256x1024 .f32)
    (a12 : FVec Ideal S1024 .f32) : FVec Ideal S32768x1024 .f32 :=
  let x := byPrompt a0
  let u := proj (normed x a3) a4
  let f := fed x (convolved (ext a2 u) a5 a6) u a7
  allRows (embedded f (normed f a8) a1 a9 a10 a11)

/-- The last two convolved rows of every prompt. -/
def tailArr (a0 : FVec Ideal S32768x1024 .f32) (a2 : FVec Ideal S4x2x2816 .f32) (a3 : FVec Ideal S1024 .f32)
    (a4 : FVec Ideal S1024x5632 .f32) : FVec Ideal S4x2x2816 .f32 :=
  lastTwo (ext a2 (proj (normed (byPrompt a0) a3) a4))

section Rows

variable (a0 : FVec Ideal S32768x1024 .f32) (a1 : FVec Ideal S32768x256 .f32) (a2 : FVec Ideal S4x2x2816 .f32)
  (a3 : FVec Ideal S1024 .f32) (a4 : FVec Ideal S1024x5632 .f32) (a5 : FVec Ideal S3x2816 .f32)
  (a6 : FVec Ideal S2816 .f32) (a7 : FVec Ideal S2816x1024 .f32) (a8 : FVec Ideal S1024 .f32)
  (a9 : FVec Ideal S1024x1024 .f32) (a10 : FVec Ideal S1024 .f32) (a11 : FVec Ideal S256x1024 .f32)
  (a12 : FVec Ideal S1024 .f32)

theorem up_row (b : Fin 4) (q : Fin 8192) (d : Fin 5632) :
    proj (normed (byPrompt a0) a3) a4 (ix3 b q d) =
      up (rowOf a0 ⟨8192 * b.val + q.val, by omega⟩) (fun j => a3 (ix1 j)) (rowOf a4) d := by
  simp only [proj_apply, normed_apply, byPrompt_apply]
  rfl

/-- The extended rows, `2 - k` after the position: the convolved half, `k` positions before. -/
theorem ext_row (b : Fin 4) (q : Fin 8192) (k : ℕ) (hk : k ≤ 2) (e : Fin 8194) (he : e.val + k = q.val + 2)
    (d : Fin 2816) : ext a2 (proj (normed (byPrompt a0) a3) a4) (ix3 b e d) =
      past (argWeights a3 a4 a5 a6 a7 a8 a9 a10 a11 a12) a0 a2 k hk b q d := by
  rw [ext_apply, past]
  by_cases h : e.val < 2
  · rw [dif_pos h, dif_neg (by omega)]
    exact congrArg (fun i => a2 (ix3 b i d)) (Fin.ext (by simp only; omega))
  · rw [dif_neg h, dif_pos (by omega), up_row]
    exact congrArg (fun i => upA (rowOf a0 i) (fun j => a3 (ix1 j)) (rowOf a4) d) (Fin.ext (by simp only; omega))

theorem past_zero (W : Weights) (b : Fin 4) (q : Fin 8192) :
    past W a0 a2 0 (by omega) b q = W.a (rowOf a0 ⟨8192 * b.val + q.val, by omega⟩) := by
  funext d
  rw [past, dif_pos (Nat.zero_le _)]
  rfl

theorem fed_row (b : Fin 4) (q : Fin 8192) (d : Fin 1024) :
    fed (byPrompt a0) (convolved (ext a2 (proj (normed (byPrompt a0) a3) a4)) a5 a6)
        (proj (normed (byPrompt a0) a3) a4) a7 (ix3 b q d) =
      (argWeights a3 a4 a5 a6 a7 a8 a9 a10 a11 a12).mid (rowOf a0 ⟨8192 * b.val + q.val, by omega⟩)
        (past (argWeights a3 a4 a5 a6 a7 a8 a9 a10 a11 a12) a0 a2 1 (by omega) b q)
        (past (argWeights a3 a4 a5 a6 a7 a8 a9 a10 a11 a12) a0 a2 2 le_rfl b q) d := by
  rw [fed_apply]
  simp only [byPrompt_apply, convolved_apply, up_row]
  simp only [ext_row a0 a2 a3 a4 a5 a6 a7 a8 a9 a10 a11 a12 b q 0 (by omega) ⟨q.val + 2, by omega⟩ rfl,
    ext_row a0 a2 a3 a4 a5 a6 a7 a8 a9 a10 a11 a12 b q 1 (by omega) ⟨q.val + 1, by omega⟩ rfl,
    ext_row a0 a2 a3 a4 a5 a6 a7 a8 a9 a10 a11 a12 b q 2 le_rfl ⟨q.val, by omega⟩ rfl, past_zero]
  rfl

theorem out_row (R : Fin 32768) (d : Fin 1024) : outArr a0 a1 a2 a3 a4 a5 a6 a7 a8 a9 a10 a11 a12 (ix2 R d) =
    outRow (argWeights a3 a4 a5 a6 a7 a8 a9 a10 a11 a12) a0 a1 a2 ⟨R.val / 8192, by omega⟩
      ⟨R.val % 8192, by omega⟩ d := by
  simp only [outArr, allRows_apply]
  simp only [embedded_apply, normed_apply, fed_row a0 a2 a3 a4 a5 a6 a7 a8 a9 a10 a11 a12]
  rfl

theorem tail_row (b : Fin 4) (k : Fin 2) (d : Fin 2816) : tailArr a0 a2 a3 a4 (ix3 b k d) =
    (argWeights a3 a4 a5 a6 a7 a8 a9 a10 a11 a12).a (rowOf a0 ⟨8192 * b.val + 8190 + k.val, by omega⟩) d := by
  rw [tailArr, lastTwo_apply, ext_row a0 a2 a3 a4 a5 a6 a7 a8 a9 a10 a11 a12 b ⟨8190 + k.val, by omega⟩ 0
    (by omega) _ (by simp only; omega), past_zero]
  exact congrArg (fun i => (argWeights a3 a4 a5 a6 a7 a8 a9 a10 a11 a12).a (rowOf a0 i) d)
    (Fin.ext (by simp only; omega))

theorem out_eq : outArr a0 a1 a2 a3 a4 a5 a6 a7 a8 a9 a10 a11 a12 =
    layerOut (argWeights a3 a4 a5 a6 a7 a8 a9 a10 a11 a12) a0 a1 a2 := by
  funext y
  have hy : y = ix2 (y 0) (y 1) := by
    funext a
    fin_cases a <;> rfl
  exact (congrArg _ hy).trans (out_row a0 a1 a2 a3 a4 a5 a6 a7 a8 a9 a10 a11 a12 (y 0) (y 1))

theorem tail_eq : tailArr a0 a2 a3 a4 = layerTail (argWeights a3 a4 a5 a6 a7 a8 a9 a10 a11 a12) a0 := by
  funext y
  have hy : y = ix3 (y 0) (y 1) (y 2) := by
    funext a
    fin_cases a <;> rfl
  exact (congrArg _ hy).trans (tail_row a0 a2 a3 a4 a5 a6 a7 a8 a9 a10 a11 a12 (y 0) (y 1) (y 2))

end Rows

/-- What the reference leaves for the convolved rows, by name. -/
theorem tail_res (m : (ℓ : Loc nD τ sig) → Buf (Elt Ideal) ℓ) (c : Dev nD) :
    extractStridedSlice S4x2x2816 ![0, 8192, 0] (Cert.Reference7Ideal.Value.res_main_v17 (Idealize.ShloMosaic.StableHlo.launchContents m c))
        slices_S4x8194x2816_S4x2x2816_0_8192_0 =
      tailArr (m ((c.tc : Thread nD τ).loc main_arg0)) (m ((c.tc : Thread nD τ).loc main_arg2)) (m ((c.tc : Thread nD τ).loc main_arg3)) (m ((c.tc : Thread nD τ).loc main_arg4)) := by
  rfl

/-- What the reference leaves for the rows, by name. -/
theorem out_res (m : (ℓ : Loc nD τ sig) → Buf (Elt Ideal) ℓ) (c : Dev nD) :
    allRows (embedded (Cert.Reference7Ideal.Value.res_main_v57 (Idealize.ShloMosaic.StableHlo.launchContents m c))
        (normed (Cert.Reference7Ideal.Value.res_main_v57 (Idealize.ShloMosaic.StableHlo.launchContents m c)) (m ((c.tc : Thread nD τ).loc main_arg8)))
        (m ((c.tc : Thread nD τ).loc main_arg1)) (m ((c.tc : Thread nD τ).loc main_arg9)) (m ((c.tc : Thread nD τ).loc main_arg10)) (m ((c.tc : Thread nD τ).loc main_arg11))) =
      outArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) := by
  rfl

end Proof.Ffn.First.Ref

end
-- ==== Proof.Ffn.First.Sample.Row.lean ====
module

public import proofs.«01_k».proof.Proof.Ffn.First.Row

/-!
The first layer's feed-forward part on the sample, 128 sequences of 8 positions: its rows and its last convolved rows.
-/

@[expose] public section

noncomputable section

namespace Proof.Ffn.First.Sample

open Idealize.ShloMosaic

/-- The convolved half, `k` positions before position `q` of sequence `b`: a position before the sequence's first is
taken from the two rows that the layer is given. -/
def past (W : Weights) (h : FVec Ideal ⟨2, ![1024, 1024]⟩ .f32) (buf : FVec Ideal ⟨3, ![128, 2, 2816]⟩ .f32) (k : ℕ)
    (hk : k ≤ 2) (b : Fin 128) (q : Fin 8) (d : Fin 2816) : EReal :=
  if H : k ≤ q.val then W.a (rowOf h ⟨8 * b.val + q.val - k, by omega⟩) d
  else buf (ix3 b ⟨q.val + 2 - k, by omega⟩ d)

/-- The layer at position `q` of sequence `b`. -/
def outRow (W : Weights) (h : FVec Ideal ⟨2, ![1024, 1024]⟩ .f32) (p : FVec Ideal ⟨2, ![1024, 256]⟩ .f32)
    (buf : FVec Ideal ⟨3, ![128, 2, 2816]⟩ .f32) (b : Fin 128) (q : Fin 8) : Fin 1024 → EReal :=
  W.inner (rowOf h ⟨8 * b.val + q.val, by omega⟩) (rowOf p ⟨8 * b.val + q.val, by omega⟩)
    (past W h buf 1 (by omega) b q) (past W h buf 2 le_rfl b q)

/-- The layer's rows, sequence after sequence. -/
def layerOut (W : Weights) (h : FVec Ideal ⟨2, ![1024, 1024]⟩ .f32) (p : FVec Ideal ⟨2, ![1024, 256]⟩ .f32)
    (buf : FVec Ideal ⟨3, ![128, 2, 2816]⟩ .f32) : FVec Ideal ⟨2, ![1024, 1024]⟩ .f32 := fun y =>
  outRow W h p buf ⟨(y 0).val / 8, Nat.div_lt_of_lt_mul (y 0).isLt⟩ ⟨(y 0).val % 8, Nat.mod_lt _ (by norm_num)⟩ (y 1)

/-- The convolved half at the last two positions of every sequence. -/
def layerTail (W : Weights) (h : FVec Ideal ⟨2, ![1024, 1024]⟩ .f32) : FVec Ideal ⟨3, ![128, 2, 2816]⟩ .f32 := fun y =>
  W.a (rowOf h ⟨8 * (y 0).val + 6 + (y 1).val, by
    have h0 : (y 0).val < 128 := (y 0).isLt
    have h1 : (y 1).val < 2 := (y 1).isLt
    omega⟩) (y 2)

end Proof.Ffn.First.Sample

end
-- ==== Proof.Ffn.First.Sample.Point.lean ====
module

public import proofs.«01_k».proof.Proof.Gen.Kernel8Ideal.Value
public import proofs.«01_k».proof.Proof.Ffn.First.Sample.Row
public import Idealize.ShloMosaic.Lib.Pointwise
public import Idealize.ShloMosaic.Lib.WordCmp
public import Idealize.ShloMosaic.Lib.Pipeline.ValueKit

/-!
What one grid point of the first layer's feed-forward kernel computes on the sample, row by row: the point's 256 rows are 32
sequences of 8 positions, and every row comes with the two rows of the convolved half given before its sequence.
-/

@[expose] public section

set_option maxRecDepth 16384

noncomputable section

namespace Proof.Ffn.First.Sample

open Idealize.ShloMosaic Cert.Kernel8Ideal Cert.Kernel8Ideal.Gen

theorem up_apply (x : Vec Ideal S256x1024 .f32) (g : Vec Ideal S1x1024 .f32) (w : Vec Ideal S1024x5632 .bf16)
    (r : Fin 256) (d : Fin 5632) :
    k0_pay2 (F := Ideal) x g w (ix2 r d) = up (rowOf (φ := .f32) x r) (rowOf (φ := .f32) g 0) (rowOf (φ := .bf16) w) d := by
  pointwise [k0_pay2]
  rfl

theorem upA_apply (x : Vec Ideal S256x1024 .f32) (g : Vec Ideal S1x1024 .f32) (w : Vec Ideal S1024x5632 .bf16)
    (r : Fin 256) (d : Fin 2816) :
    k0_pay3 (F := Ideal) x g w (ix2 r d) = upA (rowOf (φ := .f32) x r) (rowOf (φ := .f32) g 0) (rowOf (φ := .bf16) w) d := by
  pointwise [k0_pay3]
  exact up_apply x g w r _

theorem upB_apply (x : Vec Ideal S256x1024 .f32) (g : Vec Ideal S1x1024 .f32) (w : Vec Ideal S1024x5632 .bf16)
    (r : Fin 256) (d : Fin 2816) :
    k0_pay4 (F := Ideal) x g w (ix2 r d) = upB (rowOf (φ := .f32) x r) (rowOf (φ := .f32) g 0) (rowOf (φ := .bf16) w) d := by
  pointwise [k0_pay4]
  exact up_apply x g w r _

/-- The position of a row in its sequence, as the kernel's word. -/
theorem place_apply : ∀ r : Fin 256, k0_pay11 (ix2 r 0) = BitVec.ofNat 32 (r.val % 8) := by decide +kernel

theorem first_apply : ∀ r : Fin 256, k0_pay12 (ix2 r 0) = if r.val % 8 = 0 then 1 else 0 := by decide +kernel

theorem select_first (r : Fin 256) (x y : EReal) :
    Scalar.select (k0_pay12 (ix2 r 0)) x y = if r.val % 8 = 0 then x else y := by
  rw [first_apply]
  by_cases h : r.val % 8 = 0
  · rw [if_pos h, if_pos h]
    rfl
  · rw [if_neg h, if_neg h]
    rfl

theorem select_second (r : Fin 256) (x y : EReal) :
    Scalar.select (IntOp.cmpi .eq (k0_pay11 (ix2 r 0)) (BitVec.ofNat 32 1)) x y = if r.val % 8 = 1 then x else y := by
  rw [place_apply]
  exact if_congr (WordCmp.cmpi_eq_ofNat_eq_one_iff (by omega) (by omega)) rfl rfl

/-- The convolved half, `k` rows before row `r` of the block: of rows before the sequence's first, the older is in
`s0` and the younger in `s1`, at the row itself. -/
def before (s0 s1 a : FVec Ideal S256x2816 .f32) (k : ℕ) (r : Fin 256) (d : Fin 2816) : EReal :=
  if k ≤ r.val % 8 then a (ix2 ⟨r.val - k, by omega⟩ d)
  else if r.val % 8 + 2 - k = 0 then s0 (ix2 r d) else s1 (ix2 r d)

theorem pick_one (s0 s1 a : FVec Ideal S256x2816 .f32) (r : Fin 256) (d : Fin 2816)
    (q : Fin 256) (hq : q.val = (r.val + 256 - 1) % 256) :
    (if r.val % 8 = 0 then s1 (ix2 r d) else a (ix2 q d)) = before s0 s1 a 1 r d := by
  have hr := r.isLt
  unfold before
  by_cases h : r.val % 8 = 0
  · rw [if_pos h, if_neg (by omega), if_neg (by omega)]
  · rw [if_neg h, if_pos (by omega)]
    exact congrArg a (congrArg₂ ix2 (Fin.ext (by simp; omega)) rfl)

theorem pick_two (s0 s1 a : FVec Ideal S256x2816 .f32) (r : Fin 256) (d : Fin 2816)
    (q : Fin 256) (hq : q.val = (r.val + 256 - 2) % 256) :
    (if r.val % 8 = 1 then s1 (ix2 r d) else if r.val % 8 = 0 then s0 (ix2 r d) else a (ix2 q d)) =
      before s0 s1 a 2 r d := by
  have hr := r.isLt
  unfold before
  by_cases h : r.val % 8 = 1
  · rw [if_pos h, if_neg (by omega), if_neg (by omega)]
  · rw [if_neg h]
    by_cases h : r.val % 8 = 0
    · rw [if_pos h, if_neg (by omega), if_pos (by omega)]
    · rw [if_neg h, if_pos (by omega)]
      exact congrArg a (congrArg₂ ix2 (Fin.ext (by simp; omega)) rfl)

/-- The convolution without its oldest tap. -/
theorem young_eq (s u a : FVec Ideal S256x2816 .f32) (w : Vec Ideal S1x2816 .f32) :
    k0_pay9 (F := Ideal) s u w a (iota .tc S256x1 32 [0] iota_S256x1_d0_w32) 8#32 0#1 =
      addf u (mulf (broadcastTo S256x2816 w broadcasts_S1x2816_S256x2816)
        (select (broadcastTo S256x2816 k0_pay12 broadcasts_S256x1_S256x2816) s a)) := by
  rfl

theorem young_apply (s u a : FVec Ideal S256x2816 .f32) (w : Vec Ideal S1x2816 .f32) (r : Fin 256) (d : Fin 2816) :
    k0_pay9 (F := Ideal) s u w a (iota .tc S256x1 32 [0] iota_S256x1_d0_w32) 8#32 0#1 (ix2 r d) =
      u (ix2 r d) + w (ix2 0 d) * if r.val % 8 = 0 then s (ix2 r d) else a (ix2 r d) := by
  rw [young_eq]
  pointwise
  exact congrArg (fun z => u (ix2 r d) + w (ix2 0 d) * z) (select_first r _ _)

theorem own_apply (x : Vec Ideal S256x1024 .f32) (g : Vec Ideal S1x1024 .f32) (w : Vec Ideal S1024x5632 .bf16)
    (b v : Vec Ideal S1x2816 .f32) (r : Fin 256) (d : Fin 2816) :
    k0_pay7 (F := Ideal) x g w b v (ix2 r d) = b (ix2 0 d) + v (ix2 0 d) * k0_pay3 (F := Ideal) x g w (ix2 r d) := by
  pointwise [k0_pay7]

theorem rolled_one (x : Vec Ideal S256x1024 .f32) (g : Vec Ideal S1x1024 .f32) (w : Vec Ideal S1024x5632 .bf16)
    (r : Fin 256) (d : Fin 2816) (q : Fin 256) (hq : q.val = (r.val + 256 - 1) % 256) :
    k0_pay8 (F := Ideal) x g w (ix2 r d) = k0_pay3 (F := Ideal) x g w (ix2 q d) := by
  pointwise [k0_pay8]
  exact congrArg (k0_pay3 (F := Ideal) x g w) (congrArg₂ ix2 (Fin.ext hq.symm) rfl)

theorem rolled_two (a : FVec Ideal S256x2816 .f32) (r : Fin 256) (d : Fin 2816) (q : Fin 256)
    (hq : q.val = (r.val + 256 - 2) % 256) : k0_pay10 (F := Ideal) a (ix2 r d) = a (ix2 q d) := by
  pointwise [k0_pay10]
  exact congrArg a (congrArg₂ ix2 (Fin.ext hq.symm) rfl)

theorem given_eq (s : Vec Ideal S256x2816 .f32) : k0_pay5 (F := Ideal) s = s := by
  funext y
  obtain ⟨i, j, rfl⟩ : ∃ i j, y = ix2 i j := ⟨y 0, y 1, eq_ix2 y⟩
  pointwise [k0_pay5]

theorem given_eq' (s : Vec Ideal S256x2816 .f32) : k0_pay6 (F := Ideal) s = s := given_eq s

theorem mid_apply (x : Vec Ideal S256x1024 .f32) (b s0 s1 u a : FVec Ideal S256x2816 .f32) (v : Vec Ideal S1x2816 .f32)
    (w : Vec Ideal S2816x1024 .bf16) (n : IVec S256x1 32) (f : IVec S256x1 1) (r : Fin 256) (d : Fin 1024) :
    k0_pay14 (F := Ideal) x b s0 s1 u v a n f w (ix2 r d) =
      mid (rowOf (φ := .f32) x r) (rowOf b r) (fun j => u (ix2 r j) + v (ix2 0 j) *
        Scalar.select (IntOp.cmpi .eq (n (ix2 r 0)) (BitVec.ofNat 32 1)) (s1 (ix2 r j))
          (Scalar.select (f (ix2 r 0)) (s0 (ix2 r j)) (a (ix2 r j)))) (rowOf (φ := .bf16) w) d := by
  pointwise [k0_pay14]
  rfl

theorem tail_apply (a : FVec Ideal S256x2816 .f32) (p : Fin 32) (k : Fin 2) (d : Fin 2816) :
    k0_pay13 (F := Ideal) a (ix3 p k d) = a (ix2 ⟨8 * p.val + 6 + k.val, by omega⟩ d) := by
  pointwise [k0_pay13]
  exact congrArg a (congrArg₂ ix2 (Fin.ext (by simp only; omega)) rfl)

theorem root_apply (x : Vec Ideal S256x1024 .f32) (b s0 s1 u a : FVec Ideal S256x2816 .f32) (v : Vec Ideal S1x2816 .f32)
    (w : Vec Ideal S2816x1024 .bf16) (n : IVec S256x1 32) (f : IVec S256x1 1) (r : Fin 256) (d : Fin 1024) :
    k0_pay16 (F := Ideal) x b s0 s1 u v a n f w (ix2 r d) =
      Ideal.rsqrt (Ideal.div (∑ j, k0_pay14 (F := Ideal) x b s0 s1 u v a n f w (ix2 r j) *
        k0_pay14 (F := Ideal) x b s0 s1 u v a n f w (ix2 r j)) (Ideal.ofBits .f32 0x44800000#32) +
        Ideal.ofBits .f32 0x358637BD#32) := by
  pointwise [k0_pay16]

theorem last_apply (h q : FVec Ideal S256x1024 .f32) (n : FVec Ideal S1x1024 .f32) (w : Vec Ideal S1024x1024 .bf16)
    (b : Vec Ideal S1x1024 .f32) (p : Vec Ideal S256x256 .f32) (v : Vec Ideal S256x1024 .bf16)
    (r : Fin 256) (d : Fin 1024) :
    k0_pay1 (F := Ideal) h n q w b p v (ix2 r d) =
      embed (rowOf h r) (fun j => h (ix2 r j) * q (ix2 r j) * n (ix2 0 j)) (rowOf (φ := .bf16) w)
        (rowOf (φ := .f32) b 0) (rowOf (φ := .f32) p r) (rowOf (φ := .bf16) v) d := by
  pointwise [k0_pay1]
  simp only [embed, gate, zero_sub]

theorem scale_eq (g : Vec Ideal S1x1024 .f32) : k0_pay15 (F := Ideal) g = g := by
  funext y
  obtain ⟨i, j, rfl⟩ : ∃ i j, y = ix2 i j := ⟨y 0, y 1, eq_ix2 y⟩
  pointwise [k0_pay15]

/-- A row of the convolution's weights, loaded alone. -/
theorem ld_row (x : Vec Ideal S3x2816 .f32) (k : Fin 3) {off : Fin 2 → ℕ} (inb) (h : off = ![k.val, 0]) (d : Fin 2816) :
    View.ld x (Rect.unit (s := S3x2816) off ![1, 2816] inb) (ix2 0 d) = x (ix2 k d) := by
  subst h
  exact View.ld_unit_apply_of _ _ _ _ _ _ fun a => by fin_cases a <;> simp [ix2]

/-- The weights, from the blocks that hold them. -/
def blockWeights (x3 : Vec Ideal S1x1024 .f32) (x4 : Vec Ideal S1024x5632 .bf16) (x5 : Vec Ideal S3x2816 .f32)
    (x6 : Vec Ideal S1x2816 .f32) (x7 : Vec Ideal S2816x1024 .bf16) (x8 : Vec Ideal S1x1024 .f32)
    (x9 : Vec Ideal S1024x1024 .bf16) (x10 : Vec Ideal S1x1024 .f32) (x11 : Vec Ideal S256x1024 .bf16)
    (x12 : Vec Ideal S1x1024 .f32) : Weights where
  normFfn := rowOf (φ := .f32) x3 0
  up := rowOf (φ := .bf16) x4
  conv := rowOf (φ := .f32) x5
  convBias := rowOf (φ := .f32) x6 0
  down := rowOf (φ := .bf16) x7
  normPle := rowOf (φ := .f32) x8 0
  gate := rowOf (φ := .bf16) x9
  gateBias := rowOf (φ := .f32) x10 0
  ple := rowOf (φ := .bf16) x11
  normOut := rowOf (φ := .f32) x12 0

variable (c : Dev nD) (i : grid0.Coords)
  (arg1 : Memref sig .tc .vmem S256x1024 .f32) (harg1 : arg1.IsWhole)
  (arg2 : Memref sig .tc .vmem S256x256 .f32) (harg2 : arg2.IsWhole)
  (arg3 : Memref sig .tc .vmem S256x2816 .f32) (harg3 : arg3.IsWhole)
  (arg4 : Memref sig .tc .vmem S256x2816 .f32) (harg4 : arg4.IsWhole)
  (arg5 : Memref sig .tc .vmem S1x1024 .f32) (harg5 : arg5.IsWhole)
  (arg6 : Memref sig .tc .vmem S1024x5632 .bf16) (harg6 : arg6.IsWhole)
  (arg7 : Memref sig .tc .vmem S3x2816 .f32) (harg7 : arg7.IsWhole)
  (arg8 : Memref sig .tc .vmem S1x2816 .f32) (harg8 : arg8.IsWhole)
  (arg9 : Memref sig .tc .vmem S2816x1024 .bf16) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S256x1024 .bf16) (harg13 : arg13.IsWhole)
  (arg14 : Memref sig .tc .vmem S1x1024 .f32) (harg14 : arg14.IsWhole)
  (arg15 : Memref sig .tc .vmem S256x1024 .f32) (harg15 : arg15.IsWhole)
  (arg16 : Memref sig .tc .vmem S32x2x2816 .f32) (harg16 : arg16.IsWhole)
  (arg17 : Memref sig .tc .vmem S2x2816 .f32) (harg17 : arg17.IsWhole)
  (x0 : Vec Ideal S256x1024 .f32)
  (x1 : Vec Ideal S256x256 .f32)
  (x2 : Vec Ideal S256x2816 .f32)
  (x3 : Vec Ideal S256x2816 .f32)
  (x4 : Vec Ideal S1x1024 .f32)
  (x5 : Vec Ideal S1024x5632 .bf16)
  (x6 : Vec Ideal S3x2816 .f32)
  (x7 : Vec Ideal S1x2816 .f32)
  (x8 : Vec Ideal S2816x1024 .bf16)
  (x9 : Vec Ideal S1x1024 .f32)
  (x10 : Vec Ideal S1024x1024 .bf16)
  (x11 : Vec Ideal S1x1024 .f32)
  (x12 : Vec Ideal S256x1024 .bf16)
  (x13 : Vec Ideal S1x1024 .f32)

/-- The row after the feed-forward part. -/
theorem mid_row (i2 i1 i0) (r : Fin 256) (d : Fin 1024) :
    k0_pay14 (F := Ideal) x0 (k0_pay4 x0 x4 x5) (k0_pay5 x2) (k0_pay6 x3)
        (k0_pay9 (k0_pay6 x3) (k0_pay7 x0 x4 x5 x7 (View.ld x6 (Rect.unit (s := S3x2816) ![2, 0] ![1, 2816] i2)))
          (View.ld x6 (Rect.unit (s := S3x2816) ![1, 0] ![1, 2816] i1)) (k0_pay8 x0 x4 x5)
          (iota .tc S256x1 32 [0] iota_S256x1_d0_w32) 8#32 0#1)
        (View.ld x6 (Rect.unit (s := S3x2816) ![0, 0] ![1, 2816] i0)) (k0_pay10 (k0_pay3 x0 x4 x5)) k0_pay11
        k0_pay12 x8 (ix2 r d) =
      (blockWeights x4 x5 x6 x7 x8 x9 x10 x11 x12 x13).mid (rowOf (φ := .f32) x0 r)
        (before x2 x3 (k0_pay3 (F := Ideal) x0 x4 x5) 1 r) (before x2 x3 (k0_pay3 (F := Ideal) x0 x4 x5) 2 r) d := by
  have hr := r.isLt
  have eb : rowOf (k0_pay4 (F := Ideal) x0 x4 x5) r =
      upB (rowOf (φ := .f32) x0 r) (rowOf (φ := .f32) x4 0) (rowOf (φ := .bf16) x5) :=
    funext fun j => upB_apply x0 x4 x5 r j
  refine (mid_apply _ _ _ _ _ _ _ _ _ _ r d).trans ?_
  rw [eb]
  refine congrFun (congrFun (congrArg (mid _ _) (funext fun j => ?_)) _) d
  have e2 : View.ld x6 (Rect.unit (s := S3x2816) ![2, 0] ![1, 2816] i2) (ix2 0 j) = x6 (ix2 2 j) :=
    ld_row x6 2 i2 rfl j
  have e1 : View.ld x6 (Rect.unit (s := S3x2816) ![1, 0] ![1, 2816] i1) (ix2 0 j) = x6 (ix2 1 j) :=
    ld_row x6 1 i1 rfl j
  have e0 : View.ld x6 (Rect.unit (s := S3x2816) ![0, 0] ![1, 2816] i0) (ix2 0 j) = x6 (ix2 0 j) :=
    ld_row x6 0 i0 rfl j
  rw [select_second, select_first, given_eq, given_eq', young_apply, own_apply,
    rolled_one x0 x4 x5 r j ⟨(r.val + 256 - 1) % 256, by omega⟩ rfl,
    rolled_two _ r j ⟨(r.val + 256 - 2) % 256, by omega⟩ rfl,
    pick_one x2 x3 _ r j _ rfl, pick_two x2 x3 _ r j _ rfl, e2, e1, e0, upA_apply]
  rfl

/-- What the point writes. -/
theorem written (i2 i1 i0) (r : Fin 256) (d : Fin 1024) :
    k0_pay1 (F := Ideal)
      (k0_pay14 x0 (k0_pay4 x0 x4 x5) (k0_pay5 x2) (k0_pay6 x3)
        (k0_pay9 (k0_pay6 x3) (k0_pay7 x0 x4 x5 x7 (View.ld x6 (Rect.unit (s := S3x2816) ![2, 0] ![1, 2816] i2)))
          (View.ld x6 (Rect.unit (s := S3x2816) ![1, 0] ![1, 2816] i1)) (k0_pay8 x0 x4 x5)
          (iota .tc S256x1 32 [0] iota_S256x1_d0_w32) 8#32 0#1)
        (View.ld x6 (Rect.unit (s := S3x2816) ![0, 0] ![1, 2816] i0)) (k0_pay10 (k0_pay3 x0 x4 x5)) k0_pay11
        k0_pay12 x8)
      (k0_pay15 x9)
      (k0_pay16 x0 (k0_pay4 x0 x4 x5) (k0_pay5 x2) (k0_pay6 x3)
        (k0_pay9 (k0_pay6 x3) (k0_pay7 x0 x4 x5 x7 (View.ld x6 (Rect.unit (s := S3x2816) ![2, 0] ![1, 2816] i2)))
          (View.ld x6 (Rect.unit (s := S3x2816) ![1, 0] ![1, 2816] i1)) (k0_pay8 x0 x4 x5)
          (iota .tc S256x1 32 [0] iota_S256x1_d0_w32) 8#32 0#1)
        (View.ld x6 (Rect.unit (s := S3x2816) ![0, 0] ![1, 2816] i0)) (k0_pay10 (k0_pay3 x0 x4 x5)) k0_pay11
        k0_pay12 x8)
      x10 x11 x1 x12 (ix2 r d) =
    (blockWeights x4 x5 x6 x7 x8 x9 x10 x11 x12 x13).inner (rowOf (φ := .f32) x0 r) (rowOf (φ := .f32) x1 r)
      (before x2 x3 (k0_pay3 (F := Ideal) x0 x4 x5) 1 r) (before x2 x3 (k0_pay3 (F := Ideal) x0 x4 x5) 2 r) d := by
  have em := mid_row x0 x2 x3 x4 x5 x6 x7 x8 x9 x10 x11 x12 x13 i2 i1 i0 r
  generalize hu : k0_pay9 (F := Ideal) (k0_pay6 x3) _ _ _ _ _ _ = u at em ⊢
  refine (last_apply _ _ _ _ _ _ _ r d).trans ?_
  have er : rowOf (k0_pay14 (F := Ideal) x0 (k0_pay4 x0 x4 x5) (k0_pay5 x2) (k0_pay6 x3) u _ _ _ _ x8) r = _ :=
    funext em
  rw [scale_eq, er]
  simp only [root_apply, em]
  rfl

theorem out_A (r : Fin 256) (d : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 (ix2 r d) =
    (blockWeights x4 x5 x6 x7 x8 x9 x10 x11 x12 x13).inner (rowOf (φ := .f32) x0 r) (rowOf (φ := .f32) x1 r)
      (before x2 x3 (k0_pay3 (F := Ideal) x0 x4 x5) 1 r) (before x2 x3 (k0_pay3 (F := Ideal) x0 x4 x5) 2 r) d := by
  frame_out
  exact written ..

theorem tail_A (p : Fin 32) (k : Fin 2) (d : Fin 2816) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 (ix3 p k d) =
      upA (rowOf (φ := .f32) x0 ⟨8 * p.val + 6 + k.val, by omega⟩) (rowOf (φ := .f32) x4 0) (rowOf (φ := .bf16) x5) d := by
  frame_out
  exact (tail_apply _ p k d).trans (upA_apply _ _ _ _ d)

end Proof.Ffn.First.Sample

end
-- ==== Proof.Ffn.First.Sample.Array.lean ====
module

public import proofs.«01_k».proof.Proof.Ffn.First.Sample.Point
public import Idealize.ShloMosaic.Lib.Claim
public import Idealize.ShloMosaic.Lib.StableHlo.ReadAt

/-!
The first layer's feed-forward kernel's two result arrays on the sample, from the program's arguments.
-/

@[expose] public section

set_option maxRecDepth 16384

noncomputable section

namespace Proof.Ffn.First.Sample

open Idealize.ShloMosaic Idealize.ShloMosaic.TcCoe Cert.Kernel8Ideal Cert.Kernel8Ideal.Gen

variable (m : (ℓ : Loc nD τ sig) → Buf (Elt Ideal) ℓ)

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![0, 0] := by decide +kernel
theorem index14 : ∀ t : Fin grid0.N, win0_14.index t = ![t.val, 0] := by decide +kernel
theorem index15 : ∀ t : Fin grid0.N, win0_15.index t = ![t.val, 0, 0] := by decide +kernel

/-- The rows of a grid point. -/
theorem rows_apply (c : Dev nD) (t : Fin grid0.N) (r : Fin 256) (d : Fin 1024) (R : Fin 1024)
    (hR : R.val = 256 * t.val + r.val) :
    (iblk m c 0 t : Vec Ideal S256x1024 .f32) (ix2 r d) = m (c, Proc.tc.devRef main_arg0) (ix2 R d) := by
  refine congrArg (m (c, Proc.tc.devRef main_arg0)) (funext fun a => Fin.ext ?_)
  blk_simp [index0 t]
  fin_cases a
  · simp [ix2, hR]; omega
  · simp [ix2]

/-- The per-layer embeddings of a grid point. -/
theorem embeds_apply (c : Dev nD) (t : Fin grid0.N) (r : Fin 256) (d : Fin 256) (R : Fin 1024)
    (hR : R.val = 256 * t.val + r.val) :
    (iblk m c 1 t : Vec Ideal S256x256 .f32) (ix2 r d) = m (c, Proc.tc.devRef main_arg1) (ix2 R d) := by
  refine congrArg (m (c, Proc.tc.devRef main_arg1)) (funext fun a => Fin.ext ?_)
  blk_simp [index1 t]
  fin_cases a
  · simp [ix2, hR]; omega
  · simp [ix2]

/-- A row of those given before each sequence, once for each of the sequence's positions. -/
theorem spread_apply (x : FVec Ideal S128x2x2816 .f32) (k : Fin 2) (hs : S128x2x2816.Slices ![0, k.val, 0] S128x1x2816)
    (R : Fin 1024) (d : Fin 2816) :
    shapeCast S1024x2816 (broadcastInDim S128x8x2816 ![0, 2] bcast_S128x2816_S128x8x2816_0_2 (shapeCast S128x2816
      (extractStridedSlice S128x1x2816 ![0, k.val, 0] x hs) shapeCasts_S128x1x2816_S128x2816))
      shapeCasts_S128x8x2816_S1024x2816 (ix2 R d) = x (ix3 ⟨R.val / 8, by omega⟩ k d) := by
  pointwise

theorem elder_eq (c : Dev nD) : (V m c main_v12 : Vec Ideal S1024x2816 .f32) =
    shapeCast S1024x2816 (broadcastInDim S128x8x2816 ![0, 2] bcast_S128x2816_S128x8x2816_0_2 (shapeCast S128x2816
      (extractStridedSlice S128x1x2816 ![0, 0, 0] (m (c, Proc.tc.devRef main_arg2))
        slices_S128x2x2816_S128x1x2816_0_0_0) shapeCasts_S128x1x2816_S128x2816))
      shapeCasts_S128x8x2816_S1024x2816 := by
  rfl

theorem younger_eq (c : Dev nD) : (V m c main_v16 : Vec Ideal S1024x2816 .f32) =
    shapeCast S1024x2816 (broadcastInDim S128x8x2816 ![0, 2] bcast_S128x2816_S128x8x2816_0_2 (shapeCast S128x2816
      (extractStridedSlice S128x1x2816 ![0, 1, 0] (m (c, Proc.tc.devRef main_arg2))
        slices_S128x2x2816_S128x1x2816_0_1_0) shapeCasts_S128x1x2816_S128x2816))
      shapeCasts_S128x8x2816_S1024x2816 := by
  rfl

/-- The older of the two rows given for a row's sequence. -/
theorem elder_apply (c : Dev nD) (t : Fin grid0.N) (r : Fin 256) (d : Fin 2816) (b : Fin 128)
    (hb : b.val = (256 * t.val + r.val) / 8) :
    (iblk m c 2 t : Vec Ideal S256x2816 .f32) (ix2 r d) = m (c, Proc.tc.devRef main_arg2) (ix3 b 0 d) := by
  have ht : t.val < 4 := lt_of_lt_of_eq t.isLt N_0
  have e : (iblk m c 2 t : Vec Ideal S256x2816 .f32) (ix2 r d) =
      (V m c main_v12 : Vec Ideal S1024x2816 .f32) (ix2 ⟨256 * t.val + r.val, by omega⟩ d) := by
    refine congrArg (V m c main_v12 : Vec Ideal S1024x2816 .f32) (funext fun a => Fin.ext ?_)
    blk_simp [index2 t]
    fin_cases a
    · simp [ix2]; omega
    · simp [ix2]
  refine e.trans ?_
  rw [elder_eq]
  refine (spread_apply (m (c, Proc.tc.devRef main_arg2)) 0 slices_S128x2x2816_S128x1x2816_0_0_0 _ d).trans ?_
  exact congrArg (m (c, Proc.tc.devRef main_arg2)) (congrArg (fun i => ix3 i 0 d) (Fin.ext (by simp only; omega)))

/-- The younger one. -/
theorem younger_apply (c : Dev nD) (t : Fin grid0.N) (r : Fin 256) (d : Fin 2816) (b : Fin 128)
    (hb : b.val = (256 * t.val + r.val) / 8) :
    (iblk m c 3 t : Vec Ideal S256x2816 .f32) (ix2 r d) = m (c, Proc.tc.devRef main_arg2) (ix3 b 1 d) := by
  have ht : t.val < 4 := lt_of_lt_of_eq t.isLt N_0
  have e : (iblk m c 3 t : Vec Ideal S256x2816 .f32) (ix2 r d) =
      (V m c main_v16 : Vec Ideal S1024x2816 .f32) (ix2 ⟨256 * t.val + r.val, by omega⟩ d) := by
    refine congrArg (V m c main_v16 : Vec Ideal S1024x2816 .f32) (funext fun a => Fin.ext ?_)
    blk_simp [index3 t]
    fin_cases a
    · simp [ix2]; omega
    · simp [ix2]
  refine e.trans ?_
  rw [younger_eq]
  refine (spread_apply (m (c, Proc.tc.devRef main_arg2)) 1 slices_S128x2x2816_S128x1x2816_0_1_0 _ d).trans ?_
  exact congrArg (m (c, Proc.tc.devRef main_arg2)) (congrArg (fun i => ix3 i 1 d) (Fin.ext (by simp only; omega)))

theorem weight3_apply (c : Dev nD) (t : Fin grid0.N) (j : Fin 1024) :
    (iblk m c 4 t : Vec Ideal S1x1024 .f32) (ix2 0 j) = m (c, Proc.tc.devRef main_arg3) (ix1 j) := by
  have e : (iblk m c 4 t : Vec Ideal S1x1024 .f32) (ix2 0 j) = (V m c main_v0 : Vec Ideal S1x1024 .f32) (ix2 0 j) := by
    refine congrArg (V m c main_v0 : Vec Ideal S1x1024 .f32) (funext fun a => Fin.ext ?_)
    blk_simp [index4 t]
    fin_cases a <;> simp [ix2]
  refine e.trans ?_
  entry_read
  pointwise

theorem weight4_apply (c : Dev nD) (t : Fin grid0.N) (i : Fin 1024) (j : Fin 5632) :
    (iblk m c 5 t : Vec Ideal S1024x5632 .bf16) (ix2 i j) = m (c, Proc.tc.devRef main_arg4) (ix2 i j) := by
  have e : (iblk m c 5 t : Vec Ideal S1024x5632 .bf16) (ix2 i j) = (V m c main_v1 : Vec Ideal S1024x5632 .bf16) (ix2 i j) := by
    refine congrArg (V m c main_v1 : Vec Ideal S1024x5632 .bf16) (funext fun a => Fin.ext ?_)
    blk_simp [index5 t]
    fin_cases a <;> simp [ix2]
  refine e.trans ?_
  entry_read
  pointwise

theorem weight5_apply (c : Dev nD) (t : Fin grid0.N) (i : Fin 3) (j : Fin 2816) :
    (iblk m c 6 t : Vec Ideal S3x2816 .f32) (ix2 i j) = m (c, Proc.tc.devRef main_arg5) (ix2 i j) := by
  have e : (iblk m c 6 t : Vec Ideal S3x2816 .f32) (ix2 i j) = (V m c main_arg5 : Vec Ideal S3x2816 .f32) (ix2 i j) := by
    refine congrArg (V m c main_arg5 : Vec Ideal S3x2816 .f32) (funext fun a => Fin.ext ?_)
    blk_simp [index6 t]
    fin_cases a <;> simp [ix2]
  refine e.trans ?_
  rfl

theorem weight6_apply (c : Dev nD) (t : Fin grid0.N) (j : Fin 2816) :
    (iblk m c 7 t : Vec Ideal S1x2816 .f32) (ix2 0 j) = m (c, Proc.tc.devRef main_arg6) (ix1 j) := by
  have e : (iblk m c 7 t : Vec Ideal S1x2816 .f32) (ix2 0 j) = (V m c main_v2 : Vec Ideal S1x2816 .f32) (ix2 0 j) := by
    refine congrArg (V m c main_v2 : Vec Ideal S1x2816 .f32) (funext fun a => Fin.ext ?_)
    blk_simp [index7 t]
    fin_cases a <;> simp [ix2]
  refine e.trans ?_
  entry_read
  pointwise

theorem weight7_apply (c : Dev nD) (t : Fin grid0.N) (i : Fin 2816) (j : Fin 1024) :
    (iblk m c 8 t : Vec Ideal S2816x1024 .bf16) (ix2 i j) = m (c, Proc.tc.devRef main_arg7) (ix2 i j) := by
  have e : (iblk m c 8 t : Vec Ideal S2816x1024 .bf16) (ix2 i j) = (V m c main_v3 : Vec Ideal S2816x1024 .bf16) (ix2 i j) := by
    refine congrArg (V m c main_v3 : Vec Ideal S2816x1024 .bf16) (funext fun a => Fin.ext ?_)
    blk_simp [index8 t]
    fin_cases a <;> simp [ix2]
  refine e.trans ?_
  entry_read
  pointwise

theorem weight8_apply (c : Dev nD) (t : Fin grid0.N) (j : Fin 1024) :
    (iblk m c 9 t : Vec Ideal S1x1024 .f32) (ix2 0 j) = m (c, Proc.tc.devRef main_arg8) (ix1 j) := by
  have e : (iblk m c 9 t : Vec Ideal S1x1024 .f32) (ix2 0 j) = (V m c main_v4 : Vec Ideal S1x1024 .f32) (ix2 0 j) := by
    refine congrArg (V m c main_v4 : Vec Ideal S1x1024 .f32) (funext fun a => Fin.ext ?_)
    blk_simp [index9 t]
    fin_cases a <;> simp [ix2]
  refine e.trans ?_
  entry_read
  pointwise

theorem weight9_apply (c : Dev nD) (t : Fin grid0.N) (i : Fin 1024) (j : Fin 1024) :
    (iblk m c 10 t : Vec Ideal S1024x1024 .bf16) (ix2 i j) = m (c, Proc.tc.devRef main_arg9) (ix2 i j) := by
  have e : (iblk m c 10 t : Vec Ideal S1024x1024 .bf16) (ix2 i j) = (V m c main_v5 : Vec Ideal S1024x1024 .bf16) (ix2 i j) := by
    refine congrArg (V m c main_v5 : Vec Ideal S1024x1024 .bf16) (funext fun a => Fin.ext ?_)
    blk_simp [index10 t]
    fin_cases a <;> simp [ix2]
  refine e.trans ?_
  entry_read
  pointwise

theorem weight10_apply (c : Dev nD) (t : Fin grid0.N) (j : Fin 1024) :
    (iblk m c 11 t : Vec Ideal S1x1024 .f32) (ix2 0 j) = m (c, Proc.tc.devRef main_arg10) (ix1 j) := by
  have e : (iblk m c 11 t : Vec Ideal S1x1024 .f32) (ix2 0 j) = (V m c main_v6 : Vec Ideal S1x1024 .f32) (ix2 0 j) := by
    refine congrArg (V m c main_v6 : Vec Ideal S1x1024 .f32) (funext fun a => Fin.ext ?_)
    blk_simp [index11 t]
    fin_cases a <;> simp [ix2]
  refine e.trans ?_
  entry_read
  pointwise

theorem weight11_apply (c : Dev nD) (t : Fin grid0.N) (i : Fin 256) (j : Fin 1024) :
    (iblk m c 12 t : Vec Ideal S256x1024 .bf16) (ix2 i j) = m (c, Proc.tc.devRef main_arg11) (ix2 i j) := by
  have e : (iblk m c 12 t : Vec Ideal S256x1024 .bf16) (ix2 i j) = (V m c main_v7 : Vec Ideal S256x1024 .bf16) (ix2 i j) := by
    refine congrArg (V m c main_v7 : Vec Ideal S256x1024 .bf16) (funext fun a => Fin.ext ?_)
    blk_simp [index12 t]
    fin_cases a <;> simp [ix2]
  refine e.trans ?_
  entry_read
  pointwise

theorem weight12_apply (c : Dev nD) (t : Fin grid0.N) (j : Fin 1024) :
    (iblk m c 13 t : Vec Ideal S1x1024 .f32) (ix2 0 j) = m (c, Proc.tc.devRef main_arg12) (ix1 j) := by
  have e : (iblk m c 13 t : Vec Ideal S1x1024 .f32) (ix2 0 j) = (V m c main_v8 : Vec Ideal S1x1024 .f32) (ix2 0 j) := by
    refine congrArg (V m c main_v8 : Vec Ideal S1x1024 .f32) (funext fun a => Fin.ext ?_)
    blk_simp [index13 t]
    fin_cases a <;> simp [ix2]
  refine e.trans ?_
  entry_read
  pointwise

/-- The program's weights. -/
abbrev weights (c : Dev nD) : Weights :=
  argWeights (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))
    (m (c, Proc.tc.devRef main_arg9)) (m (c, Proc.tc.devRef main_arg10)) (m (c, Proc.tc.devRef main_arg11))
    (m (c, Proc.tc.devRef main_arg12))

theorem blockWeights_eq (c : Dev nD) (t : Fin grid0.N) :
    blockWeights (iblk m c 4 t) (iblk m c 5 t) (iblk m c 6 t) (iblk m c 7 t) (iblk m c 8 t) (iblk m c 9 t)
      (iblk m c 10 t) (iblk m c 11 t) (iblk m c 12 t) (iblk m c 13 t) = weights m c := by
  unfold blockWeights weights argWeights
  congr 1
  · exact funext fun j => weight3_apply m c t j
  · exact funext fun i => funext fun j => weight4_apply m c t i j
  · exact funext fun i => funext fun j => weight5_apply m c t i j
  · exact funext fun j => weight6_apply m c t j
  · exact funext fun i => funext fun j => weight7_apply m c t i j
  · exact funext fun j => weight8_apply m c t j
  · exact funext fun i => funext fun j => weight9_apply m c t i j
  · exact funext fun j => weight10_apply m c t j
  · exact funext fun i => funext fun j => weight11_apply m c t i j
  · exact funext fun j => weight12_apply m c t j

theorem half_eq (c : Dev nD) (t : Fin grid0.N) (r : Fin 256) (R : Fin 1024) (hR : R.val = 256 * t.val + r.val)
    (d : Fin 2816) :
    upA (rowOf (φ := .f32) (iblk m c 0 t : Vec Ideal S256x1024 .f32) r)
        (rowOf (φ := .f32) (iblk m c 4 t : Vec Ideal S1x1024 .f32) 0)
        (rowOf (φ := .bf16) (iblk m c 5 t : Vec Ideal S1024x5632 .bf16)) d =
      (weights m c).a (rowOf (φ := .f32) (m (c, Proc.tc.devRef main_arg0)) R) d := by
  have e0 : rowOf (φ := .f32) (iblk m c 0 t : Vec Ideal S256x1024 .f32) r = rowOf (φ := .f32) (m (c, Proc.tc.devRef main_arg0)) R :=
    funext fun j => rows_apply m c t r j R hR
  have e3 : rowOf (φ := .f32) (iblk m c 4 t : Vec Ideal S1x1024 .f32) 0 = (weights m c).normFfn :=
    funext fun j => weight3_apply m c t j
  have e4 : rowOf (φ := .bf16) (iblk m c 5 t : Vec Ideal S1024x5632 .bf16) = (weights m c).up :=
    funext fun i => funext fun j => weight4_apply m c t i j
  rw [e0, e3, e4]
  rfl

/-- The rows before a row of a grid point. -/
theorem before_eq (c : Dev nD) (t : Fin grid0.N) (b : Fin 128) (q : Fin 8) (r : Fin 256)
    (hR : 8 * b.val + q.val = 256 * t.val + r.val) (k : ℕ) (hk : k ≤ 2) :
    before (iblk m c 2 t) (iblk m c 3 t) (k0_pay3 (F := Ideal) (iblk m c 0 t) (iblk m c 4 t) (iblk m c 5 t)) k r =
      past (weights m c) (m (c, Proc.tc.devRef main_arg0)) (m (c, Proc.tc.devRef main_arg2)) k hk b q := by
  funext d
  have hr := r.isLt
  have hbl := b.isLt
  have hq := q.isLt
  have hm : r.val % 8 = q.val := by omega
  unfold before past
  by_cases h : k ≤ q.val
  · rw [if_pos (by omega), dif_pos h]
    refine (upA_apply _ _ _ _ d).trans ?_
    exact half_eq m c t ⟨r.val - k, by omega⟩ ⟨8 * b.val + q.val - k, by omega⟩ (by simp only; omega) d
  · rw [if_neg (by omega), dif_neg h]
    by_cases h2 : r.val % 8 + 2 - k = 0
    · rw [if_pos h2, elder_apply m c t r d b (by omega)]
      exact congrArg (m (c, Proc.tc.devRef main_arg2)) (congrArg (fun i => ix3 b i d) (Fin.ext (by simp; omega)))
    · rw [if_neg h2, younger_apply m c t r d b (by omega)]
      exact congrArg (m (c, Proc.tc.devRef main_arg2)) (congrArg (fun i => ix3 b i d) (Fin.ext (by simp; omega)))

/-- What a grid point writes. -/
theorem out_at (c : Dev nD) (t : Fin cfg0.N) (r : Fin 256) (d : Fin 1024) (b : Fin 128) (q : Fin 8)
    (hR : 8 * b.val + q.val = 256 * t.val + r.val) :
    (outsAt0 m c t).1 (ix2 r d) = outRow (weights m c) (m (c, Proc.tc.devRef main_arg0))
      (m (c, Proc.tc.devRef main_arg1)) (m (c, Proc.tc.devRef main_arg2)) b q d := by
  have hbl := b.isLt
  have hq := q.isLt
  have e0 : rowOf (φ := .f32) (iblk m c 0 t : Vec Ideal S256x1024 .f32) r =
      rowOf (φ := .f32) (m (c, Proc.tc.devRef main_arg0)) ⟨8 * b.val + q.val, by omega⟩ :=
    funext fun j => rows_apply m c t r j _ hR
  have e1 : rowOf (φ := .f32) (iblk m c 1 t : Vec Ideal S256x256 .f32) r =
      rowOf (φ := .f32) (m (c, Proc.tc.devRef main_arg1)) ⟨8 * b.val + q.val, by omega⟩ :=
    funext fun j => embeds_apply m c t r j _ hR
  unfold outsAt0
  dsimp only
  rw [out_A, before_eq m c t b q r hR 1 (by omega), before_eq m c t b q r hR 2 le_rfl, blockWeights_eq, e0, e1]
  rfl

/-- The last two rows of a sequence of a grid point. -/
theorem tail_at (c : Dev nD) (t : Fin cfg0.N) (p : Fin 32) (k : Fin 2) (d : Fin 2816) (R : Fin 1024)
    (hR : R.val = 256 * t.val + 8 * p.val + 6 + k.val) :
    (outsAt0 m c t).2 (ix3 p k d) = (weights m c).a (rowOf (φ := .f32) (m (c, Proc.tc.devRef main_arg0)) R) d := by
  unfold outsAt0
  dsimp only
  rw [tail_A]
  exact half_eq m c t ⟨8 * p.val + 6 + k.val, by omega⟩ R (by simp only; omega) d

/-- The rows that the program leaves are the layer's. -/
theorem out_final (c : Dev nD) : (dats m 0 c).arrAt 14 cfg0.N = layerOut (weights m c)
    (m (c, Proc.tc.devRef main_arg0)) (m (c, Proc.tc.devRef main_arg1)) (m (c, Proc.tc.devRef main_arg2)) := by
  refine (dats m 0 c).arrAt_eq_of_covers 14 _ (by decide +kernel) fun t hf y => ?_
  blk_simp
  rw [after0_14]
  change S256x1024.Idx at y
  obtain ⟨r, d, rfl⟩ : ∃ (r : Fin 256) (d : Fin 1024), y = ix2 r d := ⟨y 0, y 1, eq_ix2 y⟩
  have hr := r.isLt
  have ht : t.val < 4 := lt_of_lt_of_eq t.isLt N_0
  have e : (win0_14.blk t).view.emb (ix2 r d) = ix2 (⟨256 * t.val + r.val, by omega⟩ : Fin 1024) d := by
    funext a
    refine Fin.ext ?_
    blk_simp [index14 t]
    fin_cases a
    · simp [ix2]; omega
    · simp [ix2]
  refine Eq.trans ?_ (congrArg (layerOut (weights m c) (m (c, Proc.tc.devRef main_arg0))
    (m (c, Proc.tc.devRef main_arg1)) (m (c, Proc.tc.devRef main_arg2))) e.symm)
  exact out_at m c t r d ⟨(256 * t.val + r.val) / 8, by omega⟩ ⟨(256 * t.val + r.val) % 8, by omega⟩
    (by simp only; omega)

/-- The last convolved rows that the program leaves are the layer's. -/
theorem tail_final (c : Dev nD) : (dats m 0 c).arrAt 15 cfg0.N = layerTail (weights m c)
    (m (c, Proc.tc.devRef main_arg0)) := by
  refine (dats m 0 c).arrAt_eq_of_covers 15 _ (by decide +kernel) fun t hf y => ?_
  blk_simp
  rw [after0_15]
  change S32x2x2816.Idx at y
  obtain ⟨p, k, d, rfl⟩ : ∃ (p : Fin 32) (k : Fin 2) (d : Fin 2816), y = ix3 p k d := ⟨y 0, y 1, y 2, eq_ix3 y⟩
  have hp := p.isLt
  have hk := k.isLt
  have ht : t.val < 4 := lt_of_lt_of_eq t.isLt N_0
  have e : (win0_15.blk t).view.emb (ix3 p k d) = ix3 (⟨32 * t.val + p.val, by omega⟩ : Fin 128) k d := by
    funext a
    refine Fin.ext ?_
    blk_simp [index15 t]
    fin_cases a
    · simp [ix3]; omega
    · simp [ix3]
    · simp [ix3]
  refine Eq.trans ?_ (congrArg (layerTail (weights m c) (m (c, Proc.tc.devRef main_arg0))) e.symm)
  exact tail_at m c t p k d ⟨8 * (32 * t.val + p.val) + 6 + k.val, by omega⟩ (by simp only; omega)

end Proof.Ffn.First.Sample

end
-- ==== Proof.Ffn.First.Sample.Ref.lean ====
module

public import proofs.«01_k».proof.Proof.Gen.Reference8Ideal.Run
public import proofs.«01_k».proof.Proof.Ffn.First.Sample.Row
public import Idealize.ShloMosaic.Lib.Pointwise

/-!
The first layer's feed-forward reference's two arrays on the sample, row by row: they are the layer's rows and its last convolved rows.
-/

@[expose] public section

set_option maxRecDepth 16384

noncomputable section

namespace Proof.Ffn.First.Sample.Ref

open Idealize.ShloMosaic Idealize.ShloMosaic.TcCoe Cert.Reference8Ideal Cert.Reference8Ideal.Gen

/-- The normalised rows. -/
def normed (h : FVec Ideal S128x8x1024 .f32) (g : FVec Ideal S1024 .f32) : FVec Ideal S128x8x1024 .f32 :=
  mulf (mulf h (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf h h) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 g))

/-- The rows of all sequences, by sequence. -/
def bySeq (h : FVec Ideal S1024x1024 .f32) : FVec Ideal S128x8x1024 .f32 :=
  shapeCast _ h shapeCasts_S1024x1024_S128x8x1024

/-- The projection upwards of normalised rows. -/
def proj (n : FVec Ideal S128x8x1024 .f32) (w : FVec Ideal S1024x5632 .f32) : FVec Ideal S128x8x5632 .f32 :=
  Host.dotGeneral dot_S128x8x1024_S1024x5632_S128x8x5632_2_0_01_1_n_n none n w

/-- The given rows, and after them the first half of the projection. -/
def ext (buf : FVec Ideal S128x2x2816 .f32) (u : FVec Ideal S128x8x5632 .f32) : FVec Ideal S128x10x2816 .f32 :=
  concatenate S128x10x2816 1 [⟨S128x2x2816, buf⟩, ⟨S128x8x2816, (extractStridedSlice S128x8x2816 ![0, 0, 0] u slices_S128x8x5632_S128x8x2816_0_0_0)⟩] concatenates_S128x2x2816_S128x8x2816_S128x10x2816_d1

/-- The convolution. -/
def convolved (e : FVec Ideal S128x10x2816 .f32) (cw : FVec Ideal S3x2816 .f32) (cb : FVec Ideal S2816 .f32) :
    FVec Ideal S128x8x2816 .f32 :=
  addf (addf (addf (broadcastInDim S128x8x2816 ![0, 1, 2] bcast_S1x1x2816_S128x8x2816_0_1_2 (broadcastInDim S1x1x2816 ![2] bcast_S2816_S1x1x2816_2 cb)) (mulf (broadcastInDim S128x8x2816 ![0, 1, 2] bcast_S1x1x2816_S128x8x2816_0_1_2 (broadcastInDim S1x1x2816 ![2] bcast_S2816_S1x1x2816_2 (shapeCast _ (extractStridedSlice S1x2816 ![0, 0] cw slices_S3x2816_S1x2816_0_0) shapeCasts_S1x2816_S2816))) (extractStridedSlice S128x8x2816 ![0, 0, 0] e slices_S128x10x2816_S128x8x2816_0_0_0))) (mulf (broadcastInDim S128x8x2816 ![0, 1, 2] bcast_S1x1x2816_S128x8x2816_0_1_2 (broadcastInDim S1x1x2816 ![2] bcast_S2816_S1x1x2816_2 (shapeCast _ (extractStridedSlice S1x2816 ![1, 0] cw slices_S3x2816_S1x2816_1_0) shapeCasts_S1x2816_S2816))) (extractStridedSlice S128x8x2816 ![0, 1, 0] e slices_S128x10x2816_S128x8x2816_0_1_0))) (mulf (broadcastInDim S128x8x2816 ![0, 1, 2] bcast_S1x1x2816_S128x8x2816_0_1_2 (broadcastInDim S1x1x2816 ![2] bcast_S2816_S1x1x2816_2 (shapeCast _ (extractStridedSlice S1x2816 ![2, 0] cw slices_S3x2816_S1x2816_2_0) shapeCasts_S1x2816_S2816))) (extractStridedSlice S128x8x2816 ![0, 2, 0] e slices_S128x10x2816_S128x8x2816_0_2_0))

/-- The rows after the feed-forward part. -/
def fed (h : FVec Ideal S128x8x1024 .f32) (v : FVec Ideal S128x8x2816 .f32) (u : FVec Ideal S128x8x5632 .f32)
    (w : FVec Ideal S2816x1024 .f32) : FVec Ideal S128x8x1024 .f32 :=
  addf h (Host.dotGeneral dot_S128x8x2816_S2816x1024_S128x8x1024_2_0_01_1_n_n none (mulf (mulf v (mulf (broadcastInDim S128x8x2816 ![] bcast_S_S128x8x2816 (constant S_ .f32 0x3F000000#32)) (addf (broadcastInDim S128x8x2816 ![] bcast_S_S128x8x2816 (constant S_ .f32 0x3F800000#32)) (Host.tanh (mulf (broadcastInDim S128x8x2816 ![] bcast_S_S128x8x2816 (constant S_ .f32 0x3F4C422A#32)) (addf v (mulf (broadcastInDim S128x8x2816 ![] bcast_S_S128x8x2816 (constant S_ .f32 0x3D372713#32)) (mulf (mulf v v) v)))))))) (extractStridedSlice S128x8x2816 ![0, 0, 2816] u slices_S128x8x5632_S128x8x2816_0_0_2816)) w)

/-- The rows with the gated per-layer embedding. -/
def embedded (h n : FVec Ideal S128x8x1024 .f32) (p : FVec Ideal S1024x256 .f32) (w : FVec Ideal S1024x1024 .f32)
    (b : FVec Ideal S1024 .f32) (v : FVec Ideal S256x1024 .f32) : FVec Ideal S128x8x1024 .f32 :=
  addf h (mulf (Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf (addf (Host.dotGeneral dot_S128x8x1024_S1024x1024_S128x8x1024_2_0_01_1_n_n none n w) (broadcastInDim S128x8x1024 ![0, 1, 2] bcast_S1x1x1024_S128x8x1024_0_1_2 (broadcastInDim S1x1x1024 ![2] bcast_S1024_S1x1x1024_2 b))))))) (Host.dotGeneral dot_S128x8x256_S256x1024_S128x8x1024_2_0_01_1_n_n none (shapeCast _ p shapeCasts_S1024x256_S128x8x256) v))

/-- The rows, sequence after sequence. -/
def allRows (h : FVec Ideal S128x8x1024 .f32) : FVec Ideal S1024x1024 .f32 :=
  shapeCast _ h shapeCasts_S128x8x1024_S1024x1024

/-- The last two rows of the convolved half. -/
def lastTwo (e : FVec Ideal S128x10x2816 .f32) : FVec Ideal S128x2x2816 .f32 :=
  extractStridedSlice S128x2x2816 ![0, 8, 0] e slices_S128x10x2816_S128x2x2816_0_8_0

theorem normed_apply (h : FVec Ideal S128x8x1024 .f32) (g : FVec Ideal S1024 .f32) (b : Fin 128) (q : Fin 8)
    (d : Fin 1024) : normed h g (ix3 b q d) = rms (fun j => h (ix3 b q j)) (fun j => g (ix1 j)) d := by
  pointwise [normed]
  rfl

theorem bySeq_apply (h : FVec Ideal S1024x1024 .f32) (b : Fin 128) (q : Fin 8) (d : Fin 1024) :
    bySeq h (ix3 b q d) = h (ix2 ⟨8 * b.val + q.val, by omega⟩ d) := by
  pointwise [bySeq]
  exact congrArg h (congrArg (fun i => ix2 i d) (Fin.ext (by simp; omega)))

theorem proj_apply (n : FVec Ideal S128x8x1024 .f32) (w : FVec Ideal S1024x5632 .f32) (b : Fin 128) (q : Fin 8)
    (d : Fin 5632) : proj n w (ix3 b q d) = ∑ c : Fin 1024, n (ix3 b q c) * w (ix2 c d) := by
  pointwise [proj]

theorem ext_apply (buf : FVec Ideal S128x2x2816 .f32) (u : FVec Ideal S128x8x5632 .f32) (b : Fin 128) (e : Fin 10)
    (d : Fin 2816) : ext buf u (ix3 b e d) =
      if h : e.val < 2 then buf (ix3 b ⟨e.val, h⟩ d) else u (ix3 b ⟨e.val - 2, by omega⟩ ⟨d.val, by omega⟩) := by
  pointwise [ext]

/-- The taps, in the other order. -/
theorem taps (o x y z : EReal) : o + x + y + z = o + z + y + x := by
  rw [add_assoc o, add_assoc o, add_assoc o, add_assoc o, add_comm x y, add_comm (y + x), ← add_assoc z]

theorem convolved_apply (e : FVec Ideal S128x10x2816 .f32) (cw : FVec Ideal S3x2816 .f32) (cb : FVec Ideal S2816 .f32)
    (b : Fin 128) (q : Fin 8) (d : Fin 2816) : convolved e cw cb (ix3 b q d) =
      conv (cb (ix1 d)) (fun k => cw (ix2 k d)) (e (ix3 b ⟨q.val + 2, by omega⟩ d)) (e (ix3 b ⟨q.val + 1, by omega⟩ d))
        (e (ix3 b ⟨q.val, by omega⟩ d)) := by
  pointwise [convolved]
  have h1 : (⟨1 + q.val, by omega⟩ : Fin 10) = ⟨q.val + 1, by omega⟩ := Fin.ext (Nat.add_comm _ _)
  have h2 : (⟨2 + q.val, by omega⟩ : Fin 10) = ⟨q.val + 2, by omega⟩ := Fin.ext (Nat.add_comm _ _)
  rw [h1, h2]
  exact taps _ _ _ _

theorem fed_apply (h : FVec Ideal S128x8x1024 .f32) (v : FVec Ideal S128x8x2816 .f32) (u : FVec Ideal S128x8x5632 .f32)
    (w : FVec Ideal S2816x1024 .f32) (b : Fin 128) (q : Fin 8) (d : Fin 1024) : fed h v u w (ix3 b q d) =
      mid (fun j => h (ix3 b q j)) (fun j => u (ix3 b q ⟨2816 + j.val, by omega⟩)) (fun j => v (ix3 b q j)) (rowOf w) d := by
  pointwise [fed]
  simp only [mid, gelu, mul_comm (_ * _) (v _)]

theorem embedded_apply (h n : FVec Ideal S128x8x1024 .f32) (p : FVec Ideal S1024x256 .f32)
    (w : FVec Ideal S1024x1024 .f32) (g : FVec Ideal S1024 .f32) (v : FVec Ideal S256x1024 .f32) (b : Fin 128)
    (q : Fin 8) (d : Fin 1024) : embedded h n p w g v (ix3 b q d) =
      embed (fun j => h (ix3 b q j)) (fun j => n (ix3 b q j)) (rowOf w) (fun j => g (ix1 j))
        (rowOf p ⟨8 * b.val + q.val, by omega⟩) (rowOf v) d := by
  pointwise [embedded]
  have hq : (⟨b.val * 8 + q.val, by omega⟩ : Fin 1024) = ⟨8 * b.val + q.val, by omega⟩ :=
    Fin.ext (by simp only; omega)
  exact congrArg (fun i => embed (fun j => h (ix3 b q j)) (fun j => n (ix3 b q j)) (rowOf w) (fun j => g (ix1 j))
    (rowOf p i) (rowOf v) d) hq

theorem allRows_apply (h : FVec Ideal S128x8x1024 .f32) (R : Fin 1024) (d : Fin 1024) :
    allRows h (ix2 R d) = h (ix3 ⟨R.val / 8, by omega⟩ ⟨R.val % 8, by omega⟩ d) := by
  pointwise [allRows]

theorem lastTwo_apply (e : FVec Ideal S128x10x2816 .f32) (b : Fin 128) (k : Fin 2) (d : Fin 2816) :
    lastTwo e (ix3 b k d) = e (ix3 b ⟨8 + k.val, by omega⟩ d) := by
  pointwise [lastTwo]

/-- The reference's rows and its convolved rows, as arrays of the arguments. -/
def outArr (a0 : FVec Ideal S1024x1024 .f32) (a1 : FVec Ideal S1024x256 .f32) (a2 : FVec Ideal S128x2x2816 .f32)
    (a3 : FVec Ideal S1024 .f32) (a4 : FVec Ideal S1024x5632 .f32) (a5 : FVec Ideal S3x2816 .f32)
    (a6 : FVec Ideal S2816 .f32) (a7 : FVec Ideal S2816x1024 .f32) (a8 : FVec Ideal S1024 .f32)
    (a9 : FVec Ideal S1024x1024 .f32) (a10 : FVec Ideal S1024 .f32) (a11 : FVec Ideal S256x1024 .f32)
    (a12 : FVec Ideal S1024 .f32) : FVec Ideal S1024x1024 .f32 :=
  let x := bySeq a0
  let u := proj (normed x a3) a4
  let f := fed x (convolved (ext a2 u) a5 a6) u a7
  allRows (embedded f (normed f a8) a1 a9 a10 a11)

/-- The last two convolved rows of every sequence. -/
def tailArr (a0 : FVec Ideal S1024x1024 .f32) (a2 : FVec Ideal S128x2x2816 .f32) (a3 : FVec Ideal S1024 .f32)
    (a4 : FVec Ideal S1024x5632 .f32) : FVec Ideal S128x2x2816 .f32 :=
  lastTwo (ext a2 (proj (normed (bySeq a0) a3) a4))

section Rows

variable (a0 : FVec Ideal S1024x1024 .f32) (a1 : FVec Ideal S1024x256 .f32) (a2 : FVec Ideal S128x2x2816 .f32)
  (a3 : FVec Ideal S1024 .f32) (a4 : FVec Ideal S1024x5632 .f32) (a5 : FVec Ideal S3x2816 .f32)
  (a6 : FVec Ideal S2816 .f32) (a7 : FVec Ideal S2816x1024 .f32) (a8 : FVec Ideal S1024 .f32)
  (a9 : FVec Ideal S1024x1024 .f32) (a10 : FVec Ideal S1024 .f32) (a11 : FVec Ideal S256x1024 .f32)
  (a12 : FVec Ideal S1024 .f32)

theorem up_row (b : Fin 128) (q : Fin 8) (d : Fin 5632) :
    proj (normed (bySeq a0) a3) a4 (ix3 b q d) =
      up (rowOf a0 ⟨8 * b.val + q.val, by omega⟩) (fun j => a3 (ix1 j)) (rowOf a4) d := by
  simp only [proj_apply, normed_apply, bySeq_apply]
  rfl

/-- The extended rows, `2 - k` after the position: the convolved half, `k` positions before. -/
theorem ext_row (b : Fin 128) (q : Fin 8) (k : ℕ) (hk : k ≤ 2) (e : Fin 10) (he : e.val + k = q.val + 2)
    (d : Fin 2816) : ext a2 (proj (normed (bySeq a0) a3) a4) (ix3 b e d) =
      past (argWeights a3 a4 a5 a6 a7 a8 a9 a10 a11 a12) a0 a2 k hk b q d := by
  rw [ext_apply, past]
  by_cases h : e.val < 2
  · rw [dif_pos h, dif_neg (by omega)]
    exact congrArg (fun i => a2 (ix3 b i d)) (Fin.ext (by simp only; omega))
  · rw [dif_neg h, dif_pos (by omega), up_row]
    exact congrArg (fun i => upA (rowOf a0 i) (fun j => a3 (ix1 j)) (rowOf a4) d) (Fin.ext (by simp only; omega))

theorem past_zero (W : Weights) (b : Fin 128) (q : Fin 8) :
    past W a0 a2 0 (by omega) b q = W.a (rowOf a0 ⟨8 * b.val + q.val, by omega⟩) := by
  funext d
  rw [past, dif_pos (Nat.zero_le _)]
  rfl

theorem fed_row (b : Fin 128) (q : Fin 8) (d : Fin 1024) :
    fed (bySeq a0) (convolved (ext a2 (proj (normed (bySeq a0) a3) a4)) a5 a6)
        (proj (normed (bySeq a0) a3) a4) a7 (ix3 b q d) =
      (argWeights a3 a4 a5 a6 a7 a8 a9 a10 a11 a12).mid (rowOf a0 ⟨8 * b.val + q.val, by omega⟩)
        (past (argWeights a3 a4 a5 a6 a7 a8 a9 a10 a11 a12) a0 a2 1 (by omega) b q)
        (past (argWeights a3 a4 a5 a6 a7 a8 a9 a10 a11 a12) a0 a2 2 le_rfl b q) d := by
  rw [fed_apply]
  simp only [bySeq_apply, convolved_apply, up_row]
  simp only [ext_row a0 a2 a3 a4 a5 a6 a7 a8 a9 a10 a11 a12 b q 0 (by omega) ⟨q.val + 2, by omega⟩ rfl,
    ext_row a0 a2 a3 a4 a5 a6 a7 a8 a9 a10 a11 a12 b q 1 (by omega) ⟨q.val + 1, by omega⟩ rfl,
    ext_row a0 a2 a3 a4 a5 a6 a7 a8 a9 a10 a11 a12 b q 2 le_rfl ⟨q.val, by omega⟩ rfl, past_zero]
  rfl

theorem out_row (R : Fin 1024) (d : Fin 1024) : outArr a0 a1 a2 a3 a4 a5 a6 a7 a8 a9 a10 a11 a12 (ix2 R d) =
    outRow (argWeights a3 a4 a5 a6 a7 a8 a9 a10 a11 a12) a0 a1 a2 ⟨R.val / 8, by omega⟩
      ⟨R.val % 8, by omega⟩ d := by
  simp only [outArr, allRows_apply]
  simp only [embedded_apply, normed_apply, fed_row a0 a2 a3 a4 a5 a6 a7 a8 a9 a10 a11 a12]
  rfl

theorem tail_row (b : Fin 128) (k : Fin 2) (d : Fin 2816) : tailArr a0 a2 a3 a4 (ix3 b k d) =
    (argWeights a3 a4 a5 a6 a7 a8 a9 a10 a11 a12).a (rowOf a0 ⟨8 * b.val + 6 + k.val, by omega⟩) d := by
  rw [tailArr, lastTwo_apply, ext_row a0 a2 a3 a4 a5 a6 a7 a8 a9 a10 a11 a12 b ⟨6 + k.val, by omega⟩ 0
    (by omega) _ (by simp only; omega), past_zero]
  exact congrArg (fun i => (argWeights a3 a4 a5 a6 a7 a8 a9 a10 a11 a12).a (rowOf a0 i) d)
    (Fin.ext (by simp only; omega))

theorem out_eq : outArr a0 a1 a2 a3 a4 a5 a6 a7 a8 a9 a10 a11 a12 =
    layerOut (argWeights a3 a4 a5 a6 a7 a8 a9 a10 a11 a12) a0 a1 a2 := by
  funext y
  have hy : y = ix2 (y 0) (y 1) := by
    funext a
    fin_cases a <;> rfl
  exact (congrArg _ hy).trans (out_row a0 a1 a2 a3 a4 a5 a6 a7 a8 a9 a10 a11 a12 (y 0) (y 1))

theorem tail_eq : tailArr a0 a2 a3 a4 = layerTail (argWeights a3 a4 a5 a6 a7 a8 a9 a10 a11 a12) a0 := by
  funext y
  have hy : y = ix3 (y 0) (y 1) (y 2) := by
    funext a
    fin_cases a <;> rfl
  exact (congrArg _ hy).trans (tail_row a0 a2 a3 a4 a5 a6 a7 a8 a9 a10 a11 a12 (y 0) (y 1) (y 2))

end Rows

/-- What the reference leaves for the convolved rows, by name. -/
theorem tail_res (m : (ℓ : Loc nD τ sig) → Buf (Elt Ideal) ℓ) (c : Dev nD) :
    extractStridedSlice S128x2x2816 ![0, 8, 0] (Cert.Reference8Ideal.Value.res_main_v17 (Idealize.ShloMosaic.StableHlo.launchContents m c))
        slices_S128x10x2816_S128x2x2816_0_8_0 =
      tailArr (m ((c.tc : Thread nD τ).loc main_arg0)) (m ((c.tc : Thread nD τ).loc main_arg2)) (m ((c.tc : Thread nD τ).loc main_arg3)) (m ((c.tc : Thread nD τ).loc main_arg4)) := by
  rfl

/-- What the reference leaves for the rows, by name. -/
theorem out_res (m : (ℓ : Loc nD τ sig) → Buf (Elt Ideal) ℓ) (c : Dev nD) :
    allRows (embedded (Cert.Reference8Ideal.Value.res_main_v57 (Idealize.ShloMosaic.StableHlo.launchContents m c))
        (normed (Cert.Reference8Ideal.Value.res_main_v57 (Idealize.ShloMosaic.StableHlo.launchContents m c)) (m ((c.tc : Thread nD τ).loc main_arg8)))
        (m ((c.tc : Thread nD τ).loc main_arg1)) (m ((c.tc : Thread nD τ).loc main_arg9)) (m ((c.tc : Thread nD τ).loc main_arg10)) (m ((c.tc : Thread nD τ).loc main_arg11))) =
      outArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) := by
  rfl

end Proof.Ffn.First.Sample.Ref

end
-- ==== Proof.Fox.Chunk.lean ====
module

public import proofs.«01_k».proof.Proof.Gen.Kernel3Ideal.Value
public import proofs.«01_k».proof.Proof.Online
public import proofs.«01_k».proof.Proof.Consts
public import Idealize.ShloMosaic.Lib.Pointwise
public import Idealize.ShloMosaic.Lib.Pipeline.ValueKit

/-!
One block of 512 keys of the forgetting attention kernel: the running maximum and the weighted sum of the
values, from those before and the block's scores, as the kernel computes them on whole vectors; and what
they are at each query row. A column of ones among the values makes the weighted sum hold the sum of the
weights too.
-/

@[expose] public section

set_option maxRecDepth 16384

noncomputable section

namespace Proof.Fox

open Idealize.ShloMosaic Cert.Kernel3Ideal Cert.Kernel3Ideal.Gen Proof.Online

section
variable {F : FTy → Type} [FloatOps F]

/-- The running maximum after a block with scores `sc`. -/
def mNew (m : FVec F S512x1 .f32) (sc : FVec F S512x512 .f32) : FVec F S512x1 .f32 :=
  maximumf m (shapeCast S512x1
    (multiReduction .maximumf [1] S512 sc 0xFF800000#32 reduces_S512x512_S512 (.inl rfl) rfl)
    shapeCasts_S512_S512x1)

/-- The block's weights against the new maximum. -/
def pNew (m : FVec F S512x1 .f32) (sc : FVec F S512x512 .f32) : FVec F S512x512 .f32 :=
  exp (subf sc (broadcastTo S512x512 (mNew m sc) broadcasts_S512x1_S512x512))

/-- The factor that rescales what was summed against the old maximum. -/
def aNew (m : FVec F S512x1 .f32) (sc : FVec F S512x512 .f32) : FVec F S512x1 .f32 :=
  exp (subf m (mNew m sc))

/-- The weighted sum of the values after the block. -/
def accNew (m : FVec F S512x1 .f32) (acc : FVec F S512x128 .f32) (sc : FVec F S512x512 .f32)
    (vb : FVec F S512x128 .bf16) : FVec F S512x128 .f32 :=
  addf (mulf (broadcastTo S512x128 (aNew m sc) broadcasts_S512x1_S512x128) acc)
    (matmul dot_S512x512_S512x128_S512x128_1_0_0_1_n_n none (truncf .bf16 (pNew m sc) bitsLt_bf16_f32)
      vb (constant S512x128 .f32 0x00000000#32))

/-- What the kernel carries from block to block. -/
abbrev St (F : FTy → Type) : Type := FVec F S512x1 .f32 × FVec F S512x128 .f32

/-- One block: scores `sc`, values `vb`. -/
def step (sc : FVec F S512x512 .f32) (vb : FVec F S512x128 .bf16) (st : St F) : St F :=
  (mNew st.1 sc, accNew st.1 st.2 sc vb)

end

/-- The carried vectors are the running maximum and sum of the scores `s` and values `v` over the
first `n` keys, at every query row. -/
def Holds (s : Fin 512 → ℕ → EReal) (v : Fin 128 → ℕ → EReal) (n : ℕ) (st : St Ideal) : Prop :=
  ∀ r : Fin 512, st.1 (ix2 r 0) = mx (s r) n
    ∧ ∀ d : Fin 128, st.2 (ix2 r d) = num Ideal.exp (s r) (v d) n

theorem mNew_apply (m : FVec Ideal S512x1 .f32) (sc : FVec Ideal S512x512 .f32) (r : Fin 512) :
    mNew m sc (ix2 r 0)
      = max (m (ix2 r 0)) ((Finset.univ : Finset (Fin 512)).fold max ⊥ fun k => sc (ix2 r k)) := by
  pointwise [mNew, Consts.neg_inf]

theorem pNew_apply (m : FVec Ideal S512x1 .f32) (sc : FVec Ideal S512x512 .f32) (r : Fin 512)
    (k : Fin 512) : pNew m sc (ix2 r k) = Ideal.exp (sc (ix2 r k) - mNew m sc (ix2 r 0)) := by
  pointwise [pNew]

theorem aNew_apply (m : FVec Ideal S512x1 .f32) (sc : FVec Ideal S512x512 .f32) (r : Fin 512) :
    aNew m sc (ix2 r 0) = Ideal.exp (m (ix2 r 0) - mNew m sc (ix2 r 0)) := by
  pointwise [aNew]

theorem accNew_apply (m : FVec Ideal S512x1 .f32) (acc : FVec Ideal S512x128 .f32)
    (sc : FVec Ideal S512x512 .f32) (vb : FVec Ideal S512x128 .bf16) (r : Fin 512) (d : Fin 128) :
    accNew m acc sc vb (ix2 r d)
      = aNew m sc (ix2 r 0) * acc (ix2 r d) + ∑ k : Fin 512, pNew m sc (ix2 r k) * vb (ix2 k d) := by
  pointwise [accNew]

/-- A block carries the running maximum and sum on by 512 keys. -/
theorem Holds.step {s : Fin 512 → ℕ → EReal} {v : Fin 128 → ℕ → EReal} {n : ℕ} {st : St Ideal}
    (h : Holds s v n st) {sc : FVec Ideal S512x512 .f32} {vb : FVec Ideal S512x128 .bf16}
    (hs : ∀ (r : Fin 512) (k : Fin 512), sc (ix2 r k) = s r (n + k))
    (hv : ∀ (k : Fin 512) (d : Fin 128), vb (ix2 k d) = v d (n + k)) :
    Holds s v (n + 512) (step sc vb st) := by
  intro r
  obtain ⟨hm, ha⟩ := h r
  have hM : mNew st.1 sc (ix2 r 0) = mx (s r) (n + 512) := by
    rw [mNew_apply, hm]
    simp only [hs]
    exact mx_add (s r) n 512
  refine ⟨hM, fun d => ?_⟩
  show accNew st.1 st.2 sc vb (ix2 r d) = _
  rw [accNew_apply, aNew_apply, hM, hm, ha d]
  simp only [pNew_apply, hM, hs, hv]
  exact num_add expLike_exp (s r) (v d) n 512

end Proof.Fox
-- ==== Proof.Fox.Bounds.lean ====
module

public import proofs.«01_k».proof.Proof.Gen.Kernel3Ideal.Value

/-!
The forgetting attention kernel's word arithmetic at each grid point, in closed form: how many trips each
of its loops takes and at which key each block starts. A point's second coordinate `b` is its block of 512
query positions; the keys below `512 * b` are seen by all of them.
-/

@[expose] public section

set_option maxRecDepth 16384

noncomputable section

namespace Proof.Fox

open Idealize.ShloMosaic Cert.Kernel3Ideal Cert.Kernel3Ideal.Gen

/-- The block of query positions of a grid point. -/
abbrev blkOf (t : Fin grid0.N) : ℕ := ((grid0.coords t) 1).val

theorem trips1 : ∀ t : Fin grid0.N, (k0_t1_loop (grid0.coords t)).trips = blkOf t / 4 := by
  decide +kernel

theorem trips2 : ∀ t : Fin grid0.N, (k0_t2_loop (grid0.coords t)).trips = 0 := by
  decide +kernel

theorem trips3 : ∀ t : Fin grid0.N, (k0_t3_loop (grid0.coords t)).trips = blkOf t % 4 := by
  decide +kernel

theorem trips4 : ∀ t : Fin grid0.N, (k0_t4_loop (grid0.coords t)).trips = 0 := by
  decide +kernel

theorem off1 : ∀ (t : Fin grid0.N) (k : Fin (k0_t1_loop (grid0.coords t)).trips) (u : Fin 4),
    k0_off1 (grid0.coords t) k (BitVec.ofNat 32 u.val) = ![0, 2048 * k.val + 512 * u.val, 0] := by
  decide +kernel

theorem off3 : ∀ (t : Fin grid0.N) (k : Fin (k0_t3_loop (grid0.coords t)).trips),
    k0_off3 (grid0.coords t) k = ![0, 2048 * (blkOf t / 4) + 512 * k.val, 0] := by
  decide +kernel

theorem off5 : ∀ t : Fin grid0.N, k0_off5 (grid0.coords t) = ![0, 512 * blkOf t, 0] := by
  decide +kernel

end Proof.Fox
-- ==== Proof.Fox.Point.lean ====
module

public import proofs.«01_k».proof.Proof.Fox.Chunk
public import proofs.«01_k».proof.Proof.Fox.Bounds
public import Idealize.ShloMosaic.Lib.WordCmp

/-!
What one grid point of the forgetting attention kernel writes: at query row `r` and value column `d`, the
quotient of the weighted sum of the values by the weighted sum of column 64, over the keys that the row sees.
-/

@[expose] public section

set_option maxRecDepth 16384

noncomputable section

namespace Proof.Fox

open Idealize.ShloMosaic Cert.Kernel3Ideal Cert.Kernel3Ideal.Gen Proof.Online

theorem named_mask : Named.named (F := Ideal) κ "mask" (φ := .f32) 0xF149F2CA#32 = (⊥ : EReal) :=
  IdealRules.named_const.ideal_named_scalar _ _ _ _ rfl

/-- The product of query row `r` with key `j`. -/
def raw (x0 : Vec Ideal S1x512x128 .bf16) (x1 : Vec Ideal S1x8192x128 .bf16) (r : Fin 512) (j : ℕ) : EReal :=
  ∑ c : Fin 128, x0 (ix3 0 r c) * x1 (ix3 0 ⟨j % 8192, Nat.mod_lt _ (by norm_num)⟩ c)

/-- The scores of query row `r` of a block of query positions: `-∞` at a key after the row's position. -/
def scores (x0 : Vec Ideal S1x512x128 .bf16) (x1 : Vec Ideal S1x8192x128 .bf16) (b : ℕ) (r : Fin 512)
    (j : ℕ) : EReal :=
  if j ≤ 512 * b + r.val then raw x0 x1 r j else ⊥

/-- Column `d` of the values, by key. -/
def vals (x2 : Vec Ideal S1x8192x128 .bf16) (d : Fin 128) (j : ℕ) : EReal :=
  x2 (ix3 0 ⟨j % 8192, Nat.mod_lt _ (by norm_num)⟩ d)

theorem mod_key {o k : ℕ} (h : o + k < 8192) : (⟨(o + k) % 8192, Nat.mod_lt _ (by norm_num)⟩ : Fin 8192) = ⟨o + k, h⟩ :=
  Fin.ext (Nat.mod_eq_of_lt h)

/-- `K` is the block of the 512 rows of `x` that start at row `o`. -/
def RowsAt (x : Vec Ideal S1x8192x128 .bf16) (o : ℕ) (K : Vec Ideal S1x512x128 .bf16) : Prop :=
  ∀ (k : Fin 512) (c : Fin 128), K (ix3 0 k c) = x (ix3 0 ⟨(o + k.val) % 8192, Nat.mod_lt _ (by norm_num)⟩ c)

theorem rowsAt_ld (x : Vec Ideal S1x8192x128 .bf16) {off : Fin 3 → ℕ} (inb) (o : ℕ) (h : off = ![0, o, 0])
    (ho : o + 512 ≤ 8192) :
    RowsAt x o (View.ld x (Rect.unit (s := S1x8192x128) off S1x512x128.size inb)) := by
  intro k c
  subst h
  have hk := k.isLt
  rw [mod_key (by omega)]
  exact View.ld_unit_apply_of _ _ _ _ _ _ fun a => by fin_cases a <;> simp [ix3]

/-- The scores of a block that every query row of the grid point sees. -/
theorem full_scores {x0 : Vec Ideal S1x512x128 .bf16} {x1 : Vec Ideal S1x8192x128 .bf16} {b o : ℕ}
    {K : Vec Ideal S1x512x128 .bf16} (hK : RowsAt x1 o K) (hb : o + 512 ≤ 512 * b) (r : Fin 512)
    (k : Fin 512) : k0_pay31 (F := Ideal) (k0_pay16 x0) K (ix2 r k) = scores x0 x1 b r (o + k.val) := by
  have hk := k.isLt
  rw [scores, if_pos (by omega), raw]
  pointwise [k0_pay31, k0_pay16]
  simp only [hK k]

theorem block_vals {x2 : Vec Ideal S1x8192x128 .bf16} {o : ℕ} {V : Vec Ideal S1x512x128 .bf16}
    (hV : RowsAt x2 o V) (k : Fin 512) (d : Fin 128) :
    k0_pay32 (F := Ideal) V (ix2 k d) = vals x2 d (o + k.val) := by
  rw [vals, ← hV k d]
  pointwise [k0_pay32]

/-- The kernel's floor division of a row's number by one. -/
theorem row_div : ∀ r : Fin 512,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 1#32 0#32))
            (Scalar.extui (Scalar.cmpi CmpIPredicate.slt 1#32 0#32))))
        (IntOp.cmpi CmpIPredicate.ne (IntOp.remsi ArithUnit.vector (BitVec.ofNat 32 r.val) 1#32) 0#32))
      (IntOp.subi (IntOp.divsi ArithUnit.vector (BitVec.ofNat 32 r.val) 1#32) 1#32)
      (IntOp.divsi ArithUnit.vector (BitVec.ofNat 32 r.val) 1#32) = BitVec.ofNat 32 r.val := by
  decide +kernel

/-- A key's position against a row's, as the kernel compares them. -/
theorem key_le {n p q : ℕ} (b : ℕ) (hb : n * 512 + p < 2 ^ 31) (hq : b + q < 2 ^ 31) :
    (IntOp.cmpi CmpIPredicate.sle
      (IntOp.addi (Scalar.muli (BitVec.ofNat 32 n) 512#32) (BitVec.ofNat 32 p))
      (IntOp.addi (BitVec.ofNat 32 b) (BitVec.ofNat 32 q)) = 1#1) ↔ n * 512 + p ≤ b + q := by
  have e1 : IntOp.addi (Scalar.muli (BitVec.ofNat 32 n) 512#32) (BitVec.ofNat 32 p)
      = BitVec.ofNat 32 (n * 512 + p) := by
    simp [IntOp.addi, Scalar.muli, IntOp.muli, BitVec.ofNat_add, BitVec.ofNat_mul]
  have e2 : IntOp.addi (BitVec.ofNat 32 b) (BitVec.ofNat 32 q) = BitVec.ofNat 32 (b + q) := by
    simp [IntOp.addi, BitVec.ofNat_add]
  rw [e1, e2]
  exact WordCmp.cmpi_sle_ofNat_eq_one_iff hb hq

/-- The masked scores of the last block. -/
theorem last_scores {x0 : Vec Ideal S1x512x128 .bf16} {x1 : Vec Ideal S1x8192x128 .bf16} {b : ℕ}
    (hb : b < 16) {K : Vec Ideal S1x512x128 .bf16} (hK : RowsAt x1 (512 * b) K) {w0 w19 : BitVec 32}
    (hw0 : w0 = BitVec.ofNat 32 (512 * b)) (hw19 : w19 = BitVec.ofNat 32 b) (r : Fin 512) (k : Fin 512) :
    k0_pay33 (F := Ideal) w0 w19 (k0_pay31 (k0_pay16 x0) K) (ix2 r k)
      = scores x0 x1 b r (512 * b + k.val) := by
  have hk := k.isLt
  rw [scores, raw]
  pointwise [k0_pay33, k0_pay31, k0_pay16, named_mask]
  simp only [hK k]
  rw [row_div, hw0, hw19, Scalar.select]
  refine if_congr ?_ rfl rfl
  have hr := r.isLt
  have := key_le (n := b) (p := k.val) (q := r.val) (512 * b) (by omega) (by omega)
  rw [mul_comm b 512] at this
  exact this

/-- The last block's step, and the quotient. -/
theorem last_step {x0 : Vec Ideal S1x512x128 .bf16} {x1 : Vec Ideal S1x8192x128 .bf16}
    {x2 : Vec Ideal S1x8192x128 .bf16} {b : ℕ}
    (hb : b < 16) {K : Vec Ideal S1x512x128 .bf16} (hK : RowsAt x1 (512 * b) K)
    {V : Vec Ideal S1x512x128 .bf16} (hV : RowsAt x2 (512 * b) V) {w0 w19 : BitVec 32}
    (hw0 : w0 = BitVec.ofNat 32 (512 * b)) (hw19 : w19 = BitVec.ofNat 32 b) {st : St Ideal}
    (h : Holds (scores x0 x1 b) (vals x2) (512 * b) st) (r : Fin 512) (d : Fin 64) :
    k0_pay1 (F := Ideal) (k0_pay32 V) (k0_pay35 w0 w19 st.1 (k0_pay31 (k0_pay16 x0) K))
        (k0_pay36 w0 w19 st.1 st.2 (k0_pay31 (k0_pay16 x0) K)) (ix3 0 r d)
      = Ideal.div (num Ideal.exp (scores x0 x1 b r) (vals x2 ⟨d.val, by omega⟩) (512 * b + 512))
          (num Ideal.exp (scores x0 x1 b r) (vals x2 64) (512 * b + 512)) := by
  obtain ⟨-, ha⟩ := h.step (last_scores (x0 := x0) hb hK hw0 hw19) (block_vals hV) r
  rw [← ha ⟨d.val, by omega⟩, ← ha 64]
  have e : ∀ a : FVec Ideal S512x128 .f32,
      (shapeCast S1x512x64 (truncf .bf16 (divf (extractStridedSlice S512x64 ![0, 0] a slices_S512x128_o0_0_S512x64)
        (broadcastTo S512x64 (extractStridedSlice S512x1 ![0, 64] a slices_S512x128_o0_64_S512x1) broadcasts_S512x1_S512x64))
        bitsLt_bf16_f32) shapeCasts_S512x64_S1x512x64 : FVec Ideal S1x512x64 .bf16) (ix3 0 r d)
        = Ideal.div (a (ix2 r ⟨d.val, by omega⟩)) (a (ix2 r 64)) := by
    intro a
    pointwise []
    try rfl
  exact e _

end Proof.Fox
-- ==== Proof.Fox.Loops.lean ====
module

public import proofs.«01_k».proof.Proof.Fox.Point

/-!
The forgetting attention kernel's loops over the key blocks that every query row of a grid point sees: what
they carry after each trip. The first loop takes four blocks a trip, the third one the blocks left over;
the second and the fourth take none.
-/

@[expose] public section

set_option maxRecDepth 16384

noncomputable section

namespace Proof.Fox

open Idealize.ShloMosaic Cert.Kernel3Ideal Cert.Kernel3Ideal.Gen Proof.Online

section
variable {F : FTy → Type} [FloatOps F] [Named F]

variable (𝒱 : Variants) (c : Dev nD) (bd : Option 𝒱.V) (i : grid0.Coords)
  (arg2 : Memref sig .tc .vmem S1x512x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x64 .bf16) (harg5 : arg5.IsWhole)
  (v2 : FVec F S512x128 .bf16) (v19 : BitVec 32) (v20 : FVec F S512x1 .f32) (v22 : FVec F S512x128 .f32)
  (v23 : BitVec 32) (v37 : BitVec 1)

/-- One block, from the keys and values as loaded. -/
def blockStep (v2 : FVec F S512x128 .bf16) (K : Vec F S1x512x128 .bf16) (V : Vec F S1x512x128 .bf16) :
    St F → St F := step (k0_pay31 v2 K) (k0_pay32 V)

/-- A trip of the third loop is one block. -/
theorem trip3_eq (x1 x2 : Vec F S1x8192x128 .bf16) (k : Fin (k0_t3_loop i).trips) (acc : St F) :
    tripR_k0_t3 𝒱 c bd i arg2 harg2 arg3 harg3 arg4 harg4 arg5 harg5 v2 v19 v20 v22 v23 v37
        (harg3.unread x1) (harg4.unread x2) k acc
      = blockStep v2 (View.ld x1 (Rect.unit (s := S1x8192x128) (k0_off3 i k) S1x512x128.size (k0_off3_inb i k)))
          (View.ld x2 (Rect.unit (s := S1x8192x128) (k0_off3 i k) S1x512x128.size (k0_off3_inb i k))) acc := by
  unfold tripR_k0_t3 trip_k0_t3
  simp only [View.readAt_eq_ld, Memref.IsWhole.read_unread]
  rfl

/-- A trip of the first loop is four blocks. -/
theorem trip1_eq (x1 x2 : Vec F S1x8192x128 .bf16) (k : Fin (k0_t1_loop i).trips) (acc : St F) :
    tripR_k0_t1 𝒱 c bd i arg2 harg2 arg3 harg3 arg4 harg4 arg5 harg5 v2 v19 v20 v22 v23 v37
        (harg3.unread x1) (harg4.unread x2) k acc
      = blockStep v2 (View.ld x1 (Rect.unit (s := S1x8192x128) (k0_off1 i k 3#32) S1x512x128.size (k0_off1_inb i k 3)))
          (View.ld x2 (Rect.unit (s := S1x8192x128) (k0_off1 i k 3#32) S1x512x128.size (k0_off1_inb i k 3)))
         (blockStep v2 (View.ld x1 (Rect.unit (s := S1x8192x128) (k0_off1 i k 2#32) S1x512x128.size (k0_off1_inb i k 2)))
          (View.ld x2 (Rect.unit (s := S1x8192x128) (k0_off1 i k 2#32) S1x512x128.size (k0_off1_inb i k 2)))
         (blockStep v2 (View.ld x1 (Rect.unit (s := S1x8192x128) (k0_off1 i k 1#32) S1x512x128.size (k0_off1_inb i k 1)))
          (View.ld x2 (Rect.unit (s := S1x8192x128) (k0_off1 i k 1#32) S1x512x128.size (k0_off1_inb i k 1)))
         (blockStep v2 (View.ld x1 (Rect.unit (s := S1x8192x128) (k0_off1 i k 0#32) S1x512x128.size (k0_off1_inb i k 0)))
          (View.ld x2 (Rect.unit (s := S1x8192x128) (k0_off1 i k 0#32) S1x512x128.size (k0_off1_inb i k 0))) acc))) := by
  unfold tripR_k0_t1 trip_k0_t1
  dsimp only
  sl_unfold_words
  simp only [View.readAt_eq_ld, Memref.IsWhole.read_unread]
  rfl

end

theorem blockStep_holds {x0 : Vec Ideal S1x512x128 .bf16} {x1 x2 : Vec Ideal S1x8192x128 .bf16} {b o : ℕ}
    {K : Vec Ideal S1x512x128 .bf16} (hK : RowsAt x1 o K)
    {V : Vec Ideal S1x512x128 .bf16} (hV : RowsAt x2 o V) (hb : o + 512 ≤ 512 * b) {st : St Ideal}
    (h : Holds (scores x0 x1 b) (vals x2) o st) :
    Holds (scores x0 x1 b) (vals x2) (o + 512) (blockStep (k0_pay16 x0) K V st) :=
  h.step (full_scores hK hb) (block_vals hV)

theorem blk_lt (t : Fin grid0.N) : blkOf t < 16 := ((grid0.coords t) 1).isLt

/-- Before any key: maximum `-∞`, sum zero. -/
theorem init_holds (s : Fin 512 → ℕ → EReal) (v : Fin 128 → ℕ → EReal) :
    Holds s v 0 (k0_pay17 (F := Ideal), k0_pay18) := by
  intro r
  refine ⟨?_, fun d => ?_⟩
  · rw [mx_zero]
    pointwise [k0_pay17, named_mask]
  · rw [num_zero]
    pointwise [k0_pay18]

variable (𝒱 : Variants) (c : Dev nD) (bd : Option 𝒱.V) (t : Fin grid0.N)
  (arg2 : Memref sig .tc .vmem S1x512x128 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x512x64 .bf16) (harg5 : arg5.IsWhole)
  (v19 : BitVec 32) (v20 : FVec Ideal S512x1 .f32) (v22 : FVec Ideal S512x128 .f32)
  (v23 : BitVec 32) (v37 : BitVec 1) (v44 : BitVec 32)

theorem loop1_holds (x0 : Vec Ideal S1x512x128 .bf16) (x1 x2 : Vec Ideal S1x8192x128 .bf16) {init : St Ideal}
    (h0 : Holds (scores x0 x1 (blkOf t)) (vals x2) 0 init) :
    ∀ n, n ≤ (k0_t1_loop (grid0.coords t)).trips →
      Holds (scores x0 x1 (blkOf t)) (vals x2) (2048 * n)
        (st_k0_t1 𝒱 c bd (grid0.coords t) arg2 harg2 arg3 harg3 arg4 harg4 arg5 harg5 (k0_pay16 x0) v19 v20 v22
          v23 v37 (harg3.unread x1) (harg4.unread x2) init n) := by
  intro n
  induction n with
  | zero => intro _; exact h0
  | succ n ih =>
    intro hn
    have hb := blk_lt t
    have htr := trips1 t
    have e := st_k0_t1_succ 𝒱 c bd (grid0.coords t) arg2 harg2 arg3 harg3 arg4 harg4 arg5 harg5 (k0_pay16 x0) v19 v20
      v22 v23 v37 (harg3.unread x1) (harg4.unread x2) init ⟨n, hn⟩
    rw [e, trip1_eq]
    have o1 : ∀ u : Fin 4, _ := off1 t ⟨n, hn⟩
    have hK := fun u : Fin 4 => rowsAt_ld x1 (k0_off1_inb (grid0.coords t) ⟨n, hn⟩ u) _ (o1 u)
      (by have := u.isLt; show 2048 * n + 512 * u.val + 512 ≤ 8192; omega)
    have hV := fun u : Fin 4 => rowsAt_ld x2 (k0_off1_inb (grid0.coords t) ⟨n, hn⟩ u) _ (o1 u)
      (by have := u.isLt; show 2048 * n + 512 * u.val + 512 ≤ 8192; omega)
    have s0 := blockStep_holds (hK 0) (hV 0) (by show 2048 * n + 512 * 0 + 512 ≤ _; omega) (ih (by omega))
    have s1 := blockStep_holds (hK 1) (hV 1) (by show 2048 * n + 512 * 1 + 512 ≤ _; omega) s0
    have s2 := blockStep_holds (hK 2) (hV 2) (by show 2048 * n + 512 * 2 + 512 ≤ _; omega) s1
    have s3 := blockStep_holds (hK 3) (hV 3) (by show 2048 * n + 512 * 3 + 512 ≤ _; omega) s2
    exact s3

theorem loop3_holds (x0 : Vec Ideal S1x512x128 .bf16) (x1 x2 : Vec Ideal S1x8192x128 .bf16) {init : St Ideal}
    (h0 : Holds (scores x0 x1 (blkOf t)) (vals x2) (2048 * (blkOf t / 4)) init) :
    ∀ n, n ≤ (k0_t3_loop (grid0.coords t)).trips →
      Holds (scores x0 x1 (blkOf t)) (vals x2) (2048 * (blkOf t / 4) + 512 * n)
        (st_k0_t3 𝒱 c bd (grid0.coords t) arg2 harg2 arg3 harg3 arg4 harg4 arg5 harg5 (k0_pay16 x0) v19 v20 v22
          v23 v37 (harg3.unread x1) (harg4.unread x2) init n) := by
  intro n
  induction n with
  | zero => intro _; exact h0
  | succ n ih =>
    intro hn
    have hb := blk_lt t
    have htr := trips3 t
    have e := st_k0_t3_succ 𝒱 c bd (grid0.coords t) arg2 harg2 arg3 harg3 arg4 harg4 arg5 harg5 (k0_pay16 x0) v19 v20
      v22 v23 v37 (harg3.unread x1) (harg4.unread x2) init ⟨n, hn⟩
    rw [e, trip3_eq]
    exact blockStep_holds
      (rowsAt_ld x1 _ _ (off3 t ⟨n, hn⟩) (by show 2048 * (blkOf t / 4) + 512 * n + 512 ≤ 8192; omega))
      (rowsAt_ld x2 _ _ (off3 t ⟨n, hn⟩) (by show 2048 * (blkOf t / 4) + 512 * n + 512 ≤ 8192; omega))
      (by show 2048 * (blkOf t / 4) + 512 * n + 512 ≤ _; omega) (ih (by omega))

theorem loop2_none {H : St Ideal → Prop} (v2 : FVec Ideal S512x128 .bf16) (x1 x2 : Vec Ideal S1x8192x128 .bf16)
    {init : St Ideal} (h : H init) :
    H (st_k0_t2 𝒱 c bd (grid0.coords t) arg2 harg2 arg3 harg3 arg4 harg4 arg5 harg5 v2 v19 v20 v22
      v23 v37 v44 (harg3.unread x1) (harg4.unread x2) init (k0_t2_loop (grid0.coords t)).trips) := by
  rw [trips2]
  exact h

theorem loop4_none {H : St Ideal → Prop} (v2 : FVec Ideal S512x128 .bf16) (x1 x2 : Vec Ideal S1x8192x128 .bf16)
    {init : St Ideal} (h : H init) :
    H (st_k0_t4 𝒱 c bd (grid0.coords t) arg2 harg2 arg3 harg3 arg4 harg4 arg5 harg5 v2 v19 v20 v22
      v23 v37 (harg3.unread x1) (harg4.unread x2) init (k0_t4_loop (grid0.coords t)).trips) := by
  rw [trips4]
  exact h

/-- What the grid point writes at a row and a column. -/
theorem out_apply (x0 : Vec Ideal S1x512x128 .bf16) (x1 x2 : Vec Ideal S1x8192x128 .bf16) (r : Fin 512) (d : Fin 64) :
    out0_A_3 c (grid0.coords t) arg2 harg2 arg3 harg3 arg4 harg4 arg5 harg5 x0 x1 x2 (ix3 0 r d)
      = Ideal.div
          (num Ideal.exp (scores x0 x1 (blkOf t) r) (vals x2 ⟨d.val, by omega⟩) (512 * blkOf t + 512))
          (num Ideal.exp (scores x0 x1 (blkOf t) r) (vals x2 64) (512 * blkOf t + 512)) := by
  have hb := blk_lt t
  frame_out
  refine last_step hb (rowsAt_ld x1 _ _ (off5 t) (by omega)) (rowsAt_ld x2 _ _ (off5 t) (by omega)) ?_ ?_ ?_ r d
  · clear hb; revert t; decide +kernel
  · clear hb; revert t; decide +kernel
  · refine loop4_none (H := Holds _ _ _) _ _ _ t _ _ _ _ _ _ _ _ _ _ _ _ _ _ _ _ ?_
    have e3 : 512 * blkOf t = 2048 * (blkOf t / 4) + 512 * (k0_t3_loop (grid0.coords t)).trips := by
      rw [trips3]; omega
    have e1 : 2048 * (blkOf t / 4) = 2048 * (k0_t1_loop (grid0.coords t)).trips := by rw [trips1]
    rw [e3]
    refine loop3_holds _ _ _ t _ _ _ _ _ _ _ _ _ _ _ _ _ _ _ _ ?_ _ le_rfl
    refine loop2_none (H := Holds _ _ _) _ _ _ t _ _ _ _ _ _ _ _ _ _ _ _ _ _ _ _ _ ?_
    rw [e1]
    exact loop1_holds _ _ _ t _ _ _ _ _ _ _ _ _ _ _ _ _ _ _ _ (init_holds _ _) _ le_rfl

end Proof.Fox
-- ==== Proof.Fox.Array.lean ====
module

public import proofs.«01_k».proof.Proof.Fox.Loops
public import Idealize.ShloMosaic.Lib.Claim

/-!
The forgetting attention kernel's result array, from the arrays it is launched on.
-/

@[expose] public section

set_option maxRecDepth 16384

noncomputable section

namespace Proof.Fox

open Idealize.ShloMosaic Idealize.ShloMosaic.TcCoe Cert.Kernel3Ideal Cert.Kernel3Ideal.Gen Proof.Online

/-- The scores of query row `R` of sequence `b` against every key of the sequence. -/
def rowScore (q k : Vec Ideal S32x8192x128 .bf16) (b : Fin 32) (R : Fin 8192) (j : ℕ) : EReal :=
  if j ≤ R.val then
    ∑ c : Fin 128, q (ix3 b R c) * k (ix3 b ⟨j % 8192, Nat.mod_lt _ (by norm_num)⟩ c)
  else ⊥

/-- Column `d` of the values of sequence `b`, by key. -/
def colVal (v : Vec Ideal S32x8192x128 .bf16) (b : Fin 32) (d : Fin 128) (j : ℕ) : EReal :=
  v (ix3 b ⟨j % 8192, Nat.mod_lt _ (by norm_num)⟩ d)

/-- The attention of every query row over the keys up to the end of its block of 512; the divisor is the
weighted sum of column 64. -/
def attnArr (q k v : Vec Ideal S32x8192x128 .bf16) : Vec Ideal S32x8192x64 .bf16 := fun y =>
  Ideal.div
    (num Ideal.exp (rowScore q k (y 0) (y 1))
      (colVal v (y 0) ⟨(y 2).val, Nat.lt_trans (y 2).isLt (by decide)⟩) (512 * ((y 1).val / 512) + 512))
    (num Ideal.exp (rowScore q k (y 0) (y 1)) (colVal v (y 0) 64) (512 * ((y 1).val / 512) + 512))

variable (m : (ℓ : Loc nD τ sig) → Buf (Elt Ideal) ℓ)

theorem index0 : ∀ t : Fin grid0.N, win0_0.index t = ![((grid0.coords t) 0).val, ((grid0.coords t) 1).val, 0] := by
  decide +kernel
theorem index1 : ∀ t : Fin grid0.N, win0_1.index t = ![((grid0.coords t) 0).val, 0, 0] := by decide +kernel
theorem index2 : ∀ t : Fin grid0.N, win0_2.index t = ![((grid0.coords t) 0).val, 0, 0] := by decide +kernel
theorem index3 : ∀ t : Fin grid0.N, win0_3.index t = ![((grid0.coords t) 0).val, ((grid0.coords t) 1).val, 0] := by
  decide +kernel

/-- The query block of a grid point, in the array. -/
theorem iblk0_apply (c : Dev nD) (t : Fin grid0.N) (r : Fin 512) (d : Fin 128) (b : Fin 32) (R : Fin 8192)
    (hb : b.val = ((grid0.coords t) 0).val) (hR : R.val = 512 * blkOf t + r.val) :
    (iblk m c 0 t : Vec Ideal S1x512x128 .bf16) (ix3 0 r d) = (V m c main_v23 : Vec Ideal S32x8192x128 .bf16) (ix3 b R d) := by
  refine congrArg (V m c main_v23 : Vec Ideal S32x8192x128 .bf16) (funext fun a => Fin.ext ?_)
  blk_simp [index0 t]
  fin_cases a
  · simp [ix3, hb]
  · simp [ix3, hR, blkOf]; omega
  · simp [ix3]

theorem iblk1_apply (c : Dev nD) (t : Fin grid0.N) (k : Fin 8192) (d : Fin 128) (b : Fin 32)
    (hb : b.val = ((grid0.coords t) 0).val) :
    (iblk m c 1 t : Vec Ideal S1x8192x128 .bf16) (ix3 0 k d) = (V m c main_v25 : Vec Ideal S32x8192x128 .bf16) (ix3 b k d) := by
  refine congrArg (V m c main_v25 : Vec Ideal S32x8192x128 .bf16) (funext fun a => Fin.ext ?_)
  blk_simp [index1 t]
  fin_cases a
  · simp [ix3, hb]
  · simp [ix3]
  · simp [ix3]

theorem iblk2_apply (c : Dev nD) (t : Fin grid0.N) (k : Fin 8192) (d : Fin 128) (b : Fin 32)
    (hb : b.val = ((grid0.coords t) 0).val) :
    (iblk m c 2 t : Vec Ideal S1x8192x128 .bf16) (ix3 0 k d) = (V m c main_v32 : Vec Ideal S32x8192x128 .bf16) (ix3 b k d) := by
  refine congrArg (V m c main_v32 : Vec Ideal S32x8192x128 .bf16) (funext fun a => Fin.ext ?_)
  blk_simp [index2 t]
  fin_cases a
  · simp [ix3, hb]
  · simp [ix3]
  · simp [ix3]

theorem final_at (c : Dev nD) (t : Fin grid0.N) (r : Fin 512) (d : Fin 64) (b : Fin 32) (R : Fin 8192)
    (hb : b.val = ((grid0.coords t) 0).val) (hR : R.val = 512 * blkOf t + r.val) :
    out0_A_3 (F := Ideal) c (grid0.coords t) (ms0_0 t) (hs0_0 t) (ms0_1 t) (hs0_1 t) (ms0_2 t) (hs0_2 t) (ms0_3 t) (hs0_3 t)
        (iblk m c 0 t) (iblk m c 1 t) (iblk m c 2 t) (ix3 0 r d)
      = attnArr (V m c main_v23) (V m c main_v25) (V m c main_v32) (ix3 b R d) := by
  have hr := r.isLt
  rw [out_apply]
  have es : scores (iblk m c 0 t) (iblk m c 1 t) (blkOf t) r
      = rowScore (V m c main_v23) (V m c main_v25) b R := by
    funext j
    rw [scores, rowScore, raw, hR]
    simp only [iblk0_apply m c t r _ b R hb hR, iblk1_apply m c t _ _ b hb]
  have ev : ∀ x, vals (iblk m c 2 t) x = colVal (V m c main_v32) b x := by
    intro x
    funext j
    rw [vals, colVal, iblk2_apply m c t _ _ b hb]
  have en : blkOf t = R.val / 512 := by omega
  rw [es, ev, ev, en]
  rfl

theorem final (c : Dev nD) : (dats m 0 c).arrAt 3 cfg0.N
    = attnArr (V m c main_v23) (V m c main_v25) (V m c main_v32) := by
  refine (dats m 0 c).arrAt_eq_of_covers 3 _ (by decide +kernel) fun t hf y => ?_
  blk_simp
  rw [after0_3]
  unfold outsAt0
  change S1x512x64.Idx at y
  obtain ⟨r, d, rfl⟩ : ∃ (r : Fin 512) (d : Fin 64), y = ix3 0 r d :=
    ⟨y 1, y 2, (eq_ix3 y).trans (by congr 1; exact Subsingleton.elim (α := Fin 1) _ _)⟩
  have h0 : ((grid0.coords t) 0).val < 32 := ((grid0.coords t) 0).isLt
  have h1 := blk_lt t
  have hr := r.isLt
  refine (final_at m c t r d ⟨((grid0.coords t) 0).val, h0⟩ ⟨512 * blkOf t + r.val, by omega⟩ rfl rfl).trans ?_
  refine congrArg (attnArr _ _ _) (funext fun a => Fin.ext ?_)
  symm
  blk_simp [index3 t]
  fin_cases a
  · simp [ix3]
  · simp [ix3, blkOf]; omega
  · simp [ix3]

end Proof.Fox
-- ==== Proof.Fox.Entry.lean ====
module

public import proofs.«01_k».proof.Proof.Fox.Array
public import Idealize.ShloMosaic.Lib.StableHlo.ReadAt

/-!
The arrays that the forgetting attention kernel is launched on, from the program's arguments. A query row is the
head's query, the three parts of the gates' running sum, three ones and zeros; a key row is the head's key, three
ones, the three parts negated and zeros; a value row is the head's value, a one and zeros.
-/

@[expose] public section

set_option maxRecDepth 16384

noncomputable section

namespace Proof.Fox

open Idealize.ShloMosaic Idealize.ShloMosaic.TcCoe Cert.Kernel3Ideal Cert.Kernel3Ideal.Gen Proof.Online

/-- The score of query `q` of head `h` against key `j` in prompt `b`: their product, plus the parts of the gates'
running sum at the query, less those at the key. -/
def logit (a0 : Vec Ideal S32768x512 .bf16) (a1 : Vec Ideal S32768x512 .f32) (a2 a3 a4 : Vec Ideal S4x8192x128 .bf16)
    (b : Fin 4) (h : Fin 8) (q j : Fin 8192) : EReal :=
  (∑ x : Fin 64, a0 (ix2 ⟨b.val * 8192 + q.val, by omega⟩ ⟨h.val * 64 + x.val, by omega⟩) *
      a1 (ix2 ⟨b.val * 8192 + j.val, by omega⟩ ⟨h.val * 64 + x.val, by omega⟩)) +
    (a2 (ix3 b q ⟨h.val, by omega⟩) + a3 (ix3 b q ⟨h.val, by omega⟩) + a4 (ix3 b q ⟨h.val, by omega⟩) +
      -a2 (ix3 b j ⟨h.val, by omega⟩) + -a3 (ix3 b j ⟨h.val, by omega⟩) + -a4 (ix3 b j ⟨h.val, by omega⟩))

/-- The sequence's prompt and head. -/
abbrev pr (n : Fin 32) : Fin 4 := ⟨n.val / 8, by omega⟩
abbrev hd (n : Fin 32) : Fin 8 := ⟨n.val % 8, by omega⟩

variable (m : (ℓ : Loc nD τ sig) → Buf (Elt Ideal) ℓ)

set_option maxHeartbeats 4000000 in
theorem queries_cat (c : Dev nD) :
    (V m c main_v9 : Vec Ideal S4x8192x8x128 .bf16) =
      concatenate S4x8192x8x128 3
        [⟨S4x8192x8x64, V m c main_v2⟩, ⟨S4x8192x8x1, V m c main_v4⟩, ⟨S4x8192x8x1, V m c main_v6⟩,
          ⟨S4x8192x8x1, V m c main_v8⟩, ⟨S4x8192x8x3, V m c main_v0⟩, ⟨S4x8192x8x58, V m c main_v1⟩]
        concatenates_S4x8192x8x64_S4x8192x8x1_S4x8192x8x1_S4x8192x8x1_S4x8192x8x3_S4x8192x8x58_S4x8192x8x128_d3 := by
  rfl

theorem queries_heads (c : Dev nD) :
    (V m c main_v22 : Vec Ideal S4x8x8192x128 .bf16) =
      transpose S4x8x8192x128 [0, 2, 1, 3] (V m c main_v9 : Vec Ideal S4x8192x8x128 .bf16)
        transposes_S4x8192x8x128_S4x8x8192x128_0_2_1_3 := by
  rfl

theorem queries_rows (c : Dev nD) :
    (V m c main_v23 : Vec Ideal S32x8192x128 .bf16) =
      shapeCast S32x8192x128 (V m c main_v22 : Vec Ideal S4x8x8192x128 .bf16) shapeCasts_S4x8x8192x128_S32x8192x128 := by
  rfl

theorem queries_eq (c : Dev nD) :
    (V m c main_v23 : Vec Ideal S32x8192x128 .bf16) =
      shapeCast S32x8192x128 (transpose S4x8x8192x128 [0, 2, 1, 3] (concatenate S4x8192x8x128 3
        [⟨S4x8192x8x64, V m c main_v2⟩, ⟨S4x8192x8x1, V m c main_v4⟩, ⟨S4x8192x8x1, V m c main_v6⟩,
          ⟨S4x8192x8x1, V m c main_v8⟩, ⟨S4x8192x8x3, V m c main_v0⟩, ⟨S4x8192x8x58, V m c main_v1⟩]
        concatenates_S4x8192x8x64_S4x8192x8x1_S4x8192x8x1_S4x8192x8x1_S4x8192x8x3_S4x8192x8x58_S4x8192x8x128_d3)
        transposes_S4x8192x8x128_S4x8x8192x128_0_2_1_3) shapeCasts_S4x8x8192x128_S32x8192x128 := by
  rw [queries_rows, queries_heads, queries_cat]

set_option maxHeartbeats 4000000 in
theorem keys_cat (c : Dev nD) :
    (V m c main_v21 : Vec Ideal S4x8192x8x128 .bf16) =
      concatenate S4x8192x8x128 3
        [⟨S4x8192x8x64, V m c main_v11⟩, ⟨S4x8192x8x3, V m c main_v0⟩, ⟨S4x8192x8x1, V m c main_v14⟩,
          ⟨S4x8192x8x1, V m c main_v17⟩, ⟨S4x8192x8x1, V m c main_v20⟩, ⟨S4x8192x8x58, V m c main_v1⟩]
        concatenates_S4x8192x8x64_S4x8192x8x3_S4x8192x8x1_S4x8192x8x1_S4x8192x8x1_S4x8192x8x58_S4x8192x8x128_d3 := by
  rfl

theorem keys_heads (c : Dev nD) :
    (V m c main_v24 : Vec Ideal S4x8x8192x128 .bf16) =
      transpose S4x8x8192x128 [0, 2, 1, 3] (V m c main_v21 : Vec Ideal S4x8192x8x128 .bf16)
        transposes_S4x8192x8x128_S4x8x8192x128_0_2_1_3 := by
  rfl

theorem keys_rows (c : Dev nD) :
    (V m c main_v25 : Vec Ideal S32x8192x128 .bf16) =
      shapeCast S32x8192x128 (V m c main_v24 : Vec Ideal S4x8x8192x128 .bf16) shapeCasts_S4x8x8192x128_S32x8192x128 := by
  rfl

theorem keys_eq (c : Dev nD) :
    (V m c main_v25 : Vec Ideal S32x8192x128 .bf16) =
      shapeCast S32x8192x128 (transpose S4x8x8192x128 [0, 2, 1, 3] (concatenate S4x8192x8x128 3
        [⟨S4x8192x8x64, V m c main_v11⟩, ⟨S4x8192x8x3, V m c main_v0⟩, ⟨S4x8192x8x1, V m c main_v14⟩,
          ⟨S4x8192x8x1, V m c main_v17⟩, ⟨S4x8192x8x1, V m c main_v20⟩, ⟨S4x8192x8x58, V m c main_v1⟩]
        concatenates_S4x8192x8x64_S4x8192x8x3_S4x8192x8x1_S4x8192x8x1_S4x8192x8x1_S4x8192x8x58_S4x8192x8x128_d3)
        transposes_S4x8192x8x128_S4x8x8192x128_0_2_1_3) shapeCasts_S4x8x8192x128_S32x8192x128 := by
  rw [keys_rows, keys_heads, keys_cat]

theorem values_eq (c : Dev nD) :
    (V m c main_v32 : Vec Ideal S32x8192x128 .bf16) =
      concatenate S32x8192x128 2
        [⟨S32x8192x64, V m c main_v29⟩, ⟨S32x8192x1, V m c main_v30⟩, ⟨S32x8192x63, V m c main_v31⟩]
        concatenates_S32x8192x64_S32x8192x1_S32x8192x63_S32x8192x128_d2 := by
  rfl

theorem head_queries (c : Dev nD) (b : Fin 4) (q : Fin 8192) (h : Fin 8) (x : Fin 64) :
    (V m c main_v2 : Vec Ideal S4x8192x8x64 .bf16) (ix4 b q h x) =
      m (c, Proc.tc.devRef main_arg0) (ix2 ⟨b.val * 8192 + q.val, by omega⟩ ⟨h.val * 64 + x.val, by omega⟩) := by
  entry_read
  pointwise

theorem head_keys (c : Dev nD) (b : Fin 4) (q : Fin 8192) (h : Fin 8) (x : Fin 64) :
    (V m c main_v11 : Vec Ideal S4x8192x8x64 .bf16) (ix4 b q h x) =
      m (c, Proc.tc.devRef main_arg1) (ix2 ⟨b.val * 8192 + q.val, by omega⟩ ⟨h.val * 64 + x.val, by omega⟩) := by
  entry_read
  pointwise

theorem ones (c : Dev nD) (b : Fin 4) (q : Fin 8192) (h : Fin 8) (x : Fin 3) :
    (V m c main_v0 : Vec Ideal S4x8192x8x3 .bf16) (ix4 b q h x) = (1 : EReal) := by
  entry_read
  pointwise

theorem zeros (c : Dev nD) (b : Fin 4) (q : Fin 8192) (h : Fin 8) (x : Fin 58) :
    (V m c main_v1 : Vec Ideal S4x8192x8x58 .bf16) (ix4 b q h x) = (0 : EReal) := by
  entry_read
  pointwise

theorem part_hi (c : Dev nD) (b : Fin 4) (q : Fin 8192) (h : Fin 8) :
    (V m c main_v4 : Vec Ideal S4x8192x8x1 .bf16) (ix4 b q h 0) =
      m (c, Proc.tc.devRef main_arg2) (ix3 b q ⟨h.val, by omega⟩) := by
  entry_read
  pointwise

theorem part_mid (c : Dev nD) (b : Fin 4) (q : Fin 8192) (h : Fin 8) :
    (V m c main_v6 : Vec Ideal S4x8192x8x1 .bf16) (ix4 b q h 0) =
      m (c, Proc.tc.devRef main_arg3) (ix3 b q ⟨h.val, by omega⟩) := by
  entry_read
  pointwise

theorem part_lo (c : Dev nD) (b : Fin 4) (q : Fin 8192) (h : Fin 8) :
    (V m c main_v8 : Vec Ideal S4x8192x8x1 .bf16) (ix4 b q h 0) =
      m (c, Proc.tc.devRef main_arg4) (ix3 b q ⟨h.val, by omega⟩) := by
  entry_read
  pointwise

/-- An element of the arguments as an extended real. -/
abbrev real2 (a : Vec Ideal S4x8192x128 .bf16) (b : Fin 4) (q : Fin 8192) (h : Fin 8) : EReal :=
  a (ix3 b q ⟨h.val, by omega⟩)

theorem neg_hi (c : Dev nD) (b : Fin 4) (q : Fin 8192) (h : Fin 8) :
    (V m c main_v14 : Vec Ideal S4x8192x8x1 .bf16) (ix4 b q h 0) =
      -real2 (m (c, Proc.tc.devRef main_arg2)) b q h := by
  entry_read
  pointwise

theorem neg_mid (c : Dev nD) (b : Fin 4) (q : Fin 8192) (h : Fin 8) :
    (V m c main_v17 : Vec Ideal S4x8192x8x1 .bf16) (ix4 b q h 0) =
      -real2 (m (c, Proc.tc.devRef main_arg3)) b q h := by
  entry_read
  pointwise

theorem neg_lo (c : Dev nD) (b : Fin 4) (q : Fin 8192) (h : Fin 8) :
    (V m c main_v20 : Vec Ideal S4x8192x8x1 .bf16) (ix4 b q h 0) =
      -real2 (m (c, Proc.tc.devRef main_arg4)) b q h := by
  entry_read
  pointwise

theorem head_values (c : Dev nD) (n : Fin 32) (q : Fin 8192) (x : Fin 64) :
    (V m c main_v29 : Vec Ideal S32x8192x64 .bf16) (ix3 n q x) =
      m (c, Proc.tc.devRef main_arg5)
        (ix2 ⟨n.val / 8 * 8192 + q.val, by omega⟩ ⟨n.val % 8 * 64 + x.val, by omega⟩) := by
  entry_read
  pointwise

theorem ones_column (c : Dev nD) (n : Fin 32) (q : Fin 8192) :
    (V m c main_v30 : Vec Ideal S32x8192x1 .bf16) (ix3 n q 0) = (1 : EReal) := by
  entry_read
  pointwise

/-- A scalar product of a query row and a key row, part by part. -/
theorem cat_dot (q0 k0 : Vec Ideal S4x8192x8x64 .bf16) (q1 q2 q3 k1 k2 k3 : Vec Ideal S4x8192x8x1 .bf16)
    (o : Vec Ideal S4x8192x8x3 .bf16) (z : Vec Ideal S4x8192x8x58 .bf16)
    (ho : ∀ b q h x, o (ix4 b q h x) = (1 : EReal)) (hz : ∀ b q h x, z (ix4 b q h x) = (0 : EReal))
    (n : Fin 32) (R j : Fin 8192) :
    (∑ x : Fin 128,
      shapeCast S32x8192x128 (transpose S4x8x8192x128 [0, 2, 1, 3] (concatenate S4x8192x8x128 3
        [⟨S4x8192x8x64, q0⟩, ⟨S4x8192x8x1, q1⟩, ⟨S4x8192x8x1, q2⟩,
          ⟨S4x8192x8x1, q3⟩, ⟨S4x8192x8x3, o⟩, ⟨S4x8192x8x58, z⟩]
        concatenates_S4x8192x8x64_S4x8192x8x1_S4x8192x8x1_S4x8192x8x1_S4x8192x8x3_S4x8192x8x58_S4x8192x8x128_d3)
        transposes_S4x8192x8x128_S4x8x8192x128_0_2_1_3) shapeCasts_S4x8x8192x128_S32x8192x128 (ix3 n R x) *
      shapeCast S32x8192x128 (transpose S4x8x8192x128 [0, 2, 1, 3] (concatenate S4x8192x8x128 3
        [⟨S4x8192x8x64, k0⟩, ⟨S4x8192x8x3, o⟩, ⟨S4x8192x8x1, k1⟩,
          ⟨S4x8192x8x1, k2⟩, ⟨S4x8192x8x1, k3⟩, ⟨S4x8192x8x58, z⟩]
        concatenates_S4x8192x8x64_S4x8192x8x3_S4x8192x8x1_S4x8192x8x1_S4x8192x8x1_S4x8192x8x58_S4x8192x8x128_d3)
        transposes_S4x8192x8x128_S4x8x8192x128_0_2_1_3) shapeCasts_S4x8x8192x128_S32x8192x128 (ix3 n j x)) =
    (∑ x : Fin 64, q0 (ix4 (pr n) R (hd n) x) * k0 (ix4 (pr n) j (hd n) x)) +
      (q1 (ix4 (pr n) R (hd n) 0) + q2 (ix4 (pr n) R (hd n) 0) + q3 (ix4 (pr n) R (hd n) 0) +
        k1 (ix4 (pr n) j (hd n) 0) + k2 (ix4 (pr n) j (hd n) 0) + k3 (ix4 (pr n) j (hd n) 0) : EReal) := by
  pointwise
  refine (Fin.sum_univ_add (a := 64) (b := 64) _).trans ?_
  refine congrArg₂ (· + ·) (Finset.sum_congr rfl fun x _ => ?_) ?_
  · simp [Fin.val_castAdd]
  · refine (Fin.sum_univ_add (a := 6) (b := 58) _).trans ?_
    refine Eq.trans (congrArg₂ (· + ·) ?_
      (Finset.sum_eq_zero fun x _ => ?_)) (add_zero _)
    · rw [Fin.sum_univ_six]
      simp [ho]
    · simp [Fin.val_natAdd, hz]

/-- The kernel's scores, from the program's arguments. -/
theorem rowScore_entry (c : Dev nD) (n : Fin 32) (R : Fin 8192) (j : ℕ) :
    rowScore (V m c main_v23) (V m c main_v25) n R j =
      if j ≤ R.val then
        logit (m (c, Proc.tc.devRef main_arg0)) (m (c, Proc.tc.devRef main_arg1))
          (m (c, Proc.tc.devRef main_arg2)) (m (c, Proc.tc.devRef main_arg3)) (m (c, Proc.tc.devRef main_arg4))
          (pr n) (hd n) R ⟨j % 8192, by omega⟩
      else ⊥ := by
  unfold rowScore logit
  rw [queries_eq, keys_eq, cat_dot _ _ _ _ _ _ _ _ _ _ (ones m c) (zeros m c), part_hi, part_mid, part_lo, neg_hi,
    neg_mid, neg_lo]
  exact if_congr Iff.rfl (congrArg (· + _)
    (Finset.sum_congr rfl fun x _ => congrArg₂ (· * ·) (head_queries m c _ R _ x) (head_keys m c _ _ _ x))) rfl

/-- A value column in the concatenation. -/
theorem cat_vals (v0 : Vec Ideal S32x8192x64 .bf16) (v1 : Vec Ideal S32x8192x1 .bf16) (v2 : Vec Ideal S32x8192x63 .bf16)
    (n : Fin 32) (j : Fin 8192) (d : Fin 64) :
    concatenate S32x8192x128 2 [⟨S32x8192x64, v0⟩, ⟨S32x8192x1, v1⟩, ⟨S32x8192x63, v2⟩]
        concatenates_S32x8192x64_S32x8192x1_S32x8192x63_S32x8192x128_d2 (ix3 n j ⟨d.val, by omega⟩) = v0 (ix3 n j d) := by
  pointwise

theorem cat_one (v0 : Vec Ideal S32x8192x64 .bf16) (v1 : Vec Ideal S32x8192x1 .bf16) (v2 : Vec Ideal S32x8192x63 .bf16)
    (n : Fin 32) (j : Fin 8192) :
    concatenate S32x8192x128 2 [⟨S32x8192x64, v0⟩, ⟨S32x8192x1, v1⟩, ⟨S32x8192x63, v2⟩]
        concatenates_S32x8192x64_S32x8192x1_S32x8192x63_S32x8192x128_d2 (ix3 n j 64) = v1 (ix3 n j 0) := by
  pointwise

/-- The kernel's values, from the program's arguments. -/
theorem colVal_entry (c : Dev nD) (n : Fin 32) (d : Fin 64) (j : ℕ) :
    colVal (V m c main_v32) n ⟨d.val, by omega⟩ j =
      m (c, Proc.tc.devRef main_arg5)
        (ix2 ⟨n.val / 8 * 8192 + j % 8192, by omega⟩ ⟨n.val % 8 * 64 + d.val, by omega⟩) := by
  rw [colVal, values_eq, cat_vals]
  exact head_values m c n ⟨j % 8192, by omega⟩ d

/-- Column 64 of the kernel's values is one. -/
theorem colVal_one (c : Dev nD) (n : Fin 32) (j : ℕ) : colVal (V m c main_v32) n 64 j = 1 := by
  rw [colVal, values_eq, cat_one]
  exact ones_column m c n _

end Proof.Fox
-- ==== Proof.Fox.Ref.lean ====
module

public import proofs.«01_k».proof.Proof.Gen.Reference3Ideal.Run
public import proofs.«01_k».proof.Proof.Consts
public import proofs.«01_k».proof.Proof.Online
public import Idealize.ShloMosaic.Lib.Pointwise
public import Idealize.ShloMosaic.Lib.WordCmp

/-!
The forgetting attention reference's result, element by element.
-/

@[expose] public section

set_option maxRecDepth 16384

noncomputable section

namespace Proof.Fox.Ref

open Idealize.ShloMosaic Idealize.ShloMosaic.TcCoe Cert.Reference3Ideal Cert.Reference3Ideal.Gen

/-- The running sum of the gates' logarithms: the sum of its three parts. -/
def gates (a2 a3 a4 : FVec Ideal S4x8192x128 .bf16) : FVec Ideal S4x8192x8 .f32 :=
  extractStridedSlice S4x8192x8 ![0, 0, 0] (addf (addf (extf .f32 a2 bitsLt_bf16_f32) (extf .f32 a3 bitsLt_bf16_f32)) (extf .f32 a4 bitsLt_bf16_f32)) slices_S4x8192x128_S4x8192x8_0_0_0

/-- The masked scores. -/
def scores (a0 : FVec Ideal S32768x512 .bf16) (a1 : FVec Ideal S32768x512 .f32)
    (a2 a3 a4 : FVec Ideal S4x8192x128 .bf16) : FVec Ideal S4x8x8192x8192 .f32 :=
  select (broadcastInDim S4x8x8192x8192 ![2, 3] bcast_S8192x8192_S4x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (subf (addf
      (Host.dotGeneral dot_S4x8192x8x64_S4x8192x8x64_S4x8x8192x8192_3_3_1_1_02_02 none (shapeCast _ (extf .f32 a0 bitsLt_bf16_f32) shapeCasts_S32768x512_S4x8192x8x64) (shapeCast _ a1 shapeCasts_S32768x512_S4x8192x8x64))
      (broadcastInDim S4x8x8192x8192 ![0, 1, 2, 3] bcast_S4x8x8192x1_S4x8x8192x8192_0_1_2_3 (broadcastInDim S4x8x8192x1 ![0, 1, 2] bcast_S4x8x8192_S4x8x8192x1_0_1_2 (transpose S4x8x8192 [0, 2, 1] (gates a2 a3 a4) transposes_S4x8192x8_S4x8x8192_0_2_1))))
      (broadcastInDim S4x8x8192x8192 ![0, 1, 2, 3] bcast_S4x8x1x8192_S4x8x8192x8192_0_1_2_3 (broadcastInDim S4x8x1x8192 ![0, 1, 3] bcast_S4x8x8192_S4x8x1x8192_0_1_3 (transpose S4x8x8192 [0, 2, 1] (gates a2 a3 a4) transposes_S4x8192x8_S4x8x8192_0_2_1))))
    (broadcastInDim S4x8x8192x8192 ![] bcast_S_S4x8x8192x8192 (id (constant S_ .f32 0xFF800000#32)))

/-- The exponentials of scores less the row's maximum. -/
def weights (s : FVec Ideal S4x8x8192x8192 .f32) : FVec Ideal S4x8x8192x8192 .f32 :=
  Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 (maximumf (broadcastInDim S4x8x8192 ![] bcast_S_S4x8x8192 (constant S_ .f32 0xFF800000#32)) (Host.reduce FloatOps.maximumf s (constant S_ .f32 0xFF800000#32) reducesTo_S4x8x8192x8192_S4x8x8192_d3 h_S_)))))

/-- The average of the values by weights. -/
def average (a5 : FVec Ideal S32768x512 .f32) (e : FVec Ideal S4x8x8192x8192 .f32) : FVec Ideal S32x8192x64 .bf16 :=
  truncf .bf16 (shapeCast _ (transpose S4x8x8192x64 [0, 2, 1, 3] (transpose S4x8192x8x64 [0, 3, 1, 2] (Host.dotGeneral dot_S4x8192x8x64_S4x8x8192x8192_S4x8x64x8192_1_3_3_2_02_01 none (shapeCast _ a5 shapeCasts_S32768x512_S4x8192x8x64) (Host.divf e (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd e (constant S_ .f32 0x00000000#32) reducesTo_S4x8x8192x8192_S4x8x8192_d3 h_S_))))) transposes_S4x8x64x8192_S4x8192x8x64_0_3_1_2) transposes_S4x8192x8x64_S4x8x8192x64_0_2_1_3) shapeCasts_S4x8x8192x64_S32x8192x64) bitsLt_bf16_f32

theorem res_eq (m : (ℓ : Loc nD τ sig) → Buf (Elt Ideal) ℓ) (c : Dev nD) :
    Cert.Reference3Ideal.Value.res_out0 m c =
      average (m ((c.tc : Thread nD τ).loc main_arg5)) (weights (scores (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)))) := by
  rfl

theorem average_apply (a5 : FVec Ideal S32768x512 .f32) (e : FVec Ideal S4x8x8192x8192 .f32) (b : Fin 32)
    (R : Fin 8192) (d : Fin 64) :
    average a5 e (ix3 b R d) =
      ∑ x : Fin 8192, a5 (ix2 ⟨b.val / 8 * 8192 + x.val, by omega⟩ ⟨b.val % 8 * 64 + d.val, by omega⟩) *
        Ideal.div (e (ix4 ⟨b.val / 8, by omega⟩ ⟨b.val % 8, by omega⟩ R x))
          (∑ y : Fin 8192, e (ix4 ⟨b.val / 8, by omega⟩ ⟨b.val % 8, by omega⟩ R y)) := by
  pointwise [average]

theorem max_apply (s : FVec Ideal S4x8x8192x8192 .f32) (b : Fin 4) (h : Fin 8) (q : Fin 8192) :
    Host.reduce FloatOps.maximumf s (constant S_ .f32 0xFF800000#32) reducesTo_S4x8x8192x8192_S4x8x8192_d3 h_S_
        (ix3 b h q) =
      Finset.univ.fold max (Ideal.ofBits .f32 0xFF800000#32) fun x : Fin 8192 => s (ix4 b h q x) := by
  pointwise

theorem exp_apply (s : FVec Ideal S4x8x8192x8192 .f32) (M : FVec Ideal S4x8x8192 .f32) (b : Fin 4) (h : Fin 8)
    (q j : Fin 8192) :
    Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 (maximumf (broadcastInDim S4x8x8192 ![] bcast_S_S4x8x8192 (constant S_ .f32 0xFF800000#32)) M)))) (ix4 b h q j) =
      Ideal.exp (s (ix4 b h q j) - max (Ideal.ofBits .f32 0xFF800000#32) (M (ix3 b h q))) := by
  pointwise

theorem weights_apply (s : FVec Ideal S4x8x8192x8192 .f32) (b : Fin 4) (h : Fin 8) (q j : Fin 8192) :
    weights s (ix4 b h q j) =
      Ideal.exp (s (ix4 b h q j) - Finset.univ.fold max ⊥ fun x : Fin 8192 => s (ix4 b h q x)) := by
  refine (exp_apply s _ b h q j).trans ?_
  rw [max_apply, Consts.neg_inf, max_eq_right bot_le]

theorem gates_apply (a2 a3 a4 : FVec Ideal S4x8192x128 .bf16) (b : Fin 4) (q : Fin 8192) (h : Fin 8) :
    gates a2 a3 a4 (ix3 b q h) =
      (a2 (ix3 b q ⟨h.val, by omega⟩) + a3 (ix3 b q ⟨h.val, by omega⟩) + a4 (ix3 b q ⟨h.val, by omega⟩) : EReal) := by
  pointwise [gates]

theorem scores_apply (a0 : FVec Ideal S32768x512 .bf16) (a1 : FVec Ideal S32768x512 .f32)
    (a2 a3 a4 : FVec Ideal S4x8192x128 .bf16) (b : Fin 4) (h : Fin 8) (q j : Fin 8192) :
    scores a0 a1 a2 a3 a4 (ix4 b h q j) =
      if j.val ≤ q.val then
        (∑ x : Fin 64, a0 (ix2 ⟨b.val * 8192 + q.val, by omega⟩ ⟨h.val * 64 + x.val, by omega⟩) *
            a1 (ix2 ⟨b.val * 8192 + j.val, by omega⟩ ⟨h.val * 64 + x.val, by omega⟩)) +
          gates a2 a3 a4 (ix3 b q h) - gates a2 a3 a4 (ix3 b j h)
      else ⊥ := by
  have hc : IntOp.cmpi .sle (BitVec.ofNat 32 j.val) (BitVec.ofNat 32 q.val) = 1#1 ↔ j.val ≤ q.val :=
    WordCmp.cmpi_sle_ofNat_eq_one_iff (by omega) (by omega)
  pointwise [scores]
  exact if_congr hc rfl Consts.neg_inf

end Proof.Fox.Ref
-- ==== Proof.Fox.Final.lean ====
module

public import proofs.«01_k».proof.Proof.Fox.Entry
public import proofs.«01_k».proof.Proof.Fox.Ref

/-!
On finite arguments the forgetting attention kernel's quotient and the reference's average are one number: both are
the sum of the values weighted by the exponentials of the scores, divided by the sum of those exponentials. The
kernel's divisor is the weighted sum of a column of ones; the keys that only the reference visits have weight
zero.
-/

@[expose] public section

set_option maxRecDepth 16384

noncomputable section

namespace Proof.Fox

open Idealize.ShloMosaic Cert.Kernel3Ideal Proof.Online Finset

/-- The first eight columns of an array are finite. -/
def Real8 (a : Vec Ideal S4x8192x128 .bf16) : Prop :=
  ∀ (b : Fin 4) (q : Fin 8192) (h : Fin 8), ∃ r : ℝ, a (ix3 b q ⟨h.val, by omega⟩) = (r : EReal)

variable {a0 : Vec Ideal S32768x512 .bf16} {a1 : Vec Ideal S32768x512 .f32} {a2 a3 a4 : Vec Ideal S4x8192x128 .bf16}
  {a5 : Vec Ideal S32768x512 .f32}

/-- A scalar product of finite vectors is finite. -/
theorem dot_real {n : ℕ} {f g : Fin n → EReal} (hf : ∀ x, ∃ r : ℝ, f x = r) (hg : ∀ x, ∃ r : ℝ, g x = r) :
    ∃ r : ℝ, ∑ x, f x * g x = (r : EReal) := by
  choose F hF using hf
  choose G hG using hg
  refine ⟨∑ x, F x * G x, ?_⟩
  rw [coe_sum]
  exact sum_congr rfl fun x _ => by rw [hF, hG, EReal.coe_mul]

/-- A finite score, and the reference's form of it. -/
theorem logit_real (h0 : ∀ y, ∃ r : ℝ, a0 y = (r : EReal)) (h1 : ∀ y, ∃ r : ℝ, a1 y = (r : EReal))
    (h2 : Real8 a2) (h3 : Real8 a3) (h4 : Real8 a4) (b : Fin 4) (h : Fin 8) (q j : Fin 8192) :
    (∃ r : ℝ, logit a0 a1 a2 a3 a4 b h q j = (r : EReal)) ∧
      (∑ x : Fin 64, a0 (ix2 ⟨b.val * 8192 + q.val, by omega⟩ ⟨h.val * 64 + x.val, by omega⟩) *
          a1 (ix2 ⟨b.val * 8192 + j.val, by omega⟩ ⟨h.val * 64 + x.val, by omega⟩)) +
        Ref.gates a2 a3 a4 (ix3 b q h) - Ref.gates a2 a3 a4 (ix3 b j h) = logit a0 a1 a2 a3 a4 b h q j := by
  obtain ⟨r, hr⟩ := dot_real
    (fun x : Fin 64 => h0 (ix2 ⟨b.val * 8192 + q.val, by omega⟩ ⟨h.val * 64 + x.val, by omega⟩))
    (fun x => h1 (ix2 ⟨b.val * 8192 + j.val, by omega⟩ ⟨h.val * 64 + x.val, by omega⟩))
  obtain ⟨p2, e2⟩ := h2 b q h
  obtain ⟨p3, e3⟩ := h3 b q h
  obtain ⟨p4, e4⟩ := h4 b q h
  obtain ⟨n2, f2⟩ := h2 b j h
  obtain ⟨n3, f3⟩ := h3 b j h
  obtain ⟨n4, f4⟩ := h4 b j h
  have hl : logit a0 a1 a2 a3 a4 b h q j = ((r + (p2 + p3 + p4 + -n2 + -n3 + -n4) : ℝ) : EReal) := by
    rw [logit, e2, e3, e4, f2, f3, f4]
    simp only [EReal.coe_add, EReal.coe_neg]
    exact congrArg (· + _) hr
  refine ⟨⟨_, hl⟩, ?_⟩
  rw [hl, Ref.gates_apply, Ref.gates_apply]
  have e : (r : EReal) + (p2 + p3 + p4) - (n2 + n3 + n4) = ((r + (p2 + p3 + p4 + -n2 + -n3 + -n4) : ℝ) : EReal) := by
    simp only [← EReal.coe_add, ← EReal.coe_sub]
    congr 1
    ring
  refine Eq.trans ?_ e
  exact congrArg₂ (· - ·) (congrArg₂ (· + ·) hr (congrArg₂ (· + ·) (congrArg₂ (· + ·) e2 e3) e4))
    (congrArg₂ (· + ·) (congrArg₂ (· + ·) f2 f3) f4)

theorem attn_eq (h0 : ∀ y, ∃ r : ℝ, a0 y = (r : EReal)) (h1 : ∀ y, ∃ r : ℝ, a1 y = (r : EReal))
    (h2 : Real8 a2) (h3 : Real8 a3) (h4 : Real8 a4) (h5 : ∀ y, ∃ r : ℝ, a5 y = (r : EReal)) (n : Fin 32)
    (R : Fin 8192) (d : Fin 64) (s v u : ℕ → EReal)
    (hs : ∀ j, s j = if j ≤ R.val then logit a0 a1 a2 a3 a4 (pr n) (hd n) R ⟨j % 8192, by omega⟩ else ⊥)
    (hv : ∀ j, v j = a5 (ix2 ⟨n.val / 8 * 8192 + j % 8192, by omega⟩ ⟨n.val % 8 * 64 + d.val, by omega⟩))
    (hu : ∀ j, u j = 1) :
    Ideal.div (num Ideal.exp s v (512 * (R.val / 512) + 512)) (num Ideal.exp s u (512 * (R.val / 512) + 512)) =
      Ref.average a5 (Ref.weights (Ref.scores a0 a1 a2 a3 a4)) (ix3 n R d) := by
  choose A5 hA5 using h5
  choose L hL using fun j : Fin 8192 => (logit_real h0 h1 h2 h3 h4 (pr n) (hd n) R j).1
  have hden : ∀ k, num Ideal.exp s u k = den Ideal.exp s k := fun k => by
    rw [num, den]
    exact sum_congr rfl fun j _ => by rw [hu, mul_one]
  rw [hden]
  set w : ℕ → ℝ := fun j => if j ≤ R.val then Real.exp (L ⟨j % 8192, by omega⟩) else 0 with hw
  set c : ℕ → ℝ := fun j => A5 (ix2 ⟨n.val / 8 * 8192 + j % 8192, by omega⟩ ⟨n.val % 8 * 64 + d.val, by omega⟩) with hc
  have hsr : ∀ j, s j = if j ≤ R.val then ((L ⟨j % 8192, by omega⟩ : ℝ) : EReal) else ⊥ := fun j => by
    rw [hs, hL]
  have ht : ∀ j, s j ≠ ⊤ := fun j => by
    rw [hsr]
    split_ifs
    exacts [EReal.coe_ne_top _, bot_ne_top]
  have hp : s 0 ≠ ⊥ := by
    rw [hsr, if_pos (Nat.zero_le _)]
    exact EReal.coe_ne_bot _
  have hwt : ∀ j, Ideal.exp (s j) = (w j : EReal) := fun j => by
    rw [hsr, hw]
    dsimp only
    split_ifs
    exacts [expLike_exp.coe _, expLike_exp.bot]
  have hvr : ∀ j, v j = (c j : EReal) := fun j => by rw [hv, hA5]
  have kern := ratio expLike_exp (s := s) (v := v) (w := w) (c := c) (n := 512 * (R.val / 512) + 512)
    (fun j _ => ht j) ⟨0, by omega, hp⟩ (fun j _ => hwt j) (fun j _ => hvr j)
  have refr := softmax_average expLike_exp (s := s) (v := v) (w := w) (c := c) (n := 8192)
    (fun j _ => ht j) ⟨0, by omega, hp⟩ (fun j _ => hwt j) (fun j _ => hvr j)
  have hsc : ∀ j : Fin 8192, Ref.scores a0 a1 a2 a3 a4 (ix4 (pr n) (hd n) R j) = s j.val := fun j => by
    rw [Ref.scores_apply, (logit_real h0 h1 h2 h3 h4 (pr n) (hd n) R j).2, hs]
    refine if_congr Iff.rfl ?_ rfl
    exact congrArg (logit a0 a1 a2 a3 a4 (pr n) (hd n) R) (Fin.ext (Nat.mod_eq_of_lt j.isLt).symm)
  have hwr : ∀ j : Fin 8192, Ref.weights (Ref.scores a0 a1 a2 a3 a4) (ix4 (pr n) (hd n) R j)
      = Ideal.exp (s j.val - mx s 8192) := fun j => by
    rw [Ref.weights_apply, hsc, ← fold_max_fin]
    congr 2
    exact congrArg (Finset.univ.fold max ⊥) (funext hsc)
  rw [kern, Ref.average_apply]
  refine Eq.trans ?_ (Eq.trans refr.symm (sum_congr rfl fun j _ => ?_))
  · rw [sum_range_tail (fun j => w j * c j) (N := 8192) (by omega), sum_range_tail w (N := 8192) (by omega)]
    · intro j hj _
      rw [hw]
      exact if_neg (by omega)
    · intro j hj _
      rw [hw]
      dsimp only
      rw [if_neg (by omega), zero_mul]
  · have hj : a5 (ix2 ⟨n.val / 8 * 8192 + j.val, by omega⟩ ⟨n.val % 8 * 64 + d.val, by omega⟩) = v j.val := by
      rw [hv]
      exact congrArg (fun k => a5 (ix2 k _)) (Fin.ext (congrArg (n.val / 8 * 8192 + ·) (Nat.mod_eq_of_lt j.isLt).symm))
    rw [hj, hwr]
    simp only [hwr]

end Proof.Fox
-- ==== Proof.Fox.Finite.lean ====
module

public import proofs.«01_k».proof.Proof.Finite
public import proofs.«01_k».proof.Proof.Fox.Final

/-!
What the forgetting attention's precondition says: every element of the queries, keys and values, and every element
of the eight columns in use of the three parts of the gates' running sum, is a real number.
-/

@[expose] public section

set_option maxRecDepth 16384

noncomputable section

namespace Proof.Fox

open Idealize.ShloMosaic Proof.Finite

/-- The precondition's slices and broadcasts have the shapes they state. -/
instance finite_facts : Cert.Pre_finite3.Facts := ⟨by decide, by decide, by decide⟩

variable {a0 : Vec Ideal Cert.Pre_finite3.S32768x512 .bf16} {a1 : Vec Ideal Cert.Pre_finite3.S32768x512 .f32}
  {a2 a3 a4 : Vec Ideal Cert.Pre_finite3.S4x8192x128 .bf16} {a5 : Vec Ideal Cert.Pre_finite3.S32768x512 .f32}

theorem real_arg0 (h : (Cert.Pre_finite3.fn (F := Ideal) a0 a1 a2 a3 a4 a5).1 = fun _ => 1#1) (y) :
    ∃ r : ℝ, a0 y = (r : EReal) := by
  refine real_of_abs_lt (Eq.trans ?_ (congrFun h y))
  rw [← pos_inf_half]
  rfl

theorem real_arg1 (h : (Cert.Pre_finite3.fn (F := Ideal) a0 a1 a2 a3 a4 a5).2.1 = fun _ => 1#1) (y) :
    ∃ r : ℝ, a1 y = (r : EReal) := by
  refine real_of_abs_lt (Eq.trans ?_ (congrFun h y))
  rw [← Consts.pos_inf]
  rfl

/-- An element of the slice of the first eight columns. -/
theorem slice_apply (a : Vec Ideal Cert.Pre_finite3.S4x8192x128 .bf16) (b : Fin 4) (q : Fin 8192) (h : Fin 8) :
    (extractStridedSlice Cert.Pre_finite3.S4x8192x8 ![0, 0, 0] a
        Cert.Pre_finite3.Facts.slices_S4x8192x128_S4x8192x8_0_0_0 : FVec Ideal Cert.Pre_finite3.S4x8192x8 .bf16) (ix3 b q h)
      = a (ix3 b q ⟨h.val, by omega⟩) := by
  pointwise

theorem real_arg2 (h : (Cert.Pre_finite3.fn (F := Ideal) a0 a1 a2 a3 a4 a5).2.2.1 = fun _ => 1#1) : Real8 a2 := by
  intro b q k
  rw [← slice_apply a2 b q k]
  refine real_of_abs_lt (Eq.trans ?_ (congrFun h (ix3 b q k)))
  rw [← pos_inf_half]
  rfl

theorem real_arg3 (h : (Cert.Pre_finite3.fn (F := Ideal) a0 a1 a2 a3 a4 a5).2.2.2.1 = fun _ => 1#1) : Real8 a3 := by
  intro b q k
  rw [← slice_apply a3 b q k]
  refine real_of_abs_lt (Eq.trans ?_ (congrFun h (ix3 b q k)))
  rw [← pos_inf_half]
  rfl

theorem real_arg4 (h : (Cert.Pre_finite3.fn (F := Ideal) a0 a1 a2 a3 a4 a5).2.2.2.2.1 = fun _ => 1#1) : Real8 a4 := by
  intro b q k
  rw [← slice_apply a4 b q k]
  refine real_of_abs_lt (Eq.trans ?_ (congrFun h (ix3 b q k)))
  rw [← pos_inf_half]
  rfl

theorem real_arg5 (h : (Cert.Pre_finite3.fn (F := Ideal) a0 a1 a2 a3 a4 a5).2.2.2.2.2 = fun _ => 1#1) (y) :
    ∃ r : ℝ, a5 y = (r : EReal) := by
  refine real_of_abs_lt (Eq.trans ?_ (congrFun h y))
  rw [← Consts.pos_inf]
  rfl

end Proof.Fox
-- ==== Proof.Even.Row.lean ====
module

public import proofs.«01_k».proof.Proof.Ffn.Row

/-!
One row of the first layer's projection: the normalised row's product with the columns of the queries, of the keys,
of the values, of the forget gates and of the state space's inputs, and the logarithm of the gates' sigmoid.
-/

@[expose] public section

noncomputable section

namespace Proof.Even

open Idealize.ShloMosaic Proof.Ffn

/-- The row's product with column `d` of the weights. -/
def prod (x g : Fin 1024 → EReal) (w : Fin 1024 → Fin 2056 → EReal) (d : Fin 2056) : EReal :=
  ∑ c, rms x g c * w c d

/-- The logarithm of the sigmoid of `v`, in the form that does not overflow. -/
def logSig (v : EReal) : EReal :=
  min v 0 - Ideal.log1p (Ideal.exp (0 - max v (-v)))

/-- The gate's value before the sigmoid: for the eight heads, and zero in the other columns. -/
def gate (x g : Fin 1024 → EReal) (w : Fin 1024 → Fin 2056 → EReal) (b : Fin 8 → EReal) (d : Fin 128) : EReal :=
  if h : d.val < 8 then prod x g w ⟨1536 + d.val, by omega⟩ + b ⟨d.val, h⟩ else 0

/-- The kernel's columns of the weights: the queries', the keys' and the values', the state space's, the gates', zeros. -/
def colOf (w : Fin 1024 → Fin 2056 → EReal) (i : Fin 1024) (j : Fin 2176) : EReal :=
  if h : j.val < 1536 then w i ⟨j.val, by omega⟩
  else if h2 : j.val < 2048 then w i ⟨j.val + 8, by omega⟩
  else if h3 : j.val < 2056 then w i ⟨j.val - 512, by omega⟩
  else 0

/-- The columns by the offsets of their parts. -/
theorem colOf_parts (w : Fin 1024 → Fin 2056 → EReal) (i : Fin 1024) (j : Fin 2176) (o : EReal) (ho : o = 0) :
    (if h : j.val < 1536 then w i ⟨j.val, by omega⟩
      else if h2 : j.val - 1536 < 512 then w i ⟨1544 + (j.val - 1536), by omega⟩
      else if h3 : j.val - 1536 - 512 < 8 then w i ⟨1536 + (j.val - 1536 - 512), by omega⟩
      else o) = colOf w i j := by
  unfold colOf
  by_cases h : j.val < 1536
  · rw [dif_pos h, dif_pos h]
  rw [dif_neg h, dif_neg h]
  by_cases h2 : j.val < 2048
  · rw [dif_pos (by omega), dif_pos h2]
    exact congrArg (w i) (Fin.ext (by simp only; omega))
  rw [dif_neg (by omega), dif_neg h2]
  by_cases h3 : j.val < 2056
  · rw [dif_pos (by omega), dif_pos h3]
    exact congrArg (w i) (Fin.ext (by simp only; omega))
  rw [dif_neg (by omega), dif_neg h3, ho]

/-- The row's product with the kernel's columns. -/
def kProd (x g : Fin 1024 → EReal) (w : Fin 1024 → Fin 2056 → EReal) (d : Fin 2176) : EReal :=
  ∑ c, rms x g c * colOf w c d

section Columns

variable (x g : Fin 1024 → EReal) (w : Fin 1024 → Fin 2056 → EReal)

theorem kProd_low (d : Fin 2176) (h : d.val < 1536) : kProd x g w d = prod x g w ⟨d.val, by omega⟩ :=
  Finset.sum_congr rfl fun c _ => by rw [colOf, dif_pos h]

theorem kProd_mid (d : Fin 512) : kProd x g w ⟨1536 + d.val, by omega⟩ = prod x g w ⟨1544 + d.val, by omega⟩ :=
  Finset.sum_congr rfl fun c _ => by
    rw [colOf, dif_neg (by simp), dif_pos (by simp only; omega)]
    exact congrArg (fun i => rms x g c * w c i) (Fin.ext (by simp only; omega))

theorem kProd_gate (b : Fin 8 → EReal) (d : Fin 128) :
    kProd x g w ⟨2048 + d.val, by omega⟩ + (if h : d.val < 8 then b ⟨d.val, h⟩ else 0) = gate x g w b d := by
  unfold gate
  by_cases h : d.val < 8
  · rw [dif_pos h, dif_pos h]
    refine congrArg (· + _) (Finset.sum_congr rfl fun c _ => ?_)
    rw [colOf, dif_neg (by simp only; omega), dif_neg (by simp), dif_pos (by simp only; omega)]
    exact congrArg (fun i => rms x g c * w c i) (Fin.ext (by simp only; omega))
  · rw [dif_neg h, dif_neg h, add_zero]
    refine Finset.sum_eq_zero fun c _ => ?_
    rw [colOf, dif_neg (by simp only; omega), dif_neg (by simp), dif_neg (by simp only; omega), mul_zero]

end Columns

/-- The logarithm of a positive number is not minus infinity. -/
theorem log_ne_bot {r : ℝ} (h : 0 < r) : Ideal.log (r : EReal) ≠ ⊥ := by
  change (if r ≤ 0 then ⊥ else (Real.log r : EReal)) ≠ ⊥
  rw [if_neg (not_le.2 h)]
  exact EReal.coe_ne_bot _

/-- The logarithm of one plus an exponential is not minus infinity. -/
theorem log1p_exp_ne_bot (v : EReal) : Ideal.log1p (Ideal.exp v) ≠ ⊥ := by
  induction v with
  | bot =>
    have e : (1 : EReal) + Ideal.exp ⊥ = ((1 : ℝ) : EReal) := add_zero _
    rw [Ideal.log1p, e]
    exact log_ne_bot one_pos
  | top =>
    have e : (1 : EReal) + Ideal.exp ⊤ = ⊤ := EReal.add_top_of_ne_bot (EReal.coe_ne_bot 1)
    rw [Ideal.log1p, e]
    exact top_ne_bot
  | coe r =>
    have e : (1 : EReal) + Ideal.exp r = ((1 + Real.exp r : ℝ) : EReal) := (EReal.coe_add _ _).symm
    rw [Ideal.log1p, e]
    exact log_ne_bot (by positivity)

/-- The sigmoid's logarithm as the softplus of the opposite, negated. -/
theorem logSig_eq (v : EReal) :
    -(max (-v) 0 + Ideal.log1p (Ideal.exp (-(max (-v) (-(-v)))))) = logSig v := by
  have h : max (-v) 0 ≠ ⊥ := ne_bot_of_le_ne_bot EReal.zero_ne_bot (le_max_right _ _)
  rw [EReal.neg_add (Or.inl h) (Or.inr (log1p_exp_ne_bot _)), logSig, neg_neg, max_comm (-v) v, zero_sub]
  congr 1
  rcases le_total v 0 with hv | hv
  · rw [min_eq_left hv, max_eq_left (EReal.neg_le_neg_iff.1 (by simpa using hv)), neg_neg]
  · rw [min_eq_right hv, max_eq_right (EReal.neg_le_neg_iff.1 (by simpa using hv)), neg_zero]

end Proof.Even

end
-- ==== Proof.Even.Prompt.Point.lean ====
module

public import proofs.«01_k».proof.Proof.Gen.Kernel4Ideal.Value
public import proofs.«01_k».proof.Proof.Even.Row
public import Idealize.ShloMosaic.Lib.Pointwise
public import Idealize.ShloMosaic.Lib.Pipeline.ValueKit

/-!
What one grid point of the first layer's projection computes from its blocks, entry by entry.
-/

@[expose] public section

set_option maxRecDepth 16384

noncomputable section

namespace Proof.Even.Prompt

open Idealize.ShloMosaic Cert.Kernel4Ideal Cert.Kernel4Ideal.Gen Proof.Ffn Proof.Even

variable (x : Vec Ideal S512x1024 .f32) (g : Vec Ideal S1x1024 .f32) (w : Vec Ideal S1024x2176 .bf16)
  (b : Vec Ideal S1x128 .f32) (r : Fin 512)

theorem prod_apply (d : Fin 2176) : k0_pay2 (F := Ideal) x g w (ix2 r d) =
    ∑ c : Fin 1024, rms (rowOf (φ := .f32) x r) (rowOf (φ := .f32) g 0) c * w (ix2 c d) := by
  pointwise [k0_pay2]
  rfl

theorem q_apply (d : Fin 512) : out0_4 (F := Ideal) x g w b (ix2 r d) =
    k0_pay2 (F := Ideal) x g w (ix2 r ⟨d.val, by omega⟩) * Ideal.ofBits .f32 0x3E000000#32 := by
  frame_out
  pointwise [k0_pay3]

theorem k_apply (d : Fin 512) : out0_5 (F := Ideal) x g w b (ix2 r d) =
    k0_pay2 (F := Ideal) x g w (ix2 r ⟨512 + d.val, by omega⟩) := by
  frame_out
  pointwise [k0_pay4]

theorem v_apply (d : Fin 512) : out0_6 (F := Ideal) x g w b (ix2 r d) =
    k0_pay2 (F := Ideal) x g w (ix2 r ⟨1024 + d.val, by omega⟩) := by
  frame_out
  pointwise [k0_pay5]

theorem u_apply (d : Fin 512) : out0_7 (F := Ideal) x g w b (ix2 r d) =
    k0_pay2 (F := Ideal) x g w (ix2 r ⟨1536 + d.val, by omega⟩) := by
  frame_out
  pointwise [k0_pay6]

theorem lf_apply (d : Fin 128) : out0_8 (F := Ideal) x g w b (ix2 r d) =
    logSig (k0_pay2 (F := Ideal) x g w (ix2 r ⟨2048 + d.val, by omega⟩) + b (ix2 0 d)) := by
  frame_out
  pointwise [k0_pay1, k0_pay7, k0_pay8]
  rfl

end Proof.Even.Prompt

end
-- ==== Proof.Even.Prompt.Array.lean ====
module

public import proofs.«01_k».proof.Proof.Even.Prompt.Point
public import Idealize.ShloMosaic.Lib.Claim
public import Idealize.ShloMosaic.Lib.StableHlo.ReadAt

/-!
The first layer's projection of the prompt: the kernel's five result arrays, from the program's arguments.
-/

@[expose] public section

set_option maxRecDepth 16384

noncomputable section

namespace Proof.Even.Prompt

open Idealize.ShloMosaic Idealize.ShloMosaic.TcCoe Cert.Kernel4Ideal Cert.Kernel4Ideal.Gen Proof.Ffn Proof.Even

variable (m : (ℓ : Loc nD τ sig) → Buf (Elt Ideal) ℓ)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel

/-- Row `R` of all prompts. -/
def xRow (x : FVec Ideal S4x8192x1024 .f32) (R : Fin 32768) (j : Fin 1024) : EReal :=
  x (ix3 ⟨R.val / 8192, by omega⟩ ⟨R.val % 8192, by omega⟩ j)

/-- The first layer's scale of the normalisation. -/
def gRow (g : FVec Ideal S2x1024 .f32) (j : Fin 1024) : EReal := g (ix2 0 j)

/-- The projection's weights. -/
def wMat (w : FVec Ideal S1x1024x2056 .f32) (i : Fin 1024) (j : Fin 2056) : EReal := w (ix3 0 i j)

/-- The gates' biases. -/
def bRow (b : FVec Ideal S1x8 .f32) (j : Fin 8) : EReal := b (ix2 0 j)

/-- Row `R`'s product with column `d` of the weights. -/
def z (x : FVec Ideal S4x8192x1024 .f32) (g : FVec Ideal S2x1024 .f32) (w : FVec Ideal S1x1024x2056 .f32)
    (R : Fin 32768) (d : Fin 2056) : EReal :=
  prod (xRow x R) (gRow g) (wMat w) d

theorem rowsOf_apply (x : FVec Ideal S4x8192x1024 .f32) (R : Fin 32768) (j : Fin 1024) :
    shapeCast S32768x1024 x shapeCasts_S4x8192x1024_S32768x1024 (ix2 R j) = xRow x R j := by
  pointwise
  rfl

theorem zero_word : FloatOps.sitofp (F := Ideal) FTy.f32 (0#32) = (0 : EReal) := by
  change ((((0#32 : BitVec 32).toInt : ℝ)) : EReal) = 0
  simp

/-- The kernel's columns of the weights: the queries', the keys' and the values', the state space's, the gates', zeros. -/
def cols (w : FVec Ideal S1024x2056 .f32) : FVec Ideal S1024x2176 .bf16 :=
  truncf .bf16 (concatenate S1024x2176 1
    [⟨S1024x1536, extractStridedSlice S1024x1536 ![0, 0] w slices_S1024x2056_S1024x1536_0_0⟩,
      ⟨S1024x512, extractStridedSlice S1024x512 ![0, 1544] w slices_S1024x2056_S1024x512_0_1544⟩,
      ⟨S1024x128, pad S1024x128 ![0, 0] ![0, 120] ![0, 0] (extractStridedSlice S1024x8 ![0, 1536] w
        slices_S1024x2056_S1024x8_0_1536) (sitofp (F := Ideal) .f32 (constantI S_ 32 0#32))
        pads_S1024x8_S1024x128_000_01200 h_S_⟩]
    concatenates_S1024x1536_S1024x512_S1024x128_S1024x2176_d1 : FVec Ideal S1024x2176 .f32) bitsLt_bf16_f32

theorem cols_apply (w : FVec Ideal S1024x2056 .f32) (i : Fin 1024) (j : Fin 2176) :
    cols w (ix2 i j) = colOf (fun i j => w (ix2 i j)) i j := by
  pointwise [cols]
  exact colOf_parts (fun i j => w (ix2 i j)) i j _ zero_word

/-- The arrays the kernel is launched on, from the arguments. -/
theorem rows_eq (c : Dev nD) : (V m c main_v10 : Vec Ideal S32768x1024 .f32) =
    shapeCast S32768x1024 (m (c, Proc.tc.devRef main_arg0)) shapeCasts_S4x8192x1024_S32768x1024 := by
  rfl

theorem norm_eq (c : Dev nD) : (V m c main_v13 : Vec Ideal S1x1024 .f32) =
    shapeCast S1x1024 (shapeCast S1024 (extractStridedSlice S1x1024 ![0, 0] (m (c, Proc.tc.devRef main_arg1))
      slices_S2x1024_S1x1024_0_0) shapeCasts_S1x1024_S1024) shapeCasts_S1024_S1x1024 := by
  rfl

theorem bias_eq (c : Dev nD) : (V m c main_v9 : Vec Ideal S1x128 .f32) =
    pad S1x128 ![0, 0] ![0, 120] ![0, 0] (shapeCast S1x8 (shapeCast S8 (m (c, Proc.tc.devRef main_arg3))
      shapeCasts_S1x8_S8) shapeCasts_S8_S1x8) (sitofp (F := Ideal) .f32 (constantI S_ 32 0#32))
      pads_S1x8_S1x128_000_01200 h_S_ := by
  rfl

theorem flat_eq (c : Dev nD) : (V m c main_v0 : Vec Ideal S1024x2056 .f32) =
    shapeCast S1024x2056 (m (c, Proc.tc.devRef main_arg2)) shapeCasts_S1x1024x2056_S1024x2056 := by
  rfl

theorem weights_eq (c : Dev nD) : (V m c main_v6 : Vec Ideal S1024x2176 .bf16) =
    cols (V m c main_v0 : Vec Ideal S1024x2056 .f32) := by
  rfl

theorem flat_apply (w : FVec Ideal S1x1024x2056 .f32) (i : Fin 1024) (j : Fin 2056) :
    shapeCast S1024x2056 w shapeCasts_S1x1024x2056_S1024x2056 (ix2 i j) = wMat w i j := by
  pointwise
  rfl

theorem rows_apply (c : Dev nD) (t : Fin grid0.N) (r : Fin 512) (d : Fin 1024) (R : Fin 32768)
    (hR : R.val = 512 * t.val + r.val) :
    (iblk m c 0 t : Vec Ideal S512x1024 .f32) (ix2 r d) = xRow (m (c, Proc.tc.devRef main_arg0)) R d := by
  have e : (iblk m c 0 t : Vec Ideal S512x1024 .f32) (ix2 r d) = (V m c main_v10 : Vec Ideal S32768x1024 .f32) (ix2 R d) := by
    refine congrArg (V m c main_v10 : Vec Ideal S32768x1024 .f32) (funext fun a => Fin.ext ?_)
    blk_simp [index0 t]
    fin_cases a
    · simp [ix2, hR]; omega
    · simp [ix2]
  refine e.trans ?_
  rw [rows_eq]
  exact rowsOf_apply _ R d

theorem norm_apply (c : Dev nD) (t : Fin grid0.N) (j : Fin 1024) :
    (iblk m c 1 t : Vec Ideal S1x1024 .f32) (ix2 0 j) = gRow (m (c, Proc.tc.devRef main_arg1)) j := by
  have e : (iblk m c 1 t : Vec Ideal S1x1024 .f32) (ix2 0 j) = (V m c main_v13 : Vec Ideal S1x1024 .f32) (ix2 0 j) := by
    refine congrArg (V m c main_v13 : Vec Ideal S1x1024 .f32) (funext fun a => Fin.ext ?_)
    blk_simp [index1 t]
    fin_cases a <;> simp [ix2]
  refine e.trans ?_
  rw [norm_eq]
  pointwise
  rfl

theorem weights_entry (c : Dev nD) (t : Fin grid0.N) (i : Fin 1024) (j : Fin 2176) :
    (iblk m c 2 t : Vec Ideal S1024x2176 .bf16) (ix2 i j) = (V m c main_v6 : Vec Ideal S1024x2176 .bf16) (ix2 i j) := by
  refine congrArg (V m c main_v6 : Vec Ideal S1024x2176 .bf16) (funext fun a => Fin.ext ?_)
  blk_simp [index2 t]
  fin_cases a <;> simp [ix2]

theorem bias_apply (c : Dev nD) (t : Fin grid0.N) (j : Fin 128) :
    (iblk m c 3 t : Vec Ideal S1x128 .f32) (ix2 0 j) =
      if h : j.val < 8 then bRow (m (c, Proc.tc.devRef main_arg3)) ⟨j.val, h⟩ else 0 := by
  have e : (iblk m c 3 t : Vec Ideal S1x128 .f32) (ix2 0 j) = (V m c main_v9 : Vec Ideal S1x128 .f32) (ix2 0 j) := by
    refine congrArg (V m c main_v9 : Vec Ideal S1x128 .f32) (funext fun a => Fin.ext ?_)
    blk_simp [index3 t]
    fin_cases a <;> simp [ix2]
  refine e.trans ?_
  rw [bias_eq]
  pointwise
  rw [zero_word]
  rfl

theorem weights_apply (c : Dev nD) (t : Fin grid0.N) (i : Fin 1024) (j : Fin 2176) :
    (iblk m c 2 t : Vec Ideal S1024x2176 .bf16) (ix2 i j) = colOf (wMat (m (c, Proc.tc.devRef main_arg2))) i j := by
  refine (weights_entry m c t i j).trans ?_
  rw [weights_eq, flat_eq, cols_apply]
  exact congrArg (fun w => colOf w i j) (funext fun i => funext fun j => flat_apply _ i j)

/-- A grid point's products. -/
theorem point_prod (c : Dev nD) (t : Fin grid0.N) (r : Fin 512) (d : Fin 2176) (R : Fin 32768)
    (hR : R.val = 512 * t.val + r.val) :
    k0_pay2 (F := Ideal) (iblk m c 0 t) (iblk m c 1 t) (iblk m c 2 t) (ix2 r d) =
      kProd (xRow (m (c, Proc.tc.devRef main_arg0)) R) (gRow (m (c, Proc.tc.devRef main_arg1)))
        (wMat (m (c, Proc.tc.devRef main_arg2))) d := by
  refine (prod_apply _ _ _ r d).trans ?_
  have e0 : rowOf (φ := .f32) (iblk m c 0 t : Vec Ideal S512x1024 .f32) r = xRow (m (c, Proc.tc.devRef main_arg0)) R :=
    funext fun j => rows_apply m c t r j R hR
  have e1 : rowOf (φ := .f32) (iblk m c 1 t : Vec Ideal S1x1024 .f32) 0 = gRow (m (c, Proc.tc.devRef main_arg1)) :=
    funext fun j => norm_apply m c t j
  rw [e0, e1]
  exact Finset.sum_congr rfl fun k _ => congrArg (_ * ·) (weights_apply m c t k d)

/-- The queries, the keys, the values, the state space's inputs and the gates' logarithms, row after row. -/
def qArr (x : FVec Ideal S4x8192x1024 .f32) (g : FVec Ideal S2x1024 .f32) (w : FVec Ideal S1x1024x2056 .f32) :
    FVec Ideal S32768x512 .bf16 := fun y =>
  z x g w (y 0) ⟨(y 1).val, Nat.lt_trans (y 1).isLt (by decide)⟩ * Ideal.ofBits .f32 0x3E000000#32

def kArr (x : FVec Ideal S4x8192x1024 .f32) (g : FVec Ideal S2x1024 .f32) (w : FVec Ideal S1x1024x2056 .f32) :
    FVec Ideal S32768x512 .f32 := fun y =>
  z x g w (y 0) ⟨512 + (y 1).val, Nat.lt_trans (Nat.add_lt_add_left (y 1).isLt 512) (by decide)⟩

def vArr (x : FVec Ideal S4x8192x1024 .f32) (g : FVec Ideal S2x1024 .f32) (w : FVec Ideal S1x1024x2056 .f32) :
    FVec Ideal S32768x512 .f32 := fun y =>
  z x g w (y 0) ⟨1024 + (y 1).val, Nat.lt_trans (Nat.add_lt_add_left (y 1).isLt 1024) (by decide)⟩

def uArr (x : FVec Ideal S4x8192x1024 .f32) (g : FVec Ideal S2x1024 .f32) (w : FVec Ideal S1x1024x2056 .f32) :
    FVec Ideal S32768x512 .f32 := fun y =>
  z x g w (y 0) ⟨1544 + (y 1).val, Nat.add_lt_add_left (y 1).isLt 1544⟩

def lfArr (x : FVec Ideal S4x8192x1024 .f32) (g : FVec Ideal S2x1024 .f32) (w : FVec Ideal S1x1024x2056 .f32)
    (b : FVec Ideal S1x8 .f32) : FVec Ideal S32768x128 .f32 := fun y =>
  logSig (gate (xRow x (y 0)) (gRow g) (wMat w) (bRow b) (y 1))

theorem q_final (c : Dev nD) : (dats m 0 c).arrAt 4 cfg0.N =
    qArr (m (c, Proc.tc.devRef main_arg0)) (m (c, Proc.tc.devRef main_arg1)) (m (c, Proc.tc.devRef main_arg2)) := by
  refine (dats m 0 c).arrAt_eq_of_covers 4 _ (by decide +kernel) fun t hf y => ?_
  blk_simp
  rw [after0_4]
  change S512x512.Idx at y
  obtain ⟨r, d, rfl⟩ : ∃ (r : Fin 512) (d : Fin 512), y = ix2 r d := ⟨y 0, y 1, eq_ix2 y⟩
  have hr := r.isLt
  have ht : t.val < 64 := lt_of_lt_of_eq t.isLt N_0
  have e : (win0_4.blk t).view.emb (ix2 r d) = ix2 (⟨512 * t.val + r.val, by omega⟩ : Fin 32768) d := by
    funext a
    refine Fin.ext ?_
    blk_simp [index4 t]
    fin_cases a
    · simp [ix2]; omega
    · simp [ix2]
  refine Eq.trans ?_ (congrArg (qArr (m (c, Proc.tc.devRef main_arg0)) (m (c, Proc.tc.devRef main_arg1)) (m (c, Proc.tc.devRef main_arg2))) e.symm)
  refine (q_apply _ _ _ _ r d).trans ?_
  rw [point_prod m c t r _ ⟨512 * t.val + r.val, by omega⟩ rfl, kProd_low _ _ _ _ (by simp only; omega)]
  rfl

theorem k_final (c : Dev nD) : (dats m 0 c).arrAt 5 cfg0.N =
    kArr (m (c, Proc.tc.devRef main_arg0)) (m (c, Proc.tc.devRef main_arg1)) (m (c, Proc.tc.devRef main_arg2)) := by
  refine (dats m 0 c).arrAt_eq_of_covers 5 _ (by decide +kernel) fun t hf y => ?_
  blk_simp
  rw [after0_5]
  change S512x512.Idx at y
  obtain ⟨r, d, rfl⟩ : ∃ (r : Fin 512) (d : Fin 512), y = ix2 r d := ⟨y 0, y 1, eq_ix2 y⟩
  have hr := r.isLt
  have ht : t.val < 64 := lt_of_lt_of_eq t.isLt N_0
  have e : (win0_5.blk t).view.emb (ix2 r d) = ix2 (⟨512 * t.val + r.val, by omega⟩ : Fin 32768) d := by
    funext a
    refine Fin.ext ?_
    blk_simp [index5 t]
    fin_cases a
    · simp [ix2]; omega
    · simp [ix2]
  refine Eq.trans ?_ (congrArg (kArr (m (c, Proc.tc.devRef main_arg0)) (m (c, Proc.tc.devRef main_arg1)) (m (c, Proc.tc.devRef main_arg2))) e.symm)
  refine (k_apply _ _ _ _ r d).trans ?_
  rw [point_prod m c t r _ ⟨512 * t.val + r.val, by omega⟩ rfl, kProd_low _ _ _ _ (by simp only; omega)]
  rfl

theorem v_final (c : Dev nD) : (dats m 0 c).arrAt 6 cfg0.N =
    vArr (m (c, Proc.tc.devRef main_arg0)) (m (c, Proc.tc.devRef main_arg1)) (m (c, Proc.tc.devRef main_arg2)) := by
  refine (dats m 0 c).arrAt_eq_of_covers 6 _ (by decide +kernel) fun t hf y => ?_
  blk_simp
  rw [after0_6]
  change S512x512.Idx at y
  obtain ⟨r, d, rfl⟩ : ∃ (r : Fin 512) (d : Fin 512), y = ix2 r d := ⟨y 0, y 1, eq_ix2 y⟩
  have hr := r.isLt
  have ht : t.val < 64 := lt_of_lt_of_eq t.isLt N_0
  have e : (win0_6.blk t).view.emb (ix2 r d) = ix2 (⟨512 * t.val + r.val, by omega⟩ : Fin 32768) d := by
    funext a
    refine Fin.ext ?_
    blk_simp [index6 t]
    fin_cases a
    · simp [ix2]; omega
    · simp [ix2]
  refine Eq.trans ?_ (congrArg (vArr (m (c, Proc.tc.devRef main_arg0)) (m (c, Proc.tc.devRef main_arg1)) (m (c, Proc.tc.devRef main_arg2))) e.symm)
  refine (v_apply _ _ _ _ r d).trans ?_
  rw [point_prod m c t r _ ⟨512 * t.val + r.val, by omega⟩ rfl, kProd_low _ _ _ _ (by simp only; omega)]
  rfl

theorem u_final (c : Dev nD) : (dats m 0 c).arrAt 7 cfg0.N =
    uArr (m (c, Proc.tc.devRef main_arg0)) (m (c, Proc.tc.devRef main_arg1)) (m (c, Proc.tc.devRef main_arg2)) := by
  refine (dats m 0 c).arrAt_eq_of_covers 7 _ (by decide +kernel) fun t hf y => ?_
  blk_simp
  rw [after0_7]
  change S512x512.Idx at y
  obtain ⟨r, d, rfl⟩ : ∃ (r : Fin 512) (d : Fin 512), y = ix2 r d := ⟨y 0, y 1, eq_ix2 y⟩
  have hr := r.isLt
  have ht : t.val < 64 := lt_of_lt_of_eq t.isLt N_0
  have e : (win0_7.blk t).view.emb (ix2 r d) = ix2 (⟨512 * t.val + r.val, by omega⟩ : Fin 32768) d := by
    funext a
    refine Fin.ext ?_
    blk_simp [index7 t]
    fin_cases a
    · simp [ix2]; omega
    · simp [ix2]
  refine Eq.trans ?_ (congrArg (uArr (m (c, Proc.tc.devRef main_arg0)) (m (c, Proc.tc.devRef main_arg1)) (m (c, Proc.tc.devRef main_arg2))) e.symm)
  refine (u_apply _ _ _ _ r d).trans ?_
  rw [point_prod m c t r _ ⟨512 * t.val + r.val, by omega⟩ rfl, kProd_mid]
  rfl

theorem lf_final (c : Dev nD) : (dats m 0 c).arrAt 8 cfg0.N =
    lfArr (m (c, Proc.tc.devRef main_arg0)) (m (c, Proc.tc.devRef main_arg1)) (m (c, Proc.tc.devRef main_arg2)) (m (c, Proc.tc.devRef main_arg3)) := by
  refine (dats m 0 c).arrAt_eq_of_covers 8 _ (by decide +kernel) fun t hf y => ?_
  blk_simp
  rw [after0_8]
  change S512x128.Idx at y
  obtain ⟨r, d, rfl⟩ : ∃ (r : Fin 512) (d : Fin 128), y = ix2 r d := ⟨y 0, y 1, eq_ix2 y⟩
  have hr := r.isLt
  have ht : t.val < 64 := lt_of_lt_of_eq t.isLt N_0
  have e : (win0_8.blk t).view.emb (ix2 r d) = ix2 (⟨512 * t.val + r.val, by omega⟩ : Fin 32768) d := by
    funext a
    refine Fin.ext ?_
    blk_simp [index8 t]
    fin_cases a
    · simp [ix2]; omega
    · simp [ix2]
  refine Eq.trans ?_ (congrArg (lfArr (m (c, Proc.tc.devRef main_arg0)) (m (c, Proc.tc.devRef main_arg1)) (m (c, Proc.tc.devRef main_arg2)) (m (c, Proc.tc.devRef main_arg3))) e.symm)
  refine (lf_apply _ _ _ _ r d).trans ?_
  rw [point_prod m c t r _ ⟨512 * t.val + r.val, by omega⟩ rfl, bias_apply, kProd_gate]
  rfl

end Proof.Even.Prompt

end
-- ==== Proof.Even.Prompt.Ref.lean ====
module

public import proofs.«01_k».proof.Proof.Gen.Reference4Ideal.Run
public import proofs.«01_k».proof.Proof.Even.Prompt.Array
public import Idealize.ShloMosaic.Lib.Pointwise

/-!
The first layer's projection of the prompt: the reference's five arrays are the kernel's.
-/

@[expose] public section

set_option maxRecDepth 16384

noncomputable section

namespace Proof.Even.Prompt.Ref

open Idealize.ShloMosaic Idealize.ShloMosaic.TcCoe Cert.Reference4Ideal Cert.Reference4Ideal.Gen Proof.Ffn Proof.Even

/-- The normalised rows. -/
def normed (h : FVec Ideal S4x8192x1024 .f32) (g : FVec Ideal S2x1024 .f32) : FVec Ideal S4x8192x1024 .f32 :=
  mulf (mulf h (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf h h) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast S1024 (extractStridedSlice S1x1024 ![0, 0] g slices_S2x1024_S1x1024_0_0) shapeCasts_S1x1024_S1024)))

/-- Their product with the weights, row after row. -/
def proj (n : FVec Ideal S4x8192x1024 .f32) (w : FVec Ideal S1x1024x2056 .f32) : FVec Ideal S32768x2056 .f32 :=
  shapeCast S32768x2056 (Host.dotGeneral dot_S4x8192x1024_S1024x2056_S4x8192x2056_2_0_01_1_n_n none n (shapeCast S1024x2056 w shapeCasts_S1x1024x2056_S1024x2056) : FVec Ideal S4x8192x2056 .f32) shapeCasts_S4x8192x2056_S32768x2056

/-- The gates before the sigmoid, with zeros in the columns after the heads'. -/
def gates (p : FVec Ideal S32768x2056 .f32) (b : FVec Ideal S1x8 .f32) : FVec Ideal S32768x128 .f32 :=
  pad S32768x128 ![0, 0] ![0, 120] ![0, 0] (addf (extractStridedSlice S32768x8 ![0, 1536] p slices_S32768x2056_S32768x8_0_1536) (broadcastInDim S32768x8 ![0, 1] bcast_S1x8_S32768x8_0_1 (broadcastInDim S1x8 ![1] bcast_S8_S1x8_1 (shapeCast S8 b shapeCasts_S1x8_S8)))) (sitofp (F := Ideal) .f32 (constantI S_ 32 0#32)) pads_S32768x8_S32768x128_000_01200 h_S_

/-- The zeros the softplus compares with. -/
def zeros : FVec Ideal S32768x128 .f32 := broadcastInDim S32768x128 ![] bcast_S_S32768x128 (constant S_ .f32 0x00000000#32)

/-- The sigmoid's logarithm. -/
def logSigmoid (v : FVec Ideal S32768x128 .f32) : FVec Ideal S32768x128 .f32 :=
  Host.negf (select (cmpf .une (subf (Host.negf v) zeros) (subf (Host.negf v) zeros)) (addf (Host.negf v) zeros)
    (addf (maximumf (Host.negf v) zeros) (Host.log1p (Host.exp (Host.negf (Host.absf (subf (Host.negf v) zeros)))))))

def queries (p : FVec Ideal S32768x2056 .f32) : FVec Ideal S32768x512 .bf16 :=
  truncf .bf16 (mulf (extractStridedSlice S32768x512 ![0, 0] p slices_S32768x2056_S32768x512_0_0)
    (broadcastInDim S32768x512 ![] bcast_S_S32768x512 (constant S_ .f32 0x3E000000#32))) bitsLt_bf16_f32

theorem normed_apply (h : FVec Ideal S4x8192x1024 .f32) (g : FVec Ideal S2x1024 .f32) (b : Fin 4) (q : Fin 8192)
    (d : Fin 1024) : normed h g (ix3 b q d) = rms (fun j => h (ix3 b q j)) (gRow g) d := by
  pointwise [normed]
  rfl

theorem proj_apply (n : FVec Ideal S4x8192x1024 .f32) (w : FVec Ideal S1x1024x2056 .f32) (R : Fin 32768)
    (d : Fin 2056) : proj n w (ix2 R d) =
      ∑ c : Fin 1024, n (ix3 ⟨R.val / 8192, by omega⟩ ⟨R.val % 8192, by omega⟩ c) * wMat w c d := by
  pointwise [proj]
  rfl

theorem z_apply (x : FVec Ideal S4x8192x1024 .f32) (g : FVec Ideal S2x1024 .f32) (w : FVec Ideal S1x1024x2056 .f32)
    (R : Fin 32768) (d : Fin 2056) : proj (normed x g) w (ix2 R d) = z x g w R d := by
  rw [proj_apply]
  simp only [normed_apply]
  rfl

theorem gates_apply (p : FVec Ideal S32768x2056 .f32) (b : FVec Ideal S1x8 .f32) (R : Fin 32768) (d : Fin 128) :
    gates p b (ix2 R d) =
      if h : d.val < 8 then p (ix2 R ⟨1536 + d.val, by omega⟩) + bRow b ⟨d.val, h⟩ else 0 := by
  pointwise [gates]
  rw [zero_word]
  rfl

theorem logSigmoid_apply (v : FVec Ideal S32768x128 .f32) (R : Fin 32768) (d : Fin 128) :
    logSigmoid v (ix2 R d) = logSig (v (ix2 R d)) := by
  refine Eq.trans ?_ (logSig_eq _)
  pointwise [logSigmoid, zeros]
  rw [if_neg (not_not_intro rfl)]
  rfl

theorem queries_apply (p : FVec Ideal S32768x2056 .f32) (R : Fin 32768) (d : Fin 512) :
    queries p (ix2 R d) = p (ix2 R ⟨d.val, by omega⟩) * Ideal.ofBits .f32 0x3E000000#32 := by
  pointwise [queries]

section Arrays

variable (x : FVec Ideal S4x8192x1024 .f32) (g : FVec Ideal S2x1024 .f32) (w : FVec Ideal S1x1024x2056 .f32)
  (b : FVec Ideal S1x8 .f32)

theorem q_eq : queries (proj (normed x g) w) = qArr x g w := by
  funext y
  obtain ⟨R, d, rfl⟩ : ∃ (R : Fin 32768) (d : Fin 512), y = ix2 R d := ⟨y 0, y 1, eq_ix2 y⟩
  rw [queries_apply, z_apply]
  rfl

theorem k_eq : extractStridedSlice S32768x512 ![0, 512] (proj (normed x g) w) slices_S32768x2056_S32768x512_0_512 =
    kArr x g w := by
  funext y
  obtain ⟨R, d, rfl⟩ : ∃ (R : Fin 32768) (d : Fin 512), y = ix2 R d := ⟨y 0, y 1, eq_ix2 y⟩
  generalize hp : proj (normed x g) w = p
  pointwise
  rw [← hp, z_apply]
  rfl

theorem v_eq : extractStridedSlice S32768x512 ![0, 1024] (proj (normed x g) w) slices_S32768x2056_S32768x512_0_1024 =
    vArr x g w := by
  funext y
  obtain ⟨R, d, rfl⟩ : ∃ (R : Fin 32768) (d : Fin 512), y = ix2 R d := ⟨y 0, y 1, eq_ix2 y⟩
  generalize hp : proj (normed x g) w = p
  pointwise
  rw [← hp, z_apply]
  rfl

theorem u_eq : extractStridedSlice S32768x512 ![0, 1544] (proj (normed x g) w) slices_S32768x2056_S32768x512_0_1544 =
    uArr x g w := by
  funext y
  obtain ⟨R, d, rfl⟩ : ∃ (R : Fin 32768) (d : Fin 512), y = ix2 R d := ⟨y 0, y 1, eq_ix2 y⟩
  generalize hp : proj (normed x g) w = p
  pointwise
  rw [← hp, z_apply]
  rfl

theorem lf_eq : logSigmoid (gates (proj (normed x g) w) b) = lfArr x g w b := by
  funext y
  obtain ⟨R, d, rfl⟩ : ∃ (R : Fin 32768) (d : Fin 128), y = ix2 R d := ⟨y 0, y 1, eq_ix2 y⟩
  rw [logSigmoid_apply, gates_apply]
  simp only [z_apply]
  rfl

end Arrays

/-- What the reference leaves for the gates' logarithms, by name. -/
theorem lf_res (m : (ℓ : Loc nD τ sig) → Buf (Elt Ideal) ℓ) (c : Dev nD) :
    Cert.Reference4Ideal.Value.res_main_v29 m c =
      logSigmoid (gates (proj (normed (m ((c.tc : Thread nD τ).loc main_arg0)) (m ((c.tc : Thread nD τ).loc main_arg1)))
        (m ((c.tc : Thread nD τ).loc main_arg2))) (m ((c.tc : Thread nD τ).loc main_arg3))) := by
  rfl

end Proof.Even.Prompt.Ref

end
-- ==== Proof.Even.Sample.Point.lean ====
module

public import proofs.«01_k».proof.Proof.Gen.Kernel5Ideal.Value
public import proofs.«01_k».proof.Proof.Even.Row
public import Idealize.ShloMosaic.Lib.Pointwise
public import Idealize.ShloMosaic.Lib.Pipeline.ValueKit

/-!
What one grid point of the first layer's projection computes from its blocks, entry by entry.
-/

@[expose] public section

set_option maxRecDepth 16384

noncomputable section

namespace Proof.Even.Sample

open Idealize.ShloMosaic Cert.Kernel5Ideal Cert.Kernel5Ideal.Gen Proof.Ffn Proof.Even

variable (x : Vec Ideal S512x1024 .f32) (g : Vec Ideal S1x1024 .f32) (w : Vec Ideal S1024x2176 .bf16)
  (b : Vec Ideal S1x128 .f32) (r : Fin 512)

theorem prod_apply (d : Fin 2176) : k0_pay2 (F := Ideal) x g w (ix2 r d) =
    ∑ c : Fin 1024, rms (rowOf (φ := .f32) x r) (rowOf (φ := .f32) g 0) c * w (ix2 c d) := by
  pointwise [k0_pay2]
  rfl

theorem q_apply (d : Fin 512) : out0_4 (F := Ideal) x g w b (ix2 r d) =
    k0_pay2 (F := Ideal) x g w (ix2 r ⟨d.val, by omega⟩) * Ideal.ofBits .f32 0x3E000000#32 := by
  frame_out
  pointwise [k0_pay3]

theorem k_apply (d : Fin 512) : out0_5 (F := Ideal) x g w b (ix2 r d) =
    k0_pay2 (F := Ideal) x g w (ix2 r ⟨512 + d.val, by omega⟩) := by
  frame_out
  pointwise [k0_pay4]

theorem v_apply (d : Fin 512) : out0_6 (F := Ideal) x g w b (ix2 r d) =
    k0_pay2 (F := Ideal) x g w (ix2 r ⟨1024 + d.val, by omega⟩) := by
  frame_out
  pointwise [k0_pay5]

theorem u_apply (d : Fin 512) : out0_7 (F := Ideal) x g w b (ix2 r d) =
    k0_pay2 (F := Ideal) x g w (ix2 r ⟨1536 + d.val, by omega⟩) := by
  frame_out
  pointwise [k0_pay6]

theorem lf_apply (d : Fin 128) : out0_8 (F := Ideal) x g w b (ix2 r d) =
    logSig (k0_pay2 (F := Ideal) x g w (ix2 r ⟨2048 + d.val, by omega⟩) + b (ix2 0 d)) := by
  frame_out
  pointwise [k0_pay1, k0_pay7, k0_pay8]
  rfl

end Proof.Even.Sample

end
-- ==== Proof.Even.Sample.Array.lean ====
module

public import proofs.«01_k».proof.Proof.Even.Sample.Point
public import Idealize.ShloMosaic.Lib.Claim
public import Idealize.ShloMosaic.Lib.StableHlo.ReadAt

/-!
The first layer's projection of the sample: the kernel's five result arrays, from the program's arguments.
-/

@[expose] public section

set_option maxRecDepth 16384

noncomputable section

namespace Proof.Even.Sample

open Idealize.ShloMosaic Idealize.ShloMosaic.TcCoe Cert.Kernel5Ideal Cert.Kernel5Ideal.Gen Proof.Ffn Proof.Even

variable (m : (ℓ : Loc nD τ sig) → Buf (Elt Ideal) ℓ)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel

/-- Row `R` of all sequences. -/
def xRow (x : FVec Ideal S128x8x1024 .f32) (R : Fin 1024) (j : Fin 1024) : EReal :=
  x (ix3 ⟨R.val / 8, by omega⟩ ⟨R.val % 8, by omega⟩ j)

/-- The first layer's scale of the normalisation. -/
def gRow (g : FVec Ideal S2x1024 .f32) (j : Fin 1024) : EReal := g (ix2 0 j)

/-- The projection's weights. -/
def wMat (w : FVec Ideal S1x1024x2056 .f32) (i : Fin 1024) (j : Fin 2056) : EReal := w (ix3 0 i j)

/-- The gates' biases. -/
def bRow (b : FVec Ideal S1x8 .f32) (j : Fin 8) : EReal := b (ix2 0 j)

/-- Row `R`'s product with column `d` of the weights. -/
def z (x : FVec Ideal S128x8x1024 .f32) (g : FVec Ideal S2x1024 .f32) (w : FVec Ideal S1x1024x2056 .f32)
    (R : Fin 1024) (d : Fin 2056) : EReal :=
  prod (xRow x R) (gRow g) (wMat w) d

theorem rowsOf_apply (x : FVec Ideal S128x8x1024 .f32) (R : Fin 1024) (j : Fin 1024) :
    shapeCast S1024x1024 x shapeCasts_S128x8x1024_S1024x1024 (ix2 R j) = xRow x R j := by
  pointwise
  rfl

theorem zero_word : FloatOps.sitofp (F := Ideal) FTy.f32 (0#32) = (0 : EReal) := by
  change ((((0#32 : BitVec 32).toInt : ℝ)) : EReal) = 0
  simp

/-- The kernel's columns of the weights: the queries', the keys' and the values', the state space's, the gates', zeros. -/
def cols (w : FVec Ideal S1024x2056 .f32) : FVec Ideal S1024x2176 .bf16 :=
  truncf .bf16 (concatenate S1024x2176 1
    [⟨S1024x1536, extractStridedSlice S1024x1536 ![0, 0] w slices_S1024x2056_S1024x1536_0_0⟩,
      ⟨S1024x512, extractStridedSlice S1024x512 ![0, 1544] w slices_S1024x2056_S1024x512_0_1544⟩,
      ⟨S1024x128, pad S1024x128 ![0, 0] ![0, 120] ![0, 0] (extractStridedSlice S1024x8 ![0, 1536] w
        slices_S1024x2056_S1024x8_0_1536) (sitofp (F := Ideal) .f32 (constantI S_ 32 0#32))
        pads_S1024x8_S1024x128_000_01200 h_S_⟩]
    concatenates_S1024x1536_S1024x512_S1024x128_S1024x2176_d1 : FVec Ideal S1024x2176 .f32) bitsLt_bf16_f32

theorem cols_apply (w : FVec Ideal S1024x2056 .f32) (i : Fin 1024) (j : Fin 2176) :
    cols w (ix2 i j) = colOf (fun i j => w (ix2 i j)) i j := by
  pointwise [cols]
  exact colOf_parts (fun i j => w (ix2 i j)) i j _ zero_word

/-- The arrays the kernel is launched on, from the arguments. -/
theorem rows_eq (c : Dev nD) : (V m c main_v10 : Vec Ideal S1024x1024 .f32) =
    shapeCast S1024x1024 (m (c, Proc.tc.devRef main_arg0)) shapeCasts_S128x8x1024_S1024x1024 := by
  rfl

theorem norm_eq (c : Dev nD) : (V m c main_v13 : Vec Ideal S1x1024 .f32) =
    shapeCast S1x1024 (shapeCast S1024 (extractStridedSlice S1x1024 ![0, 0] (m (c, Proc.tc.devRef main_arg1))
      slices_S2x1024_S1x1024_0_0) shapeCasts_S1x1024_S1024) shapeCasts_S1024_S1x1024 := by
  rfl

theorem bias_eq (c : Dev nD) : (V m c main_v9 : Vec Ideal S1x128 .f32) =
    pad S1x128 ![0, 0] ![0, 120] ![0, 0] (shapeCast S1x8 (shapeCast S8 (m (c, Proc.tc.devRef main_arg3))
      shapeCasts_S1x8_S8) shapeCasts_S8_S1x8) (sitofp (F := Ideal) .f32 (constantI S_ 32 0#32))
      pads_S1x8_S1x128_000_01200 h_S_ := by
  rfl

theorem flat_eq (c : Dev nD) : (V m c main_v0 : Vec Ideal S1024x2056 .f32) =
    shapeCast S1024x2056 (m (c, Proc.tc.devRef main_arg2)) shapeCasts_S1x1024x2056_S1024x2056 := by
  rfl

theorem weights_eq (c : Dev nD) : (V m c main_v6 : Vec Ideal S1024x2176 .bf16) =
    cols (V m c main_v0 : Vec Ideal S1024x2056 .f32) := by
  rfl

theorem flat_apply (w : FVec Ideal S1x1024x2056 .f32) (i : Fin 1024) (j : Fin 2056) :
    shapeCast S1024x2056 w shapeCasts_S1x1024x2056_S1024x2056 (ix2 i j) = wMat w i j := by
  pointwise
  rfl

theorem rows_apply (c : Dev nD) (t : Fin grid0.N) (r : Fin 512) (d : Fin 1024) (R : Fin 1024)
    (hR : R.val = 512 * t.val + r.val) :
    (iblk m c 0 t : Vec Ideal S512x1024 .f32) (ix2 r d) = xRow (m (c, Proc.tc.devRef main_arg0)) R d := by
  have e : (iblk m c 0 t : Vec Ideal S512x1024 .f32) (ix2 r d) = (V m c main_v10 : Vec Ideal S1024x1024 .f32) (ix2 R d) := by
    refine congrArg (V m c main_v10 : Vec Ideal S1024x1024 .f32) (funext fun a => Fin.ext ?_)
    blk_simp [index0 t]
    fin_cases a
    · simp [ix2, hR]; omega
    · simp [ix2]
  refine e.trans ?_
  rw [rows_eq]
  exact rowsOf_apply _ R d

theorem norm_apply (c : Dev nD) (t : Fin grid0.N) (j : Fin 1024) :
    (iblk m c 1 t : Vec Ideal S1x1024 .f32) (ix2 0 j) = gRow (m (c, Proc.tc.devRef main_arg1)) j := by
  have e : (iblk m c 1 t : Vec Ideal S1x1024 .f32) (ix2 0 j) = (V m c main_v13 : Vec Ideal S1x1024 .f32) (ix2 0 j) := by
    refine congrArg (V m c main_v13 : Vec Ideal S1x1024 .f32) (funext fun a => Fin.ext ?_)
    blk_simp [index1 t]
    fin_cases a <;> simp [ix2]
  refine e.trans ?_
  rw [norm_eq]
  pointwise
  rfl

theorem weights_entry (c : Dev nD) (t : Fin grid0.N) (i : Fin 1024) (j : Fin 2176) :
    (iblk m c 2 t : Vec Ideal S1024x2176 .bf16) (ix2 i j) = (V m c main_v6 : Vec Ideal S1024x2176 .bf16) (ix2 i j) := by
  refine congrArg (V m c main_v6 : Vec Ideal S1024x2176 .bf16) (funext fun a => Fin.ext ?_)
  blk_simp [index2 t]
  fin_cases a <;> simp [ix2]

theorem bias_apply (c : Dev nD) (t : Fin grid0.N) (j : Fin 128) :
    (iblk m c 3 t : Vec Ideal S1x128 .f32) (ix2 0 j) =
      if h : j.val < 8 then bRow (m (c, Proc.tc.devRef main_arg3)) ⟨j.val, h⟩ else 0 := by
  have e : (iblk m c 3 t : Vec Ideal S1x128 .f32) (ix2 0 j) = (V m c main_v9 : Vec Ideal S1x128 .f32) (ix2 0 j) := by
    refine congrArg (V m c main_v9 : Vec Ideal S1x128 .f32) (funext fun a => Fin.ext ?_)
    blk_simp [index3 t]
    fin_cases a <;> simp [ix2]
  refine e.trans ?_
  rw [bias_eq]
  pointwise
  rw [zero_word]
  rfl

theorem weights_apply (c : Dev nD) (t : Fin grid0.N) (i : Fin 1024) (j : Fin 2176) :
    (iblk m c 2 t : Vec Ideal S1024x2176 .bf16) (ix2 i j) = colOf (wMat (m (c, Proc.tc.devRef main_arg2))) i j := by
  refine (weights_entry m c t i j).trans ?_
  rw [weights_eq, flat_eq, cols_apply]
  exact congrArg (fun w => colOf w i j) (funext fun i => funext fun j => flat_apply _ i j)

/-- A grid point's products. -/
theorem point_prod (c : Dev nD) (t : Fin grid0.N) (r : Fin 512) (d : Fin 2176) (R : Fin 1024)
    (hR : R.val = 512 * t.val + r.val) :
    k0_pay2 (F := Ideal) (iblk m c 0 t) (iblk m c 1 t) (iblk m c 2 t) (ix2 r d) =
      kProd (xRow (m (c, Proc.tc.devRef main_arg0)) R) (gRow (m (c, Proc.tc.devRef main_arg1)))
        (wMat (m (c, Proc.tc.devRef main_arg2))) d := by
  refine (prod_apply _ _ _ r d).trans ?_
  have e0 : rowOf (φ := .f32) (iblk m c 0 t : Vec Ideal S512x1024 .f32) r = xRow (m (c, Proc.tc.devRef main_arg0)) R :=
    funext fun j => rows_apply m c t r j R hR
  have e1 : rowOf (φ := .f32) (iblk m c 1 t : Vec Ideal S1x1024 .f32) 0 = gRow (m (c, Proc.tc.devRef main_arg1)) :=
    funext fun j => norm_apply m c t j
  rw [e0, e1]
  exact Finset.sum_congr rfl fun k _ => congrArg (_ * ·) (weights_apply m c t k d)

/-- The queries, the keys, the values, the state space's inputs and the gates' logarithms, row after row. -/
def qArr (x : FVec Ideal S128x8x1024 .f32) (g : FVec Ideal S2x1024 .f32) (w : FVec Ideal S1x1024x2056 .f32) :
    FVec Ideal S1024x512 .bf16 := fun y =>
  z x g w (y 0) ⟨(y 1).val, Nat.lt_trans (y 1).isLt (by decide)⟩ * Ideal.ofBits .f32 0x3E000000#32

def kArr (x : FVec Ideal S128x8x1024 .f32) (g : FVec Ideal S2x1024 .f32) (w : FVec Ideal S1x1024x2056 .f32) :
    FVec Ideal S1024x512 .f32 := fun y =>
  z x g w (y 0) ⟨512 + (y 1).val, Nat.lt_trans (Nat.add_lt_add_left (y 1).isLt 512) (by decide)⟩

def vArr (x : FVec Ideal S128x8x1024 .f32) (g : FVec Ideal S2x1024 .f32) (w : FVec Ideal S1x1024x2056 .f32) :
    FVec Ideal S1024x512 .f32 := fun y =>
  z x g w (y 0) ⟨1024 + (y 1).val, Nat.lt_trans (Nat.add_lt_add_left (y 1).isLt 1024) (by decide)⟩

def uArr (x : FVec Ideal S128x8x1024 .f32) (g : FVec Ideal S2x1024 .f32) (w : FVec Ideal S1x1024x2056 .f32) :
    FVec Ideal S1024x512 .f32 := fun y =>
  z x g w (y 0) ⟨1544 + (y 1).val, Nat.add_lt_add_left (y 1).isLt 1544⟩

def lfArr (x : FVec Ideal S128x8x1024 .f32) (g : FVec Ideal S2x1024 .f32) (w : FVec Ideal S1x1024x2056 .f32)
    (b : FVec Ideal S1x8 .f32) : FVec Ideal S1024x128 .f32 := fun y =>
  logSig (gate (xRow x (y 0)) (gRow g) (wMat w) (bRow b) (y 1))

theorem q_final (c : Dev nD) : (dats m 0 c).arrAt 4 cfg0.N =
    qArr (m (c, Proc.tc.devRef main_arg0)) (m (c, Proc.tc.devRef main_arg1)) (m (c, Proc.tc.devRef main_arg2)) := by
  refine (dats m 0 c).arrAt_eq_of_covers 4 _ (by decide +kernel) fun t hf y => ?_
  blk_simp
  rw [after0_4]
  change S512x512.Idx at y
  obtain ⟨r, d, rfl⟩ : ∃ (r : Fin 512) (d : Fin 512), y = ix2 r d := ⟨y 0, y 1, eq_ix2 y⟩
  have hr := r.isLt
  have ht : t.val < 2 := lt_of_lt_of_eq t.isLt N_0
  have e : (win0_4.blk t).view.emb (ix2 r d) = ix2 (⟨512 * t.val + r.val, by omega⟩ : Fin 1024) d := by
    funext a
    refine Fin.ext ?_
    blk_simp [index4 t]
    fin_cases a
    · simp [ix2]; omega
    · simp [ix2]
  refine Eq.trans ?_ (congrArg (qArr (m (c, Proc.tc.devRef main_arg0)) (m (c, Proc.tc.devRef main_arg1)) (m (c, Proc.tc.devRef main_arg2))) e.symm)
  refine (q_apply _ _ _ _ r d).trans ?_
  rw [point_prod m c t r _ ⟨512 * t.val + r.val, by omega⟩ rfl, kProd_low _ _ _ _ (by simp only; omega)]
  rfl

theorem k_final (c : Dev nD) : (dats m 0 c).arrAt 5 cfg0.N =
    kArr (m (c, Proc.tc.devRef main_arg0)) (m (c, Proc.tc.devRef main_arg1)) (m (c, Proc.tc.devRef main_arg2)) := by
  refine (dats m 0 c).arrAt_eq_of_covers 5 _ (by decide +kernel) fun t hf y => ?_
  blk_simp
  rw [after0_5]
  change S512x512.Idx at y
  obtain ⟨r, d, rfl⟩ : ∃ (r : Fin 512) (d : Fin 512), y = ix2 r d := ⟨y 0, y 1, eq_ix2 y⟩
  have hr := r.isLt
  have ht : t.val < 2 := lt_of_lt_of_eq t.isLt N_0
  have e : (win0_5.blk t).view.emb (ix2 r d) = ix2 (⟨512 * t.val + r.val, by omega⟩ : Fin 1024) d := by
    funext a
    refine Fin.ext ?_
    blk_simp [index5 t]
    fin_cases a
    · simp [ix2]; omega
    · simp [ix2]
  refine Eq.trans ?_ (congrArg (kArr (m (c, Proc.tc.devRef main_arg0)) (m (c, Proc.tc.devRef main_arg1)) (m (c, Proc.tc.devRef main_arg2))) e.symm)
  refine (k_apply _ _ _ _ r d).trans ?_
  rw [point_prod m c t r _ ⟨512 * t.val + r.val, by omega⟩ rfl, kProd_low _ _ _ _ (by simp only; omega)]
  rfl

theorem v_final (c : Dev nD) : (dats m 0 c).arrAt 6 cfg0.N =
    vArr (m (c, Proc.tc.devRef main_arg0)) (m (c, Proc.tc.devRef main_arg1)) (m (c, Proc.tc.devRef main_arg2)) := by
  refine (dats m 0 c).arrAt_eq_of_covers 6 _ (by decide +kernel) fun t hf y => ?_
  blk_simp
  rw [after0_6]
  change S512x512.Idx at y
  obtain ⟨r, d, rfl⟩ : ∃ (r : Fin 512) (d : Fin 512), y = ix2 r d := ⟨y 0, y 1, eq_ix2 y⟩
  have hr := r.isLt
  have ht : t.val < 2 := lt_of_lt_of_eq t.isLt N_0
  have e : (win0_6.blk t).view.emb (ix2 r d) = ix2 (⟨512 * t.val + r.val, by omega⟩ : Fin 1024) d := by
    funext a
    refine Fin.ext ?_
    blk_simp [index6 t]
    fin_cases a
    · simp [ix2]; omega
    · simp [ix2]
  refine Eq.trans ?_ (congrArg (vArr (m (c, Proc.tc.devRef main_arg0)) (m (c, Proc.tc.devRef main_arg1)) (m (c, Proc.tc.devRef main_arg2))) e.symm)
  refine (v_apply _ _ _ _ r d).trans ?_
  rw [point_prod m c t r _ ⟨512 * t.val + r.val, by omega⟩ rfl, kProd_low _ _ _ _ (by simp only; omega)]
  rfl

theorem u_final (c : Dev nD) : (dats m 0 c).arrAt 7 cfg0.N =
    uArr (m (c, Proc.tc.devRef main_arg0)) (m (c, Proc.tc.devRef main_arg1)) (m (c, Proc.tc.devRef main_arg2)) := by
  refine (dats m 0 c).arrAt_eq_of_covers 7 _ (by decide +kernel) fun t hf y => ?_
  blk_simp
  rw [after0_7]
  change S512x512.Idx at y
  obtain ⟨r, d, rfl⟩ : ∃ (r : Fin 512) (d : Fin 512), y = ix2 r d := ⟨y 0, y 1, eq_ix2 y⟩
  have hr := r.isLt
  have ht : t.val < 2 := lt_of_lt_of_eq t.isLt N_0
  have e : (win0_7.blk t).view.emb (ix2 r d) = ix2 (⟨512 * t.val + r.val, by omega⟩ : Fin 1024) d := by
    funext a
    refine Fin.ext ?_
    blk_simp [index7 t]
    fin_cases a
    · simp [ix2]; omega
    · simp [ix2]
  refine Eq.trans ?_ (congrArg (uArr (m (c, Proc.tc.devRef main_arg0)) (m (c, Proc.tc.devRef main_arg1)) (m (c, Proc.tc.devRef main_arg2))) e.symm)
  refine (u_apply _ _ _ _ r d).trans ?_
  rw [point_prod m c t r _ ⟨512 * t.val + r.val, by omega⟩ rfl, kProd_mid]
  rfl

theorem lf_final (c : Dev nD) : (dats m 0 c).arrAt 8 cfg0.N =
    lfArr (m (c, Proc.tc.devRef main_arg0)) (m (c, Proc.tc.devRef main_arg1)) (m (c, Proc.tc.devRef main_arg2)) (m (c, Proc.tc.devRef main_arg3)) := by
  refine (dats m 0 c).arrAt_eq_of_covers 8 _ (by decide +kernel) fun t hf y => ?_
  blk_simp
  rw [after0_8]
  change S512x128.Idx at y
  obtain ⟨r, d, rfl⟩ : ∃ (r : Fin 512) (d : Fin 128), y = ix2 r d := ⟨y 0, y 1, eq_ix2 y⟩
  have hr := r.isLt
  have ht : t.val < 2 := lt_of_lt_of_eq t.isLt N_0
  have e : (win0_8.blk t).view.emb (ix2 r d) = ix2 (⟨512 * t.val + r.val, by omega⟩ : Fin 1024) d := by
    funext a
    refine Fin.ext ?_
    blk_simp [index8 t]
    fin_cases a
    · simp [ix2]; omega
    · simp [ix2]
  refine Eq.trans ?_ (congrArg (lfArr (m (c, Proc.tc.devRef main_arg0)) (m (c, Proc.tc.devRef main_arg1)) (m (c, Proc.tc.devRef main_arg2)) (m (c, Proc.tc.devRef main_arg3))) e.symm)
  refine (lf_apply _ _ _ _ r d).trans ?_
  rw [point_prod m c t r _ ⟨512 * t.val + r.val, by omega⟩ rfl, bias_apply, kProd_gate]
  rfl

end Proof.Even.Sample

end
-- ==== Proof.Even.Sample.Ref.lean ====
module

public import proofs.«01_k».proof.Proof.Gen.Reference5Ideal.Run
public import proofs.«01_k».proof.Proof.Even.Sample.Array
public import Idealize.ShloMosaic.Lib.Pointwise

/-!
The first layer's projection of the sample: the reference's five arrays are the kernel's.
-/

@[expose] public section

set_option maxRecDepth 16384

noncomputable section

namespace Proof.Even.Sample.Ref

open Idealize.ShloMosaic Idealize.ShloMosaic.TcCoe Cert.Reference5Ideal Cert.Reference5Ideal.Gen Proof.Ffn Proof.Even

/-- The normalised rows. -/
def normed (h : FVec Ideal S128x8x1024 .f32) (g : FVec Ideal S2x1024 .f32) : FVec Ideal S128x8x1024 .f32 :=
  mulf (mulf h (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf h h) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 (shapeCast S1024 (extractStridedSlice S1x1024 ![0, 0] g slices_S2x1024_S1x1024_0_0) shapeCasts_S1x1024_S1024)))

/-- Their product with the weights, row after row. -/
def proj (n : FVec Ideal S128x8x1024 .f32) (w : FVec Ideal S1x1024x2056 .f32) : FVec Ideal S1024x2056 .f32 :=
  shapeCast S1024x2056 (Host.dotGeneral dot_S128x8x1024_S1024x2056_S128x8x2056_2_0_01_1_n_n none n (shapeCast S1024x2056 w shapeCasts_S1x1024x2056_S1024x2056) : FVec Ideal S128x8x2056 .f32) shapeCasts_S128x8x2056_S1024x2056

/-- The gates before the sigmoid, with zeros in the columns after the heads'. -/
def gates (p : FVec Ideal S1024x2056 .f32) (b : FVec Ideal S1x8 .f32) : FVec Ideal S1024x128 .f32 :=
  pad S1024x128 ![0, 0] ![0, 120] ![0, 0] (addf (extractStridedSlice S1024x8 ![0, 1536] p slices_S1024x2056_S1024x8_0_1536) (broadcastInDim S1024x8 ![0, 1] bcast_S1x8_S1024x8_0_1 (broadcastInDim S1x8 ![1] bcast_S8_S1x8_1 (shapeCast S8 b shapeCasts_S1x8_S8)))) (sitofp (F := Ideal) .f32 (constantI S_ 32 0#32)) pads_S1024x8_S1024x128_000_01200 h_S_

/-- The zeros the softplus compares with. -/
def zeros : FVec Ideal S1024x128 .f32 := broadcastInDim S1024x128 ![] bcast_S_S1024x128 (constant S_ .f32 0x00000000#32)

/-- The sigmoid's logarithm. -/
def logSigmoid (v : FVec Ideal S1024x128 .f32) : FVec Ideal S1024x128 .f32 :=
  Host.negf (select (cmpf .une (subf (Host.negf v) zeros) (subf (Host.negf v) zeros)) (addf (Host.negf v) zeros)
    (addf (maximumf (Host.negf v) zeros) (Host.log1p (Host.exp (Host.negf (Host.absf (subf (Host.negf v) zeros)))))))

def queries (p : FVec Ideal S1024x2056 .f32) : FVec Ideal S1024x512 .bf16 :=
  truncf .bf16 (mulf (extractStridedSlice S1024x512 ![0, 0] p slices_S1024x2056_S1024x512_0_0)
    (broadcastInDim S1024x512 ![] bcast_S_S1024x512 (constant S_ .f32 0x3E000000#32))) bitsLt_bf16_f32

theorem normed_apply (h : FVec Ideal S128x8x1024 .f32) (g : FVec Ideal S2x1024 .f32) (b : Fin 128) (q : Fin 8)
    (d : Fin 1024) : normed h g (ix3 b q d) = rms (fun j => h (ix3 b q j)) (gRow g) d := by
  pointwise [normed]
  rfl

theorem proj_apply (n : FVec Ideal S128x8x1024 .f32) (w : FVec Ideal S1x1024x2056 .f32) (R : Fin 1024)
    (d : Fin 2056) : proj n w (ix2 R d) =
      ∑ c : Fin 1024, n (ix3 ⟨R.val / 8, by omega⟩ ⟨R.val % 8, by omega⟩ c) * wMat w c d := by
  pointwise [proj]
  rfl

theorem z_apply (x : FVec Ideal S128x8x1024 .f32) (g : FVec Ideal S2x1024 .f32) (w : FVec Ideal S1x1024x2056 .f32)
    (R : Fin 1024) (d : Fin 2056) : proj (normed x g) w (ix2 R d) = z x g w R d := by
  rw [proj_apply]
  simp only [normed_apply]
  rfl

theorem gates_apply (p : FVec Ideal S1024x2056 .f32) (b : FVec Ideal S1x8 .f32) (R : Fin 1024) (d : Fin 128) :
    gates p b (ix2 R d) =
      if h : d.val < 8 then p (ix2 R ⟨1536 + d.val, by omega⟩) + bRow b ⟨d.val, h⟩ else 0 := by
  pointwise [gates]
  rw [zero_word]
  rfl

theorem logSigmoid_apply (v : FVec Ideal S1024x128 .f32) (R : Fin 1024) (d : Fin 128) :
    logSigmoid v (ix2 R d) = logSig (v (ix2 R d)) := by
  refine Eq.trans ?_ (logSig_eq _)
  pointwise [logSigmoid, zeros]
  rw [if_neg (not_not_intro rfl)]
  rfl

theorem queries_apply (p : FVec Ideal S1024x2056 .f32) (R : Fin 1024) (d : Fin 512) :
    queries p (ix2 R d) = p (ix2 R ⟨d.val, by omega⟩) * Ideal.ofBits .f32 0x3E000000#32 := by
  pointwise [queries]

section Arrays

variable (x : FVec Ideal S128x8x1024 .f32) (g : FVec Ideal S2x1024 .f32) (w : FVec Ideal S1x1024x2056 .f32)
  (b : FVec Ideal S1x8 .f32)

theorem q_eq : queries (proj (normed x g) w) = qArr x g w := by
  funext y
  obtain ⟨R, d, rfl⟩ : ∃ (R : Fin 1024) (d : Fin 512), y = ix2 R d := ⟨y 0, y 1, eq_ix2 y⟩
  rw [queries_apply, z_apply]
  rfl

theorem k_eq : extractStridedSlice S1024x512 ![0, 512] (proj (normed x g) w) slices_S1024x2056_S1024x512_0_512 =
    kArr x g w := by
  funext y
  obtain ⟨R, d, rfl⟩ : ∃ (R : Fin 1024) (d : Fin 512), y = ix2 R d := ⟨y 0, y 1, eq_ix2 y⟩
  generalize hp : proj (normed x g) w = p
  pointwise
  rw [← hp, z_apply]
  rfl

theorem v_eq : extractStridedSlice S1024x512 ![0, 1024] (proj (normed x g) w) slices_S1024x2056_S1024x512_0_1024 =
    vArr x g w := by
  funext y
  obtain ⟨R, d, rfl⟩ : ∃ (R : Fin 1024) (d : Fin 512), y = ix2 R d := ⟨y 0, y 1, eq_ix2 y⟩
  generalize hp : proj (normed x g) w = p
  pointwise
  rw [← hp, z_apply]
  rfl

theorem u_eq : extractStridedSlice S1024x512 ![0, 1544] (proj (normed x g) w) slices_S1024x2056_S1024x512_0_1544 =
    uArr x g w := by
  funext y
  obtain ⟨R, d, rfl⟩ : ∃ (R : Fin 1024) (d : Fin 512), y = ix2 R d := ⟨y 0, y 1, eq_ix2 y⟩
  generalize hp : proj (normed x g) w = p
  pointwise
  rw [← hp, z_apply]
  rfl

theorem lf_eq : logSigmoid (gates (proj (normed x g) w) b) = lfArr x g w b := by
  funext y
  obtain ⟨R, d, rfl⟩ : ∃ (R : Fin 1024) (d : Fin 128), y = ix2 R d := ⟨y 0, y 1, eq_ix2 y⟩
  rw [logSigmoid_apply, gates_apply]
  simp only [z_apply]
  rfl

end Arrays

/-- What the reference leaves for the gates' logarithms, by name. -/
theorem lf_res (m : (ℓ : Loc nD τ sig) → Buf (Elt Ideal) ℓ) (c : Dev nD) :
    Cert.Reference5Ideal.Value.res_main_v29 m c =
      logSigmoid (gates (proj (normed (m ((c.tc : Thread nD τ).loc main_arg0)) (m ((c.tc : Thread nD τ).loc main_arg1)))
        (m ((c.tc : Thread nD τ).loc main_arg2))) (m ((c.tc : Thread nD τ).loc main_arg3))) := by
  rfl

end Proof.Even.Sample.Ref

end
-- ==== Proof.Odd.Row.lean ====
module

public import proofs.«01_k».proof.Proof.Ffn.Row

/-!
One row of the second layer's projection: the normalised row's product with the columns of the weights, and where
those columns stand in the kernel's two arrays.
-/

@[expose] public section

noncomputable section

namespace Proof.Odd

open Idealize.ShloMosaic Proof.Ffn

/-- A row's entries where the kernel puts them: each of the recurrence's three low-rank parts at a multiple of 128, then
the latent attention's entries, then the rotary key's halves in the other order; zeros elsewhere. -/
def spread (f : Fin 2112 → EReal) (j : Fin 2432) : EReal :=
  if h : j.val < 1568 then f ⟨j.val, by omega⟩
  else if h1 : j.val < 1664 then 0
  else if h2 : j.val < 1696 then f ⟨j.val - 96, by omega⟩
  else if h3 : j.val < 1792 then 0
  else if h4 : j.val < 1888 then f ⟨j.val - 192, by omega⟩
  else if h5 : j.val < 1920 then 0
  else if h6 : j.val < 2336 then f ⟨j.val - 224, by omega⟩
  else if h7 : j.val < 2352 then f ⟨j.val - 240, by omega⟩
  else if h8 : j.val < 2368 then f ⟨j.val - 272, by omega⟩
  else 0

section Places

variable (f : Fin 2112 → EReal) (j : Fin 2432)

theorem at0 (i : Fin 2112) (h' : j.val < 1568) (e : i.val = j.val) :
    spread f j = f i := by
  rw [spread, dif_pos (by omega)]
  exact congrArg f (Fin.ext (by simp only; omega))

theorem zero1 (h : 1568 ≤ j.val) (h' : j.val < 1664) : spread f j = 0 := by
  rw [spread, dif_neg (by omega), dif_pos (by omega)]

theorem at2 (i : Fin 2112) (h : 1664 ≤ j.val) (h' : j.val < 1696) (e : i.val + 96 = j.val) :
    spread f j = f i := by
  rw [spread, dif_neg (by omega), dif_neg (by omega), dif_pos (by omega)]
  exact congrArg f (Fin.ext (by simp only; omega))

theorem zero3 (h : 1696 ≤ j.val) (h' : j.val < 1792) : spread f j = 0 := by
  rw [spread, dif_neg (by omega), dif_neg (by omega), dif_neg (by omega), dif_pos (by omega)]

theorem at4 (i : Fin 2112) (h : 1792 ≤ j.val) (h' : j.val < 1888) (e : i.val + 192 = j.val) :
    spread f j = f i := by
  rw [spread, dif_neg (by omega), dif_neg (by omega), dif_neg (by omega), dif_neg (by omega), dif_pos (by omega)]
  exact congrArg f (Fin.ext (by simp only; omega))

theorem zero5 (h : 1888 ≤ j.val) (h' : j.val < 1920) : spread f j = 0 := by
  rw [spread, dif_neg (by omega), dif_neg (by omega), dif_neg (by omega), dif_neg (by omega), dif_neg (by omega), dif_pos (by omega)]

theorem at6 (i : Fin 2112) (h : 1920 ≤ j.val) (h' : j.val < 2336) (e : i.val + 224 = j.val) :
    spread f j = f i := by
  rw [spread, dif_neg (by omega), dif_neg (by omega), dif_neg (by omega), dif_neg (by omega), dif_neg (by omega), dif_neg (by omega), dif_pos (by omega)]
  exact congrArg f (Fin.ext (by simp only; omega))

theorem at7 (i : Fin 2112) (h : 2336 ≤ j.val) (h' : j.val < 2352) (e : i.val + 240 = j.val) :
    spread f j = f i := by
  rw [spread, dif_neg (by omega), dif_neg (by omega), dif_neg (by omega), dif_neg (by omega), dif_neg (by omega), dif_neg (by omega), dif_neg (by omega), dif_pos (by omega)]
  exact congrArg f (Fin.ext (by simp only; omega))

theorem at8 (i : Fin 2112) (h : 2352 ≤ j.val) (h' : j.val < 2368) (e : i.val + 272 = j.val) :
    spread f j = f i := by
  rw [spread, dif_neg (by omega), dif_neg (by omega), dif_neg (by omega), dif_neg (by omega), dif_neg (by omega), dif_neg (by omega), dif_neg (by omega), dif_neg (by omega), dif_pos (by omega)]
  exact congrArg f (Fin.ext (by simp only; omega))

theorem zero9 (h : 2368 ≤ j.val) : spread f j = 0 := by
  rw [spread, dif_neg (by omega), dif_neg (by omega), dif_neg (by omega), dif_neg (by omega), dif_neg (by omega), dif_neg (by omega), dif_neg (by omega), dif_neg (by omega), dif_neg (by omega)]

end Places

/-- The recurrence's entries by the offsets of their parts. -/
theorem parts_c (f : Fin 2112 → EReal) (j : Fin 1920) (o : EReal) (ho : o = 0) :
    (if h : j.val < 1536 then f ⟨j.val, by omega⟩
      else if h1 : j.val - 1536 < 128 then
        if h2 : j.val - 1536 < 32 then f ⟨1536 + (j.val - 1536), by omega⟩ else o
      else if h3 : j.val - 1536 - 128 < 128 then
        if h4 : j.val - 1536 - 128 < 32 then f ⟨1568 + (j.val - 1536 - 128), by omega⟩ else o
      else if h5 : j.val - 1536 - 128 - 128 < 96 then f ⟨1600 + (j.val - 1536 - 128 - 128), by omega⟩
      else o) = spread f ⟨j.val, by omega⟩ := by
  subst ho
  have hj := j.isLt
  symm
  by_cases h : j.val < 1536
  · rw [dif_pos h]
    exact at0 f _ _ (by simp only; omega) rfl
  rw [dif_neg h]
  by_cases h1 : j.val - 1536 < 128
  · rw [dif_pos h1]
    by_cases h2 : j.val - 1536 < 32
    · rw [dif_pos h2]
      exact at0 f _ _ (by simp only; omega) (by simp only; omega)
    · rw [dif_neg h2]
      exact zero1 f _ (by simp only; omega) (by simp only; omega)
  rw [dif_neg h1]
  by_cases h3 : j.val - 1536 - 128 < 128
  · rw [dif_pos h3]
    by_cases h4 : j.val - 1536 - 128 < 32
    · rw [dif_pos h4]
      exact at2 f _ _ (by simp only; omega) (by simp only; omega) (by simp only; omega)
    · rw [dif_neg h4]
      exact zero3 f _ (by simp only; omega) (by simp only; omega)
  rw [dif_neg h3]
  by_cases h5 : j.val - 1536 - 128 - 128 < 96
  · rw [dif_pos h5]
    exact at4 f _ _ (by simp only; omega) (by simp only; omega) (by simp only; omega)
  · rw [dif_neg h5]
    exact zero5 f _ (by simp only; omega) (by simp only; omega)

/-- The latent attention's entries by the offsets of their parts; `s` holds the rotary key's halves in the other order. -/
theorem parts_d (f : Fin 2112 → EReal) (s : Fin 32 → EReal)
    (hs : ∀ d : Fin 32, s d = f ⟨2080 + (d.val + 16) % 32, by omega⟩) (j : Fin 512) (o : EReal) (ho : o = 0) :
    (if h : j.val < 448 then
        if h1 : j.val < 384 then f ⟨1696 + j.val, by omega⟩
        else if h2 : j.val - 384 < 32 then f ⟨1696 + (384 + (j.val - 384)), by omega⟩
        else s ⟨j.val - 384 - 32, by omega⟩
      else o) = spread f ⟨1920 + j.val, by omega⟩ := by
  subst ho
  symm
  by_cases h : j.val < 448
  · rw [dif_pos h]
    by_cases h1 : j.val < 384
    · rw [dif_pos h1]
      exact at6 f _ _ (by simp only; omega) (by simp only; omega) (by simp only; omega)
    rw [dif_neg h1]
    by_cases h2 : j.val - 384 < 32
    · rw [dif_pos h2]
      exact at6 f _ _ (by simp only; omega) (by simp only; omega) (by simp only; omega)
    rw [dif_neg h2, hs]
    by_cases h3 : j.val < 432
    · exact at7 f _ _ (by simp only; omega) (by simp only; omega) (by simp only; omega)
    · exact at8 f _ _ (by simp only; omega) (by simp only; omega) (by simp only; omega)
  · rw [dif_neg h]
    exact zero9 f _ (by simp only; omega)

/-- The same with the halves taken from the row's entries. -/
theorem parts_e (f : Fin 2112 → EReal) (j : Fin 512) (o : EReal) (ho : o = 0) :
    (if h : j.val < 448 then
        if h1 : j.val < 416 then f ⟨1696 + j.val, by omega⟩
        else if h2 : j.val - 416 < 16 then f ⟨1696 + (400 + (j.val - 416)), by omega⟩
        else f ⟨1696 + (384 + (j.val - 416 - 16)), by omega⟩
      else o) = spread f ⟨1920 + j.val, by omega⟩ := by
  subst ho
  symm
  by_cases h : j.val < 448
  · rw [dif_pos h]
    by_cases h1 : j.val < 416
    · rw [dif_pos h1]
      exact at6 f _ _ (by simp only; omega) (by simp only; omega) (by simp only; omega)
    rw [dif_neg h1]
    by_cases h2 : j.val - 416 < 16
    · rw [dif_pos h2]
      exact at7 f _ _ (by simp only; omega) (by simp only; omega) (by simp only; omega)
    · rw [dif_neg h2]
      exact at8 f _ _ (by simp only; omega) (by simp only; omega) (by simp only; omega)
  · rw [dif_neg h]
    exact zero9 f _ (by simp only; omega)

/-- The row's product with column `d` of the weights. -/
def prod (x g : Fin 1024 → EReal) (w : Fin 1024 → Fin 2112 → EReal) (d : Fin 2112) : EReal :=
  ∑ c, rms x g c * w c d

/-- The product with the spread columns is the spread product: a column of zeros gives zero. -/
theorem prod_spread (x g : Fin 1024 → EReal) (w : Fin 1024 → Fin 2112 → EReal) (j : Fin 2432) :
    ∑ c, rms x g c * spread (w c) j = spread (prod x g w) j := by
  have z : ∑ c, rms x g c * (0 : EReal) = 0 := Finset.sum_eq_zero fun c _ => mul_zero _
  unfold spread
  by_cases h0 : j.val < 1568
  · simp only [dif_pos h0]
    rfl
  simp only [dif_neg h0]
  by_cases h1 : j.val < 1664
  · simp only [dif_pos h1]
    exact z
  simp only [dif_neg h1]
  by_cases h2 : j.val < 1696
  · simp only [dif_pos h2]
    rfl
  simp only [dif_neg h2]
  by_cases h3 : j.val < 1792
  · simp only [dif_pos h3]
    exact z
  simp only [dif_neg h3]
  by_cases h4 : j.val < 1888
  · simp only [dif_pos h4]
    rfl
  simp only [dif_neg h4]
  by_cases h5 : j.val < 1920
  · simp only [dif_pos h5]
    exact z
  simp only [dif_neg h5]
  by_cases h6 : j.val < 2336
  · simp only [dif_pos h6]
    rfl
  simp only [dif_neg h6]
  by_cases h7 : j.val < 2352
  · simp only [dif_pos h7]
    rfl
  simp only [dif_neg h7]
  by_cases h8 : j.val < 2368
  · simp only [dif_pos h8]
    rfl
  simp only [dif_neg h8]
  exact z

end Proof.Odd

end
-- ==== Proof.Odd.Prompt.Point.lean ====
module

public import proofs.«01_k».proof.Proof.Gen.Kernel9Ideal.Value
public import proofs.«01_k».proof.Proof.Odd.Row
public import Idealize.ShloMosaic.Lib.Pointwise
public import Idealize.ShloMosaic.Lib.Pipeline.ValueKit

/-!
What one grid point of the second layer's projection computes from its blocks, entry by entry.
-/

@[expose] public section

set_option maxRecDepth 16384

noncomputable section

namespace Proof.Odd.Prompt

open Idealize.ShloMosaic Cert.Kernel9Ideal Cert.Kernel9Ideal.Gen Proof.Ffn Proof.Odd

variable (x : Vec Ideal S512x1024 .f32) (g : Vec Ideal S1x1024 .f32) (w : Vec Ideal S1024x2432 .bf16)
  (r : Fin 512)

theorem prod_apply (d : Fin 2432) : k0_pay1 (F := Ideal) x g w (ix2 r d) =
    ∑ c : Fin 1024, rms (rowOf (φ := .f32) x r) (rowOf (φ := .f32) g 0) c * w (ix2 c d) := by
  pointwise [k0_pay1]
  rfl

theorem c_apply (d : Fin 1920) : out0_3 (F := Ideal) x g w (ix2 r d) =
    k0_pay1 (F := Ideal) x g w (ix2 r ⟨d.val, by omega⟩) := by
  frame_out
  pointwise [k0_pay2]

theorem d_apply (d : Fin 512) : out0_4 (F := Ideal) x g w (ix2 r d) =
    k0_pay1 (F := Ideal) x g w (ix2 r ⟨1920 + d.val, by omega⟩) := by
  frame_out
  pointwise [k0_pay3]

end Proof.Odd.Prompt

end
-- ==== Proof.Odd.Prompt.Array.lean ====
module

public import proofs.«01_k».proof.Proof.Odd.Prompt.Point
public import Idealize.ShloMosaic.Lib.Claim
public import Idealize.ShloMosaic.Lib.StableHlo.ReadAt

/-!
The second layer's projection of the prompt: the kernel's two result arrays, from the program's arguments.
-/

@[expose] public section

set_option maxRecDepth 16384

noncomputable section

namespace Proof.Odd.Prompt

open Idealize.ShloMosaic Idealize.ShloMosaic.TcCoe Cert.Kernel9Ideal Cert.Kernel9Ideal.Gen Proof.Ffn Proof.Odd

variable (m : (ℓ : Loc nD τ sig) → Buf (Elt Ideal) ℓ)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![t.val, 0] := by decide +kernel

/-- The second layer's scale of the normalisation. -/
def gRow (g : FVec Ideal S2x1024 .f32) (j : Fin 1024) : EReal := g (ix2 1 j)

/-- The projection's weights. -/
def wMat (w : FVec Ideal S1x1024x2112 .f32) (i : Fin 1024) (j : Fin 2112) : EReal := w (ix3 0 i j)

/-- Row `R`'s product with the columns of the weights. -/
def z (x : FVec Ideal S32768x1024 .f32) (g : FVec Ideal S2x1024 .f32) (w : FVec Ideal S1x1024x2112 .f32)
    (R : Fin 32768) : Fin 2112 → EReal :=
  prod (rowOf x R) (gRow g) (wMat w)

theorem zero_word : FloatOps.sitofp (F := Ideal) FTy.f32 (0#32) = (0 : EReal) := by
  change ((((0#32 : BitVec 32).toInt : ℝ)) : EReal) = 0
  simp

/-- The rotary key's halves in the other order. -/
def swapped (k : FVec Ideal S1024x32 .f32) : FVec Ideal S1024x32 .f32 :=
  shapeCast S1024x32 (Host.reverse [2] (shapeCast S1024x1x2x16 k shapeCasts_S1024x32_S1024x1x2x16))
    shapeCasts_S1024x1x2x16_S1024x32

theorem swapped_apply (k : FVec Ideal S1024x32 .f32) (i : Fin 1024) (j : Fin 32) :
    swapped k (ix2 i j) = k (ix2 i ⟨(j.val + 16) % 32, by omega⟩) := by
  pointwise [swapped]
  refine congrArg k (congrArg₂ ix2 (if_neg (by decide)) (Fin.ext ?_))
  change (Fin.rev (⟨j.val / 16, by omega⟩ : Fin 2)).val * 16 + j.val % 16 = (j.val + 16) % 32
  rw [Fin.val_rev]
  simp only
  omega

/-- The recurrence's columns of the weights, as the kernel takes them. -/
def colsC (w : FVec Ideal S1024x2112 .f32) : FVec Ideal S1024x1920 .f32 :=
  concatenate S1024x1920 1
    [⟨S1024x1536, extractStridedSlice S1024x1536 ![0, 0] (extractStridedSlice S1024x1696 ![0, 0] w
        slices_S1024x2112_S1024x1696_0_0) slices_S1024x1696_S1024x1536_0_0⟩,
      ⟨S1024x128, pad S1024x128 ![0, 0] ![0, 96] ![0, 0] (extractStridedSlice S1024x32 ![0, 1536]
        (extractStridedSlice S1024x1696 ![0, 0] w slices_S1024x2112_S1024x1696_0_0) slices_S1024x1696_S1024x32_0_1536)
        (sitofp (F := Ideal) .f32 (constantI S_ 32 0#32)) pads_S1024x32_S1024x128_000_0960 h_S_⟩,
      ⟨S1024x128, pad S1024x128 ![0, 0] ![0, 96] ![0, 0] (extractStridedSlice S1024x32 ![0, 1568]
        (extractStridedSlice S1024x1696 ![0, 0] w slices_S1024x2112_S1024x1696_0_0) slices_S1024x1696_S1024x32_0_1568)
        (sitofp (F := Ideal) .f32 (constantI S_ 32 0#32)) pads_S1024x32_S1024x128_000_0960 h_S_⟩,
      ⟨S1024x128, pad S1024x128 ![0, 0] ![0, 32] ![0, 0] (extractStridedSlice S1024x96 ![0, 1600]
        (extractStridedSlice S1024x1696 ![0, 0] w slices_S1024x2112_S1024x1696_0_0) slices_S1024x1696_S1024x96_0_1600)
        (sitofp (F := Ideal) .f32 (constantI S_ 32 0#32)) pads_S1024x96_S1024x128_000_0320 h_S_⟩]
    concatenates_S1024x1536_S1024x128_S1024x128_S1024x128_S1024x1920_d1

/-- The latent attention's columns of the weights, with the given columns after them. -/
def colsD (w : FVec Ideal S1024x2112 .f32) (s : FVec Ideal S1024x32 .f32) : FVec Ideal S1024x512 .f32 :=
  pad S1024x512 ![0, 0] ![0, 64] ![0, 0] (concatenate S1024x448 1
    [⟨S1024x384, extractStridedSlice S1024x384 ![0, 0] (extractStridedSlice S1024x416 ![0, 1696] w
        slices_S1024x2112_S1024x416_0_1696) slices_S1024x416_S1024x384_0_0⟩,
      ⟨S1024x32, extractStridedSlice S1024x32 ![0, 384] (extractStridedSlice S1024x416 ![0, 1696] w
        slices_S1024x2112_S1024x416_0_1696) slices_S1024x416_S1024x32_0_384⟩,
      ⟨S1024x32, s⟩] concatenates_S1024x384_S1024x32_S1024x32_S1024x448_d1 : FVec Ideal S1024x448 .f32)
    (sitofp (F := Ideal) .f32 (constantI S_ 32 0#32)) pads_S1024x448_S1024x512_000_0640 h_S_

theorem colsC_apply (w : FVec Ideal S1024x2112 .f32) (i : Fin 1024) (j : Fin 1920) :
    colsC w (ix2 i j) = spread (fun d => w (ix2 i d)) ⟨j.val, by omega⟩ := by
  pointwise [colsC]
  exact parts_c (fun d => w (ix2 i d)) j _ zero_word

theorem colsD_apply (w : FVec Ideal S1024x2112 .f32) (i : Fin 1024) (j : Fin 512) :
    colsD w (swapped (extractStridedSlice S1024x32 ![0, 384] (extractStridedSlice S1024x416 ![0, 1696] w
      slices_S1024x2112_S1024x416_0_1696) slices_S1024x416_S1024x32_0_384)) (ix2 i j) =
      spread (fun d => w (ix2 i d)) ⟨1920 + j.val, by omega⟩ := by
  generalize hs : swapped _ = s
  pointwise [colsD]
  refine parts_d (fun d => w (ix2 i d)) (fun d => s (ix2 i d)) (fun d => ?_) j _ zero_word
  rw [← hs, swapped_apply]
  pointwise
  exact congrArg w (congrArg (ix2 i) (Fin.ext (by simp only; omega)))

theorem flat_eq (c : Dev nD) : (V m c main_v0 : Vec Ideal S1024x2112 .f32) =
    shapeCast S1024x2112 (m (c, Proc.tc.devRef main_arg2)) shapeCasts_S1x1024x2112_S1024x2112 := by
  rfl

theorem c_eq (c : Dev nD) : (V m c main_v17 : Vec Ideal S1024x1920 .f32) =
    colsC (V m c main_v0 : Vec Ideal S1024x2112 .f32) := by
  rfl

theorem key_eq (c : Dev nD) : (V m c main_v2 : Vec Ideal S1024x32 .f32) =
    extractStridedSlice S1024x32 ![0, 384] (extractStridedSlice S1024x416 ![0, 1696]
      (V m c main_v0 : Vec Ideal S1024x2112 .f32) slices_S1024x2112_S1024x416_0_1696) slices_S1024x416_S1024x32_0_384 := by
  rfl

theorem halves_eq (c : Dev nD) : (V m c main_v4 : Vec Ideal S1024x1x2x16 .f32) =
    shapeCast S1024x1x2x16 (V m c main_v2 : Vec Ideal S1024x32 .f32) shapeCasts_S1024x32_S1024x1x2x16 := by
  rfl

attribute [local irreducible] Host.reverse in
theorem turned_eq (c : Dev nD) : (V m c main_v5 : Vec Ideal S1024x1x2x16 .f32) =
    Host.reverse [2] (V m c main_v4 : Vec Ideal S1024x1x2x16 .f32) := by
  rfl

attribute [local irreducible] Host.reverse in
theorem swapped_eq (c : Dev nD) : (V m c main_v6 : Vec Ideal S1024x32 .f32) =
    shapeCast S1024x32 (V m c main_v5 : Vec Ideal S1024x1x2x16 .f32) shapeCasts_S1024x1x2x16_S1024x32 := by
  rfl

theorem latent_eq (c : Dev nD) : (V m c main_v3 : Vec Ideal S1024x384 .f32) =
    extractStridedSlice S1024x384 ![0, 0] (extractStridedSlice S1024x416 ![0, 1696]
      (V m c main_v0 : Vec Ideal S1024x2112 .f32) slices_S1024x2112_S1024x416_0_1696) slices_S1024x416_S1024x384_0_0 := by
  rfl

theorem side_eq (c : Dev nD) : (V m c main_v7 : Vec Ideal S1024x448 .f32) =
    concatenate S1024x448 1 [⟨S1024x384, (V m c main_v3 : Vec Ideal S1024x384 .f32)⟩,
      ⟨S1024x32, (V m c main_v2 : Vec Ideal S1024x32 .f32)⟩, ⟨S1024x32, (V m c main_v6 : Vec Ideal S1024x32 .f32)⟩]
      concatenates_S1024x384_S1024x32_S1024x32_S1024x448_d1 := by
  rfl

theorem d_eq (c : Dev nD) : (V m c main_v8 : Vec Ideal S1024x512 .f32) =
    pad S1024x512 ![0, 0] ![0, 64] ![0, 0] (V m c main_v7 : Vec Ideal S1024x448 .f32)
      (sitofp (F := Ideal) .f32 (constantI S_ 32 0#32)) pads_S1024x448_S1024x512_000_0640 h_S_ := by
  rfl

set_option maxHeartbeats 2000000 in
theorem weights_eq (c : Dev nD) : (V m c main_v19 : Vec Ideal S1024x2432 .bf16) =
    truncf .bf16 (concatenate S1024x2432 1 [⟨S1024x1920, (V m c main_v17 : Vec Ideal S1024x1920 .f32)⟩,
      ⟨S1024x512, (V m c main_v8 : Vec Ideal S1024x512 .f32)⟩]
      concatenates_S1024x1920_S1024x512_S1024x2432_d1 : FVec Ideal S1024x2432 .f32) bitsLt_bf16_f32 := by
  rfl

theorem cols_apply (a : FVec Ideal S1024x1920 .f32) (b : FVec Ideal S1024x512 .f32) (i : Fin 1024) (j : Fin 2432) :
    (truncf .bf16 (concatenate S1024x2432 1 [⟨S1024x1920, a⟩, ⟨S1024x512, b⟩]
      concatenates_S1024x1920_S1024x512_S1024x2432_d1 : FVec Ideal S1024x2432 .f32) bitsLt_bf16_f32 :
        FVec Ideal S1024x2432 .bf16) (ix2 i j) =
      if h : j.val < 1920 then a (ix2 i ⟨j.val, h⟩) else b (ix2 i ⟨j.val - 1920, by omega⟩) := by
  pointwise

theorem flat_apply (w : FVec Ideal S1x1024x2112 .f32) (i : Fin 1024) (j : Fin 2112) :
    shapeCast S1024x2112 w shapeCasts_S1x1024x2112_S1024x2112 (ix2 i j) = wMat w i j := by
  pointwise
  rfl

theorem rows_apply (c : Dev nD) (t : Fin grid0.N) (r : Fin 512) (d : Fin 1024) (R : Fin 32768)
    (hR : R.val = 512 * t.val + r.val) :
    (iblk m c 0 t : Vec Ideal S512x1024 .f32) (ix2 r d) =
      rowOf (φ := .f32) (m (c, Proc.tc.devRef main_arg0) : Vec Ideal S32768x1024 .f32) R d := by
  have e : (iblk m c 0 t : Vec Ideal S512x1024 .f32) (ix2 r d) = (V m c main_arg0 : Vec Ideal S32768x1024 .f32) (ix2 R d) := by
    refine congrArg (V m c main_arg0 : Vec Ideal S32768x1024 .f32) (funext fun a => Fin.ext ?_)
    blk_simp [index0 t]
    fin_cases a
    · simp [ix2, hR]; omega
    · simp [ix2]
  refine e.trans ?_
  rfl

theorem norm_eq (c : Dev nD) : (V m c main_v22 : Vec Ideal S1x1024 .f32) =
    shapeCast S1x1024 (shapeCast S1024 (extractStridedSlice S1x1024 ![1, 0] (m (c, Proc.tc.devRef main_arg1))
      slices_S2x1024_S1x1024_1_0) shapeCasts_S1x1024_S1024) shapeCasts_S1024_S1x1024 := by
  rfl

theorem norm_apply (c : Dev nD) (t : Fin grid0.N) (j : Fin 1024) :
    (iblk m c 1 t : Vec Ideal S1x1024 .f32) (ix2 0 j) = gRow (m (c, Proc.tc.devRef main_arg1)) j := by
  have e : (iblk m c 1 t : Vec Ideal S1x1024 .f32) (ix2 0 j) = (V m c main_v22 : Vec Ideal S1x1024 .f32) (ix2 0 j) := by
    refine congrArg (V m c main_v22 : Vec Ideal S1x1024 .f32) (funext fun a => Fin.ext ?_)
    blk_simp [index1 t]
    fin_cases a <;> simp [ix2]
  refine e.trans ?_
  rw [norm_eq]
  pointwise
  rfl

theorem weights_entry (c : Dev nD) (t : Fin grid0.N) (i : Fin 1024) (j : Fin 2432) :
    (iblk m c 2 t : Vec Ideal S1024x2432 .bf16) (ix2 i j) = (V m c main_v19 : Vec Ideal S1024x2432 .bf16) (ix2 i j) := by
  refine congrArg (V m c main_v19 : Vec Ideal S1024x2432 .bf16) (funext fun a => Fin.ext ?_)
  blk_simp [index2 t]
  fin_cases a <;> simp [ix2]

/-- The kernel's second part of the weights, from the weights. -/
theorem d_cols (c : Dev nD) : (V m c main_v8 : Vec Ideal S1024x512 .f32) =
    colsD (V m c main_v0 : Vec Ideal S1024x2112 .f32) (swapped (extractStridedSlice S1024x32 ![0, 384]
      (extractStridedSlice S1024x416 ![0, 1696] (V m c main_v0 : Vec Ideal S1024x2112 .f32)
        slices_S1024x2112_S1024x416_0_1696) slices_S1024x416_S1024x32_0_384)) := by
  rw [d_eq, side_eq, swapped_eq, turned_eq, halves_eq, latent_eq, key_eq]
  rfl

theorem weights_apply (c : Dev nD) (t : Fin grid0.N) (i : Fin 1024) (j : Fin 2432) :
    (iblk m c 2 t : Vec Ideal S1024x2432 .bf16) (ix2 i j) = spread (wMat (m (c, Proc.tc.devRef main_arg2)) i) j := by
  refine (weights_entry m c t i j).trans ?_
  have e : (fun d => shapeCast S1024x2112 (m (c, Proc.tc.devRef main_arg2) : Vec Ideal S1x1024x2112 .f32)
      shapeCasts_S1x1024x2112_S1024x2112 (ix2 i d)) = wMat (m (c, Proc.tc.devRef main_arg2)) i :=
    funext fun d => flat_apply _ i d
  rw [weights_eq, cols_apply, c_eq, d_cols, flat_eq]
  by_cases h : j.val < 1920
  · rw [dif_pos h, colsC_apply, e]
  · rw [dif_neg h, colsD_apply, e]
    exact congrArg _ (Fin.ext (by simp only; omega))

/-- A grid point's products. -/
theorem point_prod (c : Dev nD) (t : Fin grid0.N) (r : Fin 512) (d : Fin 2432) (R : Fin 32768)
    (hR : R.val = 512 * t.val + r.val) :
    k0_pay1 (F := Ideal) (iblk m c 0 t) (iblk m c 1 t) (iblk m c 2 t) (ix2 r d) =
      spread (z (m (c, Proc.tc.devRef main_arg0)) (m (c, Proc.tc.devRef main_arg1))
        (m (c, Proc.tc.devRef main_arg2)) R) d := by
  refine (prod_apply _ _ _ r d).trans ?_
  have e0 : rowOf (φ := .f32) (iblk m c 0 t : Vec Ideal S512x1024 .f32) r =
      rowOf (φ := .f32) (m (c, Proc.tc.devRef main_arg0) : Vec Ideal S32768x1024 .f32) R :=
    funext fun j => rows_apply m c t r j R hR
  have e1 : rowOf (φ := .f32) (iblk m c 1 t : Vec Ideal S1x1024 .f32) 0 = gRow (m (c, Proc.tc.devRef main_arg1)) :=
    funext fun j => norm_apply m c t j
  rw [e0, e1]
  refine Eq.trans ?_ (prod_spread _ _ _ d)
  exact Finset.sum_congr rfl fun k _ => congrArg (_ * ·) (weights_apply m c t k d)

/-- The recurrence's columns and the latent attention's, row after row. -/
def cArr (x : FVec Ideal S32768x1024 .f32) (g : FVec Ideal S2x1024 .f32) (w : FVec Ideal S1x1024x2112 .f32) :
    FVec Ideal S32768x1920 .f32 := fun y =>
  spread (z x g w (y 0)) ⟨(y 1).val, Nat.lt_trans (y 1).isLt (by decide)⟩

def dArr (x : FVec Ideal S32768x1024 .f32) (g : FVec Ideal S2x1024 .f32) (w : FVec Ideal S1x1024x2112 .f32) :
    FVec Ideal S32768x512 .f32 := fun y =>
  spread (z x g w (y 0)) ⟨1920 + (y 1).val, Nat.add_lt_add_left (y 1).isLt 1920⟩

theorem c_final (c : Dev nD) : (dats m 0 c).arrAt 3 cfg0.N =
    cArr (m (c, Proc.tc.devRef main_arg0)) (m (c, Proc.tc.devRef main_arg1)) (m (c, Proc.tc.devRef main_arg2)) := by
  refine (dats m 0 c).arrAt_eq_of_covers 3 _ (by decide +kernel) fun t hf y => ?_
  blk_simp
  rw [after0_3]
  change S512x1920.Idx at y
  obtain ⟨r, d, rfl⟩ : ∃ (r : Fin 512) (d : Fin 1920), y = ix2 r d := ⟨y 0, y 1, eq_ix2 y⟩
  have hr := r.isLt
  have ht : t.val < 64 := lt_of_lt_of_eq t.isLt N_0
  have e : (win0_3.blk t).view.emb (ix2 r d) = ix2 (⟨512 * t.val + r.val, by omega⟩ : Fin 32768) d := by
    funext a
    refine Fin.ext ?_
    blk_simp [index3 t]
    fin_cases a
    · simp [ix2]; omega
    · simp [ix2]
  refine Eq.trans ?_ (congrArg (cArr (m (c, Proc.tc.devRef main_arg0)) (m (c, Proc.tc.devRef main_arg1)) (m (c, Proc.tc.devRef main_arg2))) e.symm)
  refine (c_apply _ _ _ r d).trans ?_
  rw [point_prod m c t r _ ⟨512 * t.val + r.val, by omega⟩ rfl]
  rfl

theorem d_final (c : Dev nD) : (dats m 0 c).arrAt 4 cfg0.N =
    dArr (m (c, Proc.tc.devRef main_arg0)) (m (c, Proc.tc.devRef main_arg1)) (m (c, Proc.tc.devRef main_arg2)) := by
  refine (dats m 0 c).arrAt_eq_of_covers 4 _ (by decide +kernel) fun t hf y => ?_
  blk_simp
  rw [after0_4]
  change S512x512.Idx at y
  obtain ⟨r, d, rfl⟩ : ∃ (r : Fin 512) (d : Fin 512), y = ix2 r d := ⟨y 0, y 1, eq_ix2 y⟩
  have hr := r.isLt
  have ht : t.val < 64 := lt_of_lt_of_eq t.isLt N_0
  have e : (win0_4.blk t).view.emb (ix2 r d) = ix2 (⟨512 * t.val + r.val, by omega⟩ : Fin 32768) d := by
    funext a
    refine Fin.ext ?_
    blk_simp [index4 t]
    fin_cases a
    · simp [ix2]; omega
    · simp [ix2]
  refine Eq.trans ?_ (congrArg (dArr (m (c, Proc.tc.devRef main_arg0)) (m (c, Proc.tc.devRef main_arg1)) (m (c, Proc.tc.devRef main_arg2))) e.symm)
  refine (d_apply _ _ _ r d).trans ?_
  rw [point_prod m c t r _ ⟨512 * t.val + r.val, by omega⟩ rfl]
  rfl

end Proof.Odd.Prompt

end
-- ==== Proof.Odd.Prompt.Ref.lean ====
module

public import proofs.«01_k».proof.Proof.Gen.Reference9Ideal.Run
public import proofs.«01_k».proof.Proof.Odd.Prompt.Array
public import Idealize.ShloMosaic.Lib.Pointwise

/-!
The second layer's projection of the prompt: the reference's two arrays are the kernel's.
-/

@[expose] public section

set_option maxRecDepth 16384

noncomputable section

namespace Proof.Odd.Prompt.Ref

open Idealize.ShloMosaic Idealize.ShloMosaic.TcCoe Cert.Reference9Ideal Cert.Reference9Ideal.Gen Proof.Ffn Proof.Odd

/-- The normalised rows. -/
def normed (h : FVec Ideal S32768x1024 .f32) (g : FVec Ideal S2x1024 .f32) : FVec Ideal S32768x1024 .f32 :=
  mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast S1024 (extractStridedSlice S1x1024 ![1, 0] g slices_S2x1024_S1x1024_1_0) shapeCasts_S1x1024_S1024)))

/-- Their product with the weights. -/
def proj (n : FVec Ideal S32768x1024 .f32) (w : FVec Ideal S1x1024x2112 .f32) : FVec Ideal S32768x2112 .f32 :=
  Host.dotGeneral dot_S32768x1024_S1024x2112_S32768x2112_1_0_0_1_n_n none n (shapeCast S1024x2112 w shapeCasts_S1x1024x2112_S1024x2112)

/-- The recurrence's columns, the low-rank parts followed by zeros. -/
def partC (p : FVec Ideal S32768x2112 .f32) : FVec Ideal S32768x1920 .f32 :=
  concatenate S32768x1920 1
    [⟨S32768x1536, extractStridedSlice S32768x1536 ![0, 0] (extractStridedSlice S32768x1696 ![0, 0] p
        slices_S32768x2112_S32768x1696_0_0) slices_S32768x1696_S32768x1536_0_0⟩,
      ⟨S32768x128, pad S32768x128 ![0, 0] ![0, 96] ![0, 0] (extractStridedSlice S32768x32 ![0, 1536]
        (extractStridedSlice S32768x1696 ![0, 0] p slices_S32768x2112_S32768x1696_0_0) slices_S32768x1696_S32768x32_0_1536)
        (sitofp (F := Ideal) .f32 (constantI S_ 32 0#32)) pads_S32768x32_S32768x128_000_0960 h_S_⟩,
      ⟨S32768x128, pad S32768x128 ![0, 0] ![0, 96] ![0, 0] (extractStridedSlice S32768x32 ![0, 1568]
        (extractStridedSlice S32768x1696 ![0, 0] p slices_S32768x2112_S32768x1696_0_0) slices_S32768x1696_S32768x32_0_1568)
        (sitofp (F := Ideal) .f32 (constantI S_ 32 0#32)) pads_S32768x32_S32768x128_000_0960 h_S_⟩,
      ⟨S32768x128, pad S32768x128 ![0, 0] ![0, 32] ![0, 0] (extractStridedSlice S32768x96 ![0, 1600]
        (extractStridedSlice S32768x1696 ![0, 0] p slices_S32768x2112_S32768x1696_0_0) slices_S32768x1696_S32768x96_0_1600)
        (sitofp (F := Ideal) .f32 (constantI S_ 32 0#32)) pads_S32768x96_S32768x128_000_0320 h_S_⟩]
    concatenates_S32768x1536_S32768x128_S32768x128_S32768x128_S32768x1920_d1

/-- The latent attention's columns, then the rotary key's halves in the other order, then zeros. -/
def partD (p : FVec Ideal S32768x2112 .f32) : FVec Ideal S32768x512 .f32 :=
  pad S32768x512 ![0, 0] ![0, 64] ![0, 0] (concatenate S32768x448 1
    [⟨S32768x416, extractStridedSlice S32768x416 ![0, 1696] p slices_S32768x2112_S32768x416_0_1696⟩,
      ⟨S32768x16, extractStridedSlice S32768x16 ![0, 400] (extractStridedSlice S32768x416 ![0, 1696] p
        slices_S32768x2112_S32768x416_0_1696) slices_S32768x416_S32768x16_0_400⟩,
      ⟨S32768x16, extractStridedSlice S32768x16 ![0, 384] (extractStridedSlice S32768x416 ![0, 1696] p
        slices_S32768x2112_S32768x416_0_1696) slices_S32768x416_S32768x16_0_384⟩]
      concatenates_S32768x416_S32768x16_S32768x16_S32768x448_d1 : FVec Ideal S32768x448 .f32)
    (sitofp (F := Ideal) .f32 (constantI S_ 32 0#32)) pads_S32768x448_S32768x512_000_0640 h_S_

theorem normed_apply (h : FVec Ideal S32768x1024 .f32) (g : FVec Ideal S2x1024 .f32) (R : Fin 32768)
    (d : Fin 1024) : normed h g (ix2 R d) = rms (rowOf h R) (gRow g) d := by
  pointwise [normed]
  rfl

theorem proj_apply (n : FVec Ideal S32768x1024 .f32) (w : FVec Ideal S1x1024x2112 .f32) (R : Fin 32768)
    (d : Fin 2112) : proj n w (ix2 R d) = ∑ c : Fin 1024, n (ix2 R c) * wMat w c d := by
  pointwise [proj]
  rfl

theorem z_apply (x : FVec Ideal S32768x1024 .f32) (g : FVec Ideal S2x1024 .f32) (w : FVec Ideal S1x1024x2112 .f32)
    (R : Fin 32768) (d : Fin 2112) : proj (normed x g) w (ix2 R d) = z x g w R d := by
  rw [proj_apply]
  simp only [normed_apply]
  rfl

theorem partC_apply (p : FVec Ideal S32768x2112 .f32) (R : Fin 32768) (j : Fin 1920) :
    partC p (ix2 R j) = spread (fun d => p (ix2 R d)) ⟨j.val, by omega⟩ := by
  pointwise [partC]
  exact parts_c (fun d => p (ix2 R d)) j _ zero_word

theorem partD_apply (p : FVec Ideal S32768x2112 .f32) (R : Fin 32768) (j : Fin 512) :
    partD p (ix2 R j) = spread (fun d => p (ix2 R d)) ⟨1920 + j.val, by omega⟩ := by
  pointwise [partD]
  exact parts_e (fun d => p (ix2 R d)) j _ zero_word

section Arrays

variable (x : FVec Ideal S32768x1024 .f32) (g : FVec Ideal S2x1024 .f32) (w : FVec Ideal S1x1024x2112 .f32)

theorem c_eq : partC (proj (normed x g) w) = cArr x g w := by
  funext y
  obtain ⟨R, d, rfl⟩ : ∃ (R : Fin 32768) (d : Fin 1920), y = ix2 R d := ⟨y 0, y 1, eq_ix2 y⟩
  rw [partC_apply, funext (z_apply x g w R)]
  rfl

theorem d_eq : partD (proj (normed x g) w) = dArr x g w := by
  funext y
  obtain ⟨R, d, rfl⟩ : ∃ (R : Fin 32768) (d : Fin 512), y = ix2 R d := ⟨y 0, y 1, eq_ix2 y⟩
  rw [partD_apply, funext (z_apply x g w R)]
  rfl

end Arrays

/-- What the reference leaves for the recurrence's columns, by name. -/
theorem c_res (m : (ℓ : Loc nD τ sig) → Buf (Elt Ideal) ℓ) (c : Dev nD) :
    Cert.Reference9Ideal.Value.res_main_v26 m c =
      partC (proj (normed (m ((c.tc : Thread nD τ).loc main_arg0)) (m ((c.tc : Thread nD τ).loc main_arg1)))
        (m ((c.tc : Thread nD τ).loc main_arg2))) := by
  rfl

end Proof.Odd.Prompt.Ref

end
-- ==== Proof.Odd.Sample.Point.lean ====
module

public import proofs.«01_k».proof.Proof.Gen.Kernel10Ideal.Value
public import proofs.«01_k».proof.Proof.Odd.Row
public import Idealize.ShloMosaic.Lib.Pointwise
public import Idealize.ShloMosaic.Lib.Pipeline.ValueKit

/-!
What one grid point of the second layer's projection computes from its blocks, entry by entry.
-/

@[expose] public section

set_option maxRecDepth 16384

noncomputable section

namespace Proof.Odd.Sample

open Idealize.ShloMosaic Cert.Kernel10Ideal Cert.Kernel10Ideal.Gen Proof.Ffn Proof.Odd

variable (x : Vec Ideal S512x1024 .f32) (g : Vec Ideal S1x1024 .f32) (w : Vec Ideal S1024x2432 .bf16)
  (r : Fin 512)

theorem prod_apply (d : Fin 2432) : k0_pay1 (F := Ideal) x g w (ix2 r d) =
    ∑ c : Fin 1024, rms (rowOf (φ := .f32) x r) (rowOf (φ := .f32) g 0) c * w (ix2 c d) := by
  pointwise [k0_pay1]
  rfl

theorem c_apply (d : Fin 1920) : out0_3 (F := Ideal) x g w (ix2 r d) =
    k0_pay1 (F := Ideal) x g w (ix2 r ⟨d.val, by omega⟩) := by
  frame_out
  pointwise [k0_pay2]

theorem d_apply (d : Fin 512) : out0_4 (F := Ideal) x g w (ix2 r d) =
    k0_pay1 (F := Ideal) x g w (ix2 r ⟨1920 + d.val, by omega⟩) := by
  frame_out
  pointwise [k0_pay3]

end Proof.Odd.Sample

end
-- ==== Proof.Odd.Sample.Array.lean ====
module

public import proofs.«01_k».proof.Proof.Odd.Sample.Point
public import Idealize.ShloMosaic.Lib.Claim
public import Idealize.ShloMosaic.Lib.StableHlo.ReadAt

/-!
The second layer's projection of the sample: the kernel's two result arrays, from the program's arguments.
-/

@[expose] public section

set_option maxRecDepth 16384

noncomputable section

namespace Proof.Odd.Sample

open Idealize.ShloMosaic Idealize.ShloMosaic.TcCoe Cert.Kernel10Ideal Cert.Kernel10Ideal.Gen Proof.Ffn Proof.Odd

variable (m : (ℓ : Loc nD τ sig) → Buf (Elt Ideal) ℓ)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![t.val, 0] := by decide +kernel

/-- The second layer's scale of the normalisation. -/
def gRow (g : FVec Ideal S2x1024 .f32) (j : Fin 1024) : EReal := g (ix2 1 j)

/-- The projection's weights. -/
def wMat (w : FVec Ideal S1x1024x2112 .f32) (i : Fin 1024) (j : Fin 2112) : EReal := w (ix3 0 i j)

/-- Row `R`'s product with the columns of the weights. -/
def z (x : FVec Ideal S1024x1024 .f32) (g : FVec Ideal S2x1024 .f32) (w : FVec Ideal S1x1024x2112 .f32)
    (R : Fin 1024) : Fin 2112 → EReal :=
  prod (rowOf x R) (gRow g) (wMat w)

theorem zero_word : FloatOps.sitofp (F := Ideal) FTy.f32 (0#32) = (0 : EReal) := by
  change ((((0#32 : BitVec 32).toInt : ℝ)) : EReal) = 0
  simp

/-- The rotary key's halves in the other order. -/
def swapped (k : FVec Ideal S1024x32 .f32) : FVec Ideal S1024x32 .f32 :=
  shapeCast S1024x32 (Host.reverse [2] (shapeCast S1024x1x2x16 k shapeCasts_S1024x32_S1024x1x2x16))
    shapeCasts_S1024x1x2x16_S1024x32

theorem swapped_apply (k : FVec Ideal S1024x32 .f32) (i : Fin 1024) (j : Fin 32) :
    swapped k (ix2 i j) = k (ix2 i ⟨(j.val + 16) % 32, by omega⟩) := by
  pointwise [swapped]
  refine congrArg k (congrArg₂ ix2 (if_neg (by decide)) (Fin.ext ?_))
  change (Fin.rev (⟨j.val / 16, by omega⟩ : Fin 2)).val * 16 + j.val % 16 = (j.val + 16) % 32
  rw [Fin.val_rev]
  simp only
  omega

/-- The recurrence's columns of the weights, as the kernel takes them. -/
def colsC (w : FVec Ideal S1024x2112 .f32) : FVec Ideal S1024x1920 .f32 :=
  concatenate S1024x1920 1
    [⟨S1024x1536, extractStridedSlice S1024x1536 ![0, 0] (extractStridedSlice S1024x1696 ![0, 0] w
        slices_S1024x2112_S1024x1696_0_0) slices_S1024x1696_S1024x1536_0_0⟩,
      ⟨S1024x128, pad S1024x128 ![0, 0] ![0, 96] ![0, 0] (extractStridedSlice S1024x32 ![0, 1536]
        (extractStridedSlice S1024x1696 ![0, 0] w slices_S1024x2112_S1024x1696_0_0) slices_S1024x1696_S1024x32_0_1536)
        (sitofp (F := Ideal) .f32 (constantI S_ 32 0#32)) pads_S1024x32_S1024x128_000_0960 h_S_⟩,
      ⟨S1024x128, pad S1024x128 ![0, 0] ![0, 96] ![0, 0] (extractStridedSlice S1024x32 ![0, 1568]
        (extractStridedSlice S1024x1696 ![0, 0] w slices_S1024x2112_S1024x1696_0_0) slices_S1024x1696_S1024x32_0_1568)
        (sitofp (F := Ideal) .f32 (constantI S_ 32 0#32)) pads_S1024x32_S1024x128_000_0960 h_S_⟩,
      ⟨S1024x128, pad S1024x128 ![0, 0] ![0, 32] ![0, 0] (extractStridedSlice S1024x96 ![0, 1600]
        (extractStridedSlice S1024x1696 ![0, 0] w slices_S1024x2112_S1024x1696_0_0) slices_S1024x1696_S1024x96_0_1600)
        (sitofp (F := Ideal) .f32 (constantI S_ 32 0#32)) pads_S1024x96_S1024x128_000_0320 h_S_⟩]
    concatenates_S1024x1536_S1024x128_S1024x128_S1024x128_S1024x1920_d1

/-- The latent attention's columns of the weights, with the given columns after them. -/
def colsD (w : FVec Ideal S1024x2112 .f32) (s : FVec Ideal S1024x32 .f32) : FVec Ideal S1024x512 .f32 :=
  pad S1024x512 ![0, 0] ![0, 64] ![0, 0] (concatenate S1024x448 1
    [⟨S1024x384, extractStridedSlice S1024x384 ![0, 0] (extractStridedSlice S1024x416 ![0, 1696] w
        slices_S1024x2112_S1024x416_0_1696) slices_S1024x416_S1024x384_0_0⟩,
      ⟨S1024x32, extractStridedSlice S1024x32 ![0, 384] (extractStridedSlice S1024x416 ![0, 1696] w
        slices_S1024x2112_S1024x416_0_1696) slices_S1024x416_S1024x32_0_384⟩,
      ⟨S1024x32, s⟩] concatenates_S1024x384_S1024x32_S1024x32_S1024x448_d1 : FVec Ideal S1024x448 .f32)
    (sitofp (F := Ideal) .f32 (constantI S_ 32 0#32)) pads_S1024x448_S1024x512_000_0640 h_S_

theorem colsC_apply (w : FVec Ideal S1024x2112 .f32) (i : Fin 1024) (j : Fin 1920) :
    colsC w (ix2 i j) = spread (fun d => w (ix2 i d)) ⟨j.val, by omega⟩ := by
  pointwise [colsC]
  exact parts_c (fun d => w (ix2 i d)) j _ zero_word

theorem colsD_apply (w : FVec Ideal S1024x2112 .f32) (i : Fin 1024) (j : Fin 512) :
    colsD w (swapped (extractStridedSlice S1024x32 ![0, 384] (extractStridedSlice S1024x416 ![0, 1696] w
      slices_S1024x2112_S1024x416_0_1696) slices_S1024x416_S1024x32_0_384)) (ix2 i j) =
      spread (fun d => w (ix2 i d)) ⟨1920 + j.val, by omega⟩ := by
  generalize hs : swapped _ = s
  pointwise [colsD]
  refine parts_d (fun d => w (ix2 i d)) (fun d => s (ix2 i d)) (fun d => ?_) j _ zero_word
  rw [← hs, swapped_apply]
  pointwise
  exact congrArg w (congrArg (ix2 i) (Fin.ext (by simp only; omega)))

theorem flat_eq (c : Dev nD) : (V m c main_v0 : Vec Ideal S1024x2112 .f32) =
    shapeCast S1024x2112 (m (c, Proc.tc.devRef main_arg2)) shapeCasts_S1x1024x2112_S1024x2112 := by
  rfl

theorem c_eq (c : Dev nD) : (V m c main_v17 : Vec Ideal S1024x1920 .f32) =
    colsC (V m c main_v0 : Vec Ideal S1024x2112 .f32) := by
  rfl

theorem key_eq (c : Dev nD) : (V m c main_v2 : Vec Ideal S1024x32 .f32) =
    extractStridedSlice S1024x32 ![0, 384] (extractStridedSlice S1024x416 ![0, 1696]
      (V m c main_v0 : Vec Ideal S1024x2112 .f32) slices_S1024x2112_S1024x416_0_1696) slices_S1024x416_S1024x32_0_384 := by
  rfl

theorem halves_eq (c : Dev nD) : (V m c main_v4 : Vec Ideal S1024x1x2x16 .f32) =
    shapeCast S1024x1x2x16 (V m c main_v2 : Vec Ideal S1024x32 .f32) shapeCasts_S1024x32_S1024x1x2x16 := by
  rfl

attribute [local irreducible] Host.reverse in
theorem turned_eq (c : Dev nD) : (V m c main_v5 : Vec Ideal S1024x1x2x16 .f32) =
    Host.reverse [2] (V m c main_v4 : Vec Ideal S1024x1x2x16 .f32) := by
  rfl

attribute [local irreducible] Host.reverse in
theorem swapped_eq (c : Dev nD) : (V m c main_v6 : Vec Ideal S1024x32 .f32) =
    shapeCast S1024x32 (V m c main_v5 : Vec Ideal S1024x1x2x16 .f32) shapeCasts_S1024x1x2x16_S1024x32 := by
  rfl

theorem latent_eq (c : Dev nD) : (V m c main_v3 : Vec Ideal S1024x384 .f32) =
    extractStridedSlice S1024x384 ![0, 0] (extractStridedSlice S1024x416 ![0, 1696]
      (V m c main_v0 : Vec Ideal S1024x2112 .f32) slices_S1024x2112_S1024x416_0_1696) slices_S1024x416_S1024x384_0_0 := by
  rfl

theorem side_eq (c : Dev nD) : (V m c main_v7 : Vec Ideal S1024x448 .f32) =
    concatenate S1024x448 1 [⟨S1024x384, (V m c main_v3 : Vec Ideal S1024x384 .f32)⟩,
      ⟨S1024x32, (V m c main_v2 : Vec Ideal S1024x32 .f32)⟩, ⟨S1024x32, (V m c main_v6 : Vec Ideal S1024x32 .f32)⟩]
      concatenates_S1024x384_S1024x32_S1024x32_S1024x448_d1 := by
  rfl

theorem d_eq (c : Dev nD) : (V m c main_v8 : Vec Ideal S1024x512 .f32) =
    pad S1024x512 ![0, 0] ![0, 64] ![0, 0] (V m c main_v7 : Vec Ideal S1024x448 .f32)
      (sitofp (F := Ideal) .f32 (constantI S_ 32 0#32)) pads_S1024x448_S1024x512_000_0640 h_S_ := by
  rfl

set_option maxHeartbeats 2000000 in
theorem weights_eq (c : Dev nD) : (V m c main_v19 : Vec Ideal S1024x2432 .bf16) =
    truncf .bf16 (concatenate S1024x2432 1 [⟨S1024x1920, (V m c main_v17 : Vec Ideal S1024x1920 .f32)⟩,
      ⟨S1024x512, (V m c main_v8 : Vec Ideal S1024x512 .f32)⟩]
      concatenates_S1024x1920_S1024x512_S1024x2432_d1 : FVec Ideal S1024x2432 .f32) bitsLt_bf16_f32 := by
  rfl

theorem cols_apply (a : FVec Ideal S1024x1920 .f32) (b : FVec Ideal S1024x512 .f32) (i : Fin 1024) (j : Fin 2432) :
    (truncf .bf16 (concatenate S1024x2432 1 [⟨S1024x1920, a⟩, ⟨S1024x512, b⟩]
      concatenates_S1024x1920_S1024x512_S1024x2432_d1 : FVec Ideal S1024x2432 .f32) bitsLt_bf16_f32 :
        FVec Ideal S1024x2432 .bf16) (ix2 i j) =
      if h : j.val < 1920 then a (ix2 i ⟨j.val, h⟩) else b (ix2 i ⟨j.val - 1920, by omega⟩) := by
  pointwise

theorem flat_apply (w : FVec Ideal S1x1024x2112 .f32) (i : Fin 1024) (j : Fin 2112) :
    shapeCast S1024x2112 w shapeCasts_S1x1024x2112_S1024x2112 (ix2 i j) = wMat w i j := by
  pointwise
  rfl

theorem rows_apply (c : Dev nD) (t : Fin grid0.N) (r : Fin 512) (d : Fin 1024) (R : Fin 1024)
    (hR : R.val = 512 * t.val + r.val) :
    (iblk m c 0 t : Vec Ideal S512x1024 .f32) (ix2 r d) =
      rowOf (φ := .f32) (m (c, Proc.tc.devRef main_arg0) : Vec Ideal S1024x1024 .f32) R d := by
  have e : (iblk m c 0 t : Vec Ideal S512x1024 .f32) (ix2 r d) = (V m c main_arg0 : Vec Ideal S1024x1024 .f32) (ix2 R d) := by
    refine congrArg (V m c main_arg0 : Vec Ideal S1024x1024 .f32) (funext fun a => Fin.ext ?_)
    blk_simp [index0 t]
    fin_cases a
    · simp [ix2, hR]; omega
    · simp [ix2]
  refine e.trans ?_
  rfl

theorem norm_eq (c : Dev nD) : (V m c main_v22 : Vec Ideal S1x1024 .f32) =
    shapeCast S1x1024 (shapeCast S1024 (extractStridedSlice S1x1024 ![1, 0] (m (c, Proc.tc.devRef main_arg1))
      slices_S2x1024_S1x1024_1_0) shapeCasts_S1x1024_S1024) shapeCasts_S1024_S1x1024 := by
  rfl

theorem norm_apply (c : Dev nD) (t : Fin grid0.N) (j : Fin 1024) :
    (iblk m c 1 t : Vec Ideal S1x1024 .f32) (ix2 0 j) = gRow (m (c, Proc.tc.devRef main_arg1)) j := by
  have e : (iblk m c 1 t : Vec Ideal S1x1024 .f32) (ix2 0 j) = (V m c main_v22 : Vec Ideal S1x1024 .f32) (ix2 0 j) := by
    refine congrArg (V m c main_v22 : Vec Ideal S1x1024 .f32) (funext fun a => Fin.ext ?_)
    blk_simp [index1 t]
    fin_cases a <;> simp [ix2]
  refine e.trans ?_
  rw [norm_eq]
  pointwise
  rfl

theorem weights_entry (c : Dev nD) (t : Fin grid0.N) (i : Fin 1024) (j : Fin 2432) :
    (iblk m c 2 t : Vec Ideal S1024x2432 .bf16) (ix2 i j) = (V m c main_v19 : Vec Ideal S1024x2432 .bf16) (ix2 i j) := by
  refine congrArg (V m c main_v19 : Vec Ideal S1024x2432 .bf16) (funext fun a => Fin.ext ?_)
  blk_simp [index2 t]
  fin_cases a <;> simp [ix2]

/-- The kernel's second part of the weights, from the weights. -/
theorem d_cols (c : Dev nD) : (V m c main_v8 : Vec Ideal S1024x512 .f32) =
    colsD (V m c main_v0 : Vec Ideal S1024x2112 .f32) (swapped (extractStridedSlice S1024x32 ![0, 384]
      (extractStridedSlice S1024x416 ![0, 1696] (V m c main_v0 : Vec Ideal S1024x2112 .f32)
        slices_S1024x2112_S1024x416_0_1696) slices_S1024x416_S1024x32_0_384)) := by
  rw [d_eq, side_eq, swapped_eq, turned_eq, halves_eq, latent_eq, key_eq]
  rfl

theorem weights_apply (c : Dev nD) (t : Fin grid0.N) (i : Fin 1024) (j : Fin 2432) :
    (iblk m c 2 t : Vec Ideal S1024x2432 .bf16) (ix2 i j) = spread (wMat (m (c, Proc.tc.devRef main_arg2)) i) j := by
  refine (weights_entry m c t i j).trans ?_
  have e : (fun d => shapeCast S1024x2112 (m (c, Proc.tc.devRef main_arg2) : Vec Ideal S1x1024x2112 .f32)
      shapeCasts_S1x1024x2112_S1024x2112 (ix2 i d)) = wMat (m (c, Proc.tc.devRef main_arg2)) i :=
    funext fun d => flat_apply _ i d
  rw [weights_eq, cols_apply, c_eq, d_cols, flat_eq]
  by_cases h : j.val < 1920
  · rw [dif_pos h, colsC_apply, e]
  · rw [dif_neg h, colsD_apply, e]
    exact congrArg _ (Fin.ext (by simp only; omega))

/-- A grid point's products. -/
theorem point_prod (c : Dev nD) (t : Fin grid0.N) (r : Fin 512) (d : Fin 2432) (R : Fin 1024)
    (hR : R.val = 512 * t.val + r.val) :
    k0_pay1 (F := Ideal) (iblk m c 0 t) (iblk m c 1 t) (iblk m c 2 t) (ix2 r d) =
      spread (z (m (c, Proc.tc.devRef main_arg0)) (m (c, Proc.tc.devRef main_arg1))
        (m (c, Proc.tc.devRef main_arg2)) R) d := by
  refine (prod_apply _ _ _ r d).trans ?_
  have e0 : rowOf (φ := .f32) (iblk m c 0 t : Vec Ideal S512x1024 .f32) r =
      rowOf (φ := .f32) (m (c, Proc.tc.devRef main_arg0) : Vec Ideal S1024x1024 .f32) R :=
    funext fun j => rows_apply m c t r j R hR
  have e1 : rowOf (φ := .f32) (iblk m c 1 t : Vec Ideal S1x1024 .f32) 0 = gRow (m (c, Proc.tc.devRef main_arg1)) :=
    funext fun j => norm_apply m c t j
  rw [e0, e1]
  refine Eq.trans ?_ (prod_spread _ _ _ d)
  exact Finset.sum_congr rfl fun k _ => congrArg (_ * ·) (weights_apply m c t k d)

/-- The recurrence's columns and the latent attention's, row after row. -/
def cArr (x : FVec Ideal S1024x1024 .f32) (g : FVec Ideal S2x1024 .f32) (w : FVec Ideal S1x1024x2112 .f32) :
    FVec Ideal S1024x1920 .f32 := fun y =>
  spread (z x g w (y 0)) ⟨(y 1).val, Nat.lt_trans (y 1).isLt (by decide)⟩

def dArr (x : FVec Ideal S1024x1024 .f32) (g : FVec Ideal S2x1024 .f32) (w : FVec Ideal S1x1024x2112 .f32) :
    FVec Ideal S1024x512 .f32 := fun y =>
  spread (z x g w (y 0)) ⟨1920 + (y 1).val, Nat.add_lt_add_left (y 1).isLt 1920⟩

theorem c_final (c : Dev nD) : (dats m 0 c).arrAt 3 cfg0.N =
    cArr (m (c, Proc.tc.devRef main_arg0)) (m (c, Proc.tc.devRef main_arg1)) (m (c, Proc.tc.devRef main_arg2)) := by
  refine (dats m 0 c).arrAt_eq_of_covers 3 _ (by decide +kernel) fun t hf y => ?_
  blk_simp
  rw [after0_3]
  change S512x1920.Idx at y
  obtain ⟨r, d, rfl⟩ : ∃ (r : Fin 512) (d : Fin 1920), y = ix2 r d := ⟨y 0, y 1, eq_ix2 y⟩
  have hr := r.isLt
  have ht : t.val < 2 := lt_of_lt_of_eq t.isLt N_0
  have e : (win0_3.blk t).view.emb (ix2 r d) = ix2 (⟨512 * t.val + r.val, by omega⟩ : Fin 1024) d := by
    funext a
    refine Fin.ext ?_
    blk_simp [index3 t]
    fin_cases a
    · simp [ix2]; omega
    · simp [ix2]
  refine Eq.trans ?_ (congrArg (cArr (m (c, Proc.tc.devRef main_arg0)) (m (c, Proc.tc.devRef main_arg1)) (m (c, Proc.tc.devRef main_arg2))) e.symm)
  refine (c_apply _ _ _ r d).trans ?_
  rw [point_prod m c t r _ ⟨512 * t.val + r.val, by omega⟩ rfl]
  rfl

theorem d_final (c : Dev nD) : (dats m 0 c).arrAt 4 cfg0.N =
    dArr (m (c, Proc.tc.devRef main_arg0)) (m (c, Proc.tc.devRef main_arg1)) (m (c, Proc.tc.devRef main_arg2)) := by
  refine (dats m 0 c).arrAt_eq_of_covers 4 _ (by decide +kernel) fun t hf y => ?_
  blk_simp
  rw [after0_4]
  change S512x512.Idx at y
  obtain ⟨r, d, rfl⟩ : ∃ (r : Fin 512) (d : Fin 512), y = ix2 r d := ⟨y 0, y 1, eq_ix2 y⟩
  have hr := r.isLt
  have ht : t.val < 2 := lt_of_lt_of_eq t.isLt N_0
  have e : (win0_4.blk t).view.emb (ix2 r d) = ix2 (⟨512 * t.val + r.val, by omega⟩ : Fin 1024) d := by
    funext a
    refine Fin.ext ?_
    blk_simp [index4 t]
    fin_cases a
    · simp [ix2]; omega
    · simp [ix2]
  refine Eq.trans ?_ (congrArg (dArr (m (c, Proc.tc.devRef main_arg0)) (m (c, Proc.tc.devRef main_arg1)) (m (c, Proc.tc.devRef main_arg2))) e.symm)
  refine (d_apply _ _ _ r d).trans ?_
  rw [point_prod m c t r _ ⟨512 * t.val + r.val, by omega⟩ rfl]
  rfl

end Proof.Odd.Sample

end
-- ==== Proof.Odd.Sample.Ref.lean ====
module

public import proofs.«01_k».proof.Proof.Gen.Reference10Ideal.Run
public import proofs.«01_k».proof.Proof.Odd.Sample.Array
public import Idealize.ShloMosaic.Lib.Pointwise

/-!
The second layer's projection of the sample: the reference's two arrays are the kernel's.
-/

@[expose] public section

set_option maxRecDepth 16384

noncomputable section

namespace Proof.Odd.Sample.Ref

open Idealize.ShloMosaic Idealize.ShloMosaic.TcCoe Cert.Reference10Ideal Cert.Reference10Ideal.Gen Proof.Ffn Proof.Odd

/-- The normalised rows. -/
def normed (h : FVec Ideal S1024x1024 .f32) (g : FVec Ideal S2x1024 .f32) : FVec Ideal S1024x1024 .f32 :=
  mulf (mulf h (broadcastInDim S1024x1024 ![0, 1] bcast_S1024x1_S1024x1024_0_1 (Host.rsqrt (addf (Host.divf (broadcastInDim S1024x1 ![0] bcast_S1024_S1024x1_0 (Host.reduceAdd (mulf h h) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 (shapeCast S1024 (extractStridedSlice S1x1024 ![1, 0] g slices_S2x1024_S1x1024_1_0) shapeCasts_S1x1024_S1024)))

/-- Their product with the weights. -/
def proj (n : FVec Ideal S1024x1024 .f32) (w : FVec Ideal S1x1024x2112 .f32) : FVec Ideal S1024x2112 .f32 :=
  Host.dotGeneral dot_S1024x1024_S1024x2112_S1024x2112_1_0_0_1_n_n none n (shapeCast S1024x2112 w shapeCasts_S1x1024x2112_S1024x2112)

/-- The recurrence's columns, the low-rank parts followed by zeros. -/
def partC (p : FVec Ideal S1024x2112 .f32) : FVec Ideal S1024x1920 .f32 :=
  concatenate S1024x1920 1
    [⟨S1024x1536, extractStridedSlice S1024x1536 ![0, 0] (extractStridedSlice S1024x1696 ![0, 0] p
        slices_S1024x2112_S1024x1696_0_0) slices_S1024x1696_S1024x1536_0_0⟩,
      ⟨S1024x128, pad S1024x128 ![0, 0] ![0, 96] ![0, 0] (extractStridedSlice S1024x32 ![0, 1536]
        (extractStridedSlice S1024x1696 ![0, 0] p slices_S1024x2112_S1024x1696_0_0) slices_S1024x1696_S1024x32_0_1536)
        (sitofp (F := Ideal) .f32 (constantI S_ 32 0#32)) pads_S1024x32_S1024x128_000_0960 h_S_⟩,
      ⟨S1024x128, pad S1024x128 ![0, 0] ![0, 96] ![0, 0] (extractStridedSlice S1024x32 ![0, 1568]
        (extractStridedSlice S1024x1696 ![0, 0] p slices_S1024x2112_S1024x1696_0_0) slices_S1024x1696_S1024x32_0_1568)
        (sitofp (F := Ideal) .f32 (constantI S_ 32 0#32)) pads_S1024x32_S1024x128_000_0960 h_S_⟩,
      ⟨S1024x128, pad S1024x128 ![0, 0] ![0, 32] ![0, 0] (extractStridedSlice S1024x96 ![0, 1600]
        (extractStridedSlice S1024x1696 ![0, 0] p slices_S1024x2112_S1024x1696_0_0) slices_S1024x1696_S1024x96_0_1600)
        (sitofp (F := Ideal) .f32 (constantI S_ 32 0#32)) pads_S1024x96_S1024x128_000_0320 h_S_⟩]
    concatenates_S1024x1536_S1024x128_S1024x128_S1024x128_S1024x1920_d1

/-- The latent attention's columns, then the rotary key's halves in the other order, then zeros. -/
def partD (p : FVec Ideal S1024x2112 .f32) : FVec Ideal S1024x512 .f32 :=
  pad S1024x512 ![0, 0] ![0, 64] ![0, 0] (concatenate S1024x448 1
    [⟨S1024x416, extractStridedSlice S1024x416 ![0, 1696] p slices_S1024x2112_S1024x416_0_1696⟩,
      ⟨S1024x16, extractStridedSlice S1024x16 ![0, 400] (extractStridedSlice S1024x416 ![0, 1696] p
        slices_S1024x2112_S1024x416_0_1696) slices_S1024x416_S1024x16_0_400⟩,
      ⟨S1024x16, extractStridedSlice S1024x16 ![0, 384] (extractStridedSlice S1024x416 ![0, 1696] p
        slices_S1024x2112_S1024x416_0_1696) slices_S1024x416_S1024x16_0_384⟩]
      concatenates_S1024x416_S1024x16_S1024x16_S1024x448_d1 : FVec Ideal S1024x448 .f32)
    (sitofp (F := Ideal) .f32 (constantI S_ 32 0#32)) pads_S1024x448_S1024x512_000_0640 h_S_

theorem normed_apply (h : FVec Ideal S1024x1024 .f32) (g : FVec Ideal S2x1024 .f32) (R : Fin 1024)
    (d : Fin 1024) : normed h g (ix2 R d) = rms (rowOf h R) (gRow g) d := by
  pointwise [normed]
  rfl

theorem proj_apply (n : FVec Ideal S1024x1024 .f32) (w : FVec Ideal S1x1024x2112 .f32) (R : Fin 1024)
    (d : Fin 2112) : proj n w (ix2 R d) = ∑ c : Fin 1024, n (ix2 R c) * wMat w c d := by
  pointwise [proj]
  rfl

theorem z_apply (x : FVec Ideal S1024x1024 .f32) (g : FVec Ideal S2x1024 .f32) (w : FVec Ideal S1x1024x2112 .f32)
    (R : Fin 1024) (d : Fin 2112) : proj (normed x g) w (ix2 R d) = z x g w R d := by
  rw [proj_apply]
  simp only [normed_apply]
  rfl

theorem partC_apply (p : FVec Ideal S1024x2112 .f32) (R : Fin 1024) (j : Fin 1920) :
    partC p (ix2 R j) = spread (fun d => p (ix2 R d)) ⟨j.val, by omega⟩ := by
  pointwise [partC]
  exact parts_c (fun d => p (ix2 R d)) j _ zero_word

theorem partD_apply (p : FVec Ideal S1024x2112 .f32) (R : Fin 1024) (j : Fin 512) :
    partD p (ix2 R j) = spread (fun d => p (ix2 R d)) ⟨1920 + j.val, by omega⟩ := by
  pointwise [partD]
  exact parts_e (fun d => p (ix2 R d)) j _ zero_word

section Arrays

variable (x : FVec Ideal S1024x1024 .f32) (g : FVec Ideal S2x1024 .f32) (w : FVec Ideal S1x1024x2112 .f32)

theorem c_eq : partC (proj (normed x g) w) = cArr x g w := by
  funext y
  obtain ⟨R, d, rfl⟩ : ∃ (R : Fin 1024) (d : Fin 1920), y = ix2 R d := ⟨y 0, y 1, eq_ix2 y⟩
  rw [partC_apply, funext (z_apply x g w R)]
  rfl

theorem d_eq : partD (proj (normed x g) w) = dArr x g w := by
  funext y
  obtain ⟨R, d, rfl⟩ : ∃ (R : Fin 1024) (d : Fin 512), y = ix2 R d := ⟨y 0, y 1, eq_ix2 y⟩
  rw [partD_apply, funext (z_apply x g w R)]
  rfl

end Arrays

/-- What the reference leaves for the recurrence's columns, by name. -/
theorem c_res (m : (ℓ : Loc nD τ sig) → Buf (Elt Ideal) ℓ) (c : Dev nD) :
    Cert.Reference10Ideal.Value.res_main_v26 m c =
      partC (proj (normed (m ((c.tc : Thread nD τ).loc main_arg0)) (m ((c.tc : Thread nD τ).loc main_arg1)))
        (m ((c.tc : Thread nD τ).loc main_arg2))) := by
  rfl

end Proof.Odd.Sample.Ref

end
-- ==== Proof.lean ====
/- The proof of the certificate's claims. The attention kernel runs to its end, its idealised form differs from
   it in the named constants only, and on finite arguments the idealised kernel and its reference compute the
   same array. The feed-forward kernel, in the last layer's form and in the first's, runs to its end on the
   prompt and on the sample, and on all arguments it and its reference compute the same two arrays. The
   forgetting attention kernel runs to its end, its idealised form differs from it in the named constant only,
   and on finite arguments the idealised kernel and its reference compute the same array. The first layer's
   projection kernel runs to its end on the prompt and on the sample, and on all arguments it and its reference
   compute the same five arrays; so does the second layer's, and it and its reference compute the same two. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Finite
public import proofs.«01_k».proof.Proof.Mla.Final
public import proofs.«01_k».proof.Proof.Ffn.Array
public import proofs.«01_k».proof.Proof.Ffn.Ref
public import proofs.«01_k».proof.Proof.Ffn.Sample.Array
public import proofs.«01_k».proof.Proof.Ffn.Sample.Ref
public import proofs.«01_k».proof.Proof.Ffn.First.Array
public import proofs.«01_k».proof.Proof.Ffn.First.Ref
public import proofs.«01_k».proof.Proof.Ffn.First.Sample.Array
public import proofs.«01_k».proof.Proof.Ffn.First.Sample.Ref
public import proofs.«01_k».proof.Proof.Fox.Finite
public import proofs.«01_k».proof.Proof.Even.Prompt.Ref
public import proofs.«01_k».proof.Proof.Even.Sample.Ref
public import proofs.«01_k».proof.Proof.Odd.Prompt.Ref
public import proofs.«01_k».proof.Proof.Odd.Sample.Ref
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs to its end and leaves every semaphore at zero. -/
theorem reference_frame : quiescent_ReferenceIdeal :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On finite arguments the reference's array is the kernel's. -/
theorem arrays_eq (m : (ℓ : Loc KernelIdeal.nD KernelIdeal.τ KernelIdeal.sig) → Buf (Elt Ideal) ℓ)
    (h : Pre_KernelIdeal_finite m) (c : Dev KernelIdeal.nD) :
    Proof.Mla.attnArr (KernelIdeal.Gen.V m c KernelIdeal.main_v3) (KernelIdeal.Gen.V m c KernelIdeal.main_v9)
        (KernelIdeal.Gen.V m c KernelIdeal.main_v5) =
      Proof.Mla.Ref.average (m ((c : Thread KernelIdeal.nD KernelIdeal.τ).loc KernelIdeal.main_arg2))
        (Proof.Mla.Ref.weights (Proof.Mla.Ref.scores
          (m ((c : Thread KernelIdeal.nD KernelIdeal.τ).loc KernelIdeal.main_arg0))
          (m ((c : Thread KernelIdeal.nD KernelIdeal.τ).loc KernelIdeal.main_arg1))
          (m ((c : Thread KernelIdeal.nD KernelIdeal.τ).loc KernelIdeal.main_arg2))
          (m ((c : Thread KernelIdeal.nD KernelIdeal.τ).loc KernelIdeal.main_arg3)))) := by
  obtain ⟨h0, h1, h2, h3⟩ := h c
  funext y
  have hy : y = ix3 (y 0) (y 1) (y 2) := by
    funext a
    fin_cases a <;> rfl
  refine Eq.trans ?_ (congrArg _ hy.symm)
  exact Proof.Mla.attn_eq (Proof.Finite.real_arg0 h0) (Proof.Finite.real_arg1 h1) (Proof.Finite.real_arg2 h2)
    (Proof.Finite.real_arg3 h3) (y 0) (y 1) (y 2) _ _
    (Proof.Mla.rowScore_entry m c (y 0) (y 1)) (Proof.Mla.colVal_entry m c (y 0) (y 2))

theorem algebraic : algebraic_KernelIdeal_ReferenceIdeal_pre_finite :=
  fun m ρ m' ρ' hp hag =>
    ⟨fun c => Proof.Mla.attnArr (KernelIdeal.Gen.V m c KernelIdeal.main_v3) (KernelIdeal.Gen.V m c KernelIdeal.main_v9)
        (KernelIdeal.Gen.V m c KernelIdeal.main_v5),
      (θ_run _ _ _).mono (fun _ h c => ⟨(h c).1.trans (Proof.Mla.final m c), (h c).2⟩)
        (Cert.KernelIdeal.Value.run_blocks m ρ),
      (θ_run _ _ _).mono (fun _ h c => ⟨(h c).1.trans (by
          refine Eq.trans ?_ (arrays_eq m hp c).symm
          rw [← (hag c).1, ← (hag c).2.1, ← (hag c).2.2.1, ← (hag c).2.2.2]
          exact Proof.Mla.Ref.res_eq m' c), (h c).2⟩)
        (Cert.ReferenceIdeal.Value.run m' ρ')⟩

/-- The feed-forward reference runs to its end and leaves every semaphore at zero. -/
theorem reference2_frame : quiescent_Reference2Ideal :=
  fun m ρ _ => (θ_run Cert.Reference2Ideal.defs _ _).mono
    (fun r h => ⟨fun c => (h c).2.2, Idealize.ShloMosaic.sem_eq_zero_of_no_sems (by decide) r.2⟩)
    (Cert.Reference2Ideal.Value.run (F := Ideal) m ρ)

theorem algebraic2 : algebraic_Kernel2Ideal_Reference2Ideal :=
  fun m ρ m' ρ' _ hag =>
    ⟨fun c => Proof.Ffn.layerOut (Proof.Ffn.weights m c)
        (m ((c : Thread Kernel2Ideal.nD Kernel2Ideal.τ).loc Kernel2Ideal.main_arg0))
        (m ((c : Thread Kernel2Ideal.nD Kernel2Ideal.τ).loc Kernel2Ideal.main_arg1))
        (m ((c : Thread Kernel2Ideal.nD Kernel2Ideal.τ).loc Kernel2Ideal.main_arg2)),
      fun c => Proof.Ffn.layerTail (Proof.Ffn.weights m c)
        (m ((c : Thread Kernel2Ideal.nD Kernel2Ideal.τ).loc Kernel2Ideal.main_arg0)),
      (θ_run _ _ _).mono (fun _ h c => ⟨(h c).1.trans (Proof.Ffn.out_array m c),
          (h c).2.1.trans (Proof.Ffn.tail_array m c), (h c).2.2⟩)
        (Cert.Kernel2Ideal.Value.run m ρ),
      (θ_run _ _ _).mono (fun _ h c => by
          obtain ⟨h0, h1, h2, h3, h4, h5, h6, h7, h8, h9, h10, h11, h12⟩ := hag c
          refine ⟨(h c).1.trans ?_, (h c).2.1.trans ?_, (h c).2.2⟩
          · refine (Proof.Ffn.Ref.out_res m' c).trans ((Proof.Ffn.Ref.out_eq _ _ _ _ _ _ _ _ _ _ _ _ _).trans ?_)
            rw [h0, h1, h2, h3, h4, h5, h6, h7, h8, h9, h10, h11, h12]
          · refine (Proof.Ffn.Ref.tail_res m' c).trans ((Proof.Ffn.Ref.tail_eq _ _ _ _
              (m' ((c.tc : Thread Reference2Ideal.nD Reference2Ideal.τ).loc Reference2Ideal.main_arg5))
              (m' ((c.tc : Thread Reference2Ideal.nD Reference2Ideal.τ).loc Reference2Ideal.main_arg6))
              (m' ((c.tc : Thread Reference2Ideal.nD Reference2Ideal.τ).loc Reference2Ideal.main_arg7))
              (m' ((c.tc : Thread Reference2Ideal.nD Reference2Ideal.τ).loc Reference2Ideal.main_arg8))
              (m' ((c.tc : Thread Reference2Ideal.nD Reference2Ideal.τ).loc Reference2Ideal.main_arg9))
              (m' ((c.tc : Thread Reference2Ideal.nD Reference2Ideal.τ).loc Reference2Ideal.main_arg10))
              (m' ((c.tc : Thread Reference2Ideal.nD Reference2Ideal.τ).loc Reference2Ideal.main_arg11))
              (m' ((c.tc : Thread Reference2Ideal.nD Reference2Ideal.τ).loc Reference2Ideal.main_arg12))).trans ?_)
            rw [h0, h3, h4, h5, h6, h7, h8, h9, h10, h11, h12])
        (Cert.Reference2Ideal.Value.run (F := Ideal) m' ρ')⟩

/-- The forgetting attention reference runs to its end and leaves every semaphore at zero. -/
theorem reference3_frame : quiescent_Reference3Ideal :=
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- On finite arguments the forgetting attention reference's array is the kernel's. -/
theorem arrays3_eq (m : (ℓ : Loc Kernel3Ideal.nD Kernel3Ideal.τ Kernel3Ideal.sig) → Buf (Elt Ideal) ℓ)
    (h : Pre_Kernel3Ideal_finite3 m) (c : Dev Kernel3Ideal.nD) :
    Proof.Fox.attnArr (Kernel3Ideal.Gen.V m c Kernel3Ideal.main_v23) (Kernel3Ideal.Gen.V m c Kernel3Ideal.main_v25)
        (Kernel3Ideal.Gen.V m c Kernel3Ideal.main_v32) =
      Proof.Fox.Ref.average (m ((c : Thread Kernel3Ideal.nD Kernel3Ideal.τ).loc Kernel3Ideal.main_arg5))
        (Proof.Fox.Ref.weights (Proof.Fox.Ref.scores
          (m ((c : Thread Kernel3Ideal.nD Kernel3Ideal.τ).loc Kernel3Ideal.main_arg0))
          (m ((c : Thread Kernel3Ideal.nD Kernel3Ideal.τ).loc Kernel3Ideal.main_arg1))
          (m ((c : Thread Kernel3Ideal.nD Kernel3Ideal.τ).loc Kernel3Ideal.main_arg2))
          (m ((c : Thread Kernel3Ideal.nD Kernel3Ideal.τ).loc Kernel3Ideal.main_arg3))
          (m ((c : Thread Kernel3Ideal.nD Kernel3Ideal.τ).loc Kernel3Ideal.main_arg4)))) := by
  obtain ⟨h0, h1, h2, h3, h4, h5⟩ := h c
  funext y
  have hy : y = ix3 (y 0) (y 1) (y 2) := by
    funext a
    fin_cases a <;> rfl
  refine Eq.trans ?_ (congrArg _ hy.symm)
  exact Proof.Fox.attn_eq (Proof.Fox.real_arg0 h0) (Proof.Fox.real_arg1 h1) (Proof.Fox.real_arg2 h2)
    (Proof.Fox.real_arg3 h3) (Proof.Fox.real_arg4 h4) (Proof.Fox.real_arg5 h5) (y 0) (y 1) (y 2) _ _ _
    (Proof.Fox.rowScore_entry m c (y 0) (y 1)) (Proof.Fox.colVal_entry m c (y 0) (y 2))
    (Proof.Fox.colVal_one m c (y 0))

theorem algebraic3 : algebraic_Kernel3Ideal_Reference3Ideal_pre_finite3 :=
  fun m ρ m' ρ' hp hag =>
    ⟨fun c => Proof.Fox.attnArr (Kernel3Ideal.Gen.V m c Kernel3Ideal.main_v23)
        (Kernel3Ideal.Gen.V m c Kernel3Ideal.main_v25) (Kernel3Ideal.Gen.V m c Kernel3Ideal.main_v32),
      (θ_run _ _ _).mono (fun _ h c => ⟨(h c).1.trans (Proof.Fox.final m c), (h c).2⟩)
        (Cert.Kernel3Ideal.Value.run_blocks m ρ),
      (θ_run _ _ _).mono (fun _ h c => ⟨(h c).1.trans (by
          refine Eq.trans ?_ (arrays3_eq m hp c).symm
          obtain ⟨g0, g1, g2, g3, g4, g5⟩ := hag c
          rw [← g0, ← g1, ← g2, ← g3, ← g4, ← g5]
          exact Proof.Fox.Ref.res_eq m' c), (h c).2⟩)
        (Cert.Reference3Ideal.Value.run m' ρ')⟩

/-- The reference of the prompt's projection runs to its end and leaves every semaphore at zero. -/
theorem reference4_frame : quiescent_Reference4Ideal :=
  fun m ρ _ => (θ_run Cert.Reference4Ideal.defs _ _).mono
    (fun r h => ⟨fun c => (h c).2.2.2.2.2, Idealize.ShloMosaic.sem_eq_zero_of_no_sems (by decide) r.2⟩)
    (Cert.Reference4Ideal.Value.run (F := Ideal) m ρ)

theorem algebraic4 : algebraic_Kernel4Ideal_Reference4Ideal :=
  fun m ρ m' ρ' _ hag =>
    ⟨fun c => Proof.Even.Prompt.qArr (m ((c : Thread Kernel4Ideal.nD Kernel4Ideal.τ).loc Kernel4Ideal.main_arg0))
        (m ((c : Thread Kernel4Ideal.nD Kernel4Ideal.τ).loc Kernel4Ideal.main_arg1))
        (m ((c : Thread Kernel4Ideal.nD Kernel4Ideal.τ).loc Kernel4Ideal.main_arg2)),
      fun c => Proof.Even.Prompt.kArr (m ((c : Thread Kernel4Ideal.nD Kernel4Ideal.τ).loc Kernel4Ideal.main_arg0))
        (m ((c : Thread Kernel4Ideal.nD Kernel4Ideal.τ).loc Kernel4Ideal.main_arg1))
        (m ((c : Thread Kernel4Ideal.nD Kernel4Ideal.τ).loc Kernel4Ideal.main_arg2)),
      fun c => Proof.Even.Prompt.vArr (m ((c : Thread Kernel4Ideal.nD Kernel4Ideal.τ).loc Kernel4Ideal.main_arg0))
        (m ((c : Thread Kernel4Ideal.nD Kernel4Ideal.τ).loc Kernel4Ideal.main_arg1))
        (m ((c : Thread Kernel4Ideal.nD Kernel4Ideal.τ).loc Kernel4Ideal.main_arg2)),
      fun c => Proof.Even.Prompt.uArr (m ((c : Thread Kernel4Ideal.nD Kernel4Ideal.τ).loc Kernel4Ideal.main_arg0))
        (m ((c : Thread Kernel4Ideal.nD Kernel4Ideal.τ).loc Kernel4Ideal.main_arg1))
        (m ((c : Thread Kernel4Ideal.nD Kernel4Ideal.τ).loc Kernel4Ideal.main_arg2)),
      fun c => Proof.Even.Prompt.lfArr (m ((c : Thread Kernel4Ideal.nD Kernel4Ideal.τ).loc Kernel4Ideal.main_arg0))
        (m ((c : Thread Kernel4Ideal.nD Kernel4Ideal.τ).loc Kernel4Ideal.main_arg1))
        (m ((c : Thread Kernel4Ideal.nD Kernel4Ideal.τ).loc Kernel4Ideal.main_arg2))
        (m ((c : Thread Kernel4Ideal.nD Kernel4Ideal.τ).loc Kernel4Ideal.main_arg3)),
      (θ_run _ _ _).mono (fun _ h c => ⟨(h c).1.trans (Proof.Even.Prompt.q_final m c),
          (h c).2.1.trans (Proof.Even.Prompt.k_final m c), (h c).2.2.1.trans (Proof.Even.Prompt.v_final m c),
          (h c).2.2.2.1.trans (Proof.Even.Prompt.u_final m c), (h c).2.2.2.2.1.trans (Proof.Even.Prompt.lf_final m c),
          (h c).2.2.2.2.2⟩)
        (Cert.Kernel4Ideal.Value.run_blocks m ρ),
      (θ_run _ _ _).mono (fun _ h c => by
          obtain ⟨h0, h1, h2, h3⟩ := hag c
          beta_reduce
          rw [← h0, ← h1, ← h2, ← h3]
          exact ⟨(h c).1.trans (Proof.Even.Prompt.Ref.q_eq _ _ _), (h c).2.1.trans (Proof.Even.Prompt.Ref.k_eq _ _ _),
            (h c).2.2.1.trans (Proof.Even.Prompt.Ref.v_eq _ _ _), (h c).2.2.2.1.trans (Proof.Even.Prompt.Ref.u_eq _ _ _),
            (h c).2.2.2.2.1.trans ((Proof.Even.Prompt.Ref.lf_res m' c).trans (Proof.Even.Prompt.Ref.lf_eq _ _ _ _)),
            (h c).2.2.2.2.2⟩)
        (Cert.Reference4Ideal.Value.run (F := Ideal) m' ρ')⟩

/-- The reference of the sample's projection runs to its end and leaves every semaphore at zero. -/
theorem reference5_frame : quiescent_Reference5Ideal :=
  fun m ρ _ => (θ_run Cert.Reference5Ideal.defs _ _).mono
    (fun r h => ⟨fun c => (h c).2.2.2.2.2, Idealize.ShloMosaic.sem_eq_zero_of_no_sems (by decide) r.2⟩)
    (Cert.Reference5Ideal.Value.run (F := Ideal) m ρ)

theorem algebraic5 : algebraic_Kernel5Ideal_Reference5Ideal :=
  fun m ρ m' ρ' _ hag =>
    ⟨fun c => Proof.Even.Sample.qArr (m ((c : Thread Kernel5Ideal.nD Kernel5Ideal.τ).loc Kernel5Ideal.main_arg0))
        (m ((c : Thread Kernel5Ideal.nD Kernel5Ideal.τ).loc Kernel5Ideal.main_arg1))
        (m ((c : Thread Kernel5Ideal.nD Kernel5Ideal.τ).loc Kernel5Ideal.main_arg2)),
      fun c => Proof.Even.Sample.kArr (m ((c : Thread Kernel5Ideal.nD Kernel5Ideal.τ).loc Kernel5Ideal.main_arg0))
        (m ((c : Thread Kernel5Ideal.nD Kernel5Ideal.τ).loc Kernel5Ideal.main_arg1))
        (m ((c : Thread Kernel5Ideal.nD Kernel5Ideal.τ).loc Kernel5Ideal.main_arg2)),
      fun c => Proof.Even.Sample.vArr (m ((c : Thread Kernel5Ideal.nD Kernel5Ideal.τ).loc Kernel5Ideal.main_arg0))
        (m ((c : Thread Kernel5Ideal.nD Kernel5Ideal.τ).loc Kernel5Ideal.main_arg1))
        (m ((c : Thread Kernel5Ideal.nD Kernel5Ideal.τ).loc Kernel5Ideal.main_arg2)),
      fun c => Proof.Even.Sample.uArr (m ((c : Thread Kernel5Ideal.nD Kernel5Ideal.τ).loc Kernel5Ideal.main_arg0))
        (m ((c : Thread Kernel5Ideal.nD Kernel5Ideal.τ).loc Kernel5Ideal.main_arg1))
        (m ((c : Thread Kernel5Ideal.nD Kernel5Ideal.τ).loc Kernel5Ideal.main_arg2)),
      fun c => Proof.Even.Sample.lfArr (m ((c : Thread Kernel5Ideal.nD Kernel5Ideal.τ).loc Kernel5Ideal.main_arg0))
        (m ((c : Thread Kernel5Ideal.nD Kernel5Ideal.τ).loc Kernel5Ideal.main_arg1))
        (m ((c : Thread Kernel5Ideal.nD Kernel5Ideal.τ).loc Kernel5Ideal.main_arg2))
        (m ((c : Thread Kernel5Ideal.nD Kernel5Ideal.τ).loc Kernel5Ideal.main_arg3)),
      (θ_run _ _ _).mono (fun _ h c => ⟨(h c).1.trans (Proof.Even.Sample.q_final m c),
          (h c).2.1.trans (Proof.Even.Sample.k_final m c), (h c).2.2.1.trans (Proof.Even.Sample.v_final m c),
          (h c).2.2.2.1.trans (Proof.Even.Sample.u_final m c), (h c).2.2.2.2.1.trans (Proof.Even.Sample.lf_final m c),
          (h c).2.2.2.2.2⟩)
        (Cert.Kernel5Ideal.Value.run_blocks m ρ),
      (θ_run _ _ _).mono (fun _ h c => by
          obtain ⟨h0, h1, h2, h3⟩ := hag c
          beta_reduce
          rw [← h0, ← h1, ← h2, ← h3]
          exact ⟨(h c).1.trans (Proof.Even.Sample.Ref.q_eq _ _ _), (h c).2.1.trans (Proof.Even.Sample.Ref.k_eq _ _ _),
            (h c).2.2.1.trans (Proof.Even.Sample.Ref.v_eq _ _ _), (h c).2.2.2.1.trans (Proof.Even.Sample.Ref.u_eq _ _ _),
            (h c).2.2.2.2.1.trans ((Proof.Even.Sample.Ref.lf_res m' c).trans (Proof.Even.Sample.Ref.lf_eq _ _ _ _)),
            (h c).2.2.2.2.2⟩)
        (Cert.Reference5Ideal.Value.run (F := Ideal) m' ρ')⟩

/-- The sample's feed-forward reference runs to its end and leaves every semaphore at zero. -/
theorem reference6_frame : quiescent_Reference6Ideal :=
  fun m ρ _ => (θ_run Cert.Reference6Ideal.defs _ _).mono
    (fun r h => ⟨fun c => (h c).2.2, Idealize.ShloMosaic.sem_eq_zero_of_no_sems (by decide) r.2⟩)
    (Cert.Reference6Ideal.Value.run (F := Ideal) m ρ)

theorem algebraic6 : algebraic_Kernel6Ideal_Reference6Ideal :=
  fun m ρ m' ρ' _ hag =>
    ⟨fun c => Proof.Ffn.Sample.layerOut (Proof.Ffn.Sample.weights m c)
        (m ((c : Thread Kernel6Ideal.nD Kernel6Ideal.τ).loc Kernel6Ideal.main_arg0))
        (m ((c : Thread Kernel6Ideal.nD Kernel6Ideal.τ).loc Kernel6Ideal.main_arg1))
        (m ((c : Thread Kernel6Ideal.nD Kernel6Ideal.τ).loc Kernel6Ideal.main_arg2)),
      fun c => Proof.Ffn.Sample.layerTail (Proof.Ffn.Sample.weights m c)
        (m ((c : Thread Kernel6Ideal.nD Kernel6Ideal.τ).loc Kernel6Ideal.main_arg0)),
      (θ_run _ _ _).mono (fun _ h c => ⟨(h c).1.trans (Proof.Ffn.Sample.out_final m c),
          (h c).2.1.trans (Proof.Ffn.Sample.tail_final m c), (h c).2.2⟩)
        (Cert.Kernel6Ideal.Value.run_blocks m ρ),
      (θ_run _ _ _).mono (fun _ h c => by
          obtain ⟨h0, h1, h2, h3, h4, h5, h6, h7, h8, h9, h10, h11, h12⟩ := hag c
          refine ⟨(h c).1.trans ?_, (h c).2.1.trans ?_, (h c).2.2⟩
          · refine (Proof.Ffn.Sample.Ref.out_res m' c).trans ((Proof.Ffn.Sample.Ref.out_eq _ _ _ _ _ _ _ _ _ _ _ _ _).trans ?_)
            rw [h0, h1, h2, h3, h4, h5, h6, h7, h8, h9, h10, h11, h12]
          · refine (Proof.Ffn.Sample.Ref.tail_res m' c).trans ((Proof.Ffn.Sample.Ref.tail_eq _ _ _ _
              (m' ((c.tc : Thread Reference6Ideal.nD Reference6Ideal.τ).loc Reference6Ideal.main_arg5))
              (m' ((c.tc : Thread Reference6Ideal.nD Reference6Ideal.τ).loc Reference6Ideal.main_arg6))
              (m' ((c.tc : Thread Reference6Ideal.nD Reference6Ideal.τ).loc Reference6Ideal.main_arg7))
              (m' ((c.tc : Thread Reference6Ideal.nD Reference6Ideal.τ).loc Reference6Ideal.main_arg8))
              (m' ((c.tc : Thread Reference6Ideal.nD Reference6Ideal.τ).loc Reference6Ideal.main_arg9))
              (m' ((c.tc : Thread Reference6Ideal.nD Reference6Ideal.τ).loc Reference6Ideal.main_arg10))
              (m' ((c.tc : Thread Reference6Ideal.nD Reference6Ideal.τ).loc Reference6Ideal.main_arg11))
              (m' ((c.tc : Thread Reference6Ideal.nD Reference6Ideal.τ).loc Reference6Ideal.main_arg12))).trans ?_)
            rw [h0, h3, h4, h5, h6, h7, h8, h9, h10, h11, h12])
        (Cert.Reference6Ideal.Value.run (F := Ideal) m' ρ')⟩

/-- The first layer's feed-forward reference runs to its end and leaves every semaphore at zero. -/
theorem reference7_frame : quiescent_Reference7Ideal :=
  fun m ρ _ => (θ_run Cert.Reference7Ideal.defs _ _).mono
    (fun r h => ⟨fun c => (h c).2.2, Idealize.ShloMosaic.sem_eq_zero_of_no_sems (by decide) r.2⟩)
    (Cert.Reference7Ideal.Value.run (F := Ideal) m ρ)

theorem algebraic7 : algebraic_Kernel7Ideal_Reference7Ideal :=
  fun m ρ m' ρ' _ hag =>
    ⟨fun c => Proof.Ffn.First.layerOut (Proof.Ffn.First.weights m c)
        (m ((c : Thread Kernel7Ideal.nD Kernel7Ideal.τ).loc Kernel7Ideal.main_arg0))
        (m ((c : Thread Kernel7Ideal.nD Kernel7Ideal.τ).loc Kernel7Ideal.main_arg1))
        (m ((c : Thread Kernel7Ideal.nD Kernel7Ideal.τ).loc Kernel7Ideal.main_arg2)),
      fun c => Proof.Ffn.layerTail (Proof.Ffn.First.weights m c)
        (m ((c : Thread Kernel7Ideal.nD Kernel7Ideal.τ).loc Kernel7Ideal.main_arg0)),
      (θ_run _ _ _).mono (fun _ h c => ⟨(h c).1.trans (Proof.Ffn.First.out_array m c),
          (h c).2.1.trans (Proof.Ffn.First.tail_array m c), (h c).2.2⟩)
        (Cert.Kernel7Ideal.Value.run m ρ),
      (θ_run _ _ _).mono (fun _ h c => by
          obtain ⟨h0, h1, h2, h3, h4, h5, h6, h7, h8, h9, h10, h11, h12⟩ := hag c
          refine ⟨(h c).1.trans ?_, (h c).2.1.trans ?_, (h c).2.2⟩
          · refine (Proof.Ffn.First.Ref.out_res m' c).trans ((Proof.Ffn.First.Ref.out_eq _ _ _ _ _ _ _ _ _ _ _ _ _).trans ?_)
            rw [h0, h1, h2, h3, h4, h5, h6, h7, h8, h9, h10, h11, h12]
          · refine (Proof.Ffn.First.Ref.tail_res m' c).trans ((Proof.Ffn.First.Ref.tail_eq _ _ _ _
              (m' ((c.tc : Thread Reference7Ideal.nD Reference7Ideal.τ).loc Reference7Ideal.main_arg5))
              (m' ((c.tc : Thread Reference7Ideal.nD Reference7Ideal.τ).loc Reference7Ideal.main_arg6))
              (m' ((c.tc : Thread Reference7Ideal.nD Reference7Ideal.τ).loc Reference7Ideal.main_arg7))
              (m' ((c.tc : Thread Reference7Ideal.nD Reference7Ideal.τ).loc Reference7Ideal.main_arg8))
              (m' ((c.tc : Thread Reference7Ideal.nD Reference7Ideal.τ).loc Reference7Ideal.main_arg9))
              (m' ((c.tc : Thread Reference7Ideal.nD Reference7Ideal.τ).loc Reference7Ideal.main_arg10))
              (m' ((c.tc : Thread Reference7Ideal.nD Reference7Ideal.τ).loc Reference7Ideal.main_arg11))
              (m' ((c.tc : Thread Reference7Ideal.nD Reference7Ideal.τ).loc Reference7Ideal.main_arg12))).trans ?_)
            rw [h0, h3, h4, h5, h6, h7, h8, h9, h10, h11, h12])
        (Cert.Reference7Ideal.Value.run (F := Ideal) m' ρ')⟩

/-- The first layer's feed-forward reference of the sample runs to its end and leaves every semaphore at zero. -/
theorem reference8_frame : quiescent_Reference8Ideal :=
  fun m ρ _ => (θ_run Cert.Reference8Ideal.defs _ _).mono
    (fun r h => ⟨fun c => (h c).2.2, Idealize.ShloMosaic.sem_eq_zero_of_no_sems (by decide) r.2⟩)
    (Cert.Reference8Ideal.Value.run (F := Ideal) m ρ)

theorem algebraic8 : algebraic_Kernel8Ideal_Reference8Ideal :=
  fun m ρ m' ρ' _ hag =>
    ⟨fun c => Proof.Ffn.First.Sample.layerOut (Proof.Ffn.First.Sample.weights m c)
        (m ((c : Thread Kernel8Ideal.nD Kernel8Ideal.τ).loc Kernel8Ideal.main_arg0))
        (m ((c : Thread Kernel8Ideal.nD Kernel8Ideal.τ).loc Kernel8Ideal.main_arg1))
        (m ((c : Thread Kernel8Ideal.nD Kernel8Ideal.τ).loc Kernel8Ideal.main_arg2)),
      fun c => Proof.Ffn.First.Sample.layerTail (Proof.Ffn.First.Sample.weights m c)
        (m ((c : Thread Kernel8Ideal.nD Kernel8Ideal.τ).loc Kernel8Ideal.main_arg0)),
      (θ_run _ _ _).mono (fun _ h c => ⟨(h c).1.trans (Proof.Ffn.First.Sample.out_final m c),
          (h c).2.1.trans (Proof.Ffn.First.Sample.tail_final m c), (h c).2.2⟩)
        (Cert.Kernel8Ideal.Value.run_blocks m ρ),
      (θ_run _ _ _).mono (fun _ h c => by
          obtain ⟨h0, h1, h2, h3, h4, h5, h6, h7, h8, h9, h10, h11, h12⟩ := hag c
          refine ⟨(h c).1.trans ?_, (h c).2.1.trans ?_, (h c).2.2⟩
          · refine (Proof.Ffn.First.Sample.Ref.out_res m' c).trans ((Proof.Ffn.First.Sample.Ref.out_eq _ _ _ _ _ _ _ _ _ _ _ _ _).trans ?_)
            rw [h0, h1, h2, h3, h4, h5, h6, h7, h8, h9, h10, h11, h12]
          · refine (Proof.Ffn.First.Sample.Ref.tail_res m' c).trans ((Proof.Ffn.First.Sample.Ref.tail_eq _ _ _ _
              (m' ((c.tc : Thread Reference8Ideal.nD Reference8Ideal.τ).loc Reference8Ideal.main_arg5))
              (m' ((c.tc : Thread Reference8Ideal.nD Reference8Ideal.τ).loc Reference8Ideal.main_arg6))
              (m' ((c.tc : Thread Reference8Ideal.nD Reference8Ideal.τ).loc Reference8Ideal.main_arg7))
              (m' ((c.tc : Thread Reference8Ideal.nD Reference8Ideal.τ).loc Reference8Ideal.main_arg8))
              (m' ((c.tc : Thread Reference8Ideal.nD Reference8Ideal.τ).loc Reference8Ideal.main_arg9))
              (m' ((c.tc : Thread Reference8Ideal.nD Reference8Ideal.τ).loc Reference8Ideal.main_arg10))
              (m' ((c.tc : Thread Reference8Ideal.nD Reference8Ideal.τ).loc Reference8Ideal.main_arg11))
              (m' ((c.tc : Thread Reference8Ideal.nD Reference8Ideal.τ).loc Reference8Ideal.main_arg12))).trans ?_)
            rw [h0, h3, h4, h5, h6, h7, h8, h9, h10, h11, h12])
        (Cert.Reference8Ideal.Value.run (F := Ideal) m' ρ')⟩

/-- The reference of the second layer's projection of the prompt runs to its end and leaves every semaphore at zero. -/
theorem reference9_frame : quiescent_Reference9Ideal :=
  fun m ρ _ => (θ_run Cert.Reference9Ideal.defs _ _).mono
    (fun r h => ⟨fun c => (h c).2.2, Idealize.ShloMosaic.sem_eq_zero_of_no_sems (by decide) r.2⟩)
    (Cert.Reference9Ideal.Value.run (F := Ideal) m ρ)

theorem algebraic9 : algebraic_Kernel9Ideal_Reference9Ideal :=
  fun m ρ m' ρ' _ hag =>
    ⟨fun c => Proof.Odd.Prompt.cArr (m ((c : Thread Kernel9Ideal.nD Kernel9Ideal.τ).loc Kernel9Ideal.main_arg0))
        (m ((c : Thread Kernel9Ideal.nD Kernel9Ideal.τ).loc Kernel9Ideal.main_arg1))
        (m ((c : Thread Kernel9Ideal.nD Kernel9Ideal.τ).loc Kernel9Ideal.main_arg2)),
      fun c => Proof.Odd.Prompt.dArr (m ((c : Thread Kernel9Ideal.nD Kernel9Ideal.τ).loc Kernel9Ideal.main_arg0))
        (m ((c : Thread Kernel9Ideal.nD Kernel9Ideal.τ).loc Kernel9Ideal.main_arg1))
        (m ((c : Thread Kernel9Ideal.nD Kernel9Ideal.τ).loc Kernel9Ideal.main_arg2)),
      (θ_run _ _ _).mono (fun _ h c => ⟨(h c).1.trans (Proof.Odd.Prompt.c_final m c),
          (h c).2.1.trans (Proof.Odd.Prompt.d_final m c), (h c).2.2⟩)
        (Cert.Kernel9Ideal.Value.run_blocks m ρ),
      (θ_run _ _ _).mono (fun _ h c => by
          obtain ⟨h0, h1, h2⟩ := hag c
          beta_reduce
          rw [← h0, ← h1, ← h2]
          exact ⟨(h c).1.trans ((Proof.Odd.Prompt.Ref.c_res m' c).trans (Proof.Odd.Prompt.Ref.c_eq _ _ _)),
            (h c).2.1.trans (Proof.Odd.Prompt.Ref.d_eq _ _ _), (h c).2.2⟩)
        (Cert.Reference9Ideal.Value.run (F := Ideal) m' ρ')⟩

/-- The reference of the second layer's projection of the sample runs to its end and leaves every semaphore at zero. -/
theorem reference10_frame : quiescent_Reference10Ideal :=
  fun m ρ _ => (θ_run Cert.Reference10Ideal.defs _ _).mono
    (fun r h => ⟨fun c => (h c).2.2, Idealize.ShloMosaic.sem_eq_zero_of_no_sems (by decide) r.2⟩)
    (Cert.Reference10Ideal.Value.run (F := Ideal) m ρ)

theorem algebraic10 : algebraic_Kernel10Ideal_Reference10Ideal :=
  fun m ρ m' ρ' _ hag =>
    ⟨fun c => Proof.Odd.Sample.cArr (m ((c : Thread Kernel10Ideal.nD Kernel10Ideal.τ).loc Kernel10Ideal.main_arg0))
        (m ((c : Thread Kernel10Ideal.nD Kernel10Ideal.τ).loc Kernel10Ideal.main_arg1))
        (m ((c : Thread Kernel10Ideal.nD Kernel10Ideal.τ).loc Kernel10Ideal.main_arg2)),
      fun c => Proof.Odd.Sample.dArr (m ((c : Thread Kernel10Ideal.nD Kernel10Ideal.τ).loc Kernel10Ideal.main_arg0))
        (m ((c : Thread Kernel10Ideal.nD Kernel10Ideal.τ).loc Kernel10Ideal.main_arg1))
        (m ((c : Thread Kernel10Ideal.nD Kernel10Ideal.τ).loc Kernel10Ideal.main_arg2)),
      (θ_run _ _ _).mono (fun _ h c => ⟨(h c).1.trans (Proof.Odd.Sample.c_final m c),
          (h c).2.1.trans (Proof.Odd.Sample.d_final m c), (h c).2.2⟩)
        (Cert.Kernel10Ideal.Value.run_blocks m ρ),
      (θ_run _ _ _).mono (fun _ h c => by
          obtain ⟨h0, h1, h2⟩ := hag c
          beta_reduce
          rw [← h0, ← h1, ← h2]
          exact ⟨(h c).1.trans ((Proof.Odd.Sample.Ref.c_res m' c).trans (Proof.Odd.Sample.Ref.c_eq _ _ _)),
            (h c).2.1.trans (Proof.Odd.Sample.Ref.d_eq _ _ _), (h c).2.2⟩)
        (Cert.Reference10Ideal.Value.run (F := Ideal) m' ρ')⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts,
    Proof.Finite.facts, Proof.Fox.finite_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Kernel2.Gen.frame m ρ,
    fun m ρ _ => Cert.Kernel2Ideal.Gen.frame m ρ,
    reference2_frame,
    fun m ρ _ => Cert.Kernel3.Gen.frame m ρ,
    fun m ρ _ => Cert.Kernel3Ideal.Gen.frame m ρ,
    fun m ρ _ => Cert.Kernel3Ideal.Gen.frame m ρ,
    reference3_frame,
    fun m ρ _ => reference3_frame m ρ trivial,
    fun m ρ _ => Cert.Kernel4.Gen.frame m ρ,
    fun m ρ _ => Cert.Kernel4Ideal.Gen.frame m ρ,
    reference4_frame,
    fun m ρ _ => Cert.Kernel5.Gen.frame m ρ,
    fun m ρ _ => Cert.Kernel5Ideal.Gen.frame m ρ,
    reference5_frame,
    fun m ρ _ => Cert.Kernel6.Gen.frame m ρ,
    fun m ρ _ => Cert.Kernel6Ideal.Gen.frame m ρ,
    reference6_frame,
    fun m ρ _ => Cert.Kernel7.Gen.frame m ρ,
    fun m ρ _ => Cert.Kernel7Ideal.Gen.frame m ρ,
    reference7_frame,
    fun m ρ _ => Cert.Kernel8.Gen.frame m ρ,
    fun m ρ _ => Cert.Kernel8Ideal.Gen.frame m ρ,
    reference8_frame,
    fun m ρ _ => Cert.Kernel9.Gen.frame m ρ,
    fun m ρ _ => Cert.Kernel9Ideal.Gen.frame m ρ,
    reference9_frame,
    fun m ρ _ => Cert.Kernel10.Gen.frame m ρ,
    fun m ρ _ => Cert.Kernel10Ideal.Gen.frame m ρ,
    reference10_frame,
    ⟨IdealRules.named_const.statement _ "mask" .f32 0xF149F2CA#32 ⊥ rfl,
      IdealRules.named_const.statement _ "scale2" .f32 0x3E16C740#32
        (((Real.sqrt 96)⁻¹ * (Real.log 2)⁻¹ : ℝ) : EReal) rfl⟩,
    algebraic,
    trivial,
    algebraic2,
    IdealRules.named_const.statement _ "mask" .f32 0xF149F2CA#32 ⊥ rfl,
    algebraic3,
    trivial,
    algebraic4,
    trivial,
    algebraic5,
    trivial,
    algebraic6,
    trivial,
    algebraic7,
    trivial,
    algebraic8,
    trivial,
    algebraic9,
    trivial,
    algebraic10⟩

end Cert.Proof

end
